-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)) (v3 : (c : Dev Cert.KernelIdeal.nD) → Buf (Elt Ideal) ((c.tc : Thread Cert.KernelIdeal.nD Cert.KernelIdeal.τ).loc Cert.KernelIdeal.main_v42_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_v42_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v32_0)) (v1 : (c : Dev Cert.Kernel3Ideal.nD) → Buf (Elt Ideal) ((c.tc : Thread Cert.Kernel3Ideal.nD Cert.Kernel3Ideal.τ).loc Cert.Kernel3Ideal.main_v32_1)) (v2 : (c : Dev Cert.Kernel3Ideal.nD) → Buf (Elt Ideal) ((c.tc : Thread Cert.Kernel3Ideal.nD Cert.Kernel3Ideal.τ).loc Cert.Kernel3Ideal.main_v32_2)) (v3 : (c : Dev Cert.Kernel3Ideal.nD) → Buf (Elt Ideal) ((c.tc : Thread Cert.Kernel3Ideal.nD Cert.Kernel3Ideal.τ).loc Cert.Kernel3Ideal.main_v32_3)) (v4 : (c : Dev Cert.Kernel3Ideal.nD) → Buf (Elt Ideal) ((c.tc : Thread Cert.Kernel3Ideal.nD Cert.Kernel3Ideal.τ).loc Cert.Kernel3Ideal.main_v32_4)) (v5 : (c : Dev Cert.Kernel3Ideal.nD) → Buf (Elt Ideal) ((c.tc : Thread Cert.Kernel3Ideal.nD Cert.Kernel3Ideal.τ).loc Cert.Kernel3Ideal.main_v32_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v32_0) = v0 c
          ∧ r.2.mem ((c.tc : Thread Cert.Kernel3Ideal.nD Cert.Kernel3Ideal.τ).loc Cert.Kernel3Ideal.main_v32_1) = v1 c
          ∧ r.2.mem ((c.tc : Thread Cert.Kernel3Ideal.nD Cert.Kernel3Ideal.τ).loc Cert.Kernel3Ideal.main_v32_2) = v2 c
          ∧ r.2.mem ((c.tc : Thread Cert.Kernel3Ideal.nD Cert.Kernel3Ideal.τ).loc Cert.Kernel3Ideal.main_v32_3) = v3 c
          ∧ r.2.mem ((c.tc : Thread Cert.Kernel3Ideal.nD Cert.Kernel3Ideal.τ).loc Cert.Kernel3Ideal.main_v32_4) = v4 c
          ∧ r.2.mem ((c.tc : Thread Cert.Kernel3Ideal.nD Cert.Kernel3Ideal.τ).loc Cert.Kernel3Ideal.main_v32_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v77) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v87) = v2 c
          ∧ r.2.mem ((c.tc : Thread Cert.Reference3Ideal.nD Cert.Reference3Ideal.τ).loc Cert.Reference3Ideal.main_v82) = v3 c
          ∧ r.2.mem ((c.tc : Thread Cert.Reference3Ideal.nD Cert.Reference3Ideal.τ).loc Cert.Reference3Ideal.main_v95) = v4 c
          ∧ r.2.mem ((c.tc : Thread Cert.Reference3Ideal.nD Cert.Reference3Ideal.τ).loc Cert.Reference3Ideal.main_v94) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v25_0)) (v1 : (c : Dev Cert.Kernel6Ideal.nD) → Buf (Elt Ideal) ((c.tc : Thread Cert.Kernel6Ideal.nD Cert.Kernel6Ideal.τ).loc Cert.Kernel6Ideal.main_v25_1)) (v2 : (c : Dev Cert.Kernel6Ideal.nD) → Buf (Elt Ideal) ((c.tc : Thread Cert.Kernel6Ideal.nD Cert.Kernel6Ideal.τ).loc Cert.Kernel6Ideal.main_v25_2)) (v3 : (c : Dev Cert.Kernel6Ideal.nD) → Buf (Elt Ideal) ((c.tc : Thread Cert.Kernel6Ideal.nD Cert.Kernel6Ideal.τ).loc Cert.Kernel6Ideal.main_v25_3)) (v4 : (c : Dev Cert.Kernel6Ideal.nD) → Buf (Elt Ideal) ((c.tc : Thread Cert.Kernel6Ideal.nD Cert.Kernel6Ideal.τ).loc Cert.Kernel6Ideal.main_v25_4)) (v5 : (c : Dev Cert.Kernel6Ideal.nD) → Buf (Elt Ideal) ((c.tc : Thread Cert.Kernel6Ideal.nD Cert.Kernel6Ideal.τ).loc Cert.Kernel6Ideal.main_v25_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_0) = v0 c
          ∧ r.2.mem ((c.tc : Thread Cert.Kernel6Ideal.nD Cert.Kernel6Ideal.τ).loc Cert.Kernel6Ideal.main_v25_1) = v1 c
          ∧ r.2.mem ((c.tc : Thread Cert.Kernel6Ideal.nD Cert.Kernel6Ideal.τ).loc Cert.Kernel6Ideal.main_v25_2) = v2 c
          ∧ r.2.mem ((c.tc : Thread Cert.Kernel6Ideal.nD Cert.Kernel6Ideal.τ).loc Cert.Kernel6Ideal.main_v25_3) = v3 c
          ∧ r.2.mem ((c.tc : Thread Cert.Kernel6Ideal.nD Cert.Kernel6Ideal.τ).loc Cert.Kernel6Ideal.main_v25_4) = v4 c
          ∧ r.2.mem ((c.tc : Thread Cert.Kernel6Ideal.nD Cert.Kernel6Ideal.τ).loc Cert.Kernel6Ideal.main_v25_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v184) = v0 c
          ∧ r.2.mem ((c.tc : Thread Cert.Reference6Ideal.nD Cert.Reference6Ideal.τ).loc Cert.Reference6Ideal.main_v170) = v1 c
          ∧ r.2.mem ((c.tc : Thread Cert.Reference6Ideal.nD Cert.Reference6Ideal.τ).loc Cert.Reference6Ideal.main_v185) = v2 c
          ∧ r.2.mem ((c.tc : Thread Cert.Reference6Ideal.nD Cert.Reference6Ideal.τ).loc Cert.Reference6Ideal.main_v186) = v3 c
          ∧ r.2.mem ((c.tc : Thread Cert.Reference6Ideal.nD Cert.Reference6Ideal.τ).loc Cert.Reference6Ideal.main_v187) = v4 c
          ∧ r.2.mem ((c.tc : Thread Cert.Reference6Ideal.nD Cert.Reference6Ideal.τ).loc Cert.Reference6Ideal.main_v183) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite3 : Cert.Pre_finite3.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S4096x1024 : Shape := ⟨2, ![4096, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S3x2816 : S_.BroadcastsInDim S3x2816 (![] : Fin 0 → Fin S3x2816.rank)
  reducesTo_S3x2816_S_d0_1 : S3x2816.ReducesTo [0, 1] S_
  bcast_S_S2816 : S_.BroadcastsInDim S2816 (![] : Fin 0 → Fin S2816.rank)
  reducesTo_S2816_S_d0 : S2816.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816 .f32) (main_arg5 : FVec F S2816x1024 .f32) (main_arg6 : FVec F S4096x1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 :=
  let main_v16 : FVec F S2816 .f32 := Host.absf main_arg4
  let main_cst_6 : FVec F S_ .f32 := constant S_ .f32 0x7F800000#32
  let main_v17 : FVec F S2816 .f32 := broadcastInDim S2816 ![] bcast_S_S2816 main_cst_6
  let main_v18 : IVec S2816 1 := cmpf .olt main_v16 main_v17
  let main_c_7 : IVec S_ 1 := constantI S_ 1 1#1
  let main_v19 : IVec S_ 1 := (fun x v => Host.reduce IntOp.andi x v reducesTo_S2816_S_d0 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : FVec F S4096x1024 .f32 := Host.absf main_arg6
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  (main_v3, main_v7, main_v11, main_v15, main_v19, main_v23, main_v27)

def fn {F : FTy → Type} [FloatOps F] (main_arg0 : FVec F S4096x1024 .f32) (main_arg1 : FVec F S1024x2816 .f32) (main_arg2 : FVec F S1024x2816 .f32) (main_arg3 : FVec F S3x2816 .f32) (main_arg4 : FVec F S2816 .f32) (main_arg5 : FVec F S2816x1024 .f32) (main_arg6 : FVec F S4096x1024 .f32) : IVec S_ 1 × IVec S_ 1 × IVec S_ 1 × IVec S_ 1 × IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S3x2816 .f32 := Host.absf main_arg3
  let main_cst_4 : FVec F S_ .f32 := constant S_ .f32 0x7F800000#32
  let main_v13 : FVec F S3x2816 .f32 := broadcastInDim S3x2816 ![] bcast_S_S3x2816 main_cst_4
  let main_v14 : IVec S3x2816 1 := cmpf .olt main_v12 main_v13
  let main_c_5 : IVec S_ 1 := constantI S_ 1 1#1
  let main_v15 : IVec S_ 1 := (fun x v => Host.reduce IntOp.andi x v reducesTo_S3x2816_S_d0_1 h_S_) main_v14 main_c_5
  fn_part1 (F := F) main_arg4 main_arg5 main_arg6 main_v3 main_v7 main_v11 main_v15
-- ==== Pre_finite3.lean ====
abbrev S4096x1024 : Shape := ⟨2, ![4096, 1024]⟩
abbrev S4096x512 : Shape := ⟨2, ![4096, 512]⟩
abbrev S1024x1024 : Shape := ⟨2, ![1024, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part2 {F : FTy → Type} [FloatOps F] (main_arg8 : FVec F S4096x2816 .f32) (main_arg9 : FVec F S4096x2816 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 × IVec S_ 1 × IVec S_ 1 × IVec S_ 1 × IVec S_ 1 × IVec S_ 1 × IVec S_ 1 × IVec S_ 1 × IVec S_ 1 × IVec S_ 1 :=
  let main_v32 : FVec F S4096x2816 .f32 := Host.absf main_arg8
  let main_cst_14 : FVec F S_ .f32 := constant S_ .f32 0x7F800000#32
  let main_v33 : FVec F S4096x2816 .f32 := broadcastInDim S4096x2816 ![] bcast_S_S4096x2816 main_cst_14
  let main_v34 : IVec S4096x2816 1 := cmpf .olt main_v32 main_v33
  let main_c_15 : IVec S_ 1 := constantI S_ 1 1#1
  let main_v35 : IVec S_ 1 := (fun x v => Host.reduce IntOp.andi x v reducesTo_S4096x2816_S_d0_1 h_S_) main_v34 main_c_15
  let main_v36 : FVec F S4096x2816 .f32 := Host.absf main_arg9
  let main_cst_16 : FVec F S_ .f32 := constant S_ .f32 0x7F800000#32
  let main_v37 : FVec F S4096x2816 .f32 := broadcastInDim S4096x2816 ![] bcast_S_S4096x2816 main_cst_16
  let main_v38 : IVec S4096x2816 1 := cmpf .olt main_v36 main_v37
  let main_c_17 : IVec S_ 1 := constantI S_ 1 1#1
  let main_v39 : IVec S_ 1 := (fun x v => Host.reduce IntOp.andi x v reducesTo_S4096x2816_S_d0_1 h_S_) main_v38 main_c_17
  (main_v3, main_v7, main_v11, main_v15, main_v19, main_v23, main_v27, main_v31, main_v35, main_v39)

def fn_part1 {F : FTy → Type} [FloatOps F] (main_arg4 : FVec F S1024 .f32) (main_arg5 : FVec F S1024x2816 .f32) (main_arg6 : FVec F S1024x2816 .f32) (main_arg7 : FVec F S4096x1024 .f32) (main_arg8 : FVec F S4096x2816 .f32) (main_arg9 : FVec F S4096x2816 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 × IVec S_ 1 × IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024x2816 .f32 := Host.absf main_arg5
  let main_cst_8 : FVec F S_ .f32 := constant S_ .f32 0x7F800000#32
  let main_v21 : FVec F S1024x2816 .f32 := broadcastInDim S1024x2816 ![] bcast_S_S1024x2816 main_cst_8
  let main_v22 : IVec S1024x2816 1 := cmpf .olt main_v20 main_v21
  let main_c_9 : IVec S_ 1 := constantI S_ 1 1#1
  let main_v23 : IVec S_ 1 := (fun x v => Host.reduce IntOp.andi x v reducesTo_S1024x2816_S_d0_1 h_S_) main_v22 main_c_9
  let main_v24 : FVec F S1024x2816 .f32 := Host.absf main_arg6
  let main_cst_10 : FVec F S_ .f32 := constant S_ .f32 0x7F800000#32
  let main_v25 : FVec F S1024x2816 .f32 := broadcastInDim S1024x2816 ![] bcast_S_S1024x2816 main_cst_10
  let main_v26 : IVec S1024x2816 1 := cmpf .olt main_v24 main_v25
  let main_c_11 : IVec S_ 1 := constantI S_ 1 1#1
  let main_v27 : IVec S_ 1 := (fun x v => Host.reduce IntOp.andi x v reducesTo_S1024x2816_S_d0_1 h_S_) main_v26 main_c_11
  let main_v28 : FVec F S4096x1024 .f32 := Host.absf main_arg7
  let main_cst_12 : FVec F S_ .f32 := constant S_ .f32 0x7F800000#32
  let main_v29 : FVec F S4096x1024 .f32 := broadcastInDim S4096x1024 ![] bcast_S_S4096x1024 main_cst_12
  let main_v30 : IVec S4096x1024 1 := cmpf .olt main_v28 main_v29
  let main_c_13 : IVec S_ 1 := constantI S_ 1 1#1
  let main_v31 : IVec S_ 1 := (fun x v => Host.reduce IntOp.andi x v reducesTo_S4096x1024_S_d0_1 h_S_) main_v30 main_c_13
  fn_part2 (F := F) main_arg8 main_arg9 main_v3 main_v7 main_v11 main_v15 main_v19 main_v23 main_v27 main_v31

def fn {F : FTy → Type} [FloatOps F] (main_arg0 : FVec F S4096x1024 .f32) (main_arg1 : FVec F S4096x512 .f32) (main_arg2 : FVec F S4096x512 .f32) (main_arg3 : FVec F S1024x1024 .f32) (main_arg4 : FVec F S1024 .f32) (main_arg5 : FVec F S1024x2816 .f32) (main_arg6 : FVec F S1024x2816 .f32) (main_arg7 : FVec F S4096x1024 .f32) (main_arg8 : FVec F S4096x2816 .f32) (main_arg9 : FVec F S4096x2816 .f32) : IVec S_ 1 × IVec S_ 1 × IVec S_ 1 × IVec S_ 1 × IVec S_ 1 × IVec S_ 1 × IVec S_ 1 × IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_arg6 main_arg7 main_arg8 main_arg9 main_v3 main_v7 main_v11 main_v15
-- ==== Pre_finite6.lean ====
abbrev S4096x1024 : Shape := ⟨2, ![4096, 1024]⟩
abbrev S4096x256 : Shape := ⟨2, ![4096, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg8 : FVec F S1024 .f32) (main_arg9 : FVec F S1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 × IVec S_ 1 × IVec S_ 1 × IVec S_ 1 × IVec S_ 1 × IVec S_ 1 × IVec S_ 1 × IVec S_ 1 × IVec S_ 1 × IVec S_ 1 :=
  let main_v32 : FVec F S1024 .f32 := Host.absf main_arg8
  let main_cst_14 : FVec F S_ .f32 := constant S_ .f32 0x7F800000#32
  let main_v33 : FVec F S1024 .f32 := broadcastInDim S1024 ![] bcast_S_S1024 main_cst_14
  let main_v34 : IVec S1024 1 := cmpf .olt main_v32 main_v33
  let main_c_15 : IVec S_ 1 := constantI S_ 1 1#1
  let main_v35 : IVec S_ 1 := (fun x v => Host.reduce IntOp.andi x v reducesTo_S1024_S_d0 h_S_) main_v34 main_c_15
  let main_v36 : FVec F S1024 .f32 := Host.absf main_arg9
  let main_cst_16 : FVec F S_ .f32 := constant S_ .f32 0x7F800000#32
  let main_v37 : FVec F S1024 .f32 := broadcastInDim S1024 ![] bcast_S_S1024 main_cst_16
  let main_v38 : IVec S1024 1 := cmpf .olt main_v36 main_v37
  let main_c_17 : IVec S_ 1 := constantI S_ 1 1#1
  let main_v39 : IVec S_ 1 := (fun x v => Host.reduce IntOp.andi x v reducesTo_S1024_S_d0 h_S_) main_v38 main_c_17
  (main_v3, main_v7, main_v11, main_v15, main_v19, main_v23, main_v27, main_v31, main_v35, main_v39)

def fn_part1 {F : FTy → Type} [FloatOps F] (main_arg4 : FVec F S1024 .f32) (main_arg5 : FVec F S256x1024 .f32) (main_arg6 : FVec F S1024 .f32) (main_arg7 : FVec F S1024 .f32) (main_arg8 : FVec F S1024 .f32) (main_arg9 : FVec F S1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 × IVec S_ 1 × IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S256x1024 .f32 := Host.absf main_arg5
  let main_cst_8 : FVec F S_ .f32 := constant S_ .f32 0x7F800000#32
  let main_v21 : FVec F S256x1024 .f32 := broadcastInDim S256x1024 ![] bcast_S_S256x1024 main_cst_8
  let main_v22 : IVec S256x1024 1 := cmpf .olt main_v20 main_v21
  let main_c_9 : IVec S_ 1 := constantI S_ 1 1#1
  let main_v23 : IVec S_ 1 := (fun x v => Host.reduce IntOp.andi x v reducesTo_S256x1024_S_d0_1 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : FVec F S1024 .f32 := Host.absf main_arg7
  let main_cst_12 : FVec F S_ .f32 := constant S_ .f32 0x7F800000#32
  let main_v29 : FVec F S1024 .f32 := broadcastInDim S1024 ![] bcast_S_S1024 main_cst_12
  let main_v30 : IVec S1024 1 := cmpf .olt main_v28 main_v29
  let main_c_13 : IVec S_ 1 := constantI S_ 1 1#1
  let main_v31 : IVec S_ 1 := (fun x v => Host.reduce IntOp.andi x v reducesTo_S1024_S_d0 h_S_) main_v30 main_c_13
  fn_part2 (F := F) main_arg8 main_arg9 main_v3 main_v7 main_v11 main_v15 main_v19 main_v23 main_v27 main_v31

def fn {F : FTy → Type} [FloatOps F] (main_arg0 : FVec F S4096x1024 .f32) (main_arg1 : FVec F S4096x256 .f32) (main_arg2 : FVec F S4096x1024 .f32) (main_arg3 : FVec F S1024x1024 .f32) (main_arg4 : FVec F S1024 .f32) (main_arg5 : FVec F S256x1024 .f32) (main_arg6 : FVec F S1024 .f32) (main_arg7 : FVec F S1024 .f32) (main_arg8 : FVec F S1024 .f32) (main_arg9 : FVec F S1024 .f32) : IVec S_ 1 × IVec S_ 1 × IVec S_ 1 × IVec S_ 1 × IVec S_ 1 × IVec S_ 1 × IVec S_ 1 × IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_arg6 main_arg7 main_arg8 main_arg9 main_v3 main_v7 main_v11 main_v15
-- ==== Kernel.lean ====
abbrev S4096x1024 : Shape := ⟨2, ![4096, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S8x2816 : Shape := ⟨2, ![8, 2816]⟩
abbrev S8x352x1024 : Shape := ⟨3, ![8, 352, 1024]⟩
abbrev S512x1024 : Shape := ⟨2, ![512, 1024]⟩
abbrev S1408x1024 : Shape := ⟨2, ![1408, 1024]⟩
abbrev S512x1408 : Shape := ⟨2, ![512, 1408]⟩
abbrev S8x1408 : Shape := ⟨2, ![8, 1408]⟩
abbrev S1x1408 : Shape := ⟨2, ![1, 1408]⟩
abbrev S1408 : Shape := ⟨1, ![1408]⟩
abbrev S352x1024 : Shape := ⟨2, ![352, 1024]⟩
abbrev S1x352x1024 : Shape := ⟨3, ![1, 352, 1024]⟩

abbrev nBuf : Space → Nat
  | .hbm => 58
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S2x2816, .f32⟩
  | .hbm, ⟨11, _⟩ => ⟨S4098x2816, .f32⟩
  | .hbm, ⟨12, _⟩ => ⟨S1x2816, .f32⟩
  | .hbm, ⟨13, _⟩ => ⟨S2816, .f32⟩
  | .hbm, ⟨14, _⟩ => ⟨S4096x2816, .f32⟩
  | .hbm, ⟨15, _⟩ => ⟨S1x2816, .f32⟩
  | .hbm, ⟨16, _⟩ => ⟨S4096x2816, .f32⟩
  | .hbm, ⟨17, _⟩ => ⟨S4096x2816, .f32⟩
  | .hbm, ⟨18, _⟩ => ⟨S1x2816, .f32⟩
  | .hbm, ⟨19, _⟩ => ⟨S4096x2816, .f32⟩
  | .hbm, ⟨20, _⟩ => ⟨S4096x2816, .f32⟩
  | .hbm, ⟨21, _⟩ => ⟨S1x2816, .f32⟩
  | .hbm, ⟨22, _⟩ => ⟨S2816, .f32⟩
  | .hbm, ⟨23, _⟩ => ⟨S4096x2816, .f32⟩
  | .hbm, ⟨24, _⟩ => ⟨S1x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S1x2816, .f32⟩
  | .hbm, ⟨29, _⟩ => ⟨S2816, .f32⟩
  | .hbm, ⟨30, _⟩ => ⟨S4096x2816, .f32⟩
  | .hbm, ⟨31, _⟩ => ⟨S1x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S_, .i32⟩
  | .hbm, ⟨47, _⟩ => ⟨S_, .f32⟩
  | .hbm, ⟨48, _⟩ => ⟨S8x2816, .f32⟩
  | .hbm, ⟨49, _⟩ => ⟨S4096x1024, .bf16⟩
  | .hbm, ⟨50, _⟩ => ⟨S2816x1024, .bf16⟩
  | .hbm, ⟨51, _⟩ => ⟨S4096x2816, .bf16⟩
  | .hbm, ⟨52, _⟩ => ⟨S4096x2816, .bf16⟩
  | .hbm, ⟨53, _⟩ => ⟨S4096x2816, .bf16⟩
  | .hbm, ⟨54, _⟩ => ⟨S4096x2816, .bf16⟩
  | .hbm, ⟨55, _⟩ => ⟨S4096x2816, .bf16⟩
  | .hbm, ⟨56, _⟩ => ⟨S8x352x1024, .bf16⟩
  | .hbm, ⟨57, _⟩ => ⟨S8x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S8x1408, .f32⟩
  | .local _ .vmem, ⟨13, _⟩ => ⟨S8x1408, .f32⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S8x352x1024, .bf16⟩
  | .local _ .vmem, ⟨19, _⟩ => ⟨S8x1408, .f32⟩
  | .local _ .vmem, ⟨20, _⟩ => ⟨S8x1408, .f32⟩
  | .local _ .vmem, ⟨21, _⟩ => ⟨S8x1408, .f32⟩
  | .local _ .vmem, ⟨22, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_call0_v0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v42_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v112 : BitVec 1 := Scalar.cmpi .eq arg1 c7_i32
  let v113 : BitVec 32 := Scalar.extui v112
  let c0_i32_58 : BitVec 32 := 0#32
  let v114 : BitVec 1 := Scalar.cmpi .ne v113 c0_i32_58
  v114

def k0_off1 (i : grid0.Coords) (c0_i32_61 : BitVec 32) (c0_i32_62 : BitVec 32) : Fin 3 → Nat :=
  let c2_i32 : BitVec 32 := 2#32
  let arg0 : BitVec 32 := BitVec.ofNat 32 (i 0).val
  let v117 : BitVec 32 := Scalar.muli c2_i32 arg0
  let v118 : BitVec 32 := Scalar.addi c0_i32_61 v117
  let v119 : BitVec 32 := Scalar.addi v118 c0_i32_62
  let v120 : Index := Scalar.indexCast v119
  let c0_63 : Index := 0#32
  let c0_64 : Index := 0#32
  ![v120.toNat, 0, 0]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x352x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== ReferenceIdeal.lean ====
abbrev S4096x1024 : Shape := ⟨2, ![4096, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S4x2x352x1024 : Shape := ⟨4, ![4, 2, 352, 1024]⟩
abbrev S2x4x352x1024 : Shape := ⟨4, ![2, 4, 352, 1024]⟩
abbrev S8x352x1024 : Shape := ⟨3, ![8, 352, 1024]⟩
abbrev S4x2816 : Shape := ⟨2, ![4, 2816]⟩
abbrev S8x2816 : Shape := ⟨2, ![8, 2816]⟩

abbrev nBuf : Space → Nat
  | .hbm => 136
  | .vmem => 0
  | .smem => 0
  | _ => 0

abbrev hbmTy0_0 (i : Nat) : BufTy := match i % 128 with
  | 0 => ⟨S4096x1024, .f32⟩
  | 1 => ⟨S1024x2816, .f32⟩
  | 2 => ⟨S1024x2816, .f32⟩
  | 3 => ⟨S3x2816, .f32⟩
  | 4 => ⟨S2816, .f32⟩
  | 5 => ⟨S2816x1024, .f32⟩
  | 6 => ⟨S4096x1024, .f32⟩
  | 7 => ⟨S4096x2816, .f32⟩
  | 8 => ⟨S4096x2816, .f32⟩
  | 9 => ⟨S_, .f32⟩
  | 10 => ⟨S2x2816, .f32⟩
  | 11 => ⟨S4098x2816, .f32⟩
  | 12 => ⟨S_, .f32⟩
  | 13 => ⟨S2x2816, .f32⟩
  | 14 => ⟨S1x2816, .f32⟩
  | 15 => ⟨S2816, .f32⟩
  | 16 => ⟨S4096x2816, .f32⟩
  | 17 => ⟨S1x2816, .f32⟩
  | 18 => ⟨S4096x2816, .f32⟩
  | 19 => ⟨S4096x2816, .f32⟩
  | 20 => ⟨S1x2816, .f32⟩
  | 21 => ⟨S4096x2816, .f32⟩
  | 22 => ⟨S4096x2816, .f32⟩
  | 23 => ⟨S1x2816, .f32⟩
  | 24 => ⟨S2816, .f32⟩
  | 25 => ⟨S4096x2816, .f32⟩
  | 26 => ⟨S1x2816, .f32⟩
  | 27 => ⟨S4096x2816, .f32⟩
  | 28 => ⟨S4096x2816, .f32⟩
  | 29 => ⟨S4096x2816, .f32⟩
  | 30 => ⟨S1x2816, .f32⟩
  | 31 => ⟨S2816, .f32⟩
  | 32 => ⟨S4096x2816, .f32⟩
  | 33 => ⟨S1x2816, .f32⟩
  | 34 => ⟨S4096x2816, .f32⟩
  | 35 => ⟨S4096x2816, .f32⟩
  | 36 => ⟨S4096x2816, .f32⟩
  | 37 => ⟨S_, .f32⟩
  | 38 => ⟨S4096x2816, .f32⟩
  | 39 => ⟨S4096x2816, .f32⟩
  | 40 => ⟨S4096x2816, .f32⟩
  | 41 => ⟨S_, .f32⟩
  | 42 => ⟨S_, .f32⟩
  | 43 => ⟨S4096x2816, .f32⟩
  | 44 => ⟨S4096x2816, .f32⟩
  | 45 => ⟨S_, .f32⟩
  | 46 => ⟨S_, .f32⟩
  | 47 => ⟨S_, .f32⟩
  | 48 => ⟨S_, .f32⟩
  | 49 => ⟨S4096x2816, .f32⟩
  | 50 => ⟨S_, .f32⟩
  | 51 => ⟨S_, .f32⟩
  | 52 => ⟨S_, .f32⟩
  | 53 => ⟨S4096x2816, .f32⟩
  | 54 => ⟨S4096x2816, .f32⟩
  | 55 => ⟨S4096x2816, .f32⟩
  | 56 => ⟨S4096x2816, .f32⟩
  | 57 => ⟨S4096x2816, .f32⟩
  | 58 => ⟨S4096x2816, .f32⟩
  | 59 => ⟨S4096x2816, .f32⟩
  | 60 => ⟨S4096x1024, .f32⟩
  | 61 => ⟨S1024x2816, .f32⟩
  | 62 => ⟨S2816x1024, .f32⟩
  | 63 => ⟨S4096x2816, .f32⟩
  | 64 => ⟨S4096x2816, .f32⟩
  | 65 => ⟨S4096x2816, .f32⟩
  | 66 => ⟨S4096x2816, .f32⟩
  | 67 => ⟨S4096x2816, .f32⟩
  | 68 => ⟨S4096x2816, .f32⟩
  | 69 => ⟨S4096x2816, .f32⟩
  | 70 => ⟨S4096x2816, .f32⟩
  | 71 => ⟨S4096x2816, .f32⟩
  | 72 => ⟨S_, .f32⟩
  | 73 => ⟨S4096x2816, .f32⟩
  | 74 => ⟨S4096x2816, .f32⟩
  | 75 => ⟨S4096x2816, .f32⟩
  | 76 => ⟨S4096x2816, .f32⟩
  | 77 => ⟨S4096x2816, .f32⟩
  | 78 => ⟨S4096x2816, .f32⟩
  | 79 => ⟨S_, .f32⟩
  | 80 => ⟨S2816, .f32⟩
  | 81 => ⟨S1x2816, .f32⟩
  | 82 => ⟨S_, .f32⟩
  | 83 => ⟨S2816, .f32⟩
  | 84 => ⟨S_, .f32⟩
  | 85 => ⟨S4098x2816, .f32⟩
  | 86 => ⟨S1x2816, .f32⟩
  | 87 => ⟨S_, .f32⟩
  | 88 => ⟨S3x2816, .f32⟩
  | 89 => ⟨S4096x2816, .f32⟩
  | 90 => ⟨S4096x2816, .f32⟩
  | 91 => ⟨S4096x2816, .f32⟩
  | 92 => ⟨S_, .f32⟩
  | 93 => ⟨S2816, .f32⟩
  | 94 => ⟨S1x2816, .f32⟩
  | 95 => ⟨S_, .f32⟩
  | 96 => ⟨S2816, .f32⟩
  | 97 => ⟨S_, .f32⟩
  | 98 => ⟨S4098x2816, .f32⟩
  | 99 => ⟨S4098x2816, .f32⟩
  | 100 => ⟨S1x2816, .f32⟩
  | 101 => ⟨S_, .f32⟩
  | 102 => ⟨S3x2816, .f32⟩
  | 103 => ⟨S3x2816, .f32⟩
  | 104 => ⟨S_, .f32⟩
  | 105 => ⟨S2816, .f32⟩
  | 106 => ⟨S1x2816, .f32⟩
  | 107 => ⟨S_, .f32⟩
  | 108 => ⟨S2816, .f32⟩
  | 109 => ⟨S4096x2816, .f32⟩
  | 110 => ⟨S4096x2816, .f32⟩
  | 111 => ⟨S4096x2816, .f32⟩
  | 112 => ⟨S_, .f32⟩
  | 113 => ⟨S2816, .f32⟩
  | 114 => ⟨S1x2816, .f32⟩
  | 115 => ⟨S_, .f32⟩
  | 116 => ⟨S2816, .f32⟩
  | 117 => ⟨S_, .f32⟩
  | 118 => ⟨S4098x2816, .f32⟩
  | 119 => ⟨S4098x2816, .f32⟩
  | 120 => ⟨S1x2816, .f32⟩
  | 121 => ⟨S_, .f32⟩
  | 122 => ⟨S3x2816, .f32⟩
  | 123 => ⟨S3x2816, .f32⟩
  | 124 => ⟨S2x2816, .f32⟩
  | 125 => ⟨S4096x2816, .f32⟩
  | 126 => ⟨S4x2x352x1024, .f32⟩
  | 127 => ⟨S2x4x352x1024, .f32⟩
  | _ => ⟨S4096x1024, .f32⟩

abbrev hbmTy0_1 (i : Nat) : BufTy := match i % 128 with
  | 0 => ⟨S8x352x1024, .f32⟩
  | 1 => ⟨S1x2816, .f32⟩
  | 2 => ⟨S_, .f32⟩
  | 3 => ⟨S4x2816, .f32⟩
  | 4 => ⟨S8x2816, .f32⟩
  | 5 => ⟨S4096x2816, .bf16⟩
  | 6 => ⟨S4096x2816, .bf16⟩
  | 7 => ⟨S8x352x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_cst_13 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_14 : Ref sig .tc := ⟨.hbm, 101, rfl⟩
abbrev main_v79 : Ref sig .tc := ⟨.hbm, 102, rfl⟩
abbrev main_v80 : Ref sig .tc := ⟨.hbm, 103, rfl⟩
abbrev main_cst_15 : Ref sig .tc := ⟨.hbm, 104, rfl⟩
abbrev main_v81 : Ref sig .tc := ⟨.hbm, 105, rfl⟩
abbrev main_v82 : Ref sig .tc := ⟨.hbm, 106, rfl⟩
abbrev main_cst_16 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_17 : Ref sig .tc := ⟨.hbm, 112, rfl⟩
abbrev main_v87 : Ref sig .tc := ⟨.hbm, 113, rfl⟩
abbrev main_v88 : Ref sig .tc := ⟨.hbm, 114, rfl⟩
abbrev main_cst_18 : Ref sig .tc := ⟨.hbm, 115, rfl⟩
abbrev main_v89 : Ref sig .tc := ⟨.hbm, 116, rfl⟩
abbrev main_cst_19 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_20 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_21 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩

abbrev nD : Nat := 1
abbrev τ : Topo := Topo.v7x

variable {F : FTy → Type} [FloatOps F]
-- ==== Kernel2.lean ====
abbrev S4096x1024 : Shape := ⟨2, ![4096, 1024]⟩
abbrev S4096x2816 : Shape := ⟨2, ![4096, 2816]⟩
abbrev S8x352x1024 : Shape := ⟨3, ![8, 352, 1024]⟩
abbrev S512x1408 : Shape := ⟨2, ![512, 1408]⟩
abbrev S512x1024 : Shape := ⟨2, ![512, 1024]⟩
abbrev S1408x1024 : Shape := ⟨2, ![1408, 1024]⟩
abbrev S352x1024 : Shape := ⟨2, ![352, 1024]⟩
abbrev S1x352x1024 : Shape := ⟨3, ![1, 352, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S4096x2816, .bf16⟩
  | .hbm, ⟨4, _⟩ => ⟨S4096x2816, .bf16⟩
  | .hbm, ⟨5, _⟩ => ⟨S4096x1024, .bf16⟩
  | .hbm, ⟨6, _⟩ => ⟨S8x352x1024, .bf16⟩
  | .hbm, ⟨7, _⟩ => ⟨S8x352x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1024, .bf16⟩
  | .local _ .vmem, ⟨5, _⟩ => ⟨S512x1024, .bf16⟩
  | .local _ .vmem, ⟨6, _⟩ => ⟨S8x352x1024, .bf16⟩
  | .local _ .vmem, ⟨7, _⟩ => ⟨S8x352x1024, .bf16⟩
  | .local _ .vmem, ⟨8, _⟩ => ⟨S1408x1024, .f32⟩
  | .local _ .vmem, ⟨9, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_15 : BitVec 32 := 0#32
  let v23 : BitVec 1 := Scalar.cmpi .ne v22 c0_i32_15
  v23

def k0_off1 (i : grid0.Coords) (c0_i32_18 : BitVec 32) (c0_i32_19 : BitVec 32) : Fin 3 → Nat :=
  let c2_i32 : BitVec 32 := 2#32
  let arg0 : BitVec 32 := BitVec.ofNat 32 (i 0).val
  let v26 : BitVec 32 := Scalar.muli c2_i32 arg0
  let v27 : BitVec 32 := Scalar.addi c0_i32_18 v26
  let v28 : BitVec 32 := Scalar.addi v27 c0_i32_19
  let v29 : Index := Scalar.indexCast v28
  let c0_20 : Index := 0#32
  let c0_21 : Index := 0#32
  ![v29.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference2Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S4x2x352x1024 : Shape := ⟨4, ![4, 2, 352, 1024]⟩
abbrev S2x4x352x1024 : Shape := ⟨4, ![2, 4, 352, 1024]⟩
abbrev S8x352x1024 : Shape := ⟨3, ![8, 352, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S4x2x352x1024, .f32⟩
  | .hbm, ⟨13, _⟩ => ⟨S2x4x352x1024, .f32⟩
  | .hbm, ⟨14, _⟩ => ⟨S8x352x1024, .f32⟩
  | .hbm, ⟨15, _⟩ => ⟨S8x352x1024, .bf16⟩
  | .hbm, ⟨16, _⟩ => ⟨S2816x1024, .f32⟩
  | .hbm, ⟨17, _⟩ => ⟨S4x2x352x1024, .f32⟩
  | .hbm, ⟨18, _⟩ => ⟨S2x4x352x1024, .f32⟩
  | .hbm, ⟨19, _⟩ => ⟨S8x352x1024, .f32⟩
  | .hbm, ⟨20, _⟩ => ⟨S8x352x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel3.lean ====
abbrev S4096x1024 : Shape := ⟨2, ![4096, 1024]⟩
abbrev S4096x512 : Shape := ⟨2, ![4096, 512]⟩
abbrev S1024x1024 : Shape := ⟨2, ![1024, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩
abbrev S1x1024 : Shape := ⟨2, ![1, 1024]⟩
abbrev S8x128x1024 : Shape := ⟨3, ![8, 128, 1024]⟩
abbrev S8x1024 : Shape := ⟨2, ![8, 1024]⟩
abbrev S512x1024 : Shape := ⟨2, ![512, 1024]⟩
abbrev S512x2816 : Shape := ⟨2, ![512, 2816]⟩
abbrev S512x1 : Shape := ⟨2, ![512, 1]⟩
abbrev S512x512 : Shape := ⟨2, ![512, 512]⟩
abbrev S512 : Shape := ⟨1, ![512]⟩
abbrev S512x128 : Shape := ⟨2, ![512, 128]⟩
abbrev S128x1024 : Shape := ⟨2, ![128, 1024]⟩
abbrev S1x128x1024 : Shape := ⟨3, ![1, 128, 1024]⟩

abbrev nBuf : Space → Nat
  | .hbm => 54
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S4096x1024, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x2816, .bf16⟩
  | .hbm, ⟨40, _⟩ => ⟨S4096x2816, .bf16⟩
  | .hbm, ⟨41, _⟩ => ⟨S2816x1024, .f32⟩
  | .hbm, ⟨42, _⟩ => ⟨S2816x1024, .bf16⟩
  | .hbm, ⟨43, _⟩ => ⟨S2816x1024, .f32⟩
  | .hbm, ⟨44, _⟩ => ⟨S2816x1024, .bf16⟩
  | .hbm, ⟨45, _⟩ => ⟨S1x1024, .f32⟩
  | .hbm, ⟨46, _⟩ => ⟨S4096x512, .bf16⟩
  | .hbm, ⟨47, _⟩ => ⟨S1024x1024, .bf16⟩
  | .hbm, ⟨48, _⟩ => ⟨S4096x1024, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S8x128x1024, .bf16⟩
  | .hbm, ⟨53, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S2816x1024, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1, .f32⟩
  | .local _ .vmem, ⟨11, _⟩ => ⟨S512x1, .f32⟩
  | .local _ .vmem, ⟨12, _⟩ => ⟨S1x1024, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S8x128x1024, .bf16⟩
  | .local _ .vmem, ⟨27, _⟩ => ⟨S8x1024, .f32⟩
  | .local _ .vmem, ⟨28, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32_0 : Ref sig .tc := ⟨.hbm, 48, rfl⟩
abbrev main_v32_1 : Ref sig .tc := ⟨.hbm, 49, rfl⟩
abbrev main_v32_2 : Ref sig .tc := ⟨.hbm, 50, rfl⟩
abbrev main_v32_3 : Ref sig .tc := ⟨.hbm, 51, rfl⟩
abbrev main_v32_4 : Ref sig .tc := ⟨.hbm, 52, rfl⟩
abbrev main_v32_5 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v151 : BitVec 1 := Scalar.cmpi .eq arg0 c7_i32
  let v152 : BitVec 32 := Scalar.extui v151
  let c0_i32_74 : BitVec 32 := 0#32
  let v153 : BitVec 1 := Scalar.cmpi .ne v152 c0_i32_74
  v153

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference3Ideal.lean ====
abbrev S4096x1024 : Shape := ⟨2, ![4096, 1024]⟩
abbrev S4096x512 : Shape := ⟨2, ![4096, 512]⟩
abbrev S1024x1024 : Shape := ⟨2, ![1024, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x8x64 : Shape := ⟨3, ![4096, 8, 64]⟩
abbrev S4096x8 : Shape := ⟨2, ![4096, 8]⟩
abbrev S4x2x128x1024 : Shape := ⟨4, ![4, 2, 128, 1024]⟩
abbrev S2x4x128x1024 : Shape := ⟨4, ![2, 4, 128, 1024]⟩
abbrev S8x128x1024 : Shape := ⟨3, ![8, 128, 1024]⟩
abbrev S6x1024 : Shape := ⟨2, ![6, 1024]⟩
abbrev S8x1024 : Shape := ⟨2, ![8, 1024]⟩

abbrev nBuf : Space → Nat
  | .hbm => 130
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S1024x1024, .f32⟩
  | 4 => ⟨S1024, .f32⟩
  | 5 => ⟨S1024x2816, .f32⟩
  | 6 => ⟨S1024x2816, .f32⟩
  | 7 => ⟨S4096x1024, .f32⟩
  | 8 => ⟨S4096x2816, .f32⟩
  | 9 => ⟨S4096x2816, .f32⟩
  | 10 => ⟨S_, .f32⟩
  | 11 => ⟨S1024, .f32⟩
  | 12 => ⟨S_, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S4096x1024, .f32⟩
  | 37 => ⟨S4096x1024, .f32⟩
  | 38 => ⟨S_, .f32⟩
  | 39 => ⟨S4096x1, .f32⟩
  | 40 => ⟨S4096x1, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1024, .f32⟩
  | 47 => ⟨S4096x1024, .f32⟩
  | 48 => ⟨S1x1024, .f32⟩
  | 49 => ⟨S4096x1024, .f32⟩
  | 50 => ⟨S4096x1024, .f32⟩
  | 51 => ⟨S1x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x2816, .f32⟩
  | 58 => ⟨S4096x2816, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S4096x1024, .f32⟩
  | 66 => ⟨S_, .f32⟩
  | 67 => ⟨S1024, .f32⟩
  | 68 => ⟨S1x1024, .f32⟩
  | 69 => ⟨S_, .f32⟩
  | 70 => ⟨S1024, .f32⟩
  | 71 => ⟨S4096x1024, .f32⟩
  | 72 => ⟨S_, .f32⟩
  | 73 => ⟨S1024, .f32⟩
  | 74 => ⟨S1x1024, .f32⟩
  | 75 => ⟨S4096x1024, .f32⟩
  | 76 => ⟨S4096x1024, .f32⟩
  | 77 => ⟨S_, .f32⟩
  | 78 => ⟨S1024, .f32⟩
  | 79 => ⟨S4096x1024, .f32⟩
  | 80 => ⟨S_, .f32⟩
  | 81 => ⟨S4096, .f32⟩
  | 82 => ⟨S4096x1, .f32⟩
  | 83 => ⟨S4096x1024, .f32⟩
  | 84 => ⟨S4096x1024, .f32⟩
  | 85 => ⟨S4096x1, .f32⟩
  | 86 => ⟨S4096x1024, .f32⟩
  | 87 => ⟨S_, .f32⟩
  | 88 => ⟨S4096, .f32⟩
  | 89 => ⟨S4096x1, .f32⟩
  | 90 => ⟨S_, .f32⟩
  | 91 => ⟨S4096x1, .f32⟩
  | 92 => ⟨S4096x1, .f32⟩
  | 93 => ⟨S_, .f32⟩
  | 94 => ⟨S4096, .f32⟩
  | 95 => ⟨S4096x1024, .f32⟩
  | 96 => ⟨S4096x1024, .f32⟩
  | 97 => ⟨S4096x1024, .f32⟩
  | 98 => ⟨S_, .f32⟩
  | 99 => ⟨S4096, .f32⟩
  | 100 => ⟨S4096x1, .f32⟩
  | 101 => ⟨S4096x1024, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096, .f32⟩
  | 108 => ⟨S4096x1024, .f32⟩
  | 109 => ⟨S4096x1024, .f32⟩
  | 110 => ⟨S1024x1024, .f32⟩
  | 111 => ⟨S1024x1024, .f32⟩
  | 112 => ⟨S4096x1024, .f32⟩
  | 113 => ⟨S4096x512, .f32⟩
  | 114 => ⟨S4096x512, .f32⟩
  | 115 => ⟨S4096x512, .f32⟩
  | 116 => ⟨S4096x8x64, .f32⟩
  | 117 => ⟨S_, .f32⟩
  | 118 => ⟨S4096x8, .f32⟩
  | 119 => ⟨S4096x8x64, .f32⟩
  | 120 => ⟨S4096x512, .f32⟩
  | 121 => ⟨S4x2x128x1024, .f32⟩
  | 122 => ⟨S2x4x128x1024, .f32⟩
  | 123 => ⟨S8x128x1024, .f32⟩
  | 124 => ⟨S1x1024, .f32⟩
  | 125 => ⟨S1x1024, .f32⟩
  | 126 => ⟨S_, .f32⟩
  | 127 => ⟨S6x1024, .f32⟩
  | _ => ⟨S4096x1024, .f32⟩

abbrev hbmTy0_1 (i : Nat) : BufTy := match i % 128 with
  | 0 => ⟨S8x1024, .f32⟩
  | 1 => ⟨S8x128x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_cst_16 : Ref sig .tc := ⟨.hbm, 90, rfl⟩
abbrev main_v63 : Ref sig .tc := ⟨.hbm, 91, rfl⟩
abbrev main_v64 : Ref sig .tc := ⟨.hbm, 92, rfl⟩
abbrev main_cst_17 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_19 : Ref sig .tc := ⟨.hbm, 103, rfl⟩
abbrev main_v73 : Ref sig .tc := ⟨.hbm, 104, rfl⟩
abbrev main_v74 : Ref sig .tc := ⟨.hbm, 105, rfl⟩
abbrev main_cst_20 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_21 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_22 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]
-- ==== Kernel4.lean ====
abbrev S4096x1024 : Shape := ⟨2, ![4096, 1024]⟩
abbrev S4096x512 : Shape := ⟨2, ![4096, 512]⟩
abbrev S8x320x1024 : Shape := ⟨3, ![8, 320, 1024]⟩
abbrev S512x1024 : Shape := ⟨2, ![512, 1024]⟩
abbrev S512x512 : Shape := ⟨2, ![512, 512]⟩
abbrev S2560x1024 : Shape := ⟨2, ![2560, 1024]⟩
abbrev S320x1024 : Shape := ⟨2, ![320, 1024]⟩
abbrev S1x320x1024 : Shape := ⟨3, ![1, 320, 1024]⟩

abbrev nBuf : Space → Nat
  | .hbm => 13
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x1024, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S8x320x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S8x320x1024, .bf16⟩
  | .local _ .vmem, ⟨13, _⟩ => ⟨S2560x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v45 : BitVec 1 := Scalar.cmpi .eq arg0 c7_i32
  let v46 : BitVec 32 := Scalar.extui v45
  let c0_i32_32 : BitVec 32 := 0#32
  let v47 : BitVec 1 := Scalar.cmpi .ne v46 c0_i32_32
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x320x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4096x1024 : Shape := ⟨2, ![4096, 1024]⟩
abbrev S4096x512 : Shape := ⟨2, ![4096, 512]⟩
abbrev S_ : Shape := ⟨0, ![]⟩
abbrev S1024x2560 : Shape := ⟨2, ![1024, 2560]⟩
abbrev S4096x2560 : Shape := ⟨2, ![4096, 2560]⟩
abbrev S2560x1024 : Shape := ⟨2, ![2560, 1024]⟩
abbrev S4x2x320x1024 : Shape := ⟨4, ![4, 2, 320, 1024]⟩
abbrev S2x4x320x1024 : Shape := ⟨4, ![2, 4, 320, 1024]⟩
abbrev S8x320x1024 : Shape := ⟨3, ![8, 320, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S1024x2560, .f32⟩
  | .hbm, ⟨8, _⟩ => ⟨S4096x2560, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x2560, .f32⟩
  | .hbm, ⟨16, _⟩ => ⟨S_, .f32⟩
  | .hbm, ⟨17, _⟩ => ⟨S4096x2560, .f32⟩
  | .hbm, ⟨18, _⟩ => ⟨S4096x2560, .f32⟩
  | .hbm, ⟨19, _⟩ => ⟨S_, .f32⟩
  | .hbm, ⟨20, _⟩ => ⟨S4096x2560, .f32⟩
  | .hbm, ⟨21, _⟩ => ⟨S4096x2560, .f32⟩
  | .hbm, ⟨22, _⟩ => ⟨S_, .f32⟩
  | .hbm, ⟨23, _⟩ => ⟨S4096x2560, .f32⟩
  | .hbm, ⟨24, _⟩ => ⟨S4096x2560, .f32⟩
  | .hbm, ⟨25, _⟩ => ⟨S_, .f32⟩
  | .hbm, ⟨26, _⟩ => ⟨S4096x2560, .f32⟩
  | .hbm, ⟨27, _⟩ => ⟨S4096x2560, .f32⟩
  | .hbm, ⟨28, _⟩ => ⟨S2560x1024, .f32⟩
  | .hbm, ⟨29, _⟩ => ⟨S1024x2560, .f32⟩
  | .hbm, ⟨30, _⟩ => ⟨S2560x1024, .f32⟩
  | .hbm, ⟨31, _⟩ => ⟨S4x2x320x1024, .f32⟩
  | .hbm, ⟨32, _⟩ => ⟨S2x4x320x1024, .f32⟩
  | .hbm, ⟨33, _⟩ => ⟨S8x320x1024, .f32⟩
  | .hbm, ⟨34, _⟩ => ⟨S8x320x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S4096x1 : Shape := ⟨2, ![4096, 1]⟩
abbrev S512x2816 : Shape := ⟨2, ![512, 2816]⟩
abbrev S512x1024 : Shape := ⟨2, ![512, 1024]⟩
abbrev S512x1 : Shape := ⟨2, ![512, 1]⟩
abbrev S512 : Shape := ⟨1, ![512]⟩

abbrev nBuf : Space → Nat
  | .hbm => 11
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 39
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel6.lean ====
abbrev S4096x1024 : Shape := ⟨2, ![4096, 1024]⟩
abbrev S4096x256 : Shape := ⟨2, ![4096, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩
abbrev S8x128x1024 : Shape := ⟨3, ![8, 128, 1024]⟩
abbrev S8x256x128 : Shape := ⟨3, ![8, 256, 128]⟩
abbrev S8x1024 : Shape := ⟨2, ![8, 1024]⟩
abbrev S512x1024 : Shape := ⟨2, ![512, 1024]⟩
abbrev S512x1 : Shape := ⟨2, ![512, 1]⟩
abbrev S512x256 : Shape := ⟨2, ![512, 256]⟩
abbrev S512 : Shape := ⟨1, ![512]⟩
abbrev S1 : Shape := ⟨1, ![1]⟩
abbrev S1x1 : Shape := ⟨2, ![1, 1]⟩
abbrev S128x1024 : Shape := ⟨2, ![128, 1024]⟩
abbrev S1x128x1024 : Shape := ⟨3, ![1, 128, 1024]⟩
abbrev S256x128 : Shape := ⟨2, ![256, 128]⟩
abbrev S1x256x128 : Shape := ⟨3, ![1, 256, 128]⟩

abbrev nBuf : Space → Nat
  | .hbm => 46
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1024x1024, .bf16⟩
  | .hbm, ⟨34, _⟩ => ⟨S256x1024, .bf16⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S8x128, .f32⟩
  | .hbm, ⟨41, _⟩ => ⟨S4096x1024, .f32⟩
  | .hbm, ⟨42, _⟩ => ⟨S4096x1024, .bf16⟩
  | .hbm, ⟨43, _⟩ => ⟨S8x128x1024, .bf16⟩
  | .hbm, ⟨44, _⟩ => ⟨S8x256x128, .bf16⟩
  | .hbm, ⟨45, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S256x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S8x128, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S8x128x1024, .bf16⟩
  | .local _ .vmem, ⟨21, _⟩ => ⟨S8x256x128, .bf16⟩
  | .local _ .vmem, ⟨22, _⟩ => ⟨S8x1024, .f32⟩
  | .local _ .vmem, ⟨23, _⟩ => ⟨S1024x1024, .f32⟩
  | .local _ .vmem, ⟨24, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_v25_2 : Ref sig .tc := ⟨.hbm, 42, rfl⟩
abbrev main_v25_3 : Ref sig .tc := ⟨.hbm, 43, rfl⟩
abbrev main_v25_4 : Ref sig .tc := ⟨.hbm, 44, rfl⟩
abbrev main_v25_5 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v176 : BitVec 1 := Scalar.cmpi .eq arg0 c7_i32
  let v177 : BitVec 32 := Scalar.extui v176
  let c0_i32_90 : BitVec 32 := 0#32
  let v178 : BitVec 1 := Scalar.cmpi .ne v177 c0_i32_90
  v178

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x256x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference6Ideal.lean ====
abbrev S4096x1024 : Shape := ⟨2, ![4096, 1024]⟩
abbrev S4096x256 : Shape := ⟨2, ![4096, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x256 : Shape := ⟨2, ![1024, 256]⟩
abbrev S4x2x128x1024 : Shape := ⟨4, ![4, 2, 128, 1024]⟩
abbrev S2x4x128x1024 : Shape := ⟨4, ![2, 4, 128, 1024]⟩
abbrev S8x128x1024 : Shape := ⟨3, ![8, 128, 1024]⟩
abbrev S256x4x2x128 : Shape := ⟨4, ![256, 4, 2, 128]⟩
abbrev S2x4x256x128 : Shape := ⟨4, ![2, 4, 256, 128]⟩
abbrev S8x256x128 : Shape := ⟨3, ![8, 256, 128]⟩
abbrev S3x1024 : Shape := ⟨2, ![3, 1024]⟩
abbrev S8x1024 : Shape := ⟨2, ![8, 1024]⟩
abbrev S8x128 : Shape := ⟨2, ![8, 128]⟩

abbrev nBuf : Space → Nat
  | .hbm => 250
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S1024x1024, .f32⟩
  | 4 => ⟨S1024, .f32⟩
  | 5 => ⟨S256x1024, .f32⟩
  | 6 => ⟨S1024, .f32⟩
  | 7 => ⟨S1024, .f32⟩
  | 8 => ⟨S1024, .f32⟩
  | 9 => ⟨S1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S_, .f32⟩
  | 31 => ⟨S4096x1, .f32⟩
  | 32 => ⟨S4096x1, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1024, .f32⟩
  | 39 => ⟨S4096x1024, .f32⟩
  | 40 => ⟨S1x1024, .f32⟩
  | 41 => ⟨S4096x1024, .f32⟩
  | 42 => ⟨S4096x1024, .f32⟩
  | 43 => ⟨S1x1024, .f32⟩
  | 44 => ⟨S4096x1024, .f32⟩
  | 45 => ⟨S4096x1024, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S4096x1024, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S4096x1024, .f32⟩
  | 75 => ⟨S4096x1024, .f32⟩
  | 76 => ⟨S4096x1024, .f32⟩
  | 77 => ⟨S_, .f32⟩
  | 78 => ⟨S4096x1024, .f32⟩
  | 79 => ⟨S4096x1024, .f32⟩
  | 80 => ⟨S_, .f32⟩
  | 81 => ⟨S4096, .f32⟩
  | 82 => ⟨S4096x1, .f32⟩
  | 83 => ⟨S_, .f32⟩
  | 84 => ⟨S4096x1, .f32⟩
  | 85 => ⟨S4096x1, .f32⟩
  | 86 => ⟨S4096x1024, .f32⟩
  | 87 => ⟨S4096x1024, .f32⟩
  | 88 => ⟨S_, .f32⟩
  | 89 => ⟨S4096x1, .f32⟩
  | 90 => ⟨S4096x1, .f32⟩
  | 91 => ⟨S4096x1, .f32⟩
  | 92 => ⟨S4096x1, .f32⟩
  | 93 => ⟨S_, .f32⟩
  | 94 => ⟨S4096x1, .f32⟩
  | 95 => ⟨S4096x1, .f32⟩
  | 96 => ⟨S4096x1024, .f32⟩
  | 97 => ⟨S4096x1024, .f32⟩
  | 98 => ⟨S1x1024, .f32⟩
  | 99 => ⟨S4096x1024, .f32⟩
  | 100 => ⟨S4096x1024, .f32⟩
  | 101 => ⟨S1x1024, .f32⟩
  | 102 => ⟨S4096x1024, .f32⟩
  | 103 => ⟨S4096x1024, .f32⟩
  | 104 => ⟨S4096x1024, .f32⟩
  | 105 => ⟨S4096x1024, .f32⟩
  | 106 => ⟨S_, .f32⟩
  | 107 => ⟨S4096x1024, .f32⟩
  | 108 => ⟨S4096x1024, .f32⟩
  | 109 => ⟨S_, .f32⟩
  | 110 => ⟨S4096, .f32⟩
  | 111 => ⟨S_, .f32⟩
  | 112 => ⟨S4096, .f32⟩
  | 113 => ⟨S4096, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S4096, .f32⟩
  | 122 => ⟨S_, .f32⟩
  | 123 => ⟨S4096, .f32⟩
  | 124 => ⟨S4096, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S1024, .f32⟩
  | 1 => ⟨S1x1024, .f32⟩
  | 2 => ⟨S_, .f32⟩
  | 3 => ⟨S1024, .f32⟩
  | 4 => ⟨S4096x1024, .f32⟩
  | 5 => ⟨S_, .f32⟩
  | 6 => ⟨S1024, .f32⟩
  | 7 => ⟨S1x1024, .f32⟩
  | 8 => ⟨S4096x1024, .f32⟩
  | 9 => ⟨S4096x1024, .f32⟩
  | 10 => ⟨S_, .f32⟩
  | 11 => ⟨S1024, .f32⟩
  | 12 => ⟨S4096x1024, .f32⟩
  | 13 => ⟨S_, .f32⟩
  | 14 => ⟨S4096, .f32⟩
  | 15 => ⟨S4096x1, .f32⟩
  | 16 => ⟨S4096x1024, .f32⟩
  | 17 => ⟨S4096x1024, .f32⟩
  | 18 => ⟨S4096x1, .f32⟩
  | 19 => ⟨S4096x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x1024, .f32⟩
  | 29 => ⟨S4096x1024, .f32⟩
  | 30 => ⟨S4096x1024, .f32⟩
  | 31 => ⟨S_, .f32⟩
  | 32 => ⟨S4096, .f32⟩
  | 33 => ⟨S4096x1, .f32⟩
  | 34 => ⟨S4096x1024, .f32⟩
  | 35 => ⟨S4096x1, .f32⟩
  | 36 => ⟨S_, .f32⟩
  | 37 => ⟨S4096x1, .f32⟩
  | 38 => ⟨S4096x1, .f32⟩
  | 39 => ⟨S_, .f32⟩
  | 40 => ⟨S4096, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S4096x1024, .f32⟩
  | 48 => ⟨S1024x256, .f32⟩
  | 49 => ⟨S256x1024, .f32⟩
  | 50 => ⟨S4096x1024, .f32⟩
  | 51 => ⟨S_, .f32⟩
  | 52 => ⟨S1024, .f32⟩
  | 53 => ⟨S1x1024, .f32⟩
  | 54 => ⟨S_, .f32⟩
  | 55 => ⟨S1024, .f32⟩
  | 56 => ⟨S1024x1024, .f32⟩
  | 57 => ⟨S1024x1024, .f32⟩
  | 58 => ⟨S4096x1024, .f32⟩
  | 59 => ⟨S4096x1024, .f32⟩
  | 60 => ⟨S_, .f32⟩
  | 61 => ⟨S1024, .f32⟩
  | 62 => ⟨S1x1024, .f32⟩
  | 63 => ⟨S_, .f32⟩
  | 64 => ⟨S1024, .f32⟩
  | 65 => ⟨S4096x1024, .f32⟩
  | 66 => ⟨S_, .f32⟩
  | 67 => ⟨S1024, .f32⟩
  | 68 => ⟨S1x1024, .f32⟩
  | 69 => ⟨S4096x1024, .f32⟩
  | 70 => ⟨S4096x1024, .f32⟩
  | 71 => ⟨S_, .f32⟩
  | 72 => ⟨S1024, .f32⟩
  | 73 => ⟨S4096x1024, .f32⟩
  | 74 => ⟨S_, .f32⟩
  | 75 => ⟨S4096, .f32⟩
  | 76 => ⟨S4096x1, .f32⟩
  | 77 => ⟨S4096x1024, .f32⟩
  | 78 => ⟨S4096x1024, .f32⟩
  | 79 => ⟨S4096x1, .f32⟩
  | 80 => ⟨S4096x1024, .f32⟩
  | 81 => ⟨S_, .f32⟩
  | 82 => ⟨S4096, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096, .f32⟩
  | 89 => ⟨S4096x1024, .f32⟩
  | 90 => ⟨S4096x1024, .f32⟩
  | 91 => ⟨S4096x1024, .f32⟩
  | 92 => ⟨S_, .f32⟩
  | 93 => ⟨S4096, .f32⟩
  | 94 => ⟨S4096x1, .f32⟩
  | 95 => ⟨S4096x1024, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096, .f32⟩
  | 102 => ⟨S4096x1024, .f32⟩
  | 103 => ⟨S4096x1024, .f32⟩
  | 104 => ⟨S4x2x128x1024, .f32⟩
  | 105 => ⟨S2x4x128x1024, .f32⟩
  | 106 => ⟨S8x128x1024, .f32⟩
  | 107 => ⟨S256x4x2x128, .f32⟩
  | 108 => ⟨S2x4x256x128, .f32⟩
  | 109 => ⟨S8x256x128, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S_, .f32⟩
  | 116 => ⟨S3x1024, .f32⟩
  | 117 => ⟨S8x1024, .f32⟩
  | 118 => ⟨S8x128, .f32⟩
  | 119 => ⟨S4096x1024, .bf16⟩
  | 120 => ⟨S8x128x1024, .bf16⟩
  | 121 => ⟨S8x256x128, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_cst_18 : Ref sig .tc := ⟨.hbm, 109, rfl⟩
abbrev main_v80 : Ref sig .tc := ⟨.hbm, 110, rfl⟩
abbrev main_cst_19 : Ref sig .tc := ⟨.hbm, 111, rfl⟩
abbrev main_v81 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_cst_22 : Ref sig .tc := ⟨.hbm, 118, rfl⟩
abbrev main_cst_23 : Ref sig .tc := ⟨.hbm, 119, rfl⟩
abbrev main_v85 : Ref sig .tc := ⟨.hbm, 120, rfl⟩
abbrev main_v86 : Ref sig .tc := ⟨.hbm, 121, rfl⟩
abbrev main_cst_24 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_25 : Ref sig .tc := ⟨.hbm, 127, rfl⟩
abbrev main_v91 : Ref sig .tc := ⟨.hbm, 128, rfl⟩
abbrev main_v92 : Ref sig .tc := ⟨.hbm, 129, rfl⟩
abbrev main_cst_26 : Ref sig .tc := ⟨.hbm, 130, rfl⟩
abbrev main_v93 : Ref sig .tc := ⟨.hbm, 131, rfl⟩
abbrev main_v94 : Ref sig .tc := ⟨.hbm, 132, rfl⟩
abbrev main_cst_27 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_28 : Ref sig .tc := ⟨.hbm, 138, rfl⟩
abbrev main_v99 : Ref sig .tc := ⟨.hbm, 139, rfl⟩
abbrev main_v100 : Ref sig .tc := ⟨.hbm, 140, rfl⟩
abbrev main_cst_29 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_30 : Ref sig .tc := ⟨.hbm, 148, rfl⟩
abbrev main_v107 : Ref sig .tc := ⟨.hbm, 149, rfl⟩
abbrev main_v108 : Ref sig .tc := ⟨.hbm, 150, rfl⟩
abbrev main_cst_31 : Ref sig .tc := ⟨.hbm, 151, rfl⟩
abbrev main_v109 : Ref sig .tc := ⟨.hbm, 152, rfl⟩
abbrev main_v110 : Ref sig .tc := ⟨.hbm, 153, rfl⟩
abbrev main_cst_32 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_33 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_34 : Ref sig .tc := ⟨.hbm, 164, rfl⟩
abbrev main_v119 : Ref sig .tc := ⟨.hbm, 165, rfl⟩
abbrev main_v120 : Ref sig .tc := ⟨.hbm, 166, rfl⟩
abbrev main_cst_35 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_36 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_37 : Ref sig .tc := ⟨.hbm, 179, rfl⟩
abbrev main_v131 : Ref sig .tc := ⟨.hbm, 180, rfl⟩
abbrev main_v132 : Ref sig .tc := ⟨.hbm, 181, rfl⟩
abbrev main_cst_38 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_39 : Ref sig .tc := ⟨.hbm, 188, rfl⟩
abbrev main_v138 : Ref sig .tc := ⟨.hbm, 189, rfl⟩
abbrev main_v139 : Ref sig .tc := ⟨.hbm, 190, rfl⟩
abbrev main_cst_40 : Ref sig .tc := ⟨.hbm, 191, rfl⟩
abbrev main_v140 : Ref sig .tc := ⟨.hbm, 192, rfl⟩
abbrev main_v141 : Ref sig .tc := ⟨.hbm, 193, rfl⟩
abbrev main_cst_41 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_cst_42 : Ref sig .tc := ⟨.hbm, 199, rfl⟩
abbrev main_v146 : Ref sig .tc := ⟨.hbm, 200, rfl⟩
abbrev main_v147 : Ref sig .tc := ⟨.hbm, 201, rfl⟩
abbrev main_cst_43 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_44 : Ref sig .tc := ⟨.hbm, 209, rfl⟩
abbrev main_v154 : Ref sig .tc := ⟨.hbm, 210, rfl⟩
abbrev main_v155 : Ref sig .tc := ⟨.hbm, 211, rfl⟩
abbrev main_cst_45 : Ref sig .tc := ⟨.hbm, 212, rfl⟩
abbrev main_v156 : Ref sig .tc := ⟨.hbm, 213, rfl⟩
abbrev main_v157 : Ref sig .tc := ⟨.hbm, 214, rfl⟩
abbrev main_cst_46 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_47 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_48 : Ref sig .tc := ⟨.hbm, 225, rfl⟩
abbrev main_v166 : Ref sig .tc := ⟨.hbm, 226, rfl⟩
abbrev main_v167 : Ref sig .tc := ⟨.hbm, 227, rfl⟩
abbrev main_cst_49 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_cst_50 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩

abbrev nD : Nat := 1
abbrev τ : Topo := Topo.v7x

variable {F : FTy → Type} [FloatOps F]
-- ==== Proof.Wgt.Setup.lean ====
/- What the runs of the up weights' gradient kernel are stated over: its two branch conditions over the points, and the
   invariant of the region with the two accumulators named. -/
module

public import proofs.«01_k».proof.Proof.Gen.Kernel2Ideal.Frame
public import proofs.«01_k».proof.Proof.Gen.Kernel2Ideal.Skeleton

@[expose] public section

set_option maxRecDepth 16384

noncomputable section

namespace Cert.Wgt

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The grid's first coordinate at a point: the column tile. -/
theorem coord0 (t : Fin grid0.N) : (grid0.coords t 0).val = t.val / 8 := by
  have ht : t.val < 16 := Nat.lt_of_lt_of_eq t.isLt N_0
  have h : (grid0.coords t 0).val = t.val / 8 % 2 := Pipeline.Grid.coords_val t 0 (by decide) rfl
  omega

/-- The grid's second coordinate at a point: how many row tiles of the column tile went before. -/
theorem coord1 (t : Fin grid0.N) : (grid0.coords t 1).val = t.val % 8 := by
  have h : (grid0.coords t 1).val = t.val / 1 % 8 := Pipeline.Grid.coords_val t 1 (by decide) rfl
  omega

/-- The condition of the body's first branch: the point starts a column tile. -/
abbrev starts (i : grid0.Coords) : Prop :=
  (Scalar.cmpi .ne (Scalar.extui (Scalar.cmpi .eq (BitVec.ofNat 32 (i 1).val) 0#32)) 0#32) = 1#1

theorem starts_iff (t : Fin grid0.N) : starts (grid0.coords t) ↔ t.val % 8 = 0 := by
  have ht : t.val < 16 := Nat.lt_of_lt_of_eq t.isLt N_0
  have e1 := coord1 t
  simp only [starts, e1]
  word_cmp

/-- The condition of the body's last branch: the point ends a column tile. -/
abbrev ends (i : grid0.Coords) : Prop := k0_cond2 i = 1#1

theorem ends_iff (t : Fin grid0.N) : ends (grid0.coords t) ↔ t.val % 8 = 7 := by
  have ht : t.val < 16 := Nat.lt_of_lt_of_eq t.isLt N_0
  have e1 := coord1 t
  simp only [ends, k0_cond2, e1]
  word_cmp

/-- The scratch that accumulates the first weight's gradient. -/
abbrev accAM : Memref sig .tc .vmem S1408x1024 .f32 := Memref.whole cc0_scratch0
/-- The scratch that accumulates the second weight's. -/
abbrev accBM : Memref sig .tc .vmem S1408x1024 .f32 := Memref.whole cc0_scratch1

/-- The region's invariant, its scratch operands as memrefs. -/
theorem PhiA_eq (c : Dev nD) :
    (Pipeline.ΦA spec0 c : sProp 𝕄)
      = iprop(iprop((∃ d, owns (c : Thread nD τ) accAM fullShare d) ∗ (∃ d, owns (c : Thread nD τ) accBM fullShare d)) ∗ (∃ r, prngReg c r)) := by
  unfold Pipeline.ΦA; rw [scopedRest0_eq]; simp only [accAM, accBM, owns_whole]; try rfl

end Cert.Wgt

end
-- ==== Proof.Setup.lean ====
/- What the runs of the kernel's body are stated over: the two branch conditions over the points, the windows' staging
   memrefs, and the invariant of the region with the two scratch operands named. -/
module

public import proofs.«01_k».proof.Proof.Gen.KernelIdeal.Frame
public import proofs.«01_k».proof.Proof.Gen.KernelIdeal.Skeleton

@[expose] public section

set_option maxRecDepth 16384

noncomputable section

namespace Cert.Act

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The grid's first coordinate at a point: the column tile. -/
theorem coord0 (t : Fin grid0.N) : (grid0.coords t 0).val = t.val / 8 := by
  have ht : t.val < 16 := Nat.lt_of_lt_of_eq t.isLt N_0
  have h : (grid0.coords t 0).val = t.val / 8 % 2 := Pipeline.Grid.coords_val t 0 (by decide) rfl
  omega

/-- The grid's second coordinate at a point: how many row tiles of the column tile went before. -/
theorem coord1 (t : Fin grid0.N) : (grid0.coords t 1).val = t.val % 8 := by
  have h : (grid0.coords t 1).val = t.val / 1 % 8 := Pipeline.Grid.coords_val t 1 (by decide) rfl
  omega

/-- The condition of the body's first branch: the point starts a column tile. -/
abbrev starts (i : grid0.Coords) : Prop :=
  (Scalar.cmpi .ne (Scalar.extui (Scalar.cmpi .eq (BitVec.ofNat 32 (i 1).val) 0#32)) 0#32) = 1#1

theorem starts_iff (t : Fin grid0.N) : starts (grid0.coords t) ↔ t.val % 8 = 0 := by
  have ht : t.val < 16 := Nat.lt_of_lt_of_eq t.isLt N_0
  have e1 := coord1 t
  simp only [starts, e1]
  word_cmp

/-- The condition of the body's last branch: the point ends a column tile. -/
abbrev ends (i : grid0.Coords) : Prop := k0_cond2 i = 1#1

theorem ends_iff (t : Fin grid0.N) : ends (grid0.coords t) ↔ t.val % 8 = 7 := by
  have ht : t.val < 16 := Nat.lt_of_lt_of_eq t.isLt N_0
  have e1 := coord1 t
  simp only [ends, k0_cond2, e1]
  word_cmp

/-- The scratch that carries the next row tile's first eight rows. -/
abbrev carryM : Memref sig .tc .vmem S8x1408 .f32 := Memref.whole cc0_scratch0
/-- The scratch that accumulates the weight's gradient. -/
abbrev accM : Memref sig .tc .vmem S1408x1024 .f32 := Memref.whole cc0_scratch1

/-- The region's invariant, its scratch operands as memrefs. -/
theorem PhiA_eq (c : Dev nD) :
    (Pipeline.ΦA spec0 c : sProp 𝕄)
      = iprop(iprop((∃ d, owns (c : Thread nD τ) carryM fullShare d) ∗ (∃ d, owns (c : Thread nD τ) accM fullShare d)) ∗ (∃ r, prngReg c r)) := by
  unfold Pipeline.ΦA; rw [scopedRest0_eq]; simp only [carryM, accM, owns_whole]; try rfl

end Cert.Act

end
-- ==== Proof.Step.lean ====
/- What one run of the kernel's body leaves in its buffers, as functions of what it finds there: the derivative block
   and its two copies shifted up by one and two rows, the two activation gradients, the convolution weight's gradient
   rows, the carried rows, the down weight's gradient accumulator and its four output rows blocks. -/
module

public import proofs.«01_k».proof.Proof.Setup
public import Idealize.ShloMosaic.Lib.VecWindow

@[expose] public section

set_option maxRecDepth 16384

noncomputable section

namespace Cert.Act

open Cert.KernelIdeal Cert.KernelIdeal.Gen
open Idealize.ShloMosaic Idealize.ShloMosaic.TcCoe
open Idealize.ShloMosaic.VecWindow (window put)

variable {F : FTy → Type} [FloatOps F] [Named F]

section Windows

variable {α : Type}

/-- A window of the buffer's own sizes is the buffer. -/
theorem window_all {s : Shape} (x : s.Idx → α) {off : Fin s.rank → ℕ} (inb : ∀ a, off a + s.size a ≤ s.size a) :
    window x off s.size inb = x :=
  funext fun y => congrArg x (Rect.emb_unit_full inb y)

/-- A put of the buffer's own sizes leaves the payload. -/
theorem put_all {s : Shape} (x w : s.Idx → α) {off : Fin s.rank → ℕ} (h : ∀ a, off a = 0) : put x off s.size w = w := by
  funext y
  have hm : ∀ a, off a ≤ (y a).val ∧ (y a).val < off a + s.size a := fun a => by
    have := (y a).isLt; rw [h a]; omega
  refine (dif_pos hm).trans (congrArg w (funext fun a => Fin.ext ?_))
  show (y a).val - off a = (y a).val
  rw [h a, Nat.sub_zero]

theorem window_dy (x : S512x1024.Idx → α) (inb) : window x ![0, 0] ![512, 1024] inb = x := window_all (s := S512x1024) x inb
theorem window_w (x : S1408x1024.Idx → α) (inb) : window x ![0, 0] ![1408, 1024] inb = x := window_all (s := S1408x1024) x inb
theorem window_a (x : S512x1408.Idx → α) (inb) : window x ![0, 0] ![512, 1408] inb = x := window_all (s := S512x1408) x inb
theorem window_r (x : S8x1408.Idx → α) (inb) : window x ![0, 0] ![8, 1408] inb = x := window_all (s := S8x1408) x inb
theorem put_w (x w : S1408x1024.Idx → α) : put x ![0, 0] ![1408, 1024] w = w := put_all (s := S1408x1024) x w (by decide)
theorem put_a (x w : S512x1408.Idx → α) : put x ![0, 0] ![512, 1408] w = w := put_all (s := S512x1408) x w (by decide)
theorem put_r (x w : S8x1408.Idx → α) : put x ![0, 0] ![8, 1408] w = w := put_all (s := S8x1408) x w (by decide)

/-- A row other than the one just put reads what was there before. -/
theorem window_put_row (r r' : ℕ) (h : r' ≠ r) (x : S8x1408.Idx → α) (inb : ∀ a, (![r', 0] : Fin 2 → ℕ) a + (![1, 1408] : Fin 2 → ℕ) a ≤ S8x1408.size a)
    (w : ((a : Fin 2) → Fin ((![1, 1408] : Fin 2 → ℕ) a)) → α) :
    window (put x ![r, 0] ![1, 1408] w) ![r', 0] ![1, 1408] inb = window x ![r', 0] ![1, 1408] inb :=
  VecWindow.window_put_of_disjoint x ![r, 0] ![1, 1408] ![r', 0] ![1, 1408] inb w 0 (by
    show r' + 1 ≤ r ∨ r + 1 ≤ r'
    omega)

/-- A load at a unit-stride rectangle reads a window of what the view reads. -/
theorem readAt_window {sig : RefSig} {κ : Kind} {sp : Space} {s : Shape} {e : EltTy} {Val : EltTy → Type} (v : View sig κ sp s e)
    (f : v.ty.Contents Val) {off size : Fin s.rank → ℕ} (inb : ∀ a, off a + size a ≤ s.size a) :
    v.readAt Val (Rect.unit off size inb).toLoadRect f = window (v.read Val f) off size inb := rfl

/-- A store at a unit-stride rectangle puts its payload there. -/
theorem read_writes_put {sig : RefSig} {κ : Kind} {sp : Space} {s : Shape} {e : EltTy} {Val : EltTy → Type} (v : View sig κ sp s e)
    (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

end Windows

/-- The row numbers of a row tile. -/
def rows : IVec S512x1408 32 := iota .tc S512x1408 32 [0] iota_S512x1408_d0_w32

/-- Row 0 of an eight-row buffer. -/
def row0 (x : Vec F S8x1408 .f32) : Vec F S1x1408 .f32 := window x ![0, 0] S1x1408.size inb_S8x1408_S1x1408_0_0
/-- Row 1 of an eight-row buffer. -/
def row1 (x : Vec F S8x1408 .f32) : Vec F S1x1408 .f32 := window x ![1, 0] S1x1408.size inb_S8x1408_S1x1408_1_0
/-- Row 2 of an eight-row buffer. -/
def row2 (x : Vec F S8x1408 .f32) : Vec F S1x1408 .f32 := window x ![2, 0] S1x1408.size inb_S8x1408_S1x1408_2_0
/-- Row 3 of an eight-row buffer. -/
def row3 (x : Vec F S8x1408 .f32) : Vec F S1x1408 .f32 := window x ![3, 0] S1x1408.size inb_S8x1408_S1x1408_3_0

/-- The derivative with respect to the convolution's output. -/
def dA (dy : Vec F S512x1024 .bf16) (w : Vec F S1408x1024 .bf16) (a : Vec F S512x1408 .f32) (bl : Vec F S512x1408 .bf16) :
    FVec F S512x1408 .f32 := k0_pay15 dy w a bl

/-- It shifted up by one row, the carried row 0 at the end. -/
def up1 (d : FVec F S512x1408 .f32) (carry : Vec F S8x1408 .f32) : FVec F S512x1408 .f32 := k0_pay16 d rows (row0 carry)
/-- It shifted up by two rows, the carried rows 0 and 1 at the end. -/
def up2 (d : FVec F S512x1408 .f32) (carry : Vec F S8x1408 .f32) : FVec F S512x1408 .f32 := k0_pay17 d rows (row0 carry) (row1 carry)

/-- The gradient of the convolution's input. -/
def outAp (d : FVec F S512x1408 .f32) (carry cw : Vec F S8x1408 .f32) : FVec F S512x1408 .bf16 :=
  k0_pay24 d (up1 d carry) (up2 d carry) (row2 cw) (row1 cw) (row0 cw)

/-- The gradient of the linear factor. -/
def outBl (dy : Vec F S512x1024 .bf16) (w : Vec F S1408x1024 .bf16) (a : Vec F S512x1408 .f32) : FVec F S512x1408 .bf16 :=
  k0_pay14 dy w a

/-- The convolution weight's gradient rows, one point's sums added. -/
def outCw (d : FVec F S512x1408 .f32) (ap : Vec F S512x1408 .bf16) (carry old : Vec F S8x1408 .f32) : Vec F S8x1408 .f32 :=
  put (put (put (put old ![3, 0] S1x1408.size (k0_pay20 d (row3 old)))
    ![0, 0] S1x1408.size (k0_pay21 d rows (row0 carry) (row1 carry) ap (row0 old)))
    ![1, 0] S1x1408.size (k0_pay22 (up1 d carry) (k0_pay19 ap) (row1 old)))
    ![2, 0] S1x1408.size (k0_pay23 d (k0_pay19 ap) (row2 old))

/-- The rows the next point finds. -/
def outCarry (d : FVec F S512x1408 .f32) : FVec F S8x1408 .f32 := k0_pay18 d

/-- The down weight's gradient, one point's product added. -/
def outAcc (dy : Vec F S512x1024 .bf16) (h : Vec F S512x1408 .bf16) (old : Vec F S1408x1024 .f32) : FVec F S1408x1024 .f32 :=
  k0_pay1 (k0_pay10 dy) old (k0_pay25 h)

/-- The four row blocks of the accumulator put at their places of the output. -/
def outGw (i : grid0.Coords) (acc : Vec F S1408x1024 .f32) (old : Vec F S8x352x1024 .bf16) : Vec F S8x352x1024 .bf16 :=
  put (put (put (put old (k0_off1 i 0#32 0#32) S1x352x1024.size (k0_pay3 (window acc ![0, 0] S352x1024.size inb_S1408x1024_S352x1024_0_0)))
    (k0_off1 i 4#32 0#32) S1x352x1024.size (k0_pay4 (window acc ![352, 0] S352x1024.size inb_S1408x1024_S352x1024_352_0)))
    (k0_off1 i 0#32 1#32) S1x352x1024.size (k0_pay5 (window acc ![704, 0] S352x1024.size inb_S1408x1024_S352x1024_704_0)))
    (k0_off1 i 4#32 1#32) S1x352x1024.size (k0_pay2 (k0_pay6 (window acc ![1056, 0] S352x1024.size inb_S1408x1024_S352x1024_1056_0)))

end Cert.Act

end
-- ==== Proof.Wgt.Step.lean ====
/- What one run of the up weights' gradient kernel leaves: a tile's product added to each accumulator, and an accumulator's
   four row blocks at their places. -/
module

public import proofs.«01_k».proof.Proof.Wgt.Setup
public import proofs.«01_k».proof.Proof.Step

@[expose] public section

set_option maxRecDepth 16384

noncomputable section

namespace Cert.Wgt

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.VecWindow (window put)
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem window_x (x : S512x1024.Idx → F .bf16) (inb) : window x ![0, 0] ![512, 1024] inb = x := Cert.Act.window_all (s := S512x1024) x inb
theorem window_d (x : S512x1408.Idx → F .bf16) (inb) : window x ![0, 0] ![512, 1408] inb = x := Cert.Act.window_all (s := S512x1408) x inb
theorem window_w (x : S1408x1024.Idx → F .f32) (inb) : window x ![0, 0] ![1408, 1024] inb = x := Cert.Act.window_all (s := S1408x1024) x inb
theorem put_w (x w : S1408x1024.Idx → F .f32) : put x ![0, 0] ![1408, 1024] w = w := Cert.Act.put_all (s := S1408x1024) x w (by decide)

/-- One point's product added to an accumulator. -/
def outAcc (x : Vec F S512x1024 .bf16) (d : Vec F S512x1408 .bf16) (old : Vec F S1408x1024 .f32) : FVec F S1408x1024 .f32 :=
  k0_pay4 x old d

/-- An accumulator at a column tile's start. -/
def zeroAcc : FVec F S1408x1024 .f32 := k0_pay1

/-- A row block of an accumulator, as stored. -/
def slab (x : Vec F S352x1024 .f32) : FVec F S1x352x1024 .bf16 := k0_pay7 x

/-- The four row blocks of an accumulator put at their places of the output. -/
def outGw (i : grid0.Coords) (acc : Vec F S1408x1024 .f32) (old : Vec F S8x352x1024 .bf16) : Vec F S8x352x1024 .bf16 :=
  put (put (put (put old (k0_off1 i 0#32 0#32) S1x352x1024.size (slab (window acc ![0, 0] S352x1024.size inb_S1408x1024_S352x1024_0_0)))
    (k0_off1 i 4#32 0#32) S1x352x1024.size (slab (window acc ![352, 0] S352x1024.size inb_S1408x1024_S352x1024_352_0)))
    (k0_off1 i 0#32 1#32) S1x352x1024.size (slab (window acc ![704, 0] S352x1024.size inb_S1408x1024_S352x1024_704_0)))
    (k0_off1 i 4#32 1#32) S1x352x1024.size (slab (window acc ![1056, 0] S352x1024.size inb_S1408x1024_S352x1024_1056_0))

theorem pay1_eq : k0_pay1 (F := F) = zeroAcc := rfl
theorem pay2_eq : k0_pay2 (F := F) = zeroAcc := rfl
theorem pay4_eq (x : Vec F S512x1024 .bf16) (old : Vec F S1408x1024 .f32) (d : Vec F S512x1408 .bf16) : k0_pay4 x old d = outAcc x d old := rfl
theorem pay5_eq (x : Vec F S512x1024 .bf16) (old : Vec F S1408x1024 .f32) (d : Vec F S512x1408 .bf16) : k0_pay5 x old d = outAcc x d old := rfl
theorem pay7_eq (x : Vec F S352x1024 .f32) : k0_pay7 x = slab x := rfl
theorem pay8_eq (x : Vec F S352x1024 .f32) : k0_pay8 x = slab x := rfl
theorem pay9_eq (x : Vec F S352x1024 .f32) : k0_pay9 x = slab x := rfl
theorem pay11_eq (x : Vec F S352x1024 .f32) : k0_pay11 (k0_pay10 x) = slab x := rfl
theorem pay12_eq (x : Vec F S352x1024 .f32) : k0_pay12 x = slab x := rfl
theorem pay13_eq (x : Vec F S352x1024 .f32) : k0_pay13 x = slab x := rfl
theorem pay14_eq (x : Vec F S352x1024 .f32) : k0_pay14 x = slab x := rfl
theorem pay6_eq (x : Vec F S352x1024 .f32) : k0_pay6 x = slab x := rfl

end Cert.Wgt

end
-- ==== Proof.Wgt.RunA.lean ====
/- The body at a point that starts a column tile: the accumulators start at zero. -/
module

public import proofs.«01_k».proof.Proof.Wgt.Step

@[expose] public section

set_option maxRecDepth 16384

noncomputable section

namespace Cert.Wgt

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.VecWindow (window put)
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body at a point that starts a column tile: the accumulators start at zero. -/
theorem runA (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S512x1024 .bf16) (harg4 : arg4.IsWhole) (arg5 : Memref sig .tc .vmem S8x352x1024 .bf16) (harg5 : arg5.IsWhole) (arg6 : Memref sig .tc .vmem S8x352x1024 .bf16) (harg6 : arg6.IsWhole) (arg7 : Memref sig .tc .vmem S1408x1024 .f32) (harg7 : arg7.IsWhole) (arg8 : Memref sig .tc .vmem S1408x1024 .f32) (harg8 : arg8.IsWhole) (hc0 : starts i) (hc1 : ¬ends i)
    (x0 x1 : Vec F S512x1408 .bf16) (x2 : Vec F S512x1024 .bf16) (y3 y4 : Vec F S8x352x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare (outAcc x2 x0 zeroAcc) ∗ owns (c : Thread nD τ) arg8 fullShare (outAcc x2 x1 zeroAcc)) -∗ K ⟨⟩))
      ⊢ wp frame (wpE (defs₀ (F := F)) Variants.none c none) E (cc0_ffn_bwd_w i arg2 harg2 arg3 harg3 arg4 harg4 arg5 harg5 arg6 harg6 arg7 harg7 arg8 harg8) K := by
  simp only [cc0_ffn_bwd_w_eq_skeleton]; unfold cc0_ffn_bwd_w_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    repeat delta runA.sl.v5 runA.sl.v13 runA.sl.H7_1 runA.sl.H8_1
    simp only [View.readCov, Cert.Act.readAt_window, Cert.Act.read_writes_put, View.writes_nil, Memref.IsWhole.read_unread,
      window_x, window_d, window_w, put_w, pay1_eq, pay2_eq, pay4_eq, pay5_eq, pay6_eq, pay7_eq, pay8_eq, pay9_eq, pay11_eq, pay12_eq, pay13_eq, pay14_eq]
  iexists _; isplitr; swap; · iexact H8
  ipureintro
  repeat delta runA.sl.v5 runA.sl.v13 runA.sl.H7_1 runA.sl.H8_1
  simp only [View.readCov, Cert.Act.readAt_window, Cert.Act.read_writes_put, View.writes_nil, Memref.IsWhole.read_unread,
    window_x, window_d, window_w, put_w, pay1_eq, pay2_eq, pay4_eq, pay5_eq, pay6_eq, pay7_eq, pay8_eq, pay9_eq, pay11_eq, pay12_eq, pay13_eq, pay14_eq]

end Cert.Wgt

end
-- ==== Proof.Wgt.RunB.lean ====
/- The body at a point inside a column tile. -/
module

public import proofs.«01_k».proof.Proof.Wgt.Step

@[expose] public section

set_option maxRecDepth 16384

noncomputable section

namespace Cert.Wgt

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.VecWindow (window put)
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body at a point inside a column tile. -/
theorem runB (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S512x1024 .bf16) (harg4 : arg4.IsWhole) (arg5 : Memref sig .tc .vmem S8x352x1024 .bf16) (harg5 : arg5.IsWhole) (arg6 : Memref sig .tc .vmem S8x352x1024 .bf16) (harg6 : arg6.IsWhole) (arg7 : Memref sig .tc .vmem S1408x1024 .f32) (harg7 : arg7.IsWhole) (arg8 : Memref sig .tc .vmem S1408x1024 .f32) (harg8 : arg8.IsWhole) (hc0 : ¬starts i) (hc1 : ¬ends i)
    (x0 x1 : Vec F S512x1408 .bf16) (x2 : Vec F S512x1024 .bf16) (y3 y4 : Vec F S8x352x1024 .bf16) (s0 s1 : Vec F S1408x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare (outAcc x2 x0 s0) ∗ owns (c : Thread nD τ) arg8 fullShare (outAcc x2 x1 s1)) -∗ K ⟨⟩))
      ⊢ wp frame (wpE (defs₀ (F := F)) Variants.none c none) E (cc0_ffn_bwd_w i arg2 harg2 arg3 harg3 arg4 harg4 arg5 harg5 arg6 harg6 arg7 harg7 arg8 harg8) K := by
  simp only [cc0_ffn_bwd_w_eq_skeleton]; unfold cc0_ffn_bwd_w_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    simp only [View.readCov, Cert.Act.readAt_window, Cert.Act.read_writes_put, View.writes_nil, Memref.IsWhole.read_unread,
      window_x, window_d, window_w, put_w, pay1_eq, pay2_eq, pay4_eq, pay5_eq, pay6_eq, pay7_eq, pay8_eq, pay9_eq, pay11_eq, pay12_eq, pay13_eq, pay14_eq]
  iexists _; isplitr; swap; · iexact H8
  ipureintro
  simp only [View.readCov, Cert.Act.readAt_window, Cert.Act.read_writes_put, View.writes_nil, Memref.IsWhole.read_unread,
    window_x, window_d, window_w, put_w, pay1_eq, pay2_eq, pay4_eq, pay5_eq, pay6_eq, pay7_eq, pay8_eq, pay9_eq, pay11_eq, pay12_eq, pay13_eq, pay14_eq]

end Cert.Wgt

end
-- ==== Proof.Wgt.RunC.lean ====
/- The body at a point that ends a column tile: the accumulators' row blocks go out. -/
module

public import proofs.«01_k».proof.Proof.Wgt.Step

@[expose] public section

set_option maxRecDepth 16384

noncomputable section

namespace Cert.Wgt

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.VecWindow (window put)
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body at a point that ends a column tile: the accumulators' row blocks go out. -/
theorem runC (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S512x1024 .bf16) (harg4 : arg4.IsWhole) (arg5 : Memref sig .tc .vmem S8x352x1024 .bf16) (harg5 : arg5.IsWhole) (arg6 : Memref sig .tc .vmem S8x352x1024 .bf16) (harg6 : arg6.IsWhole) (arg7 : Memref sig .tc .vmem S1408x1024 .f32) (harg7 : arg7.IsWhole) (arg8 : Memref sig .tc .vmem S1408x1024 .f32) (harg8 : arg8.IsWhole) (hc0 : ¬starts i) (hc1 : ends i)
    (x0 x1 : Vec F S512x1408 .bf16) (x2 : Vec F S512x1024 .bf16) (y3 y4 : Vec F S8x352x1024 .bf16) (s0 s1 : Vec F S1408x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare (outGw i (outAcc x2 x0 s0) y3) ∗ owns (c : Thread nD τ) arg6 fullShare (outGw i (outAcc x2 x1 s1) y4) ∗ owns (c : Thread nD τ) arg7 fullShare (outAcc x2 x0 s0) ∗ owns (c : Thread nD τ) arg8 fullShare (outAcc x2 x1 s1)) -∗ K ⟨⟩))
      ⊢ wp frame (wpE (defs₀ (F := F)) Variants.none c none) E (cc0_ffn_bwd_w i arg2 harg2 arg3 harg3 arg4 harg4 arg5 harg5 arg6 harg6 arg7 harg7 arg8 harg8) K := by
  simp only [cc0_ffn_bwd_w_eq_skeleton]; unfold cc0_ffn_bwd_w_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    repeat delta runC.sl.H7_1 runC.sl.H8_1 runC.sl.r runC.sl.v60 runC.sl.v69 runC.sl.v78 runC.sl.v87 runC.sl.v24 runC.sl.v33 runC.sl.v42 runC.sl.v51
    simp only [View.readCov, Cert.Act.readAt_window, Cert.Act.read_writes_put, View.writes_nil, Memref.IsWhole.read_unread,
      window_x, window_d, window_w, put_w, pay1_eq, pay2_eq, pay4_eq, pay5_eq, pay6_eq, pay7_eq, pay8_eq, pay9_eq, pay11_eq, pay12_eq, pay13_eq, pay14_eq, outGw]
  isplitl [H6]
  · iexists _; isplitr; swap; · iexact H6
    ipureintro
    repeat delta runC.sl.H7_1 runC.sl.H8_1 runC.sl.r runC.sl.v60 runC.sl.v69 runC.sl.v78 runC.sl.v87 runC.sl.v24 runC.sl.v33 runC.sl.v42 runC.sl.v51
    simp only [View.readCov, Cert.Act.readAt_window, Cert.Act.read_writes_put, View.writes_nil, Memref.IsWhole.read_unread,
      window_x, window_d, window_w, put_w, pay1_eq, pay2_eq, pay4_eq, pay5_eq, pay6_eq, pay7_eq, pay8_eq, pay9_eq, pay11_eq, pay12_eq, pay13_eq, pay14_eq, outGw]
  isplitl [H7]
  · iexists _; isplitr; swap; · iexact H7
    ipureintro
    repeat delta runC.sl.H7_1 runC.sl.H8_1 runC.sl.r runC.sl.v60 runC.sl.v69 runC.sl.v78 runC.sl.v87 runC.sl.v24 runC.sl.v33 runC.sl.v42 runC.sl.v51
    simp only [View.readCov, Cert.Act.readAt_window, Cert.Act.read_writes_put, View.writes_nil, Memref.IsWhole.read_unread,
      window_x, window_d, window_w, put_w, pay1_eq, pay2_eq, pay4_eq, pay5_eq, pay6_eq, pay7_eq, pay8_eq, pay9_eq, pay11_eq, pay12_eq, pay13_eq, pay14_eq]
  iexists _; isplitr; swap; · iexact H8
  ipureintro
  repeat delta runC.sl.H7_1 runC.sl.H8_1 runC.sl.r runC.sl.v60 runC.sl.v69 runC.sl.v78 runC.sl.v87 runC.sl.v24 runC.sl.v33 runC.sl.v42 runC.sl.v51
  simp only [View.readCov, Cert.Act.readAt_window, Cert.Act.read_writes_put, View.writes_nil, Memref.IsWhole.read_unread,
    window_x, window_d, window_w, put_w, pay1_eq, pay2_eq, pay4_eq, pay5_eq, pay6_eq, pay7_eq, pay8_eq, pay9_eq, pay11_eq, pay12_eq, pay13_eq, pay14_eq]

end Cert.Wgt

end
-- ==== Proof.Wgt.Chain.lean ====
/- What the up weights' gradient kernel's buffers hold from point to point: each input window's block, the accumulators,
   and the two outputs' buffers. -/
module

public import proofs.«01_k».proof.Proof.Wgt.Step

@[expose] public section

set_option maxRecDepth 16384

noncomputable section

namespace Cert.Wgt

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.VecWindow (window put)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (c : Dev nD)

/-- The grid's point of a number. -/
def pt (n : ℕ) : Fin cfg0.N := ⟨n % 16, lt_of_lt_of_eq (Nat.mod_lt n (by decide)) N_0.symm⟩

theorem pt_val (t : Fin cfg0.N) : pt t.val = t :=
  Fin.ext (Nat.mod_eq_of_lt (lt_of_lt_of_eq t.isLt N_0))

/-- The first product's gradient, its block at a point. -/
def bA (n : ℕ) : Vec F S512x1408 .bf16 := iblk m c 0 (pt n)
/-- The second product's. -/
def bB (n : ℕ) : Vec F S512x1408 .bf16 := iblk m c 1 (pt n)
/-- The products' input, its rows at a point. -/
def bX (n : ℕ) : Vec F S512x1024 .bf16 := iblk m c 2 (pt n)

/-- A weight's gradient accumulator after a point, the product's gradient blocks given. -/
def accN (d : ℕ → Vec F S512x1408 .bf16) : ℕ → Vec F S1408x1024 .f32
  | 0 => outAcc (bX m c 0) (d 0) zeroAcc
  | n + 1 => outAcc (bX m c (n + 1)) (d (n + 1)) (if (n + 1) % 8 = 0 then zeroAcc else accN d n)

variable (d : ℕ → Vec F S512x1408 .bf16)

theorem accN_start {n : ℕ} (h : n % 8 = 0) : accN m c d n = outAcc (bX m c n) (d n) zeroAcc := by
  cases n with
  | zero => rfl
  | succ n => rw [accN, if_pos h]
theorem accN_next {n : ℕ} (h : ¬n % 8 = 0) : accN m c d n = outAcc (bX m c n) (d n) (accN m c d (n - 1)) := by
  cases n with
  | zero => exact absurd rfl h
  | succ n => rw [accN, if_neg h, Nat.add_sub_cancel]

attribute [irreducible] accN

/-- What a weight's gradient buffer is known to hold after a point: nothing before a column tile has ended, then that
    tile's row blocks over something, at the end the second tile's over these. -/
def GwAt (n : ℕ) (X : Vec F S8x352x1024 .bf16) : Prop :=
  if n = 15 then ∃ Y, X = outGw (grid0.coords (pt 15)) (accN m c d 15) (outGw (grid0.coords (pt 7)) (accN m c d 7) Y)
  else if 7 ≤ n then ∃ Y, X = outGw (grid0.coords (pt 7)) (accN m c d 7) Y else True

theorem gwAt_first {n : ℕ} (h : n < 7) (X : Vec F S8x352x1024 .bf16) : GwAt m c d n X := by
  unfold GwAt; rw [if_neg (by omega), if_neg (by omega)]; trivial

/-- A point that ends no column tile keeps what the point before left. -/
theorem gwAt_keep {n : ℕ} (hn : n < 16) (h : ¬n % 8 = 7) (hz : n ≠ 0) {X : Vec F S8x352x1024 .bf16} (hX : GwAt m c d (n - 1) X) : GwAt m c d n X := by
  unfold GwAt at hX ⊢
  rw [if_neg (by omega)] at hX ⊢
  by_cases h7 : 7 ≤ n
  · rw [if_pos (by omega)] at hX; rw [if_pos h7]; exact hX
  · rw [if_neg h7]; trivial

/-- A point that ends a column tile puts its blocks. -/
theorem gwAt_put {n : ℕ} (hn : n < 16) (h : n % 8 = 7) {X : Vec F S8x352x1024 .bf16} (hX : GwAt m c d (n - 1) X) :
    GwAt m c d n (outGw (grid0.coords (pt n)) (accN m c d n) X) := by
  obtain rfl | rfl : n = 7 ∨ n = 15 := by omega
  · exact ⟨X, rfl⟩
  · obtain ⟨Y, rfl⟩ := hX
    exact ⟨Y, rfl⟩

end Cert.Wgt

end
-- ==== Proof.Wgt.Launch.lean ====
/- The run of the whole kernel of the up weights' gradients: the proof data of its one region, the body's obligation at
   every point, and the launch. -/
module

public import proofs.«01_k».proof.Proof.Wgt.RunA
public import proofs.«01_k».proof.Proof.Wgt.RunB
public import proofs.«01_k».proof.Proof.Wgt.RunC
public import proofs.«01_k».proof.Proof.Wgt.Chain
public import Idealize.ShloMosaic.Lib.Pipeline.DatRel
public import Idealize.ShloMosaic.Lib.Pipeline.ArrRel

@[expose] public section

set_option maxRecDepth 16384

noncomputable section

namespace Cert.Wgt

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.VecWindow (window put)
open Idealize.ShloMosaic.Pipeline (Dat RDat Cfg Window BodyObligationRel)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at a point. -/
abbrev ms0 (t : Fin cfg0.N) : Memref sig .tc .vmem S512x1408 .bf16 := win0_0.stage (cfg0.slots t 0)
/-- Window 1's staging buffer at a point. -/
abbrev ms1 (t : Fin cfg0.N) : Memref sig .tc .vmem S512x1408 .bf16 := win0_1.stage (cfg0.slots t 1)
/-- Window 2's staging buffer at a point. -/
abbrev ms2 (t : Fin cfg0.N) : Memref sig .tc .vmem S512x1024 .bf16 := win0_2.stage (cfg0.slots t 2)
/-- Window 3's staging buffer at a point. -/
abbrev ms3 (t : Fin cfg0.N) : Memref sig .tc .vmem S8x352x1024 .bf16 := win0_3.stage (cfg0.slots t 3)
/-- Window 4's staging buffer at a point. -/
abbrev ms4 (t : Fin cfg0.N) : Memref sig .tc .vmem S8x352x1024 .bf16 := win0_4.stage (cfg0.slots t 4)

/-- What holds between the points: the two accumulators at what the point before left, at a column tile's start at
    anything. -/
def Phi (c : Dev nD) (n : ℕ) : sProp 𝕄 :=
  if n % 8 = 0 then Pipeline.ΦA spec0 c
  else iprop(iprop(owns (c : Thread nD τ) accAM fullShare (accN m c (bA m c) (n - 1))
    ∗ owns (c : Thread nD τ) accBM fullShare (accN m c (bB m c) (n - 1))) ∗ (∃ r, prngReg c r))

theorem Phi_start (c : Dev nD) {n : ℕ} (h : n % 8 = 0) : Phi m c n = Pipeline.ΦA spec0 c := if_pos h
theorem Phi_next (c : Dev nD) {n : ℕ} (h : ¬n % 8 = 0) :
    Phi m c n = iprop(iprop(owns (c : Thread nD τ) accAM fullShare (accN m c (bA m c) (n - 1))
      ∗ owns (c : Thread nD τ) accBM fullShare (accN m c (bB m c) (n - 1))) ∗ (∃ r, prngReg c r)) := if_neg h

/-- The proof data of the region on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ t := Phi m c t.val
  q _ := fullShare
  owed _ := 0

/-- The windows held to a predicate: the two outputs. -/
def fgt : Fin cfg0.W → Bool
  | ⟨0, _⟩ => false
  | ⟨1, _⟩ => false
  | ⟨2, _⟩ => false
  | ⟨3, _⟩ => true
  | ⟨4, _⟩ => true

/-- The predicates. -/
def Rl (c : Dev nD) (w : Fin cfg0.W) (t : Fin cfg0.N) : ((cfg0.win w).block.Idx → Elt F (cfg0.win w).elt) → Prop :=
  match w with
  | ⟨0, _⟩ => fun X => True
  | ⟨1, _⟩ => fun X => True
  | ⟨2, _⟩ => fun X => True
  | ⟨3, _⟩ => fun X => GwAt m c (bA m c) t.val X
  | ⟨4, _⟩ => fun X => GwAt m c (bB m c) t.val X

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; rfl
theorem Phi_succ (c : Dev nD) (t : Fin cfg0.N) : (dats m 0 c).Φ t.succ = Phi m c (t.val + 1) := by
  dsimp only [dats]; rfl

theorem after_0 (c : Dev nD) (t : Fin cfg0.N) : (dats m 0 c).after 0 t = iblk m c 0 t := by dsimp only [dats]
theorem before_0 (c : Dev nD) (t : Fin cfg0.N) (d) : (dats m 0 c).before 0 t d = bA m c t.val :=
  (before0_0_of m (dats m 0 c) (A_eq m c 0) (after_0 m c) t d).trans (by unfold bA; rw [pt_val])
theorem left_0 (c : Dev nD) (t : Fin cfg0.N) : (dats m 0 c).after 0 t = bA m c t.val :=
  (after_0 m c t).trans (by unfold bA; rw [pt_val])
theorem after_1 (c : Dev nD) (t : Fin cfg0.N) : (dats m 0 c).after 1 t = iblk m c 1 t := by dsimp only [dats]
theorem before_1 (c : Dev nD) (t : Fin cfg0.N) (d) : (dats m 0 c).before 1 t d = bB m c t.val :=
  (before0_1_of m (dats m 0 c) (A_eq m c 1) (after_1 m c) t d).trans (by unfold bB; rw [pt_val])
theorem left_1 (c : Dev nD) (t : Fin cfg0.N) : (dats m 0 c).after 1 t = bB m c t.val :=
  (after_1 m c t).trans (by unfold bB; rw [pt_val])
theorem after_2 (c : Dev nD) (t : Fin cfg0.N) : (dats m 0 c).after 2 t = iblk m c 2 t := by dsimp only [dats]
theorem before_2 (c : Dev nD) (t : Fin cfg0.N) (d) : (dats m 0 c).before 2 t d = bX m c t.val :=
  (before0_2_of m (dats m 0 c) (A_eq m c 2) (after_2 m c) t d).trans (by unfold bX; rw [pt_val])
theorem left_2 (c : Dev nD) (t : Fin cfg0.N) : (dats m 0 c).after 2 t = bX m c t.val :=
  (after_2 m c t).trans (by unfold bX; rw [pt_val])

/-- An output's buffer is found holding what the point before left. -/
theorem finds_3 (c : Dev nD) (t : Fin cfg0.N) (hz : t.val ≠ 0) (Y : Vec F S8x352x1024 .bf16)
    (h : ((dats m 0 c).toRRel fgt (Rl m c)).Finds 3 t Y) : GwAt m c (bA m c) (t.val - 1) Y := by
  have hN : t.val < 16 := lt_of_lt_of_eq t.isLt N_0
  rw [RDat.finds_of_pos _ ((cfg0.win 3).fetch_out rfl t) hz] at h
  rcases h with h | h
  · rw [flush0_3] at h
    exact absurd h (by show ¬(t.val - 1) % 16 = 15; omega)
  · exact Dat.toRRel_leaves (dats m 0 c) rfl h

/-- At a column tile's start it is kept. -/
theorem startAt_3 (c : Dev nD) (t : Fin cfg0.N) (h0 : t.val % 8 = 0) (Y : Vec F S8x352x1024 .bf16)
    (h : ((dats m 0 c).toRRel fgt (Rl m c)).Finds 3 t Y) : GwAt m c (bA m c) t.val Y := by
  have hN : t.val < 16 := lt_of_lt_of_eq t.isLt N_0
  by_cases hz : t.val = 0
  · exact gwAt_first m c _ (by omega) Y
  · exact gwAt_keep m c _ hN (by omega) hz (finds_3 m c t hz Y h)

/-- At a column tile's end its row blocks are put. -/
theorem endAt_3 (c : Dev nD) (t : Fin cfg0.N) (h0 : ¬t.val % 8 = 0) (h1 : t.val % 8 = 7) (Y : Vec F S8x352x1024 .bf16)
    (h : ((dats m 0 c).toRRel fgt (Rl m c)).Finds 3 t Y) :
    GwAt m c (bA m c) t.val (outGw (grid0.coords t) (outAcc (bX m c t.val) (bA m c t.val) (accN m c (bA m c) (t.val - 1))) Y) := by
  have hN : t.val < 16 := lt_of_lt_of_eq t.isLt N_0
  have := gwAt_put m c (bA m c) hN h1 (finds_3 m c t (by omega) Y h)
  rwa [accN_next m c _ h0, pt_val] at this

/-- An output's buffer is found holding what the point before left. -/
theorem finds_4 (c : Dev nD) (t : Fin cfg0.N) (hz : t.val ≠ 0) (Y : Vec F S8x352x1024 .bf16)
    (h : ((dats m 0 c).toRRel fgt (Rl m c)).Finds 4 t Y) : GwAt m c (bB m c) (t.val - 1) Y := by
  have hN : t.val < 16 := lt_of_lt_of_eq t.isLt N_0
  rw [RDat.finds_of_pos _ ((cfg0.win 4).fetch_out rfl t) hz] at h
  rcases h with h | h
  · rw [flush0_4] at h
    exact absurd h (by show ¬(t.val - 1) % 16 = 15; omega)
  · exact Dat.toRRel_leaves (dats m 0 c) rfl h

/-- At a column tile's start it is kept. -/
theorem startAt_4 (c : Dev nD) (t : Fin cfg0.N) (h0 : t.val % 8 = 0) (Y : Vec F S8x352x1024 .bf16)
    (h : ((dats m 0 c).toRRel fgt (Rl m c)).Finds 4 t Y) : GwAt m c (bB m c) t.val Y := by
  have hN : t.val < 16 := lt_of_lt_of_eq t.isLt N_0
  by_cases hz : t.val = 0
  · exact gwAt_first m c _ (by omega) Y
  · exact gwAt_keep m c _ hN (by omega) hz (finds_4 m c t hz Y h)

/-- At a column tile's end its row blocks are put. -/
theorem endAt_4 (c : Dev nD) (t : Fin cfg0.N) (h0 : ¬t.val % 8 = 0) (h1 : t.val % 8 = 7) (Y : Vec F S8x352x1024 .bf16)
    (h : ((dats m 0 c).toRRel fgt (Rl m c)).Finds 4 t Y) :
    GwAt m c (bB m c) t.val (outGw (grid0.coords t) (outAcc (bX m c t.val) (bB m c t.val) (accN m c (bB m c) (t.val - 1))) Y) := by
  have hN : t.val < 16 := lt_of_lt_of_eq t.isLt N_0
  have := gwAt_put m c (bB m c) hN h1 (finds_4 m c t (by omega) Y h)
  rwa [accN_next m c _ h0, pt_val] at this

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ Y, ⌜((dats m 0 c).toRRel fgt (Rl m c)).Finds 3 t Y⌝ ∗ owns (c : Thread nD τ) (ms3 t) fullShare Y)
    ∗ (∃ Y, ⌜((dats m 0 c).toRRel fgt (Rl m c)).Finds 4 t Y⌝ ∗ owns (c : Thread nD τ) (ms4 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (∃ X, ⌜GwAt m c (bA m c) t.val X⌝ ∗ owns (c : Thread nD τ) (ms3 t) fullShare X)
    ∗ (∃ X, ⌜GwAt m c (bB m c) t.val X⌝ ∗ owns (c : Thread nD τ) (ms4 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, left_0, left_1, left_2]
  rw [show (dats m 0 c).owesAt () t.succ = (dats m 0 c).owesAt () t.castSucc from rfl, Phi_castSucc, Phi_succ]
  have hN : t.val < 16 := lt_of_lt_of_eq t.isLt N_0
  by_cases h0 : t.val % 8 = 0
  · rw [Phi_start m c h0, PhiA_eq, Phi_next m c (show ¬(t.val + 1) % 8 = 0 by omega), Nat.add_sub_cancel,
      accN_start m c _ h0, accN_start m c _ h0]
    iintro ⟨⟨⟨HS0, HS1⟩, Hg⟩, Ho, ⟨%d0, H0⟩, ⟨%d1, H1⟩, ⟨%d2, H2⟩, ⟨%Y3, %hY3, H3⟩, ⟨%Y4, %hY4, H4⟩⟩
    iapply (runA c (grid0.coords t) _ _ _ _ _ _ _ _ _ _ _ _ _ _ ((starts_iff t).mpr h0) (fun h => absurd ((ends_iff t).mp h) (by omega)) (bA m c t.val) (bB m c t.val) (bX m c t.val) Y3 Y4 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]
    · iexists _; isplitr
      · ipureintro; exact startAt_3 m c t h0 Y3 hY3
      iexact H3
    iexists _; isplitr
    · ipureintro; exact startAt_4 m c t h0 Y4 hY4
    iexact H4
  have hz : t.val ≠ 0 := fun e => h0 (by rw [e])
  rw [Phi_next m c h0]
  by_cases h1 : t.val % 8 = 7
  · rw [Phi_start m c (show (t.val + 1) % 8 = 0 by omega), PhiA_eq]
    iintro ⟨⟨⟨HS0, HS1⟩, Hg⟩, Ho, ⟨%d0, H0⟩, ⟨%d1, H1⟩, ⟨%d2, H2⟩, ⟨%Y3, %hY3, H3⟩, ⟨%Y4, %hY4, H4⟩⟩
    iapply (runC c (grid0.coords t) _ _ _ _ _ _ _ _ _ _ _ _ _ _ (fun h => h0 ((starts_iff t).mp h)) ((ends_iff t).mpr h1) (bA m c t.val) (bB m c t.val) (bX m c t.val) Y3 Y4 (accN m c (bA m c) (t.val - 1)) (accN m c (bB m c) (t.val - 1)) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexact H2
    isplitl [H3]
    · iexists _; isplitr
      · ipureintro; exact endAt_3 m c t h0 h1 Y3 hY3
      iexact H3
    iexists _; isplitr
    · ipureintro; exact endAt_4 m c t h0 h1 Y4 hY4
    iexact H4
  · rw [Phi_next m c (show ¬(t.val + 1) % 8 = 0 by omega), Nat.add_sub_cancel, accN_next m c (bA m c) h0, accN_next m c (bB m c) h0]
    iintro ⟨⟨⟨HS0, HS1⟩, Hg⟩, Ho, ⟨%d0, H0⟩, ⟨%d1, H1⟩, ⟨%d2, H2⟩, ⟨%Y3, %hY3, H3⟩, ⟨%Y4, %hY4, H4⟩⟩
    iapply (runB c (grid0.coords t) _ _ _ _ _ _ _ _ _ _ _ _ _ _ (fun h => h0 ((starts_iff t).mp h)) (fun h => h1 ((ends_iff t).mp h)) (bA m c t.val) (bB m c t.val) (bX m c t.val) Y3 Y4 (accN m c (bA m c) (t.val - 1)) (accN m c (bB m c) (t.val - 1)) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]
    · iexists _; isplitr
      · ipureintro; exact gwAt_keep m c _ hN h1 hz (finds_3 m c t hz Y3 hY3)
      iexact H3
    iexists _; isplitr
    · ipureintro; exact gwAt_keep m c _ hN h1 hz (finds_4 m c t hz Y4 hY4)
    iexact H4

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- The relational proof data of the launch. -/
def rdats (c : Dev nD) : RDat τ (Elt F) Unit ℕ (UR sig nD τ) ℕ cfg0 c := (dats m 0 c).toRRel fgt (Rl m c)

set_option backward.isDefEq.respectTransparency.types false in
/-- The launch: every array at what the region leaves, every other buffer as the region found it, all counters at zero. -/
theorem run_main : θ_run defs (onTc (τ := τ) (main (F := F))) (s₀ m ρ)
    (fun r => RDat.FramePost (cfgs 0) (rdats m) (V m) r ∧ r.2.sem = fun _ => 0) :=
  RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m)
    (hin := fun c => by rw [show (rdats m c).Φ 0 = Phi m c 0 from rfl, Phi_start m c rfl])
    (hout := fun c => by rw [show (rdats m c).Φ (Fin.last cfg0.N) = Phi m c cfg0.N from rfl, Phi_start m c (by rw [show cfg0.N = 16 from N_0])])

/-- The argument arrays end as they were. -/
theorem args_of {r : PUnit × MemSt nD τ sig (Elt F)} (h : RDat.FramePost (cfgs 0) (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c)⟩

/-- The frame: every execution terminates with the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args_of m h.1 c, h.2⟩) (run_main m ρ)

end Cert.Wgt

end
-- ==== Proof.Wgt.Same.lean ====
/- The second program as printed and as idealised have one text: no constant in it is named. So the frame of the one is the
   frame of the other. -/
module

public import proofs.«01_k».proof.Defs
public import proofs.«01_k».proof.Proof.Gen.Kernel2
public import proofs.«01_k».proof.Proof.Gen.Kernel2Ideal
public import proofs.«01_k».proof.Proof.Wgt.Launch

@[expose] public section

set_option maxRecDepth 16384

noncomputable section

namespace Cert.Wgt

open Idealize.ShloMosaic Idealize.ShloMosaic.TcCoe Idealize.SL.Sem

attribute [local instance] Cert.Kernel2.Gen.facts

theorem bodies_eq : Cert.Kernel2.defs₀ (F := Bits) = Cert.Kernel2Ideal.defs₀ (F := Bits) := by
  unfold Cert.Kernel2.defs₀ Cert.Kernel2Ideal.defs₀
  refine congrArg (Defs.onTc (Λ := Cert.Kernel2Ideal.Λ₀) (nD := Cert.Kernel2Ideal.nD) (τ := Cert.Kernel2Ideal.τ) (sig := Cert.Kernel2Ideal.sig))
    (funext fun l => funext fun x => ?_)
  match l, x with
  | ⟨0, _⟩, (t, s) => rfl

theorem defs_eq : Cert.Kernel2.defs (F := Bits) = Cert.Kernel2Ideal.defs (F := Bits) :=
  congrArg (Pipeline.defs Cert.Kernel2Ideal.pcfgs) bodies_eq

theorem frame_printed : Cert.quiescent_Kernel2 (hKernel2 := Cert.Kernel2.Gen.facts) := fun m ρ _ =>
  (congrArg (fun d => θ_run d (onTc (τ := Cert.Kernel2Ideal.τ) (Cert.Kernel2Ideal.main (F := Bits))) ⟨m, fun _ => 0, ρ⟩ _) defs_eq).mpr
    (frame (F := Bits) m ρ)

end Cert.Wgt

end
-- ==== Proof.Wgt.Value.lean ====
/- The two weights' gradients that the kernel's buffers hold at the end, element by element: the sums over all rows, each
   slab at its place. -/
module

public import proofs.«01_k».proof.Proof.Wgt.Chain
public import Idealize.ShloMosaic.Lib.Pointwise
public import Idealize.ShloMosaic.Lib.Pipeline.ValueKit

@[expose] public section

set_option maxRecDepth 16384

noncomputable section

namespace Cert.Wgt

open Cert.Kernel2Ideal Cert.Kernel2Ideal.Gen
open Idealize.ShloMosaic Idealize.ShloMosaic.TcCoe
open Idealize.ShloMosaic.Pointwise
open Idealize.ShloMosaic.VecWindow

variable (m : (ℓ : Loc nD τ sig) → Buf (Elt Ideal) ℓ) (c : Dev nD)

/-- A put of one slab, read at that slab. -/
theorem put_slab_same (x : S8x352x1024.Idx → EReal) (q : ℕ) (w : S1x352x1024.Idx → EReal) (b : Fin 8) (hb : b.val = q)
    (r : Fin 352) (k : Fin 1024) : put x ![q, 0, 0] S1x352x1024.size w (ix3 b r k) = w (ix3 0 r k) := by
  subst hb
  have hm : ∀ a : Fin 3, (![b.val, 0, 0] : Fin 3 → ℕ) a ≤ ((ix3 b r k : S8x352x1024.Idx) a).val
      ∧ ((ix3 b r k : S8x352x1024.Idx) a).val < (![b.val, 0, 0] : Fin 3 → ℕ) a + S1x352x1024.size a := fun a =>
    match a with
    | ⟨0, _⟩ => ⟨le_refl b.val, Nat.lt_succ_self b.val⟩
    | ⟨1, _⟩ => ⟨Nat.zero_le _, (by show r.val < 0 + 352; omega)⟩
    | ⟨2, _⟩ => ⟨Nat.zero_le _, (by show k.val < 0 + 1024; omega)⟩
  refine (dif_pos hm).trans (congrArg w (funext fun a => Fin.ext ?_))
  match a with
  | ⟨0, _⟩ => show b.val - b.val = 0; omega
  | ⟨1, _⟩ => show r.val - 0 = r.val; omega
  | ⟨2, _⟩ => show k.val - 0 = k.val; omega

/-- A put of one slab, read at another. -/
theorem put_slab_other (x : S8x352x1024.Idx → EReal) (q : ℕ) (w : S1x352x1024.Idx → EReal) (b : Fin 8) (hb : b.val ≠ q)
    (r : Fin 352) (k : Fin 1024) : put x ![q, 0, 0] S1x352x1024.size w (ix3 b r k) = x (ix3 b r k) :=
  dif_neg fun hm => hb (by
    have h0 := hm 0
    have h1 : q ≤ b.val := h0.1
    have h2 : b.val < q + 1 := h0.2
    omega)

/-- A row block of the accumulator at an index. -/
theorem window_acc (x : S1408x1024.Idx → EReal) (q : ℕ) (hq : q + 352 ≤ 1408) (inb) (r : Fin 352) (k : Fin 1024) :
    window x ![q, 0] S352x1024.size inb (ix2 r k) = x (ix2 ⟨q + r.val, by omega⟩ k) := by
  refine congrArg x (funext fun a => Fin.ext ?_)
  match a with
  | ⟨0, _⟩ => show q + 1 * r.val = q + r.val; omega
  | ⟨1, _⟩ => show 0 + 1 * k.val = k.val; omega

/-- A stored row block at an index. -/
theorem slab_apply (x : Vec Ideal S352x1024 .f32) (r : Fin 352) (k : Fin 1024) : slab x (ix3 0 r k) = x (ix2 r k) := by
  pointwise [slab, k0_pay7]

/-- One product added, at an index. -/
theorem outAcc_apply (x : Vec Ideal S512x1024 .bf16) (d : Vec Ideal S512x1408 .bf16) (old : Vec Ideal S1408x1024 .f32)
    (l : Fin 1408) (k : Fin 1024) :
    outAcc x d old (ix2 l k) = old (ix2 l k) + ∑ r : Fin 512, d (ix2 r l) * x (ix2 r k) := by
  pointwise [outAcc, k0_pay4, k0_pay3]
theorem zeroAcc_apply (l : Fin 1408) (k : Fin 1024) : zeroAcc (F := Ideal) (ix2 l k) = 0 := by
  pointwise [zeroAcc, k0_pay1]

theorem off_7 : k0_off1 (grid0.coords (pt 7)) 0#32 0#32 = ![0, 0, 0] ∧ k0_off1 (grid0.coords (pt 7)) 4#32 0#32 = ![4, 0, 0]
    ∧ k0_off1 (grid0.coords (pt 7)) 0#32 1#32 = ![1, 0, 0] ∧ k0_off1 (grid0.coords (pt 7)) 4#32 1#32 = ![5, 0, 0] := by
  decide +kernel
theorem off_15 : k0_off1 (grid0.coords (pt 15)) 0#32 0#32 = ![2, 0, 0] ∧ k0_off1 (grid0.coords (pt 15)) 4#32 0#32 = ![6, 0, 0]
    ∧ k0_off1 (grid0.coords (pt 15)) 0#32 1#32 = ![3, 0, 0] ∧ k0_off1 (grid0.coords (pt 15)) 4#32 1#32 = ![7, 0, 0] := by
  decide +kernel

section Slabs

variable (r : Fin 352) (k : Fin 1024) (acc : Vec Ideal S1408x1024 .f32) (old : Vec Ideal S8x352x1024 .bf16)

/-- Four slabs put at given places, read at an index. -/
theorem slabs (i : grid0.Coords) (q0 q1 q2 q3 : ℕ) (h : k0_off1 i 0#32 0#32 = ![q0, 0, 0] ∧ k0_off1 i 4#32 0#32 = ![q1, 0, 0]
    ∧ k0_off1 i 0#32 1#32 = ![q2, 0, 0] ∧ k0_off1 i 4#32 1#32 = ![q3, 0, 0]) (b : Fin 8) :
    outGw i acc old (ix3 b r k) =
      if b.val = q3 then acc (ix2 ⟨1056 + r.val, by omega⟩ k) else if b.val = q2 then acc (ix2 ⟨704 + r.val, by omega⟩ k)
      else if b.val = q1 then acc (ix2 ⟨352 + r.val, by omega⟩ k) else if b.val = q0 then acc (ix2 ⟨0 + r.val, by omega⟩ k)
      else old (ix3 b r k) := by
  unfold outGw
  rw [h.1, h.2.1, h.2.2.1, h.2.2.2]
  by_cases h3 : b.val = q3
  · rw [if_pos h3, put_slab_same _ _ _ _ h3, slab_apply, window_acc _ 1056 (by decide)]
  rw [if_neg h3, put_slab_other _ _ _ _ h3]
  by_cases h2 : b.val = q2
  · rw [if_pos h2, put_slab_same _ _ _ _ h2, slab_apply, window_acc _ 704 (by decide)]
  rw [if_neg h2, put_slab_other _ _ _ _ h2]
  by_cases h1 : b.val = q1
  · rw [if_pos h1, put_slab_same _ _ _ _ h1, slab_apply, window_acc _ 352 (by decide)]
  rw [if_neg h1, put_slab_other _ _ _ _ h1]
  by_cases h0 : b.val = q0
  · rw [if_pos h0, put_slab_same _ _ _ _ h0, slab_apply, window_acc _ 0 (by decide)]
  rw [if_neg h0, put_slab_other _ _ _ _ h0]

/-- The column of slab `b`, row `r`. -/
def gcol (b : Fin 8) (r : Fin 352) : Fin 2816 := ⟨((b.val % 4) * 2 + b.val / 4) * 352 + r.val, by omega⟩

end Slabs

/-- A row of a row tile. -/
abbrev rI {i : ℕ} (hi : i < 8) (r : Fin 512) : Fin 4096 := ⟨i * 512 + r.val, by omega⟩
/-- A column of a column tile. -/
abbrev cI {j : ℕ} (hj : j < 2) (l : Fin 1408) : Fin 2816 := ⟨j * 1408 + l.val, by omega⟩

theorem row0 : ∀ t : Fin cfg0.N, win0_0.index t (0 : Fin 2) = t.val % 8 := by decide +kernel
theorem col0 : ∀ t : Fin cfg0.N, win0_0.index t (1 : Fin 2) = t.val / 8 := by decide +kernel
theorem row1 : ∀ t : Fin cfg0.N, win0_1.index t (0 : Fin 2) = t.val % 8 := by decide +kernel
theorem col1 : ∀ t : Fin cfg0.N, win0_1.index t (1 : Fin 2) = t.val / 8 := by decide +kernel
theorem row2 : ∀ t : Fin cfg0.N, win0_2.index t (0 : Fin 2) = t.val % 8 := by decide +kernel
theorem col2 : ∀ t : Fin cfg0.N, win0_2.index t (1 : Fin 2) = 0 := by decide +kernel

theorem pt_row {j i : ℕ} (hj : j < 2) (hi : i < 8) : (pt (8 * j + i)).val % 8 = i := by
  show (8 * j + i) % 16 % 8 = i; omega
theorem pt_col {j i : ℕ} (hj : j < 2) (hi : i < 8) : (pt (8 * j + i)).val / 8 = j := by
  show (8 * j + i) % 16 / 8 = j; omega

theorem bA_apply {j i : ℕ} (hj : j < 2) (hi : i < 8) (r : Fin 512) (l : Fin 1408) :
    bA m c (8 * j + i) (ix2 r l) = V m c main_v0 (ix2 (rI hi r) (cI hj l)) := by
  show V m c main_v0 (((cfg0.win 0).blk (pt (8 * j + i))).view.emb (ix2 r l)) = _
  refine congrArg (V m c main_v0) (funext fun a => Fin.ext ?_)
  match a with
  | ⟨0, _⟩ =>
    show win0_0.index (pt (8 * j + i)) 0 * 512 + 1 * r.val = _
    rw [row0, pt_row hj hi, Nat.one_mul]; rfl
  | ⟨1, _⟩ =>
    show win0_0.index (pt (8 * j + i)) 1 * 1408 + 1 * l.val = _
    rw [col0, pt_col hj hi, Nat.one_mul]; rfl
theorem bB_apply {j i : ℕ} (hj : j < 2) (hi : i < 8) (r : Fin 512) (l : Fin 1408) :
    bB m c (8 * j + i) (ix2 r l) = V m c main_v1 (ix2 (rI hi r) (cI hj l)) := by
  show V m c main_v1 (((cfg0.win 1).blk (pt (8 * j + i))).view.emb (ix2 r l)) = _
  refine congrArg (V m c main_v1) (funext fun a => Fin.ext ?_)
  match a with
  | ⟨0, _⟩ =>
    show win0_1.index (pt (8 * j + i)) 0 * 512 + 1 * r.val = _
    rw [row1, pt_row hj hi, Nat.one_mul]; rfl
  | ⟨1, _⟩ =>
    show win0_1.index (pt (8 * j + i)) 1 * 1408 + 1 * l.val = _
    rw [col1, pt_col hj hi, Nat.one_mul]; rfl
theorem bX_apply {j i : ℕ} (hj : j < 2) (hi : i < 8) (r : Fin 512) (k : Fin 1024) :
    bX m c (8 * j + i) (ix2 r k) = V m c main_v2 (ix2 (rI hi r) k) := by
  show V m c main_v2 (((cfg0.win 2).blk (pt (8 * j + i))).view.emb (ix2 r k)) = _
  refine congrArg (V m c main_v2) (funext fun a => Fin.ext ?_)
  match a with
  | ⟨0, _⟩ =>
    show win0_2.index (pt (8 * j + i)) 0 * 512 + 1 * r.val = _
    rw [row2, pt_row hj hi, Nat.one_mul]; rfl
  | ⟨1, _⟩ =>
    show win0_2.index (pt (8 * j + i)) 1 * 1024 + 1 * k.val = _
    rw [col2, Nat.zero_mul, Nat.zero_add, Nat.one_mul]; rfl

/-- A buffer that starts at the first tile's sum and adds the next tile's at every point ends at the sum over all rows. -/
theorem tile_sum (g a : ℕ → EReal) (h0 : a 0 = 0 + ∑ r : Fin 512, g (0 * 512 + r.val))
    (h1 : ∀ i, i + 1 < 8 → a (i + 1) = a i + ∑ r : Fin 512, g ((i + 1) * 512 + r.val)) :
    ∀ i, i < 8 → a i = ∑ x ∈ Finset.range ((i + 1) * 512), g x := by
  intro i
  induction i with
  | zero => intro _; rw [h0, zero_add, Finset.sum_range g]; simp
  | succ i ih =>
    intro hi
    rw [h1 i hi, ih (by omega), show (i + 1 + 1) * 512 = (i + 1) * 512 + 512 by ring, Finset.sum_range_add,
      Finset.sum_range (fun x => g ((i + 1) * 512 + x))]

theorem tile_sum_all (g a : ℕ → EReal) (h0 : a 0 = 0 + ∑ r : Fin 512, g (0 * 512 + r.val))
    (h1 : ∀ i, i + 1 < 8 → a (i + 1) = a i + ∑ r : Fin 512, g ((i + 1) * 512 + r.val)) :
    a 7 = ∑ s : Fin 4096, g s.val :=
  (tile_sum g a h0 h1 7 (by decide)).trans (Finset.sum_range g)

/-- An accumulator at a column tile's end: all rows summed. -/
theorem accN_all (d : ℕ → Vec Ideal S512x1408 .bf16) (D : S4096x2816.Idx → EReal)
    (hd : ∀ {j i : ℕ} (hj : j < 2) (hi : i < 8) (r : Fin 512) (l : Fin 1408), d (8 * j + i) (ix2 r l) = D (ix2 (rI hi r) (cI hj l)))
    {j : ℕ} (hj : j < 2) (l : Fin 1408) (k : Fin 1024) : accN m c d (8 * j + 7) (ix2 l k)
    = ∑ s : Fin 4096, D (ix2 s (cI hj l)) * V m c main_v2 (ix2 s k) := by
  have h := tile_sum_all (fun s => if h : s < 4096 then D (ix2 ⟨s, h⟩ (cI hj l)) * V m c main_v2 (ix2 ⟨s, h⟩ k) else (0 : EReal))
    (fun i => accN m c d (8 * j + i) (ix2 l k)) ?_ fun i hi => ?_
  · refine h.trans (Finset.sum_congr rfl fun s _ => ?_)
    rw [dif_pos s.isLt]
  · show accN m c d (8 * j + 0) (ix2 l k) = _
    rw [accN_start m c d (by omega), outAcc_apply, zeroAcc_apply]
    refine congrArg (0 + ·) (Finset.sum_congr rfl fun r _ => ?_)
    rw [hd hj (by decide), bX_apply m c hj (by decide), dif_pos (by omega)]
  · show accN m c d (8 * j + (i + 1)) (ix2 l k) = _
    rw [accN_next m c d (by omega), outAcc_apply]
    refine congrArg₂ (· + ·) rfl (Finset.sum_congr rfl fun r _ => ?_)
    rw [hd hj hi, bX_apply m c hj hi, dif_pos (by omega)]

/-- The two tiles' slabs hold the whole gradient. -/
theorem gw_value (d : ℕ → Vec Ideal S512x1408 .bf16) (D : S4096x2816.Idx → EReal)
    (hd : ∀ {j i : ℕ} (hj : j < 2) (hi : i < 8) (r : Fin 512) (l : Fin 1408), d (8 * j + i) (ix2 r l) = D (ix2 (rI hi r) (cI hj l)))
    (Y : Vec Ideal S8x352x1024 .bf16) (b : Fin 8) (r : Fin 352) (k : Fin 1024) :
    outGw (grid0.coords (pt 15)) (accN m c d 15) (outGw (grid0.coords (pt 7)) (accN m c d 7) Y) (ix3 b r k)
      = ∑ s : Fin 4096, D (ix2 s (gcol b r)) * V m c main_v2 (ix2 s k) := by
  have e1 : ∀ l : Fin 1408, accN m c d 15 (ix2 l k) = ∑ s : Fin 4096, D (ix2 s (cI (j := 1) (by decide) l)) * V m c main_v2 (ix2 s k) :=
    fun l => accN_all m c d D hd (j := 1) (by decide) l k
  have e0 : ∀ l : Fin 1408, accN m c d 7 (ix2 l k) = ∑ s : Fin 4096, D (ix2 s (cI (j := 0) (by decide) l)) * V m c main_v2 (ix2 s k) :=
    fun l => accN_all m c d D hd (j := 0) (by decide) l k
  have hc : ∀ f g : Fin 2816, f.val = g.val → (∑ s : Fin 4096, D (ix2 s f) * V m c main_v2 (ix2 s k))
      = ∑ s : Fin 4096, D (ix2 s g) * V m c main_v2 (ix2 s k) := fun f g h => by rw [Fin.ext h]
  rw [slabs r k _ _ _ _ _ _ _ off_15, slabs r k _ _ _ _ _ _ _ off_7, e1, e1, e1, e1, e0, e0, e0, e0]
  obtain ⟨b, hb⟩ := b
  interval_cases b
  all_goals first | rw [if_pos rfl] | (repeat' first | rw [if_pos rfl] | rw [if_neg (by decide)])
  all_goals exact hc _ _ (by dsimp only [gcol]; omega)

end Cert.Wgt

end
-- ==== Proof.Wgt.Results.lean ====
/- The two result arrays after the run, and the reference's. -/
module

public import proofs.«01_k».proof.Proof.Wgt.Launch
public import proofs.«01_k».proof.Proof.Wgt.Value
public import proofs.«01_k».proof.Proof.Gen.Reference2Ideal.Read
public import Idealize.ShloMosaic.Lib.Claim
public import Idealize.ShloMosaic.Lib.StableHlo.RunRead

@[expose] public section

set_option maxRecDepth 16384

noncomputable section

namespace Cert.Wgt

open Cert.Kernel2Ideal Cert.Kernel2Ideal.Gen
open Idealize.ShloMosaic Idealize.ShloMosaic.TcCoe
open Idealize.ShloMosaic.Pointwise
open Idealize.ShloMosaic.Pipeline (Dat RDat Cfg Window)

variable (m : (ℓ : Loc nD τ sig) → Buf (Elt Ideal) ℓ) (c : Dev nD)

/-- An argument array, as launched. -/
abbrev a0 : Vec Ideal S4096x1024 .f32 := m ((c : Thread nD τ).loc main_arg0)
abbrev a1 : Vec Ideal S4096x2816 .f32 := m ((c : Thread nD τ).loc main_arg1)
abbrev a2 : Vec Ideal S4096x2816 .f32 := m ((c : Thread nD τ).loc main_arg2)

theorem V_v0 : (V m c main_v0 : S4096x2816.Idx → EReal) = a1 m c := by unfold V; after_reads_simp; rfl
theorem V_v1 : (V m c main_v1 : S4096x2816.Idx → EReal) = a2 m c := by unfold V; after_reads_simp; rfl
theorem V_v2 : (V m c main_v2 : S4096x1024.Idx → EReal) = a0 m c := by unfold V; after_reads_simp; rfl

/-- A weight's gradient from a product's gradient and the product's input, its slabs by owner. -/
def res (x : S4096x1024.Idx → EReal) (d : S4096x2816.Idx → EReal) : S8x352x1024.Idx → EReal := fun i =>
  ∑ s : Fin 4096, d (ix2 s (gcol (i 0) (i 1))) * x (ix2 s (i 2))

section Run

variable {r : PUnit × MemSt nD τ sig (Elt Ideal)} (h : RDat.FramePost (cfgs 0) (rdats m) (V m) r)

include h

theorem arr_3 : r.2.mem ((c.tc : Thread nD τ).loc main_v3_0) = res (a0 m c) (a1 m c) := by
  obtain ⟨after, hL, hA⟩ := h.exists_exact c
  obtain ⟨Y, _, hX⟩ := hL 3 (pt 15) (by decide +kernel)
  rw [show (rdats m c).after 3 = fun t _ X => GwAt m c (bA m c) t.val X from Dat.toRRel_after_of_eq_true _ rfl] at hX
  obtain ⟨Z, e⟩ : ∃ Z, after 3 (pt 15) = outGw (grid0.coords (pt 15)) (accN m c (bA m c) 15) (outGw (grid0.coords (pt 7)) (accN m c (bA m c) 7) Z) := hX
  refine (hA 3).trans (funext fun y => ?_)
  refine (((rdats m c).withAfter after).arrAt_emb_eq_after_last 3 (pt 15) (by decide +kernel) y).trans ?_
  blk_simp
  show after 3 (pt 15) y = _
  rw [e]
  obtain ⟨b, q, k, rfl⟩ : ∃ (b : Fin 8) (q : Fin 352) (k : Fin 1024), y = ix3 b q k := ⟨y 0, y 1, y 2, eq_ix3 y⟩
  refine (gw_value m c (bA m c) (a1 m c) (fun hj hi r l => ?_) Z b q k).trans ?_
  · rw [bA_apply m c hj hi, V_v0]
  · rw [V_v2]; rfl

theorem arr_4 : r.2.mem ((c.tc : Thread nD τ).loc main_v3_1) = res (a0 m c) (a2 m c) := by
  obtain ⟨after, hL, hA⟩ := h.exists_exact c
  obtain ⟨Y, _, hX⟩ := hL 4 (pt 15) (by decide +kernel)
  rw [show (rdats m c).after 4 = fun t _ X => GwAt m c (bB m c) t.val X from Dat.toRRel_after_of_eq_true _ rfl] at hX
  obtain ⟨Z, e⟩ : ∃ Z, after 4 (pt 15) = outGw (grid0.coords (pt 15)) (accN m c (bB m c) 15) (outGw (grid0.coords (pt 7)) (accN m c (bB m c) 7) Z) := hX
  refine (hA 4).trans (funext fun y => ?_)
  refine (((rdats m c).withAfter after).arrAt_emb_eq_after_last 4 (pt 15) (by decide +kernel) y).trans ?_
  blk_simp
  show after 4 (pt 15) y = _
  rw [e]
  obtain ⟨b, q, k, rfl⟩ : ∃ (b : Fin 8) (q : Fin 352) (k : Fin 1024), y = ix3 b q k := ⟨y 0, y 1, y 2, eq_ix3 y⟩
  refine (gw_value m c (bB m c) (a2 m c) (fun hj hi r l => ?_) Z b q k).trans ?_
  · rw [bB_apply m c hj hi, V_v1]
  · rw [V_v2]; rfl

end Run

section Reference

open Cert.Reference2Ideal.Read

variable (x : S4096x1024.Idx → EReal) (d : S4096x2816.Idx → EReal)

theorem ref_b : res x d = val_main_v11 (F := Ideal) x d := by
  funext i
  obtain ⟨b, r, k, rfl⟩ : ∃ (b : Fin 8) (r : Fin 352) (k : Fin 1024), i = ix3 b r k := ⟨i 0, i 1, i 2, eq_ix3 i⟩
  unfold val_main_v11 val_main_v10 val_main_v9 val_main_v8 val_main_v7 val_main_v6 val_main_v5
  pointwise [res]
  exact Finset.sum_congr rfl fun s _ => by
    rw [show gcol b r = ⟨b.val % 4 * 704 + b.val / 4 * 352 + r.val, by omega⟩ from Fin.ext (by dsimp only [gcol]; omega)]

theorem ref_a : res x d = val_main_v16 (F := Ideal) x d := by
  funext i
  obtain ⟨b, r, k, rfl⟩ : ∃ (b : Fin 8) (r : Fin 352) (k : Fin 1024), i = ix3 b r k := ⟨i 0, i 1, i 2, eq_ix3 i⟩
  unfold val_main_v16 val_main_v15 val_main_v14 val_main_v13 val_main_v12 val_main_v4 val_main_v3
  pointwise [res]
  exact Finset.sum_congr rfl fun s _ => by
    rw [show gcol b r = ⟨b.val % 4 * 704 + b.val / 4 * 352 + r.val, by omega⟩ from Fin.ext (by dsimp only [gcol]; omega)]

end Reference

end Cert.Wgt

end
-- ==== Proof.Mix.Same.lean ====
/- The third program as printed and as idealised have one text: no constant in it is named. So the frame of the one is the
   frame of the other. -/
module

public import proofs.«01_k».proof.Defs
public import proofs.«01_k».proof.Proof.Gen.Kernel3
public import proofs.«01_k».proof.Proof.Gen.Kernel3Ideal
public import proofs.«01_k».proof.Proof.Gen.Kernel3Ideal.Frame

@[expose] public section

set_option maxRecDepth 16384

noncomputable section

namespace Cert.Mix

open Idealize.ShloMosaic Idealize.ShloMosaic.TcCoe Idealize.SL.Sem

attribute [local instance] Cert.Kernel3.Gen.facts

set_option maxHeartbeats 4000000 in
theorem bodies_eq : Cert.Kernel3.defs₀ (F := Bits) = Cert.Kernel3Ideal.defs₀ (F := Bits) := by
  unfold Cert.Kernel3.defs₀ Cert.Kernel3Ideal.defs₀
  refine congrArg (Defs.onTc (Λ := Cert.Kernel3Ideal.Λ₀) (nD := Cert.Kernel3Ideal.nD) (τ := Cert.Kernel3Ideal.τ) (sig := Cert.Kernel3Ideal.sig))
    (funext fun l => funext fun x => ?_)
  match l, x with
  | ⟨0, _⟩, (t, s) => rfl

theorem defs_eq : Cert.Kernel3.defs (F := Bits) = Cert.Kernel3Ideal.defs (F := Bits) :=
  congrArg (Pipeline.defs Cert.Kernel3Ideal.pcfgs) bodies_eq

set_option maxHeartbeats 4000000 in
theorem frame_printed : Cert.quiescent_Kernel3 (hKernel3 := Cert.Kernel3.Gen.facts) := fun m ρ _ =>
  (congrArg (fun d => θ_run d (onTc (τ := Cert.Kernel3Ideal.τ) (Cert.Kernel3Ideal.main (F := Bits))) ⟨m, fun _ => 0, ρ⟩ _) defs_eq).mpr
    (Cert.Kernel3Ideal.Gen.frame (F := Bits) m ρ)

end Cert.Mix

end
-- ==== Proof.Mix.Step.lean ====
/- What one run of the kernel's body leaves in its buffers, as functions of what it finds there: the gradient of the
   normalised sum and of its input, the gradients of the two halves of the concatenation, the attention rows' sums, and
   one tile's share of the output weight's and of the two vectors' gradients. -/
module

public import proofs.«01_k».proof.Proof.Gen.Kernel3Ideal
public import proofs.«01_k».proof.Proof.Gen.Kernel3Ideal.Frame
public import proofs.«01_k».proof.Proof.Step
public import Idealize.ShloMosaic.Lib.Tactic

@[expose] public section

set_option maxRecDepth 16384

noncomputable section

namespace Cert.Mix

open Cert.Kernel3Ideal Cert.Kernel3Ideal.Gen
open Idealize.ShloMosaic Idealize.ShloMosaic.TcCoe
open Idealize.ShloMosaic.VecWindow (window put)

variable {F : FTy → Type} [FloatOps F]

section Windows

variable {α : Type}

theorem win_a (x : S512x1024.Idx → α) (inb) : window x ![0, 0] ![512, 1024] inb = x := Cert.Act.window_all (s := S512x1024) x inb
theorem win_b (x : S512x2816.Idx → α) (inb) : window x ![0, 0] ![512, 2816] inb = x := Cert.Act.window_all (s := S512x2816) x inb
theorem win_c (x : S2816x1024.Idx → α) (inb) : window x ![0, 0] ![2816, 1024] inb = x := Cert.Act.window_all (s := S2816x1024) x inb
theorem win_d (x : S512x1.Idx → α) (inb) : window x ![0, 0] ![512, 1] inb = x := Cert.Act.window_all (s := S512x1) x inb
theorem win_e (x : S1x1024.Idx → α) (inb) : window x ![0, 0] ![1, 1024] inb = x := Cert.Act.window_all (s := S1x1024) x inb
theorem win_f (x : S512x512.Idx → α) (inb) : window x ![0, 0] ![512, 512] inb = x := Cert.Act.window_all (s := S512x512) x inb
theorem win_g (x : S1024x1024.Idx → α) (inb) : window x ![0, 0] ![1024, 1024] inb = x := Cert.Act.window_all (s := S1024x1024) x inb
theorem win_h (x : S8x1024.Idx → α) (inb) : window x ![0, 0] ![8, 1024] inb = x := Cert.Act.window_all (s := S8x1024) x inb
theorem put_a (x w : S512x1024.Idx → α) : put x ![0, 0] ![512, 1024] w = w := Cert.Act.put_all (s := S512x1024) x w (by decide)
theorem put_b (x w : S512x512.Idx → α) : put x ![0, 0] ![512, 512] w = w := Cert.Act.put_all (s := S512x512) x w (by decide)
theorem put_c (x w : S8x1024.Idx → α) : put x ![0, 0] ![8, 1024] w = w := Cert.Act.put_all (s := S8x1024) x w (by decide)
theorem put_d (x w : S1024x1024.Idx → α) : put x ![0, 0] ![1024, 1024] w = w := Cert.Act.put_all (s := S1024x1024) x w (by decide)

/-- The lower half of the rows reads what was there before the upper half was put. -/
theorem win_low (x : S1024x1024.Idx → α) (inb : ∀ a, (![512, 0] : Fin 2 → ℕ) a + (![512, 1024] : Fin 2 → ℕ) a ≤ S1024x1024.size a)
    (w : ((a : Fin 2) → Fin ((![512, 1024] : Fin 2 → ℕ) a)) → α) :
    window (put x ![0, 0] ![512, 1024] w) ![512, 0] ![512, 1024] inb = window x ![512, 0] ![512, 1024] inb :=
  VecWindow.window_put_of_disjoint x ![0, 0] ![512, 1024] ![512, 0] ![512, 1024] inb w 0 (by
    show 512 + 512 ≤ 0 ∨ 0 + 512 ≤ 512
    omega)

/-- The second row reads what was there before the first was put. -/
theorem win_row (x : S8x1024.Idx → α) (inb : ∀ a, (![1, 0] : Fin 2 → ℕ) a + (![1, 1024] : Fin 2 → ℕ) a ≤ S8x1024.size a)
    (w : ((a : Fin 2) → Fin ((![1, 1024] : Fin 2 → ℕ) a)) → α) :
    window (put x ![0, 0] ![1, 1024] w) ![1, 0] ![1, 1024] inb = window x ![1, 0] ![1, 1024] inb :=
  VecWindow.window_put_of_disjoint x ![0, 0] ![1, 1024] ![1, 0] ![1, 1024] inb w 0 (by
    show 1 + 1 ≤ 0 ∨ 0 + 1 ≤ 1
    omega)

/-- The two halves of the rows are all of them: what was there before does not matter. -/
theorem put_halves (x x' : S1024x1024.Idx → α) (u v : ((a : Fin 2) → Fin ((![512, 1024] : Fin 2 → ℕ) a)) → α) :
    put (s := S1024x1024) (put (s := S1024x1024) x ![0, 0] ![512, 1024] u) ![512, 0] ![512, 1024] v
      = put (s := S1024x1024) (put (s := S1024x1024) x' ![0, 0] ![512, 1024] u) ![512, 0] ![512, 1024] v := by
  funext y
  unfold VecWindow.put
  split
  · rfl
  · rename_i h
    split
    · rfl
    · rename_i h'
      exfalso
      have h0 : (y 0).val < 1024 := (y 0).isLt
      have h1 : (y 1).val < 1024 := (y 1).isLt
      by_cases hr : (y 0).val < 512
      · exact h' fun a => by
          fin_cases a
          · show 0 ≤ (y 0).val ∧ (y 0).val < 0 + 512
            omega
          · show 0 ≤ (y 1).val ∧ (y 1).val < 0 + 1024
            omega
      · exact h fun a => by
          fin_cases a
          · show 512 ≤ (y 0).val ∧ (y 0).val < 512 + 512
            omega
          · show 0 ≤ (y 1).val ∧ (y 1).val < 0 + 1024
            omega

end Windows

/-- The gradient of the layer's normalised sum: the residual's share and the two branches' shares. -/
def dX (dy2 : Vec F S512x1024 .f32) (da db : Vec F S512x2816 .bf16) (wa wb : Vec F S2816x1024 .bf16) : FVec F S512x1024 .f32 :=
  k0_pay14 dy2 da wa db wb

/-- The gradient of the sum before it is normalised. -/
def dY (d : FVec F S512x1024 .f32) (xh : Vec F S512x1024 .f32) (r : Vec F S512x1 .f32) (g : Vec F S1x1024 .f32) : FVec F S512x1024 .f32 :=
  k0_pay17 (k0_pay13 xh) d g r

/-- The gradient of the concatenation. -/
def dMix (y : FVec F S512x1024 .f32) (w : Vec F S1024x1024 .bf16) : FVec F S512x1024 .f32 :=
  matmul dot_S512x1024_S1024x1024_S512x1024_1_1_0_0_n_n none (truncf .bf16 y bitsLt_bf16_f32 : FVec F S512x1024 .bf16)
    (shapeCast S1024x1024 w shapeCasts_S1024x1024_S1024x1024) (constant S512x1024 .f32 0x00000000#32)

/-- Its left half. -/
def dAttn (y : FVec F S512x1024 .f32) (w : Vec F S1024x1024 .bf16) : FVec F S512x512 .f32 :=
  extractStridedSlice S512x512 ![0, 0] (dMix y w) slices_S512x1024_o0_0_S512x512

/-- Its right half. -/
def dGm (y : FVec F S512x1024 .f32) (w : Vec F S1024x1024 .bf16) : FVec F S512x512 .f32 :=
  extractStridedSlice S512x512 ![0, 512] (dMix y w) slices_S512x1024_o0_512_S512x512

/-- The lane numbers of a column tile. -/
def lanes : IVec S512x128 32 := iota .tc S512x128 32 [1] iota_S512x128_d1_w32

/-- The four column tiles of the rows' sums per head. -/
def deltaPut (p : FVec F S512x512 .f32) (at' : Vec F S512x512 .f32) (old : Vec F S512x512 .f32) : Vec F S512x512 .f32 :=
  put (put (put (put old ![0, 0] S512x128.size (k0_pay23 at' p lanes 64#32))
    ![0, 128] S512x128.size (k0_pay24 at' p lanes 64#32))
    ![0, 256] S512x128.size (k0_pay27 (k0_pay22 lanes 64#32) (k0_pay25 at' p) (k0_pay26 at' p lanes 64#32) (Scalar.ofBits .f32 0x00000000#32)))
    ![0, 384] S512x128.size (k0_pay28 at' p (k0_pay22 lanes 64#32))

/-- One tile's sums added to the two vectors' gradient rows. -/
def vecPut (d : FVec F S512x1024 .f32) (xh : Vec F S512x1024 .f32) (old : Vec F S8x1024 .f32) : Vec F S8x1024 .f32 :=
  put (put old ![0, 0] S1x1024.size
      (addf (shapeCast S1x1024 (window old ![0, 0] S1x1024.size inb_S8x1024_S1x1024_0_0 : Vec F S1x1024 .f32) shapeCasts_S1x1024_S1x1024)
        (shapeCast S1x1024 (multiReduction .add [0] S1024 (mulf d (k0_pay13 xh)) 0x00000000#32 reduces_S512x1024_S1024 (.inl rfl) rfl) shapeCasts_S1024_S1x1024)))
    ![1, 0] S1x1024.size
      (addf (shapeCast S1x1024 (window old ![1, 0] S1x1024.size inb_S8x1024_S1x1024_1_0 : Vec F S1x1024 .f32) shapeCasts_S1x1024_S1x1024)
        (shapeCast S1x1024 (multiReduction .add [0] S1024 d 0x00000000#32 reduces_S512x1024_S1024 (.inl rfl) rfl) shapeCasts_S1024_S1x1024))

/-- One tile's product added to the two halves of the output weight's gradient. -/
def dwoPut (y : FVec F S512x1024 .f32) (at' : Vec F S512x512 .f32) (gm : Vec F S512x512 .bf16) (old : Vec F S1024x1024 .f32) : Vec F S1024x1024 .f32 :=
  put (put old ![0, 0] S512x1024.size
      (k0_pay29 (truncf .bf16 y bitsLt_bf16_f32) at' (window old ![0, 0] S512x1024.size inb_S1024x1024_S512x1024_0_0)))
    ![512, 0] S512x1024.size
      (k0_pay1 (window old ![512, 0] S512x1024.size inb_S1024x1024_S512x1024_512_0) (k0_pay30 (truncf .bf16 y bitsLt_bf16_f32) gm))

/-- Eight row blocks put at the places of an eight-block buffer. -/
def slabs8 (w0 w1 w2 w3 w4 : Vec F S128x1024 .f32) (w5 : FVec F S128x1024 .bf16) (w6 w7 : Vec F S128x1024 .f32)
    (old : Vec F S8x128x1024 .bf16) : Vec F S8x128x1024 .bf16 :=
  put (put (put (put (put (put (put (put old
    ![0, 0, 0] S1x128x1024.size (k0_pay5 w0))
    ![4, 0, 0] S1x128x1024.size (k0_pay6 w1))
    ![1, 0, 0] S1x128x1024.size (k0_pay7 w2))
    ![5, 0, 0] S1x128x1024.size (k0_pay8 w3))
    ![2, 0, 0] S1x128x1024.size (k0_pay9 w4))
    ![6, 0, 0] S1x128x1024.size (k0_pay2 w5))
    ![3, 0, 0] S1x128x1024.size (k0_pay3 w6))
    ![7, 0, 0] S1x128x1024.size (k0_pay4 w7)

theorem slabs8_congr {w0 w1 w2 w3 w4 : Vec F S128x1024 .f32} {w5 : FVec F S128x1024 .bf16} {w6 w7 : Vec F S128x1024 .f32}
    {u0 u1 u2 u3 u4 : Vec F S128x1024 .f32} {u5 : FVec F S128x1024 .bf16} {u6 u7 : Vec F S128x1024 .f32} (old : Vec F S8x128x1024 .bf16)
    (h0 : w0 = u0) (h1 : w1 = u1) (h2 : w2 = u2) (h3 : w3 = u3) (h4 : w4 = u4) (h5 : w5 = u5) (h6 : w6 = u6) (h7 : w7 = u7) :
    slabs8 w0 w1 w2 w3 w4 w5 w6 w7 old = slabs8 u0 u1 u2 u3 u4 u5 u6 u7 old := by
  subst h0 h1 h2 h3 h4 h5 h6 h7
  rfl

/-- Eight row blocks of the accumulator at their places. -/
def slabs (acc : Vec F S1024x1024 .f32) (old : Vec F S8x128x1024 .bf16) : Vec F S8x128x1024 .bf16 :=
  slabs8 (window acc ![0, 0] S128x1024.size inb_S1024x1024_S128x1024_0_0) (window acc ![128, 0] S128x1024.size inb_S1024x1024_S128x1024_128_0)
    (window acc ![256, 0] S128x1024.size inb_S1024x1024_S128x1024_256_0) (window acc ![384, 0] S128x1024.size inb_S1024x1024_S128x1024_384_0)
    (window acc ![512, 0] S128x1024.size inb_S1024x1024_S128x1024_512_0)
    (k0_pay10 (window acc ![640, 0] S128x1024.size inb_S1024x1024_S128x1024_640_0))
    (window acc ![768, 0] S128x1024.size inb_S1024x1024_S128x1024_768_0) (window acc ![896, 0] S128x1024.size inb_S1024x1024_S128x1024_896_0) old

end Cert.Mix

end
-- ==== Proof.Mix.CaseA.lean ====
/- What the first point's run leaves in each buffer. -/
module

public import proofs.«01_k».proof.Proof.Mix.Step

@[expose] public section

set_option maxRecDepth 16384
set_option maxHeartbeats 4000000

noncomputable section

namespace Cert.Mix

open Cert.Kernel3Ideal Cert.Kernel3Ideal.Gen
open Idealize.ShloMosaic Idealize.ShloMosaic.TcCoe
open Idealize.ShloMosaic.VecWindow (window put)

variable {F : FTy → Type} [FloatOps F]

section

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S512x1024 .f32) (harg6 : arg6.IsWhole) (arg7 : Memref sig .tc .vmem S512x1 .f32) (harg7 : arg7.IsWhole) (arg8 : Memref sig .tc .vmem S1x1024 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x128x1024 .bf16) (harg16 : arg16.IsWhole) (arg17 : Memref sig .tc .vmem S8x1024 .f32) (harg17 : arg17.IsWhole) (arg18 : Memref sig .tc .vmem S1024x1024 .f32) (harg18 : arg18.IsWhole) (hc0 : cond0_0 i) (hc1 : ¬cond0_1 i)
    (x0 : Vec F S512x1024 .f32) (x1 : Vec F S512x2816 .bf16) (x2 : Vec F S512x2816 .bf16) (x3 : Vec F S2816x1024 .bf16) (x4 : Vec F S2816x1024 .bf16) (x5 : Vec F S512x1024 .f32) (x6 : Vec F S512x1 .f32) (x7 : Vec F S1x1024 .f32) (x8 : Vec F S512x512 .f32) (x9 : Vec F S512x512 .bf16) (x10 : Vec F S1024x1024 .bf16)

theorem caseA_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = (dY (dX x0 x1 x2 x3 x4) x5 x6 x7) := by
  unfold out0_A_11 kernelRun0_A
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseA_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = (dAttn (dY (dX x0 x1 x2 x3 x4) x5 x6 x7) x10) := by
  unfold out0_A_12 kernelRun0_A
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseA_13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = (deltaPut (dAttn (dY (dX x0 x1 x2 x3 x4) x5 x6 x7) x10) x8 (VO0_13.read (Elt F) VO0_13.junk)) := by
  unfold out0_A_13 kernelRun0_A
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseA_14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = (dGm (dY (dX x0 x1 x2 x3 x4) x5 x6 x7) x10) := by
  unfold out0_A_14 kernelRun0_A
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseA_16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = (vecPut (dX x0 x1 x2 x3 x4) x5 k0_pay12) := by
  unfold out0_A_16 kernelRun0_A
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseA_s : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = (dwoPut (dY (dX x0 x1 x2 x3 x4) x5 x6 x7) x8 x9 k0_pay11) := by
  unfold sout0_A_0 kernelRun0_A
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

end

end Cert.Mix

end
-- ==== Proof.Mix.CaseB.lean ====
/- What the run of a point neither first nor last leaves in each buffer. -/
module

public import proofs.«01_k».proof.Proof.Mix.Step

@[expose] public section

set_option maxRecDepth 16384
set_option maxHeartbeats 4000000

noncomputable section

namespace Cert.Mix

open Cert.Kernel3Ideal Cert.Kernel3Ideal.Gen
open Idealize.ShloMosaic Idealize.ShloMosaic.TcCoe
open Idealize.ShloMosaic.VecWindow (window put)

variable {F : FTy → Type} [FloatOps F]

section

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S512x1024 .f32) (harg6 : arg6.IsWhole) (arg7 : Memref sig .tc .vmem S512x1 .f32) (harg7 : arg7.IsWhole) (arg8 : Memref sig .tc .vmem S1x1024 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x128x1024 .bf16) (harg16 : arg16.IsWhole) (arg17 : Memref sig .tc .vmem S8x1024 .f32) (harg17 : arg17.IsWhole) (arg18 : Memref sig .tc .vmem S1024x1024 .f32) (harg18 : arg18.IsWhole) (hc0 : ¬cond0_0 i) (hc1 : ¬cond0_1 i)
    (x0 : Vec F S512x1024 .f32) (x1 : Vec F S512x2816 .bf16) (x2 : Vec F S512x2816 .bf16) (x3 : Vec F S2816x1024 .bf16) (x4 : Vec F S2816x1024 .bf16) (x5 : Vec F S512x1024 .f32) (x6 : Vec F S512x1 .f32) (x7 : Vec F S1x1024 .f32) (x8 : Vec F S512x512 .f32) (x9 : Vec F S512x512 .bf16) (x10 : Vec F S1024x1024 .bf16) (xo16 : Vec F S8x1024 .f32) (xs0 : Vec F S1024x1024 .f32)

theorem caseB_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (dY (dX x0 x1 x2 x3 x4) x5 x6 x7) := by
  unfold out0_B_11 kernelRun0_B
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseB_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (dAttn (dY (dX x0 x1 x2 x3 x4) x5 x6 x7) x10) := by
  unfold out0_B_12 kernelRun0_B
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseB_13 : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (deltaPut (dAttn (dY (dX x0 x1 x2 x3 x4) x5 x6 x7) x10) x8 (VO0_13.read (Elt F) VO0_13.junk)) := by
  unfold out0_B_13 kernelRun0_B
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseB_14 : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (dGm (dY (dX x0 x1 x2 x3 x4) x5 x6 x7) x10) := by
  unfold out0_B_14 kernelRun0_B
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseB_16 : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (vecPut (dX x0 x1 x2 x3 x4) x5 xo16) := by
  unfold out0_B_16 kernelRun0_B
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseB_s : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (dwoPut (dY (dX x0 x1 x2 x3 x4) x5 x6 x7) x8 x9 xs0) := by
  unfold sout0_B_0 kernelRun0_B
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  exact (put_halves _ xs0 _ _).trans rfl

end

end Cert.Mix

end
-- ==== Proof.Mix.CaseC.lean ====
/- What the last point's run leaves in each buffer. -/
module

public import proofs.«01_k».proof.Proof.Mix.Step

@[expose] public section

set_option maxRecDepth 16384
set_option maxHeartbeats 4000000

noncomputable section

namespace Cert.Mix

open Cert.Kernel3Ideal Cert.Kernel3Ideal.Gen
open Idealize.ShloMosaic Idealize.ShloMosaic.TcCoe
open Idealize.ShloMosaic.VecWindow (window put)

variable {F : FTy → Type} [FloatOps F]

section

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S512x1024 .f32) (harg6 : arg6.IsWhole) (arg7 : Memref sig .tc .vmem S512x1 .f32) (harg7 : arg7.IsWhole) (arg8 : Memref sig .tc .vmem S1x1024 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x128x1024 .bf16) (harg16 : arg16.IsWhole) (arg17 : Memref sig .tc .vmem S8x1024 .f32) (harg17 : arg17.IsWhole) (arg18 : Memref sig .tc .vmem S1024x1024 .f32) (harg18 : arg18.IsWhole) (hc0 : ¬cond0_0 i) (hc1 : cond0_1 i)
    (x0 : Vec F S512x1024 .f32) (x1 : Vec F S512x2816 .bf16) (x2 : Vec F S512x2816 .bf16) (x3 : Vec F S2816x1024 .bf16) (x4 : Vec F S2816x1024 .bf16) (x5 : Vec F S512x1024 .f32) (x6 : Vec F S512x1 .f32) (x7 : Vec F S1x1024 .f32) (x8 : Vec F S512x512 .f32) (x9 : Vec F S512x512 .bf16) (x10 : Vec F S1024x1024 .bf16) (xo16 : Vec F S8x1024 .f32) (xs0 : Vec F S1024x1024 .f32)

theorem caseC_11 : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (dY (dX x0 x1 x2 x3 x4) x5 x6 x7) := by
  unfold out0_C_11 kernelRun0_C
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseC_12 : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (dAttn (dY (dX x0 x1 x2 x3 x4) x5 x6 x7) x10) := by
  unfold out0_C_12 kernelRun0_C
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseC_13 : out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (deltaPut (dAttn (dY (dX x0 x1 x2 x3 x4) x5 x6 x7) x10) x8 (VO0_13.read (Elt F) VO0_13.junk)) := by
  unfold out0_C_13 kernelRun0_C
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseC_14 : out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (dGm (dY (dX x0 x1 x2 x3 x4) x5 x6 x7) x10) := by
  unfold out0_C_14 kernelRun0_C
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseC_16 : out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (vecPut (dX x0 x1 x2 x3 x4) x5 xo16) := by
  unfold out0_C_16 kernelRun0_C
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  rfl

theorem caseC_s : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (dwoPut (dY (dX x0 x1 x2 x3 x4) x5 x6 x7) x8 x9 xs0) := by
  unfold sout0_C_0 kernelRun0_C
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, win_low, win_row]
  exact (put_halves _ xs0 _ _).trans rfl

end

end Cert.Mix

end
-- ==== Proof.Mix.CaseD.lean ====
/- What the last point's run leaves in the output weight's gradient blocks. -/
module

public import proofs.«01_k».proof.Proof.Mix.Step

@[expose] public section

set_option maxRecDepth 16384
set_option maxHeartbeats 4000000

noncomputable section

namespace Cert.Mix

open Cert.Kernel3Ideal Cert.Kernel3Ideal.Gen
open Idealize.ShloMosaic Idealize.ShloMosaic.TcCoe
open Idealize.ShloMosaic.VecWindow (window put)

variable {F : FTy → Type} [FloatOps F]

section

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S512x1024 .f32) (harg6 : arg6.IsWhole) (arg7 : Memref sig .tc .vmem S512x1 .f32) (harg7 : arg7.IsWhole) (arg8 : Memref sig .tc .vmem S1x1024 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x128x1024 .bf16) (harg16 : arg16.IsWhole) (arg17 : Memref sig .tc .vmem S8x1024 .f32) (harg17 : arg17.IsWhole) (arg18 : Memref sig .tc .vmem S1024x1024 .f32) (harg18 : arg18.IsWhole) (hc0 : ¬cond0_0 i) (hc1 : cond0_1 i)
    (x0 : Vec F S512x1024 .f32) (x1 : Vec F S512x2816 .bf16) (x2 : Vec F S512x2816 .bf16) (x3 : Vec F S2816x1024 .bf16) (x4 : Vec F S2816x1024 .bf16) (x5 : Vec F S512x1024 .f32) (x6 : Vec F S512x1 .f32) (x7 : Vec F S1x1024 .f32) (x8 : Vec F S512x512 .f32) (x9 : Vec F S512x512 .bf16) (x10 : Vec F S1024x1024 .bf16) (xo16 : Vec F S8x1024 .f32) (xs0 : Vec F S1024x1024 .f32)

theorem caseC_15 : out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo16 xs0 = (slabs (dwoPut (dY (dX x0 x1 x2 x3 x4) x5 x6 x7) x8 x9 xs0) (VO0_15.read (Elt F) VO0_15.junk)) := by
  unfold out0_C_15 kernelRun0_C
  dsimp only
  simp only [Cert.Act.read_writes_put, View.writes_nil]
  refine slabs8_congr _ ?_ ?_ ?_ ?_ ?_ ?_ ?_ ?_
  · sl_unfold_words
    simp only [View.readCov, Cert.Act.readAt_window, Cert.Act.read_writes_put, View.writes_nil, Memref.IsWhole.read_unread, win_a, win_b, win_c, win_d, win_e, win_f, win_g, win_h, put_a, put_b, put_c, put_d, win_low, win_row]
    exact congrArg (fun z => window z _ _ _) ((put_halves _ xs0 _ _).trans rfl)
  · sl_unfold_words
    simp only [View.readCov, Cert.Act.readAt_window, Cert.Act.read_writes_put, View.writes_nil, Memref.IsWhole.read_unread, win_a, win_b, win_c, win_d, win_e, win_f, win_g, win_h, put_a, put_b, put_c, put_d, win_low, win_row]
    exact congrArg (fun z => window z _ _ _) ((put_halves _ xs0 _ _).trans rfl)
  · sl_unfold_words
    simp only [View.readCov, Cert.Act.readAt_window, Cert.Act.read_writes_put, View.writes_nil, Memref.IsWhole.read_unread, win_a, win_b, win_c, win_d, win_e, win_f, win_g, win_h, put_a, put_b, put_c, put_d, win_low, win_row]
    exact congrArg (fun z => window z _ _ _) ((put_halves _ xs0 _ _).trans rfl)
  · sl_unfold_words
    simp only [View.readCov, Cert.Act.readAt_window, Cert.Act.read_writes_put, View.writes_nil, Memref.IsWhole.read_unread, win_a, win_b, win_c, win_d, win_e, win_f, win_g, win_h, put_a, put_b, put_c, put_d, win_low, win_row]
    exact congrArg (fun z => window z _ _ _) ((put_halves _ xs0 _ _).trans rfl)
  · sl_unfold_words
    simp only [View.readCov, Cert.Act.readAt_window, Cert.Act.read_writes_put, View.writes_nil, Memref.IsWhole.read_unread, win_a, win_b, win_c, win_d, win_e, win_f, win_g, win_h, put_a, put_b, put_c, put_d, win_low, win_row]
    exact congrArg (fun z => window z _ _ _) ((put_halves _ xs0 _ _).trans rfl)
  · sl_unfold_words
    simp only [View.readCov, Cert.Act.readAt_window, Cert.Act.read_writes_put, View.writes_nil, Memref.IsWhole.read_unread, win_a, win_b, win_c, win_d, win_e, win_f, win_g, win_h, put_a, put_b, put_c, put_d, win_low, win_row]
    exact congrArg (fun z : Vec F S1024x1024 .f32 => k0_pay10 (window z ![640, 0] S128x1024.size inb_S1024x1024_S128x1024_640_0)) ((put_halves _ xs0 _ _).trans rfl)
  · sl_unfold_words
    simp only [View.readCov, Cert.Act.readAt_window, Cert.Act.read_writes_put, View.writes_nil, Memref.IsWhole.read_unread, win_a, win_b, win_c, win_d, win_e, win_f, win_g, win_h, put_a, put_b, put_c, put_d, win_low, win_row]
    exact congrArg (fun z => window z _ _ _) ((put_halves _ xs0 _ _).trans rfl)
  · sl_unfold_words
    simp only [View.readCov, Cert.Act.readAt_window, Cert.Act.read_writes_put, View.writes_nil, Memref.IsWhole.read_unread, win_a, win_b, win_c, win_d, win_e, win_f, win_g, win_h, put_a, put_b, put_c, put_d, win_low, win_row]
    exact congrArg (fun z => window z _ _ _) ((put_halves _ xs0 _ _).trans rfl)

end

end Cert.Mix

end
-- ==== Proof.Mix.Chain.lean ====
/- What every point leaves in the buffers, the accumulators as running sums over the points. -/
module

public import proofs.«01_k».proof.Proof.Mix.CaseA
public import proofs.«01_k».proof.Proof.Mix.CaseB
public import proofs.«01_k».proof.Proof.Mix.CaseC
public import proofs.«01_k».proof.Proof.Mix.CaseD

@[expose] public section

set_option maxRecDepth 16384
set_option maxHeartbeats 400000

noncomputable section

namespace Cert.Mix

open Cert.Kernel3Ideal Cert.Kernel3Ideal.Gen
open Idealize.ShloMosaic Idealize.ShloMosaic.TcCoe
open Idealize.ShloMosaic.Pipeline (Dat)

variable {F : FTy → Type} [FloatOps F]
variable (m : (ℓ : Loc nD τ sig) → Buf (Elt F) ℓ) (c : Dev nD)

/-- The normalised sum's gradient at a point's rows. -/
def dXt (t : Fin cfg0.N) : FVec F S512x1024 .f32 :=
  dX (iblk m c 0 t) (iblk m c 1 t) (iblk m c 2 t) (iblk m c 3 t) (iblk m c 4 t)

/-- The gradient before the normalisation at a point's rows. -/
def dYt (t : Fin cfg0.N) : FVec F S512x1024 .f32 := dY (dXt m c t) (iblk m c 5 t) (iblk m c 6 t) (iblk m c 7 t)

/-- The two vectors' gradient rows after a point. -/
def vecN : (n : ℕ) → n < cfg0.N → Vec F S8x1024 .f32
  | 0, h => vecPut (dXt m c ⟨0, h⟩) (iblk m c 5 ⟨0, h⟩) k0_pay12
  | n + 1, h => vecPut (dXt m c ⟨n + 1, h⟩) (iblk m c 5 ⟨n + 1, h⟩) (vecN n (Nat.lt_of_succ_lt h))

/-- The output weight's gradient after a point. -/
def dwoN : (n : ℕ) → n < cfg0.N → Vec F S1024x1024 .f32
  | 0, h => dwoPut (dYt m c ⟨0, h⟩) (iblk m c 8 ⟨0, h⟩) (iblk m c 9 ⟨0, h⟩) k0_pay11
  | n + 1, h => dwoPut (dYt m c ⟨n + 1, h⟩) (iblk m c 8 ⟨n + 1, h⟩) (iblk m c 9 ⟨n + 1, h⟩) (dwoN n (Nat.lt_of_succ_lt h))

theorem at_11 (t : Fin cfg0.N) : (outsAt0 m c t.val t.isLt).1 = dYt m c t := by
  unfold dYt dXt
  by_cases h0 : t.val % 8 = 0
  · rw [outsAt0_A m c t h0 (by omega)]; dsimp only; rw [caseA_11]
  · by_cases h1 : t.val % 8 = 7
    · rw [outsAt0_C m c t h0 h1]; dsimp only; rw [caseC_11]
    · rw [outsAt0_B m c t h0 h1]; dsimp only; rw [caseB_11]

theorem at_12 (t : Fin cfg0.N) : (outsAt0 m c t.val t.isLt).2.1 = dAttn (dYt m c t) (iblk m c 10 t) := by
  unfold dYt dXt
  by_cases h0 : t.val % 8 = 0
  · rw [outsAt0_A m c t h0 (by omega)]; dsimp only; rw [caseA_12]
  · by_cases h1 : t.val % 8 = 7
    · rw [outsAt0_C m c t h0 h1]; dsimp only; rw [caseC_12]
    · rw [outsAt0_B m c t h0 h1]; dsimp only; rw [caseB_12]

theorem at_13 (t : Fin cfg0.N) : (outsAt0 m c t.val t.isLt).2.2.1 = deltaPut (dAttn (dYt m c t) (iblk m c 10 t)) (iblk m c 8 t) (VO0_13.read (Elt F) VO0_13.junk) := by
  unfold dYt dXt
  by_cases h0 : t.val % 8 = 0
  · rw [outsAt0_A m c t h0 (by omega)]; dsimp only; rw [caseA_13]
  · by_cases h1 : t.val % 8 = 7
    · rw [outsAt0_C m c t h0 h1]; dsimp only; rw [caseC_13]
    · rw [outsAt0_B m c t h0 h1]; dsimp only; rw [caseB_13]

theorem at_14 (t : Fin cfg0.N) : (outsAt0 m c t.val t.isLt).2.2.2.1 = dGm (dYt m c t) (iblk m c 10 t) := by
  unfold dYt dXt
  by_cases h0 : t.val % 8 = 0
  · rw [outsAt0_A m c t h0 (by omega)]; dsimp only; rw [caseA_14]
  · by_cases h1 : t.val % 8 = 7
    · rw [outsAt0_C m c t h0 h1]; dsimp only; rw [caseC_14]
    · rw [outsAt0_B m c t h0 h1]; dsimp only; rw [caseB_14]

theorem at_16 : ∀ (n : ℕ) (h : n < cfg0.N), (outsAt0 m c n h).2.2.2.2.2.1 = vecN m c n h
  | 0, h => by
    have h1 : ¬(⟨0, h⟩ : Fin cfg0.N).val % 8 = 7 := by dsimp only; omega
    rw [outsAt0_A m c ⟨0, h⟩ rfl h1]; dsimp only; rw [caseA_16]
    rfl
  | n + 1, h => by
    have hN : cfg0.N = 8 := N_0
    have ih := at_16 n (Nat.lt_of_succ_lt h)
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1]; dsimp only; rw [caseC_16]
      exact congrArg (vecPut (dXt m c ⟨n + 1, h⟩) (iblk m c 5 ⟨n + 1, h⟩)) ih
    · rw [outsAt0_B m c ⟨n + 1, h⟩ h0 h1]; dsimp only; rw [caseB_16]
      exact congrArg (vecPut (dXt m c ⟨n + 1, h⟩) (iblk m c 5 ⟨n + 1, h⟩)) ih

theorem at_s : ∀ (n : ℕ) (h : n < cfg0.N), (outsAt0 m c n h).2.2.2.2.2.2 = dwoN m c n h
  | 0, h => by
    have h1 : ¬(⟨0, h⟩ : Fin cfg0.N).val % 8 = 7 := by dsimp only; omega
    rw [outsAt0_A m c ⟨0, h⟩ rfl h1]; dsimp only; rw [caseA_s]
    rfl
  | n + 1, h => by
    have hN : cfg0.N = 8 := N_0
    have ih := at_s n (Nat.lt_of_succ_lt h)
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1]; dsimp only; rw [caseC_s]
      exact congrArg (dwoPut (dYt m c ⟨n + 1, h⟩) (iblk m c 8 ⟨n + 1, h⟩) (iblk m c 9 ⟨n + 1, h⟩)) ih
    · rw [outsAt0_B m c ⟨n + 1, h⟩ h0 h1]; dsimp only; rw [caseB_s]
      exact congrArg (dwoPut (dYt m c ⟨n + 1, h⟩) (iblk m c 8 ⟨n + 1, h⟩) (iblk m c 9 ⟨n + 1, h⟩)) ih

/-- The last point's blocks are the whole accumulator's. -/
theorem at_15 (h : 7 < cfg0.N) : (outsAt0 m c 7 h).2.2.2.2.1 = slabs (dwoN m c 7 h) (VO0_15.read (Elt F) VO0_15.junk) := by
  have ih := at_s m c 6 (Nat.lt_of_succ_lt h)
  have h0 : ¬(⟨7, h⟩ : Fin cfg0.N).val % 8 = 0 := by dsimp only; omega
  rw [outsAt0_C m c ⟨7, h⟩ h0 rfl]; dsimp only; rw [caseC_15]
  exact congrArg (fun z => slabs (dwoPut (dYt m c ⟨7, h⟩) (iblk m c 8 ⟨7, h⟩) (iblk m c 9 ⟨7, h⟩) z) (VO0_15.read (Elt F) VO0_15.junk)) ih

end Cert.Mix

end
-- ==== Proof.Mix.Entry.lean ====
/- What the arrays hold when the kernel starts: the arguments, and what the host computes from them. -/
module

public import proofs.«01_k».proof.Proof.Mix.Chain
public import proofs.«01_k».proof.Proof.Gen.Reference3Ideal.Read
public import Idealize.ShloMosaic.Lib.Claim
public import Idealize.ShloMosaic.Lib.StableHlo.RunRead
public import Idealize.ShloMosaic.Lib.Pointwise

@[expose] public section

set_option maxRecDepth 16384
set_option maxHeartbeats 1000000

noncomputable section

namespace Cert.Mix

open Cert.Kernel3Ideal Cert.Kernel3Ideal.Gen
open Idealize.ShloMosaic Idealize.ShloMosaic.TcCoe
open Idealize.ShloMosaic.Pointwise
open Cert.Reference3Ideal.Read

variable (m : (ℓ : Loc nD τ sig) → Buf (Elt Ideal) ℓ) (c : Dev nD)

/-- An argument array, as launched. -/
abbrev a0 : Vec Ideal S4096x1024 .f32 := m ((c : Thread nD τ).loc main_arg0)
abbrev a1 : Vec Ideal S4096x512 .f32 := m ((c : Thread nD τ).loc main_arg1)
abbrev a2 : Vec Ideal S4096x512 .f32 := m ((c : Thread nD τ).loc main_arg2)
abbrev a3 : Vec Ideal S1024x1024 .f32 := m ((c : Thread nD τ).loc main_arg3)
abbrev a4 : Vec Ideal S1024 .f32 := m ((c : Thread nD τ).loc main_arg4)
abbrev a5 : Vec Ideal S1024x2816 .f32 := m ((c : Thread nD τ).loc main_arg5)
abbrev a6 : Vec Ideal S1024x2816 .f32 := m ((c : Thread nD τ).loc main_arg6)
abbrev a7 : Vec Ideal S4096x1024 .f32 := m ((c : Thread nD τ).loc main_arg7)
abbrev a8 : Vec Ideal S4096x2816 .f32 := m ((c : Thread nD τ).loc main_arg8)
abbrev a9 : Vec Ideal S4096x2816 .f32 := m ((c : Thread nD τ).loc main_arg9)

theorem V_arg1 : (V m c main_arg1 : S4096x512.Idx → EReal) = a1 m c := by unfold V; after_reads_simp
theorem V_arg7 : (V m c main_arg7 : S4096x1024.Idx → EReal) = a7 m c := by unfold V; after_reads_simp
theorem V_v23 : (V m c main_v23 : S4096x2816.Idx → EReal) = a8 m c := by unfold V; after_reads_simp; rfl
theorem V_v24 : (V m c main_v24 : S4096x2816.Idx → EReal) = a9 m c := by unfold V; after_reads_simp; rfl
theorem V_v26 (j : Fin 2816) (k : Fin 1024) : (V m c main_v26 : S2816x1024.Idx → EReal) (ix2 j k) = a5 m c (ix2 k j) := by
  unfold V; after_reads_simp; pointwise []
theorem V_v28 (j : Fin 2816) (k : Fin 1024) : (V m c main_v28 : S2816x1024.Idx → EReal) (ix2 j k) = a6 m c (ix2 k j) := by
  unfold V; after_reads_simp; pointwise []
theorem V_v29 (k : Fin 1024) : (V m c main_v29 : S1x1024.Idx → EReal) (ix2 0 k) = a4 m c (ix1 k) := by
  unfold V; after_reads_simp; pointwise []
theorem V_v30 : (V m c main_v30 : S4096x512.Idx → EReal) = a2 m c := by unfold V; after_reads_simp; rfl
theorem V_v31 : (V m c main_v31 : S1024x1024.Idx → EReal) = a3 m c := by unfold V; after_reads_simp; rfl
theorem V_v18 : (V m c main_v18 : S4096x1.Idx → EReal) = val_main_v23 (F := Ideal) (a0 m c) (a1 m c) (a2 m c) (a3 m c) := by
  unfold V; after_reads_simp; rfl
theorem V_v22 : (V m c main_v22 : S4096x1024.Idx → EReal) = val_main_v28 (F := Ideal) (a0 m c) (a1 m c) (a2 m c) (a3 m c) := by
  unfold V; after_reads_simp; rfl

end Cert.Mix

end
-- ==== Proof.Mix.Blocks.lean ====
/- A block of every input window at an index of its array: row tiles, or the whole array. -/
module

public import proofs.«01_k».proof.Proof.Mix.Entry
public import proofs.«01_k».proof.Proof.Gen.Reference3Ideal.Read
public import Idealize.ShloMosaic.Lib.Claim
public import Idealize.ShloMosaic.Lib.StableHlo.RunRead
public import Idealize.ShloMosaic.Lib.Pointwise

@[expose] public section

set_option maxRecDepth 16384
set_option maxHeartbeats 1000000

noncomputable section

namespace Cert.Mix

open Cert.Kernel3Ideal Cert.Kernel3Ideal.Gen
open Idealize.ShloMosaic Idealize.ShloMosaic.TcCoe
open Idealize.ShloMosaic.Pointwise
open Cert.Reference3Ideal.Read

variable (m : (ℓ : Loc nD τ sig) → Buf (Elt Ideal) ℓ) (c : Dev nD)

/-- A row of a row tile. -/
abbrev rI (t : Fin cfg0.N) (r : Fin 512) : Fin 4096 := ⟨t.val * 512 + r.val, by have := t.isLt; have : cfg0.N = 8 := N_0; omega⟩

theorem idx0_0 : ∀ t : Fin cfg0.N, win0_0.index t (0 : Fin 2) = t.val := by decide +kernel
theorem idx0_1 : ∀ t : Fin cfg0.N, win0_0.index t (1 : Fin 2) = 0 := by decide +kernel
theorem idx1_0 : ∀ t : Fin cfg0.N, win0_1.index t (0 : Fin 2) = t.val := by decide +kernel
theorem idx1_1 : ∀ t : Fin cfg0.N, win0_1.index t (1 : Fin 2) = 0 := by decide +kernel
theorem idx2_0 : ∀ t : Fin cfg0.N, win0_2.index t (0 : Fin 2) = t.val := by decide +kernel
theorem idx2_1 : ∀ t : Fin cfg0.N, win0_2.index t (1 : Fin 2) = 0 := by decide +kernel
theorem idx3_0 : ∀ t : Fin cfg0.N, win0_3.index t (0 : Fin 2) = 0 := by decide +kernel
theorem idx3_1 : ∀ t : Fin cfg0.N, win0_3.index t (1 : Fin 2) = 0 := by decide +kernel
theorem idx4_0 : ∀ t : Fin cfg0.N, win0_4.index t (0 : Fin 2) = 0 := by decide +kernel
theorem idx4_1 : ∀ t : Fin cfg0.N, win0_4.index t (1 : Fin 2) = 0 := by decide +kernel
theorem idx5_0 : ∀ t : Fin cfg0.N, win0_5.index t (0 : Fin 2) = t.val := by decide +kernel
theorem idx5_1 : ∀ t : Fin cfg0.N, win0_5.index t (1 : Fin 2) = 0 := by decide +kernel
theorem idx6_0 : ∀ t : Fin cfg0.N, win0_6.index t (0 : Fin 2) = t.val := by decide +kernel
theorem idx6_1 : ∀ t : Fin cfg0.N, win0_6.index t (1 : Fin 2) = 0 := by decide +kernel
theorem idx7_0 : ∀ t : Fin cfg0.N, win0_7.index t (0 : Fin 2) = 0 := by decide +kernel
theorem idx7_1 : ∀ t : Fin cfg0.N, win0_7.index t (1 : Fin 2) = 0 := by decide +kernel
theorem idx8_0 : ∀ t : Fin cfg0.N, win0_8.index t (0 : Fin 2) = t.val := by decide +kernel
theorem idx8_1 : ∀ t : Fin cfg0.N, win0_8.index t (1 : Fin 2) = 0 := by decide +kernel
theorem idx9_0 : ∀ t : Fin cfg0.N, win0_9.index t (0 : Fin 2) = t.val := by decide +kernel
theorem idx9_1 : ∀ t : Fin cfg0.N, win0_9.index t (1 : Fin 2) = 0 := by decide +kernel
theorem idx10_0 : ∀ t : Fin cfg0.N, win0_10.index t (0 : Fin 2) = 0 := by decide +kernel
theorem idx10_1 : ∀ t : Fin cfg0.N, win0_10.index t (1 : Fin 2) = 0 := by decide +kernel

theorem blk_0 (t : Fin cfg0.N) (r : Fin 512) (k : Fin 1024) : iblk m c 0 t (ix2 r k) = V m c main_arg7 (ix2 (rI t r) k) := by
  show V m c main_arg7 (((cfg0.win 0).blk t).view.emb (ix2 r k)) = _
  refine congrArg (V m c main_arg7) (funext fun a => Fin.ext ?_)
  match a with
  | ⟨0, _⟩ =>
    show win0_0.index t 0 * 512 + 1 * r.val = _
    rw [idx0_0, Nat.one_mul]; rfl
  | ⟨1, _⟩ =>
    show win0_0.index t 1 * 1024 + 1 * k.val = _
    rw [idx0_1, Nat.zero_mul, Nat.zero_add, Nat.one_mul]; rfl

theorem blk_1 (t : Fin cfg0.N) (r : Fin 512) (k : Fin 2816) : iblk m c 1 t (ix2 r k) = V m c main_v23 (ix2 (rI t r) k) := by
  show V m c main_v23 (((cfg0.win 1).blk t).view.emb (ix2 r k)) = _
  refine congrArg (V m c main_v23) (funext fun a => Fin.ext ?_)
  match a with
  | ⟨0, _⟩ =>
    show win0_1.index t 0 * 512 + 1 * r.val = _
    rw [idx1_0, Nat.one_mul]; rfl
  | ⟨1, _⟩ =>
    show win0_1.index t 1 * 2816 + 1 * k.val = _
    rw [idx1_1, Nat.zero_mul, Nat.zero_add, Nat.one_mul]; rfl

theorem blk_2 (t : Fin cfg0.N) (r : Fin 512) (k : Fin 2816) : iblk m c 2 t (ix2 r k) = V m c main_v24 (ix2 (rI t r) k) := by
  show V m c main_v24 (((cfg0.win 2).blk t).view.emb (ix2 r k)) = _
  refine congrArg (V m c main_v24) (funext fun a => Fin.ext ?_)
  match a with
  | ⟨0, _⟩ =>
    show win0_2.index t 0 * 512 + 1 * r.val = _
    rw [idx2_0, Nat.one_mul]; rfl
  | ⟨1, _⟩ =>
    show win0_2.index t 1 * 2816 + 1 * k.val = _
    rw [idx2_1, Nat.zero_mul, Nat.zero_add, Nat.one_mul]; rfl

theorem blk_3 (t : Fin cfg0.N) (r : Fin 2816) (k : Fin 1024) : iblk m c 3 t (ix2 r k) = V m c main_v26 (ix2 r k) := by
  show V m c main_v26 (((cfg0.win 3).blk t).view.emb (ix2 r k)) = _
  refine congrArg (V m c main_v26) (funext fun a => Fin.ext ?_)
  match a with
  | ⟨0, _⟩ =>
    show win0_3.index t 0 * 2816 + 1 * r.val = _
    rw [idx3_0, Nat.one_mul, Nat.zero_mul, Nat.zero_add]; rfl
  | ⟨1, _⟩ =>
    show win0_3.index t 1 * 1024 + 1 * k.val = _
    rw [idx3_1, Nat.zero_mul, Nat.zero_add, Nat.one_mul]; rfl

theorem blk_4 (t : Fin cfg0.N) (r : Fin 2816) (k : Fin 1024) : iblk m c 4 t (ix2 r k) = V m c main_v28 (ix2 r k) := by
  show V m c main_v28 (((cfg0.win 4).blk t).view.emb (ix2 r k)) = _
  refine congrArg (V m c main_v28) (funext fun a => Fin.ext ?_)
  match a with
  | ⟨0, _⟩ =>
    show win0_4.index t 0 * 2816 + 1 * r.val = _
    rw [idx4_0, Nat.one_mul, Nat.zero_mul, Nat.zero_add]; rfl
  | ⟨1, _⟩ =>
    show win0_4.index t 1 * 1024 + 1 * k.val = _
    rw [idx4_1, Nat.zero_mul, Nat.zero_add, Nat.one_mul]; rfl

theorem blk_5 (t : Fin cfg0.N) (r : Fin 512) (k : Fin 1024) : iblk m c 5 t (ix2 r k) = V m c main_v22 (ix2 (rI t r) k) := by
  show V m c main_v22 (((cfg0.win 5).blk t).view.emb (ix2 r k)) = _
  refine congrArg (V m c main_v22) (funext fun a => Fin.ext ?_)
  match a with
  | ⟨0, _⟩ =>
    show win0_5.index t 0 * 512 + 1 * r.val = _
    rw [idx5_0, Nat.one_mul]; rfl
  | ⟨1, _⟩ =>
    show win0_5.index t 1 * 1024 + 1 * k.val = _
    rw [idx5_1, Nat.zero_mul, Nat.zero_add, Nat.one_mul]; rfl

theorem blk_6 (t : Fin cfg0.N) (r : Fin 512) (k : Fin 1) : iblk m c 6 t (ix2 r k) = V m c main_v18 (ix2 (rI t r) k) := by
  show V m c main_v18 (((cfg0.win 6).blk t).view.emb (ix2 r k)) = _
  refine congrArg (V m c main_v18) (funext fun a => Fin.ext ?_)
  match a with
  | ⟨0, _⟩ =>
    show win0_6.index t 0 * 512 + 1 * r.val = _
    rw [idx6_0, Nat.one_mul]; rfl
  | ⟨1, _⟩ =>
    show win0_6.index t 1 * 1 + 1 * k.val = _
    rw [idx6_1, Nat.zero_mul, Nat.zero_add, Nat.one_mul]; rfl

theorem blk_7 (t : Fin cfg0.N) (r : Fin 1) (k : Fin 1024) : iblk m c 7 t (ix2 r k) = V m c main_v29 (ix2 r k) := by
  show V m c main_v29 (((cfg0.win 7).blk t).view.emb (ix2 r k)) = _
  refine congrArg (V m c main_v29) (funext fun a => Fin.ext ?_)
  match a with
  | ⟨0, _⟩ =>
    show win0_7.index t 0 * 1 + 1 * r.val = _
    rw [idx7_0, Nat.one_mul, Nat.zero_mul, Nat.zero_add]; rfl
  | ⟨1, _⟩ =>
    show win0_7.index t 1 * 1024 + 1 * k.val = _
    rw [idx7_1, Nat.zero_mul, Nat.zero_add, Nat.one_mul]; rfl

theorem blk_8 (t : Fin cfg0.N) (r : Fin 512) (k : Fin 512) : iblk m c 8 t (ix2 r k) = V m c main_arg1 (ix2 (rI t r) k) := by
  show V m c main_arg1 (((cfg0.win 8).blk t).view.emb (ix2 r k)) = _
  refine congrArg (V m c main_arg1) (funext fun a => Fin.ext ?_)
  match a with
  | ⟨0, _⟩ =>
    show win0_8.index t 0 * 512 + 1 * r.val = _
    rw [idx8_0, Nat.one_mul]; rfl
  | ⟨1, _⟩ =>
    show win0_8.index t 1 * 512 + 1 * k.val = _
    rw [idx8_1, Nat.zero_mul, Nat.zero_add, Nat.one_mul]; rfl

theorem blk_9 (t : Fin cfg0.N) (r : Fin 512) (k : Fin 512) : iblk m c 9 t (ix2 r k) = V m c main_v30 (ix2 (rI t r) k) := by
  show V m c main_v30 (((cfg0.win 9).blk t).view.emb (ix2 r k)) = _
  refine congrArg (V m c main_v30) (funext fun a => Fin.ext ?_)
  match a with
  | ⟨0, _⟩ =>
    show win0_9.index t 0 * 512 + 1 * r.val = _
    rw [idx9_0, Nat.one_mul]; rfl
  | ⟨1, _⟩ =>
    show win0_9.index t 1 * 512 + 1 * k.val = _
    rw [idx9_1, Nat.zero_mul, Nat.zero_add, Nat.one_mul]; rfl

theorem blk_10 (t : Fin cfg0.N) (r : Fin 1024) (k : Fin 1024) : iblk m c 10 t (ix2 r k) = V m c main_v31 (ix2 r k) := by
  show V m c main_v31 (((cfg0.win 10).blk t).view.emb (ix2 r k)) = _
  refine congrArg (V m c main_v31) (funext fun a => Fin.ext ?_)
  match a with
  | ⟨0, _⟩ =>
    show win0_10.index t 0 * 1024 + 1 * r.val = _
    rw [idx10_0, Nat.one_mul, Nat.zero_mul, Nat.zero_add]; rfl
  | ⟨1, _⟩ =>
    show win0_10.index t 1 * 1024 + 1 * k.val = _
    rw [idx10_1, Nat.zero_mul, Nat.zero_add, Nat.one_mul]; rfl

end Cert.Mix

end
-- ==== Proof.Mix.Point.lean ====
/- What one point computes, element by element. -/
module

public import proofs.«01_k».proof.Proof.Mix.Blocks
public import proofs.«01_k».proof.Proof.Gen.Reference3Ideal.Read
public import Idealize.ShloMosaic.Lib.Claim
public import Idealize.ShloMosaic.Lib.StableHlo.RunRead
public import Idealize.ShloMosaic.Lib.Pointwise

@[expose] public section

set_option maxRecDepth 16384
set_option maxHeartbeats 1000000

noncomputable section

namespace Cert.Mix

open Cert.Kernel3Ideal Cert.Kernel3Ideal.Gen
open Idealize.ShloMosaic Idealize.ShloMosaic.TcCoe
open Idealize.ShloMosaic.Pointwise
open Cert.Reference3Ideal.Read

variable (m : (ℓ : Loc nD τ sig) → Buf (Elt Ideal) ℓ) (c : Dev nD)

theorem dX_apply (dy2 : Vec Ideal S512x1024 .f32) (da db : Vec Ideal S512x2816 .bf16) (wa wb : Vec Ideal S2816x1024 .bf16)
    (r : Fin 512) (k : Fin 1024) : dX dy2 da db wa wb (ix2 r k)
      = Scalar.ofBits (F := Ideal) .f32 0x3F9837F0#32 * dy2 (ix2 r k) + (∑ j : Fin 2816, da (ix2 r j) * wa (ix2 j k))
        + ∑ j : Fin 2816, db (ix2 r j) * wb (ix2 j k) := by
  pointwise [dX, k0_pay14]

theorem dY_apply (d : FVec Ideal S512x1024 .f32) (xh : Vec Ideal S512x1024 .f32) (q : Vec Ideal S512x1 .f32) (g : Vec Ideal S1x1024 .f32)
    (r : Fin 512) (k : Fin 1024) : dY d xh q g (ix2 r k)
      = q (ix2 r 0) * ((d (ix2 r k) * g (ix2 0 k) - Ideal.div (∑ j : Fin 1024, d (ix2 r j) * g (ix2 0 j)) (Scalar.ofBits (F := Ideal) .f32 0x44800000#32))
        - xh (ix2 r k) * Ideal.div (∑ j : Fin 1024, d (ix2 r j) * g (ix2 0 j) * xh (ix2 r j)) (Scalar.ofBits (F := Ideal) .f32 0x44800000#32)) := by
  pointwise [dY, k0_pay17, k0_pay13]

theorem dMix_apply (y : FVec Ideal S512x1024 .f32) (w : Vec Ideal S1024x1024 .bf16) (r : Fin 512) (k : Fin 1024) :
    dMix y w (ix2 r k) = ∑ j : Fin 1024, y (ix2 r j) * w (ix2 k j) := by
  pointwise [dMix]

theorem dAttn_apply (y : FVec Ideal S512x1024 .f32) (w : Vec Ideal S1024x1024 .bf16) (r : Fin 512) (k : Fin 512) :
    dAttn y w (ix2 r k) = ∑ j : Fin 1024, y (ix2 r j) * w (ix2 ⟨k.val, by omega⟩ j) := by
  unfold dAttn
  pointwise [dMix]

theorem dGm_apply (y : FVec Ideal S512x1024 .f32) (w : Vec Ideal S1024x1024 .bf16) (r : Fin 512) (k : Fin 512) :
    dGm y w (ix2 r k) = ∑ j : Fin 1024, y (ix2 r j) * w (ix2 ⟨512 + k.val, by omega⟩ j) := by
  unfold dGm
  pointwise [dMix]

theorem pay29_apply (y : FVec Ideal S512x1024 .f32) (x : Vec Ideal S512x512 .f32) (old : Vec Ideal S512x1024 .f32) (r : Fin 512) (k : Fin 1024) :
    k0_pay29 (truncf .bf16 y bitsLt_bf16_f32) x old (ix2 r k) = old (ix2 r k) + ∑ j : Fin 512, x (ix2 j r) * y (ix2 j k) := by
  pointwise [k0_pay29]

theorem pay1_apply (y : FVec Ideal S512x1024 .f32) (x : Vec Ideal S512x512 .bf16) (old : Vec Ideal S512x1024 .f32) (r : Fin 512) (k : Fin 1024) :
    k0_pay1 old (k0_pay30 (truncf .bf16 y bitsLt_bf16_f32) x) (ix2 r k) = old (ix2 r k) + ∑ j : Fin 512, x (ix2 j r) * y (ix2 j k) := by
  pointwise [k0_pay1, k0_pay30]

theorem pay11_apply (r k : Fin 1024) : k0_pay11 (F := Ideal) (ix2 r k) = 0 := by
  pointwise [k0_pay11]

theorem pay12_apply (r : Fin 8) (k : Fin 1024) : k0_pay12 (F := Ideal) (ix2 r k) = 0 := by
  pointwise [k0_pay12]

/-- One tile's sums over its rows. -/
theorem vec_apply (d : FVec Ideal S512x1024 .f32) (old : Vec Ideal S1x1024 .f32) (k : Fin 1024) :
    (addf (shapeCast S1x1024 old shapeCasts_S1x1024_S1x1024)
        (shapeCast S1x1024 (multiReduction .add [0] S1024 d 0x00000000#32 reduces_S512x1024_S1024 (.inl rfl) rfl) shapeCasts_S1024_S1x1024) : FVec Ideal S1x1024 .f32) (ix2 0 k)
      = old (ix2 0 k) + ∑ r : Fin 512, d (ix2 r k) := by
  pointwise []

end Cert.Mix

end
-- ==== Proof.Mix.Delta.lean ====
/- The attention rows' sums: a column tile of two heads at an index, and the four tiles together. -/
module

public import proofs.«01_k».proof.Proof.Mix.Point
public import Idealize.ShloMosaic.Lib.Pointwise

@[expose] public section

set_option maxRecDepth 16384
set_option maxHeartbeats 1000000

noncomputable section

namespace Cert.Mix

open Cert.Kernel3Ideal Cert.Kernel3Ideal.Gen
open Idealize.ShloMosaic Idealize.ShloMosaic.TcCoe
open Idealize.ShloMosaic.Pointwise
open Idealize.ShloMosaic.VecWindow

variable (p : FVec Ideal S512x512 .f32) (at' : Vec Ideal S512x512 .f32) (r : Fin 512)

theorem lane_lt : ∀ x : Fin 128, IntOp.cmpi .slt (BitVec.ofNat 32 x.val) 64#32 = if x.val < 64 then 1#1 else 0#1 := by decide +kernel

theorem lane_sel (x : Fin 128) (a b : EReal) :
    Scalar.select (IntOp.cmpi .slt (BitVec.ofNat 32 x.val) 64#32) a b = if x.val < 64 then a else b := by
  rw [lane_lt]
  split
  · rfl
  · rfl

/-- The two masked sums of a tile are its two heads' sums. -/
theorem half_sum (f : Fin 128 → EReal) (l : Fin 128) :
    (if l.val < 64 then ∑ x : Fin 128, (if x.val < 64 then f x else 0) else ∑ x : Fin 128, (if x.val < 64 then 0 else f x))
      = ∑ j : Fin 64, f ⟨l.val / 64 * 64 + j.val, by omega⟩ := by
  have e : ∀ g : Fin 128 → EReal, (∑ x, g x) = (∑ j : Fin 64, g ⟨j.val, by omega⟩) + ∑ j : Fin 64, g ⟨64 + j.val, by omega⟩ :=
    fun g => Fin.sum_univ_add (a := 64) (b := 64) g
  split
  · rename_i h
    have h0 : l.val / 64 = 0 := by omega
    rw [e, Finset.sum_congr rfl (g := fun j : Fin 64 => f ⟨l.val / 64 * 64 + j.val, by omega⟩) fun j _ => ?_,
      Finset.sum_eq_zero (s := Finset.univ) (f := fun j : Fin 64 => if (⟨64 + j.val, by omega⟩ : Fin 128).val < 64 then f ⟨64 + j.val, by omega⟩ else 0) fun j _ => ?_, add_zero]
    · exact if_neg (by dsimp only; omega)
    · exact (if_pos (by dsimp only; omega)).trans (congrArg f (Fin.ext (by dsimp only; omega)))
  · rename_i h
    have h0 : l.val / 64 = 1 := by omega
    rw [e, Finset.sum_eq_zero (s := Finset.univ) (f := fun j : Fin 64 => if (⟨j.val, by omega⟩ : Fin 128).val < 64 then 0 else f ⟨j.val, by omega⟩) fun j _ => ?_,
      Finset.sum_congr rfl (g := fun j : Fin 64 => f ⟨l.val / 64 * 64 + j.val, by omega⟩) fun j _ => ?_, zero_add]
    · exact (if_neg (by dsimp only; omega)).trans (congrArg f (Fin.ext (by dsimp only; omega)))
    · exact if_pos (by dsimp only; omega)

/-- One product of the sums. -/
def prod (n : Fin 512) : EReal := p (ix2 r n) * at' (ix2 r n)

/-- A column tile at an index. -/
def tileSum (q : ℕ) (hq : q + 128 ≤ 512) (l : Fin 128) : EReal := ∑ j : Fin 64, prod p at' r ⟨q + (l.val / 64 * 64 + j.val), by omega⟩

theorem tile_0 (l : Fin 128) : k0_pay23 at' p lanes 64#32 (ix2 r l) = tileSum p at' r 0 (by decide) l := by
  pointwise [k0_pay23, lanes, k0_pay22]
  simp only [lane_sel]
  refine (half_sum (fun x => p (ix2 r ⟨x.val, by omega⟩) * at' (ix2 r ⟨x.val, by omega⟩)) l).trans (Finset.sum_congr rfl fun j _ => ?_)
  simp only [prod, Nat.zero_add]

theorem tile_1 (l : Fin 128) : k0_pay24 at' p lanes 64#32 (ix2 r l) = tileSum p at' r 128 (by decide) l := by
  pointwise [k0_pay24, lanes, k0_pay22]
  simp only [lane_sel]
  exact half_sum (fun x => p (ix2 r ⟨128 + x.val, by omega⟩) * at' (ix2 r ⟨128 + x.val, by omega⟩)) l

theorem tile_2 (l : Fin 128) : k0_pay27 (k0_pay22 lanes 64#32) (k0_pay25 at' p) (k0_pay26 at' p lanes 64#32) (Scalar.ofBits .f32 0x00000000#32) (ix2 r l) = tileSum p at' r 256 (by decide) l := by
  pointwise [k0_pay27, k0_pay22, k0_pay25, k0_pay26, lanes]
  simp only [lane_sel]
  exact half_sum (fun x => p (ix2 r ⟨256 + x.val, by omega⟩) * at' (ix2 r ⟨256 + x.val, by omega⟩)) l

theorem tile_3 (l : Fin 128) : k0_pay28 at' p (k0_pay22 lanes 64#32) (ix2 r l) = tileSum p at' r 384 (by decide) l := by
  pointwise [k0_pay28, k0_pay22, lanes]
  simp only [lane_sel]
  exact half_sum (fun x => p (ix2 r ⟨384 + x.val, by omega⟩) * at' (ix2 r ⟨384 + x.val, by omega⟩)) l

/-- A put of one column tile, read at one of its columns. -/
theorem put_col_same (x : S512x512.Idx → EReal) (q : ℕ) (w : S512x128.Idx → EReal) (k : Fin 512) (h1 : q ≤ k.val) (h2 : k.val < q + 128) :
    put x ![0, q] S512x128.size w (ix2 r k) = w (ix2 r ⟨k.val - q, by omega⟩) := by
  have hm : ∀ a : Fin 2, (![0, q] : Fin 2 → ℕ) a ≤ ((ix2 r k : S512x512.Idx) a).val
      ∧ ((ix2 r k : S512x512.Idx) a).val < (![0, q] : Fin 2 → ℕ) a + S512x128.size a := fun a =>
    match a with
    | ⟨0, _⟩ => ⟨Nat.zero_le _, (by show r.val < 0 + 512; omega)⟩
    | ⟨1, _⟩ => ⟨h1, h2⟩
  refine (dif_pos hm).trans (congrArg w (funext fun a => Fin.ext ?_))
  match a with
  | ⟨0, _⟩ => rfl
  | ⟨1, _⟩ => rfl

/-- A put of one column tile, read at another's column. -/
theorem put_col_other (x : S512x512.Idx → EReal) (q : ℕ) (w : S512x128.Idx → EReal) (k : Fin 512) (h : ¬(q ≤ k.val ∧ k.val < q + 128)) :
    put x ![0, q] S512x128.size w (ix2 r k) = x (ix2 r k) :=
  dif_neg fun hm => h (hm 1)

/-- The rows' sums per head. -/
theorem delta_apply (old : Vec Ideal S512x512 .f32) (k : Fin 512) :
    deltaPut p at' old (ix2 r k) = ∑ j : Fin 64, prod p at' r ⟨k.val / 64 * 64 + j.val, by omega⟩ := by
  unfold deltaPut
  by_cases h3 : 384 ≤ k.val ∧ k.val < 384 + 128
  · rw [put_col_same _ _ _ _ _ h3.1 h3.2, tile_3]
    exact Finset.sum_congr rfl fun j _ => congrArg _ (Fin.ext (by dsimp only; omega))
  rw [put_col_other _ _ _ _ _ h3]
  by_cases h2 : 256 ≤ k.val ∧ k.val < 256 + 128
  · rw [put_col_same _ _ _ _ _ h2.1 h2.2, tile_2]
    exact Finset.sum_congr rfl fun j _ => congrArg _ (Fin.ext (by dsimp only; omega))
  rw [put_col_other _ _ _ _ _ h2]
  by_cases h1 : 128 ≤ k.val ∧ k.val < 128 + 128
  · rw [put_col_same _ _ _ _ _ h1.1 h1.2, tile_1]
    exact Finset.sum_congr rfl fun j _ => congrArg _ (Fin.ext (by dsimp only; omega))
  rw [put_col_other _ _ _ _ _ h1, put_col_same _ _ _ _ _ (Nat.zero_le _) (by omega), tile_0]
  exact Finset.sum_congr rfl fun j _ => congrArg _ (Fin.ext (by dsimp only; omega))

end Cert.Mix

end
-- ==== Proof.Mix.Puts.lean ====
/- The accumulators' puts at an index: rows of the two vectors, halves of the weight's gradient, its blocks at their places. -/
module

public import proofs.«01_k».proof.Proof.Mix.Point
public import Idealize.ShloMosaic.Lib.Pointwise

@[expose] public section

set_option maxRecDepth 16384
set_option maxHeartbeats 1000000

noncomputable section

namespace Cert.Mix

open Cert.Kernel3Ideal Cert.Kernel3Ideal.Gen
open Idealize.ShloMosaic Idealize.ShloMosaic.TcCoe
open Idealize.ShloMosaic.Pointwise
open Idealize.ShloMosaic.VecWindow

/-- A put of whole rows, read at one of them. -/
theorem put_rows_same {R n : ℕ} (x : (⟨2, ![R, 1024]⟩ : Shape).Idx → EReal) (q : ℕ) (w : (⟨2, ![n, 1024]⟩ : Shape).Idx → EReal) (r : Fin R) (k : Fin 1024)
    (h1 : q ≤ r.val) (h2 : r.val < q + n) : put x ![q, 0] (⟨2, ![n, 1024]⟩ : Shape).size w (ix2 r k) = w (ix2 ⟨r.val - q, by omega⟩ k) := by
  have hm : ∀ a : Fin 2, (![q, 0] : Fin 2 → ℕ) a ≤ ((ix2 r k : (⟨2, ![R, 1024]⟩ : Shape).Idx) a).val
      ∧ ((ix2 r k : (⟨2, ![R, 1024]⟩ : Shape).Idx) a).val < (![q, 0] : Fin 2 → ℕ) a + (⟨2, ![n, 1024]⟩ : Shape).size a := fun a =>
    match a with
    | ⟨0, _⟩ => ⟨h1, h2⟩
    | ⟨1, _⟩ => ⟨Nat.zero_le _, (by show k.val < 0 + 1024; omega)⟩
  refine (dif_pos hm).trans (congrArg w (funext fun a => Fin.ext ?_))
  match a with
  | ⟨0, _⟩ => rfl
  | ⟨1, _⟩ => rfl

/-- A put of whole rows, read at another row. -/
theorem put_rows_other {R n : ℕ} (x : (⟨2, ![R, 1024]⟩ : Shape).Idx → EReal) (q : ℕ) (w : (⟨2, ![n, 1024]⟩ : Shape).Idx → EReal) (r : Fin R) (k : Fin 1024)
    (h : ¬(q ≤ r.val ∧ r.val < q + n)) : put x ![q, 0] (⟨2, ![n, 1024]⟩ : Shape).size w (ix2 r k) = x (ix2 r k) :=
  dif_neg fun hm => h (hm 0)

/-- A window of whole rows at an index. -/
theorem win_rows {R n : ℕ} (x : (⟨2, ![R, 1024]⟩ : Shape).Idx → EReal) (q : ℕ) (hq : q + n ≤ R) (inb) (r : Fin n) (k : Fin 1024) :
    window x ![q, 0] (⟨2, ![n, 1024]⟩ : Shape).size inb (ix2 r k) = x (ix2 ⟨q + r.val, by omega⟩ k) := by
  refine congrArg x (funext fun a => Fin.ext ?_)
  match a with
  | ⟨0, _⟩ => show q + 1 * r.val = q + r.val; omega
  | ⟨1, _⟩ => show 0 + 1 * k.val = k.val; omega

theorem row_sums (d xh : Vec Ideal S512x1024 .f32) (s : Fin 512) (k : Fin 1024) :
    (mulf d (k0_pay13 xh) : FVec Ideal S512x1024 .f32) (ix2 s k) = d (ix2 s k) * xh (ix2 s k) := by
  pointwise [k0_pay13]

theorem vecPut_0 (d : FVec Ideal S512x1024 .f32) (xh : Vec Ideal S512x1024 .f32) (old : Vec Ideal S8x1024 .f32) (k : Fin 1024) :
    vecPut d xh old (ix2 0 k) = old (ix2 0 k) + ∑ s : Fin 512, d (ix2 s k) * xh (ix2 s k) := by
  unfold vecPut
  rw [put_rows_other _ 1 _ 0 k (by decide)]
  refine (put_rows_same _ 0 _ 0 k (by decide) (by decide)).trans ?_
  refine (vec_apply _ _ k).trans ?_
  refine congrArg₂ (· + ·) (win_rows old 0 (by decide) _ 0 k) (Finset.sum_congr rfl fun s _ => row_sums d xh s k)

theorem vecPut_1 (d : FVec Ideal S512x1024 .f32) (xh : Vec Ideal S512x1024 .f32) (old : Vec Ideal S8x1024 .f32) (k : Fin 1024) :
    vecPut d xh old (ix2 1 k) = old (ix2 1 k) + ∑ s : Fin 512, d (ix2 s k) := by
  unfold vecPut
  refine (put_rows_same _ 1 _ 1 k (by decide) (by decide)).trans ?_
  refine (vec_apply _ _ k).trans ?_
  exact congrArg (· + _) (win_rows old 1 (by decide) _ 0 k)

theorem vecPut_2 (d : FVec Ideal S512x1024 .f32) (xh : Vec Ideal S512x1024 .f32) (old : Vec Ideal S8x1024 .f32) (r : Fin 8) (hr : 2 ≤ r.val) (k : Fin 1024) :
    vecPut d xh old (ix2 r k) = old (ix2 r k) := by
  unfold vecPut
  refine (put_rows_other _ 1 _ r k (by omega)).trans ?_
  exact put_rows_other _ 0 _ r k (by omega)

theorem dwoPut_low (y : FVec Ideal S512x1024 .f32) (at' : Vec Ideal S512x512 .f32) (gm : Vec Ideal S512x512 .bf16) (old : Vec Ideal S1024x1024 .f32)
    (q : Fin 512) (k : Fin 1024) : dwoPut y at' gm old (ix2 ⟨q.val, by omega⟩ k)
      = old (ix2 ⟨q.val, by omega⟩ k) + ∑ s : Fin 512, at' (ix2 s q) * y (ix2 s k) := by
  unfold dwoPut
  refine (put_rows_other _ 512 _ _ k (by dsimp only; omega)).trans ?_
  refine (put_rows_same _ 0 _ ⟨q.val, by omega⟩ k (Nat.zero_le _) (by dsimp only; omega)).trans ?_
  refine (pay29_apply y at' _ q k).trans ?_
  refine congrArg (· + _) ((win_rows old 0 (by decide) _ q k).trans ?_)
  exact congrArg old (congrArg (ix2 · k) (Fin.ext (by dsimp only; omega)))

theorem dwoPut_high (y : FVec Ideal S512x1024 .f32) (at' : Vec Ideal S512x512 .f32) (gm : Vec Ideal S512x512 .bf16) (old : Vec Ideal S1024x1024 .f32)
    (q : Fin 512) (k : Fin 1024) : dwoPut y at' gm old (ix2 ⟨512 + q.val, by omega⟩ k)
      = old (ix2 ⟨512 + q.val, by omega⟩ k) + ∑ s : Fin 512, gm (ix2 s q) * y (ix2 s k) := by
  unfold dwoPut
  refine (put_rows_same _ 512 _ ⟨512 + q.val, by omega⟩ k (by dsimp only; omega) (by dsimp only; omega)).trans ?_
  rw [show (⟨(⟨512 + q.val, by omega⟩ : Fin 1024).val - 512, by omega⟩ : Fin 512) = q from Fin.ext (by dsimp only; omega)]
  refine (pay1_apply y gm _ q k).trans ?_
  exact congrArg (· + _) (win_rows old 512 (by decide) _ q k)

/-- A put of one block, read at that block. -/
theorem put_block_same (x : S8x128x1024.Idx → EReal) (q : ℕ) (w : S1x128x1024.Idx → EReal) (b : Fin 8) (hb : b.val = q)
    (r : Fin 128) (k : Fin 1024) : put x ![q, 0, 0] S1x128x1024.size w (ix3 b r k) = w (ix3 0 r k) := by
  subst hb
  have hm : ∀ a : Fin 3, (![b.val, 0, 0] : Fin 3 → ℕ) a ≤ ((ix3 b r k : S8x128x1024.Idx) a).val
      ∧ ((ix3 b r k : S8x128x1024.Idx) a).val < (![b.val, 0, 0] : Fin 3 → ℕ) a + S1x128x1024.size a := fun a =>
    match a with
    | ⟨0, _⟩ => ⟨le_refl b.val, Nat.lt_succ_self b.val⟩
    | ⟨1, _⟩ => ⟨Nat.zero_le _, (by show r.val < 0 + 128; omega)⟩
    | ⟨2, _⟩ => ⟨Nat.zero_le _, (by show k.val < 0 + 1024; omega)⟩
  refine (dif_pos hm).trans (congrArg w (funext fun a => Fin.ext ?_))
  match a with
  | ⟨0, _⟩ => show b.val - b.val = 0; omega
  | ⟨1, _⟩ => rfl
  | ⟨2, _⟩ => rfl

/-- A put of one block, read at another. -/
theorem put_block_other (x : S8x128x1024.Idx → EReal) (q : ℕ) (w : S1x128x1024.Idx → EReal) (b : Fin 8) (hb : b.val ≠ q)
    (r : Fin 128) (k : Fin 1024) : put x ![q, 0, 0] S1x128x1024.size w (ix3 b r k) = x (ix3 b r k) :=
  dif_neg fun hm => hb (by
    have h0 := hm 0
    have h1 : q ≤ b.val := h0.1
    have h2 : b.val < q + 1 := h0.2
    omega)

section Stored

variable (w : Vec Ideal S128x1024 .f32) (r : Fin 128) (k : Fin 1024)

theorem stored_5 : k0_pay5 w (ix3 0 r k) = w (ix2 r k) := by pointwise [k0_pay5]
theorem stored_6 : k0_pay6 w (ix3 0 r k) = w (ix2 r k) := by pointwise [k0_pay6]
theorem stored_7 : k0_pay7 w (ix3 0 r k) = w (ix2 r k) := by pointwise [k0_pay7]
theorem stored_8 : k0_pay8 w (ix3 0 r k) = w (ix2 r k) := by pointwise [k0_pay8]
theorem stored_9 : k0_pay9 w (ix3 0 r k) = w (ix2 r k) := by pointwise [k0_pay9]
theorem stored_3 : k0_pay3 w (ix3 0 r k) = w (ix2 r k) := by pointwise [k0_pay3]
theorem stored_4 : k0_pay4 w (ix3 0 r k) = w (ix2 r k) := by pointwise [k0_pay4]
theorem stored_2 : k0_pay2 (k0_pay10 w) (ix3 0 r k) = w (ix2 r k) := by pointwise [k0_pay2, k0_pay10]

end Stored

/-- The eight blocks are the accumulator's rows, block `b` from `b % 4 * 256 + b / 4 * 128` on. -/
theorem slabs_apply (acc : Vec Ideal S1024x1024 .f32) (old : Vec Ideal S8x128x1024 .bf16) (b : Fin 8) (r : Fin 128) (k : Fin 1024) :
    slabs acc old (ix3 b r k) = acc (ix2 ⟨b.val % 4 * 256 + b.val / 4 * 128 + r.val, by omega⟩ k) := by
  have hc : ∀ f g : Fin 1024, f.val = g.val → acc (ix2 f k) = acc (ix2 g k) := fun f g h => by rw [Fin.ext h]
  unfold slabs slabs8
  by_cases h7 : b.val = 7
  · refine (put_block_same _ 7 _ b h7 r k).trans ((stored_4 _ r k).trans ((win_rows acc 896 (by decide) _ r k).trans ?_))
    exact hc _ _ (by dsimp only; omega)
  refine (put_block_other _ 7 _ b h7 r k).trans ?_
  by_cases h3 : b.val = 3
  · refine (put_block_same _ 3 _ b h3 r k).trans ((stored_3 _ r k).trans ((win_rows acc 768 (by decide) _ r k).trans ?_))
    exact hc _ _ (by dsimp only; omega)
  refine (put_block_other _ 3 _ b h3 r k).trans ?_
  by_cases h6 : b.val = 6
  · refine (put_block_same _ 6 _ b h6 r k).trans ((stored_2 _ r k).trans ((win_rows acc 640 (by decide) _ r k).trans ?_))
    exact hc _ _ (by dsimp only; omega)
  refine (put_block_other _ 6 _ b h6 r k).trans ?_
  by_cases h2 : b.val = 2
  · refine (put_block_same _ 2 _ b h2 r k).trans ((stored_9 _ r k).trans ((win_rows acc 512 (by decide) _ r k).trans ?_))
    exact hc _ _ (by dsimp only; omega)
  refine (put_block_other _ 2 _ b h2 r k).trans ?_
  by_cases h5 : b.val = 5
  · refine (put_block_same _ 5 _ b h5 r k).trans ((stored_8 _ r k).trans ((win_rows acc 384 (by decide) _ r k).trans ?_))
    exact hc _ _ (by dsimp only; omega)
  refine (put_block_other _ 5 _ b h5 r k).trans ?_
  by_cases h1 : b.val = 1
  · refine (put_block_same _ 1 _ b h1 r k).trans ((stored_7 _ r k).trans ((win_rows acc 256 (by decide) _ r k).trans ?_))
    exact hc _ _ (by dsimp only; omega)
  refine (put_block_other _ 1 _ b h1 r k).trans ?_
  by_cases h4 : b.val = 4
  · refine (put_block_same _ 4 _ b h4 r k).trans ((stored_6 _ r k).trans ((win_rows acc 128 (by decide) _ r k).trans ?_))
    exact hc _ _ (by dsimp only; omega)
  refine (put_block_other _ 4 _ b h4 r k).trans ?_
  by_cases h0 : b.val = 0
  · refine (put_block_same _ 0 _ b h0 r k).trans ((stored_5 _ r k).trans ((win_rows acc 0 (by decide) _ r k).trans ?_))
    exact hc _ _ (by dsimp only; omega)
  exfalso
  omega

end Cert.Mix

end
-- ==== Proof.RefRead.lean ====
/- The reference's gradients read at an index: the convolution's transposes as sums over the rows that remain, the down
   weight's gradient at its slab. -/
module

public import proofs.«01_k».proof.Proof.Gen.ReferenceIdeal.Read
public import Idealize.ShloMosaic.Lib.Pointwise

@[expose] public section

set_option maxRecDepth 16384

noncomputable section

namespace Cert.Act

open Cert.ReferenceIdeal Cert.ReferenceIdeal.Gen Cert.ReferenceIdeal.Read
open Idealize.ShloMosaic Idealize.ShloMosaic.TcCoe
open Idealize.ShloMosaic.Pointwise

variable (x0 : FVec Ideal S4096x1024 .f32) (x1 x2 : FVec Ideal S1024x2816 .f32) (x3 : FVec Ideal S3x2816 .f32) (x4 : FVec Ideal S2816 .f32)
  (x5 : FVec Ideal S2816x1024 .f32) (x6 : FVec Ideal S4096x1024 .f32)

/-- The gradient of the convolution's output, by row number, zero past the last row. -/
def rz (f : Fin 2816) (s : ℕ) : EReal := if h : s < 4096 then val_main_v60 (F := Ideal) x0 x1 x2 x3 x4 x5 x6 (ix2 ⟨s, h⟩ f) else 0

/-- The last tap's transpose: the gradient at its own row. -/
theorem tap2 (f : Fin 2816) (s : Fin 4096) : val_main_v67 (F := Ideal) x0 x1 x2 x3 x4 x5 x6 (ix2 ⟨s.val + 2, by omega⟩ f)
    = x3 (ix2 2 f) * rz x0 x1 x2 x3 x4 x5 x6 f s.val := by
  unfold val_main_v67 val_main_v62 rz
  generalize val_main_v60 (F := Ideal) x0 x1 x2 x3 x4 x5 x6 = y
  pointwise [val_main_v61, val_main_v24, val_main_v22, val_main_v21]
  rw [dif_pos (show s.val + 2 - 2 < 4096 by omega)]
  rfl

/-- The middle tap's: the gradient one row on. -/
theorem tap1 (f : Fin 2816) (s : Fin 4096) : val_main_v76 (F := Ideal) x0 x1 x2 x3 x4 x5 x6 (ix2 ⟨s.val + 2, by omega⟩ f)
    = x3 (ix2 1 f) * rz x0 x1 x2 x3 x4 x5 x6 f (s.val + 1) := by
  unfold val_main_v76 val_main_v71 rz
  generalize val_main_v60 (F := Ideal) x0 x1 x2 x3 x4 x5 x6 = y
  pointwise [val_main_v70, val_main_v17, val_main_v15, val_main_v14, val_main_cst_13]
  by_cases h : s.val + 1 < 4096
  · rw [dif_pos (show s.val + 2 - 1 < 4096 by omega), dif_pos h]; rfl
  · rw [dif_neg (show ¬s.val + 2 - 1 < 4096 by omega), dif_neg h, mul_zero]

/-- The first tap's: the gradient two rows on. -/
theorem tap0 (f : Fin 2816) (s : Fin 4096) : val_main_v90 (F := Ideal) x0 x1 x2 x3 x4 x5 x6 (ix2 ⟨s.val + 2, by omega⟩ f)
    = x3 (ix2 0 f) * rz x0 x1 x2 x3 x4 x5 x6 f (s.val + 2) := by
  unfold val_main_v90 val_main_v85 rz
  generalize val_main_v60 (F := Ideal) x0 x1 x2 x3 x4 x5 x6 = y
  pointwise [val_main_v84, val_main_v8, val_main_v6, val_main_v5, val_main_cst_19]
  by_cases h : s.val + 2 < 4096
  · rw [dif_pos (show s.val + 2 < 4096 by omega), dif_pos h]
  · rw [dif_neg (show ¬s.val + 2 < 4096 by omega), dif_neg h, mul_zero]

/-- The gradient of the convolution's input. -/
theorem ap_read (s : Fin 4096) (f : Fin 2816) : val_main_v103 (F := Ideal) x0 x1 x2 x3 x4 x5 x6 (ix2 s f)
    = x3 (ix2 2 f) * rz x0 x1 x2 x3 x4 x5 x6 f s.val + x3 (ix2 1 f) * rz x0 x1 x2 x3 x4 x5 x6 f (s.val + 1)
      + x3 (ix2 0 f) * rz x0 x1 x2 x3 x4 x5 x6 f (s.val + 2) := by
  rw [← tap2, ← tap1, ← tap0]
  unfold val_main_v103 val_main_v96 val_main_v91 val_main_v77
  generalize val_main_v67 (F := Ideal) x0 x1 x2 x3 x4 x5 x6 = y0
  generalize val_main_v76 (F := Ideal) x0 x1 x2 x3 x4 x5 x6 = y1
  generalize val_main_v90 (F := Ideal) x0 x1 x2 x3 x4 x5 x6 = y2
  pointwise []
  simp only [Nat.add_comm 2]

/-- The convolution's input, two rows, one row, and no row late. -/
theorem shift0 (f : Fin 2816) (s : Fin 4096) : val_main_v7 (F := Ideal) x0 x1 (ix2 s f)
    = if h : s.val < 2 then 0 else val_main_v0 (F := Ideal) x0 x1 (ix2 ⟨s.val - 2, by omega⟩ f) := by
  unfold val_main_v7 val_main_v3
  generalize val_main_v0 (F := Ideal) x0 x1 = y
  pointwise [val_main_v2, val_main_cst]
theorem shift1 (f : Fin 2816) (s : Fin 4096) : val_main_v16 (F := Ideal) x0 x1 (ix2 s f)
    = if h : s.val < 1 then 0 else val_main_v0 (F := Ideal) x0 x1 (ix2 ⟨s.val - 1, by omega⟩ f) := by
  unfold val_main_v16 val_main_v3
  generalize val_main_v0 (F := Ideal) x0 x1 = y
  pointwise [val_main_v2, val_main_cst]
  by_cases h : s.val < 1
  · rw [dif_pos (show 1 + s.val < 2 by omega), dif_pos h]
  · rw [dif_neg (show ¬1 + s.val < 2 by omega), dif_neg h]
    exact congrArg (fun x => y (ix2 x f)) (Fin.ext (by show 1 + s.val - 2 = s.val - 1; omega))
theorem shift2 (f : Fin 2816) (s : Fin 4096) : val_main_v23 (F := Ideal) x0 x1 (ix2 s f)
    = val_main_v0 (F := Ideal) x0 x1 (ix2 s f) := by
  unfold val_main_v23 val_main_v3
  generalize val_main_v0 (F := Ideal) x0 x1 = y
  pointwise [val_main_v2, val_main_cst]

/-- The gradient of the linear factor. -/
theorem bl_read (s : Fin 4096) (f : Fin 2816) : val_main_v104 (F := Ideal) x0 x1 x3 x4 x5 x6 (ix2 s f)
    = val_main_v44 (F := Ideal) x0 x1 x3 x4 (ix2 s f) * ∑ k : Fin 1024, x6 (ix2 s k) * x5 (ix2 f k) := by
  unfold val_main_v104 val_main_v50 val_main_v49
  generalize val_main_v44 (F := Ideal) x0 x1 x3 x4 = y
  pointwise []

/-- The down weight's gradient. -/
theorem gw_read (b : Fin 8) (r : Fin 352) (k : Fin 1024) : val_main_v105 (F := Ideal) x0 x1 x2 x3 x4 x6 (ix3 b r k)
    = ∑ s : Fin 4096, x6 (ix2 s k) * val_main_v45 (F := Ideal) x0 x1 x2 x3 x4 (ix2 s ⟨b.val % 4 * 704 + b.val / 4 * 352 + r.val, by omega⟩) := by
  unfold val_main_v105 val_main_v99 val_main_v98 val_main_v97 val_main_v48 val_main_v47
  generalize val_main_v45 (F := Ideal) x0 x1 x2 x3 x4 = y
  pointwise []

theorem sum2 (f : Fin 2816) : val_main_v66 (F := Ideal) x0 x1 x2 x3 x4 x5 x6 (ix1 f)
    = ∑ s : Fin 4096, val_main_v60 (F := Ideal) x0 x1 x2 x3 x4 x5 x6 (ix2 s f) * val_main_v23 (F := Ideal) x0 x1 (ix2 s f) := by
  unfold val_main_v66 val_main_v65 val_main_v64 val_main_v63
  generalize val_main_v60 (F := Ideal) x0 x1 x2 x3 x4 x5 x6 = y
  generalize val_main_v23 (F := Ideal) x0 x1 = z
  pointwise [val_main_cst_8, val_main_cst_7]
  rw [Fin.sum_univ_one]
theorem sum1 (f : Fin 2816) : val_main_v75 (F := Ideal) x0 x1 x2 x3 x4 x5 x6 (ix1 f)
    = ∑ s : Fin 4096, val_main_v60 (F := Ideal) x0 x1 x2 x3 x4 x5 x6 (ix2 s f) * val_main_v16 (F := Ideal) x0 x1 (ix2 s f) := by
  unfold val_main_v75 val_main_v74 val_main_v73 val_main_v72
  generalize val_main_v60 (F := Ideal) x0 x1 x2 x3 x4 x5 x6 = y
  generalize val_main_v16 (F := Ideal) x0 x1 = z
  pointwise [val_main_cst_12, val_main_cst_11]
  rw [Fin.sum_univ_one]
theorem sum0 (f : Fin 2816) : val_main_v89 (F := Ideal) x0 x1 x2 x3 x4 x5 x6 (ix1 f)
    = ∑ s : Fin 4096, val_main_v60 (F := Ideal) x0 x1 x2 x3 x4 x5 x6 (ix2 s f) * val_main_v7 (F := Ideal) x0 x1 (ix2 s f) := by
  unfold val_main_v89 val_main_v88 val_main_v87 val_main_v86
  generalize val_main_v60 (F := Ideal) x0 x1 x2 x3 x4 x5 x6 = y
  generalize val_main_v7 (F := Ideal) x0 x1 = z
  pointwise [val_main_cst_18, val_main_cst_17]
  rw [Fin.sum_univ_one]
theorem sumB (f : Fin 2816) : val_main_v83 (F := Ideal) x0 x1 x2 x3 x4 x5 x6 (ix1 f)
    = ∑ s : Fin 4096, val_main_v60 (F := Ideal) x0 x1 x2 x3 x4 x5 x6 (ix2 s f) := by
  unfold val_main_v83 val_main_v82 val_main_v81
  generalize val_main_v60 (F := Ideal) x0 x1 x2 x3 x4 x5 x6 = y
  pointwise [val_main_cst_16, val_main_cst_15]
  rw [Fin.sum_univ_one]

/-- The weight rows' gradients, the bias's, and rows of zeros. -/
theorem cw_read (q : Fin 8) (f : Fin 2816) : val_main_v102 (F := Ideal) x0 x1 x2 x3 x4 x5 x6 (ix2 q f)
    = if q.val = 0 then val_main_v89 (F := Ideal) x0 x1 x2 x3 x4 x5 x6 (ix1 f)
      else if q.val = 1 then val_main_v75 (F := Ideal) x0 x1 x2 x3 x4 x5 x6 (ix1 f)
      else if q.val = 2 then val_main_v66 (F := Ideal) x0 x1 x2 x3 x4 x5 x6 (ix1 f)
      else if q.val = 3 then val_main_v83 (F := Ideal) x0 x1 x2 x3 x4 x5 x6 (ix1 f) else 0 := by
  unfold val_main_v102 val_main_v94 val_main_v80 val_main_v69 val_main_v79 val_main_v93 val_main_v68 val_main_v78 val_main_v92 val_main_v100
  generalize val_main_v89 (F := Ideal) x0 x1 x2 x3 x4 x5 x6 = y0
  generalize val_main_v75 (F := Ideal) x0 x1 x2 x3 x4 x5 x6 = y1
  generalize val_main_v66 (F := Ideal) x0 x1 x2 x3 x4 x5 x6 = y2
  generalize val_main_v83 (F := Ideal) x0 x1 x2 x3 x4 x5 x6 = y3
  match q with
  | ⟨0, _⟩ => pointwise [val_main_v101, val_main_cst_21, val_main_cst_10, val_main_cst_14, val_main_cst_20]
  | ⟨1, _⟩ => pointwise [val_main_v101, val_main_cst_21, val_main_cst_10, val_main_cst_14, val_main_cst_20]
  | ⟨2, _⟩ => pointwise [val_main_v101, val_main_cst_21, val_main_cst_10, val_main_cst_14, val_main_cst_20]
  | ⟨3, _⟩ => pointwise [val_main_v101, val_main_cst_21, val_main_cst_10, val_main_cst_14, val_main_cst_20]
  | ⟨n + 4, hn⟩ =>
    pointwise [val_main_v101, val_main_cst_21, val_main_cst_10, val_main_cst_14, val_main_cst_20]
    rw [dif_neg (show ¬n + 4 < 3 by omega), dif_neg (show ¬n + 4 - 3 < 1 by omega)]

end Cert.Act

end
-- ==== Proof.StepValue.lean ====
/- One run of the kernel's body at an index, over the extended reals. -/
module

public import proofs.«01_k».proof.Proof.Step
public import Idealize.ShloMosaic.Lib.Pointwise

@[expose] public section

set_option maxRecDepth 16384

noncomputable section

namespace Cert.Act

open Cert.KernelIdeal Cert.KernelIdeal.Gen
open Idealize.ShloMosaic Idealize.ShloMosaic.TcCoe
open Idealize.ShloMosaic.Pointwise
open Idealize.ShloMosaic.VecWindow (window put)

/-- The normal distribution function, as the kernel writes it. -/
def cdfK (a : EReal) : EReal :=
  Ideal.ofBits .f32 0x3F000000#32 * (1 + Ideal.erf (a * Named.named (F := Ideal) (φ := .f32) κ "inv_sqrt2" 0x3F3504F3#32))

/-- The activation's derivative, as the kernel writes it. -/
def slopeK (a : EReal) : EReal :=
  cdfK a + a * (Ideal.exp (Ideal.ofBits .f32 0xBF000000#32 * a * a) * Named.named (F := Ideal) (φ := .f32) κ "inv_sqrt_2pi" 0x3ECC422A#32)

theorem dA_apply (dy : Vec Ideal S512x1024 .bf16) (w : Vec Ideal S1408x1024 .bf16) (a : Vec Ideal S512x1408 .f32)
    (bl : Vec Ideal S512x1408 .bf16) (r : Fin 512) (l : Fin 1408) :
    dA dy w a bl (ix2 r l) = (∑ k : Fin 1024, dy (ix2 r k) * w (ix2 l k)) * bl (ix2 r l) * slopeK (a (ix2 r l)) := by
  pointwise [dA, k0_pay15, k0_pay13, k0_pay12, k0_pay11, k0_pay10]
  rfl

theorem outBl_apply (dy : Vec Ideal S512x1024 .bf16) (w : Vec Ideal S1408x1024 .bf16) (a : Vec Ideal S512x1408 .f32)
    (r : Fin 512) (l : Fin 1408) :
    outBl dy w a (ix2 r l) = (∑ k : Fin 1024, dy (ix2 r k) * w (ix2 l k)) * (a (ix2 r l) * cdfK (a (ix2 r l))) := by
  pointwise [outBl, k0_pay14, k0_pay13, k0_pay12, k0_pay11, k0_pay10]
  rfl

/-- A window of one row of an eight-row buffer, read at a column. -/
theorem window_row (x : S8x1408.Idx → EReal) (q : ℕ) (hq : q < 8) (inb) (z : Fin 1) (l : Fin 1408) :
    window x ![q, 0] ![1, 1408] inb (ix2 z l) = x (ix2 ⟨q, hq⟩ l) := by
  refine congrArg x (funext fun a => Fin.ext ?_)
  match a with
  | ⟨0, _⟩ => show q + 1 * z.val = q; omega
  | ⟨1, _⟩ => show 0 + 1 * l.val = l.val; omega

/-- A row number compared with the last, and with the one before. -/
theorem row_cmp : ∀ r : Fin 512, IntOp.cmpi CmpIPredicate.eq (BitVec.ofNat 32 r.val) 511#32 = if r.val = 511 then 1#1 else 0#1 := by
  decide +kernel
theorem row_cmp' : ∀ r : Fin 512, IntOp.cmpi CmpIPredicate.eq (BitVec.ofNat 32 r.val) 510#32 = if r.val = 510 then 1#1 else 0#1 := by
  decide +kernel

/-- The derivative block one row up: the carried row 0 at the last row. -/
theorem up1_apply (d : FVec Ideal S512x1408 .f32) (carry : Vec Ideal S8x1408 .f32) (r : Fin 512) (l : Fin 1408) :
    up1 d carry (ix2 r l) = if h : r.val + 1 < 512 then d (ix2 ⟨r.val + 1, h⟩ l) else carry (ix2 0 l) := by
  pointwise [up1, k0_pay16, row0, rows]
  rw [window_row carry 0 (by decide), row_cmp r]
  by_cases h : r.val + 1 < 512
  · rw [dif_pos h, if_neg (by omega)]
    refine congrArg d (congrArg (fun x => ix2 x l) (Fin.ext ?_))
    show (r.val + 512 - 511) % 512 = r.val + 1
    omega
  · rw [dif_neg h, if_pos (by omega)]; rfl

/-- The derivative block two rows up: the carried rows 0 and 1 at the last two rows. -/
theorem up2_apply (d : FVec Ideal S512x1408 .f32) (carry : Vec Ideal S8x1408 .f32) (r : Fin 512) (l : Fin 1408) :
    up2 d carry (ix2 r l) = if h : r.val + 2 < 512 then d (ix2 ⟨r.val + 2, h⟩ l)
      else if r.val = 510 then carry (ix2 0 l) else carry (ix2 1 l) := by
  pointwise [up2, k0_pay17, row0, row1, rows]
  rw [window_row carry 0 (by decide), window_row carry 1 (by decide), row_cmp r, row_cmp' r]
  by_cases h : r.val + 2 < 512
  · rw [dif_pos h, if_neg (by omega), if_neg (by omega)]
    refine congrArg d (congrArg (fun x => ix2 x l) (Fin.ext ?_))
    show (r.val + 512 - 510) % 512 = r.val + 2
    omega
  · rw [dif_neg h]
    by_cases h' : r.val = 510
    · rw [if_pos h', if_pos h']; rfl
    · rw [if_neg h', if_neg h', if_pos (show r.val = 511 by omega)]; rfl

theorem outAp_apply (d : FVec Ideal S512x1408 .f32) (carry cw : Vec Ideal S8x1408 .f32) (r : Fin 512) (l : Fin 1408) :
    outAp d carry cw (ix2 r l) = cw (ix2 2 l) * d (ix2 r l) + cw (ix2 1 l) * up1 d carry (ix2 r l)
      + cw (ix2 0 l) * up2 d carry (ix2 r l) := by
  pointwise [outAp, k0_pay24, row0, row1, row2]
  rw [window_row cw 0 (by decide), window_row cw 1 (by decide), window_row cw 2 (by decide)]; rfl

theorem outCarry_apply (d : FVec Ideal S512x1408 .f32) (r : Fin 8) (l : Fin 1408) :
    outCarry d (ix2 r l) = d (ix2 ⟨r.val, by omega⟩ l) := by
  pointwise [outCarry, k0_pay18]

theorem outAcc_apply (dy : Vec Ideal S512x1024 .bf16) (h : Vec Ideal S512x1408 .bf16) (old : Vec Ideal S1408x1024 .f32)
    (l : Fin 1408) (k : Fin 1024) :
    outAcc dy h old (ix2 l k) = old (ix2 l k) + ∑ x : Fin 512, h (ix2 x l) * dy (ix2 x k) := by
  pointwise [outAcc, k0_pay1, k0_pay10, k0_pay25]

theorem zero_r (r : Fin 8) (l : Fin 1408) : k0_pay7 (F := Ideal) (ix2 r l) = 0 := by
  pointwise [k0_pay7]
theorem zero_w (l : Fin 1408) (k : Fin 1024) : k0_pay8 (F := Ideal) (ix2 l k) = 0 := by
  pointwise [k0_pay8]
theorem zero_c (r : Fin 8) (l : Fin 1408) : k0_pay9 (F := Ideal) (ix2 r l) = 0 := by
  pointwise [k0_pay9]

/-- A put of one row, read at that row. -/
theorem put_row_same (x : S8x1408.Idx → EReal) (q : ℕ) (w : S1x1408.Idx → EReal) (p : Fin 8) (hp : p.val = q) (l : Fin 1408) :
    put x ![q, 0] S1x1408.size w (ix2 p l) = w (ix2 0 l) := by
  subst hp
  have hm : ∀ a : Fin 2, (![p.val, 0] : Fin 2 → ℕ) a ≤ ((ix2 p l : S8x1408.Idx) a).val
      ∧ ((ix2 p l : S8x1408.Idx) a).val < (![p.val, 0] : Fin 2 → ℕ) a + S1x1408.size a := fun a =>
    match a with
    | ⟨0, _⟩ => ⟨le_refl p.val, Nat.lt_succ_self p.val⟩
    | ⟨1, _⟩ => ⟨Nat.zero_le _, (by show l.val < 0 + 1408; omega)⟩
  refine (dif_pos hm).trans (congrArg w (funext fun a => Fin.ext ?_))
  match a with
  | ⟨0, _⟩ => show p.val - p.val = 0; omega
  | ⟨1, _⟩ => show l.val - 0 = l.val; omega

/-- A put of one row, read at another row. -/
theorem put_row_other (x : S8x1408.Idx → EReal) (q : ℕ) (w : S1x1408.Idx → EReal) (p : Fin 8) (hp : p.val ≠ q) (l : Fin 1408) :
    put x ![q, 0] S1x1408.size w (ix2 p l) = x (ix2 p l) :=
  dif_neg fun hm => hp (by
    have h0 := hm 0
    have h1 : q ≤ p.val := h0.1
    have h2 : p.val < q + 1 := h0.2
    omega)

variable (d : FVec Ideal S512x1408 .f32) (ap : Vec Ideal S512x1408 .bf16) (carry old : Vec Ideal S8x1408 .f32) (l : Fin 1408)

theorem pay20_apply : k0_pay20 d (row3 old) (ix2 0 l) = old (ix2 3 l) + ∑ x : Fin 512, d (ix2 x l) := by
  pointwise [k0_pay20, row3]
  rw [window_row old 3 (by decide)]; rfl
theorem pay21_apply : k0_pay21 d rows (row0 carry) (row1 carry) ap (row0 old) (ix2 0 l)
    = old (ix2 0 l) + ∑ x : Fin 512, ap (ix2 x l) * up2 d carry (ix2 x l) := by
  rw [show k0_pay21 d rows (row0 carry) (row1 carry) ap (row0 old) = k0_pay22 (up2 d carry) (k0_pay19 ap) (row0 old) from rfl]
  pointwise [k0_pay22, k0_pay19, row0]
  rw [window_row old 0 (by decide)]; rfl
theorem pay22_apply : k0_pay22 (up1 d carry) (k0_pay19 ap) (row1 old) (ix2 0 l)
    = old (ix2 1 l) + ∑ x : Fin 512, ap (ix2 x l) * up1 d carry (ix2 x l) := by
  pointwise [k0_pay22, k0_pay19, row1]
  rw [window_row old 1 (by decide)]; rfl
theorem pay23_apply : k0_pay23 d (k0_pay19 ap) (row2 old) (ix2 0 l)
    = old (ix2 2 l) + ∑ x : Fin 512, ap (ix2 x l) * d (ix2 x l) := by
  pointwise [k0_pay23, k0_pay19, row2]
  rw [window_row old 2 (by decide)]; rfl

theorem outCw_3 : outCw d ap carry old (ix2 3 l) = old (ix2 3 l) + ∑ x : Fin 512, d (ix2 x l) := by
  unfold outCw
  rw [put_row_other _ _ _ _ (by decide), put_row_other _ _ _ _ (by decide), put_row_other _ _ _ _ (by decide), put_row_same _ _ _ _ (by decide)]
  exact pay20_apply d old l
theorem outCw_0 : outCw d ap carry old (ix2 0 l) = old (ix2 0 l) + ∑ x : Fin 512, ap (ix2 x l) * up2 d carry (ix2 x l) := by
  unfold outCw
  rw [put_row_other _ _ _ _ (by decide), put_row_other _ _ _ _ (by decide), put_row_same _ _ _ _ (by decide)]
  exact pay21_apply d ap carry old l
theorem outCw_1 : outCw d ap carry old (ix2 1 l) = old (ix2 1 l) + ∑ x : Fin 512, ap (ix2 x l) * up1 d carry (ix2 x l) := by
  unfold outCw
  rw [put_row_other _ _ _ _ (by decide), put_row_same _ _ _ _ (by decide)]
  exact pay22_apply d ap carry old l
theorem outCw_2 : outCw d ap carry old (ix2 2 l) = old (ix2 2 l) + ∑ x : Fin 512, ap (ix2 x l) * d (ix2 x l) := by
  unfold outCw
  rw [put_row_same _ _ _ _ (by decide)]
  exact pay23_apply d ap old l
theorem outCw_rest (p : Fin 8) (hp : 4 ≤ p.val) : outCw d ap carry old (ix2 p l) = old (ix2 p l) := by
  unfold outCw
  rw [put_row_other _ _ _ _ (by omega), put_row_other _ _ _ _ (by omega), put_row_other _ _ _ _ (by omega), put_row_other _ _ _ _ (by omega)]

end Cert.Act

end
-- ==== Proof.Scalar.lean ====
/- The activation's derivative: the reference's, written with the complementary error function's derivative, is the kernel's,
   the distribution function plus the argument times the density. -/
module

public import proofs.«01_k».proof.Proof.StepValue

@[expose] public section

noncomputable section

namespace Cert.Act

open Cert.KernelIdeal
open Idealize.ShloMosaic

theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_neg_two : Ideal.ofBits .f32 0xC0000000#32 = ((-2 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_inf : Ideal.ofBits .f32 0x7F800000#32 = ⊤ := by
  simp [Ideal.ofBits, Ideal.ieee]

theorem named_sqrt2 : Named.named (F := Ideal) (φ := .f32) κ "inv_sqrt2" 0x3F3504F3#32 = (((Real.sqrt 2)⁻¹ : ℝ) : EReal) :=
  IdealRules.named_const.ideal_named_scalar _ _ _ _ rfl
theorem named_2pi : Named.named (F := Ideal) (φ := .f32) κ "inv_sqrt_2pi" 0x3ECC422A#32 = (((Real.sqrt (2 * Real.pi))⁻¹ : ℝ) : EReal) :=
  IdealRules.named_const.ideal_named_scalar _ _ _ _ rfl

/-- The square root of one half. -/
theorem sqrt_half : Ideal.sqrt (Ideal.ofBits .f32 0x3F000000#32) = (((Real.sqrt 2)⁻¹ : ℝ) : EReal) := by
  rw [lit_half, Ideal.sqrt_coe, if_neg (by norm_num), one_div, Real.sqrt_inv]

/-- Minus two over the square root of pi. -/
theorem neg_two_div : Ideal.div (Ideal.ofBits .f32 0xC0000000#32) (Ideal.sqrt (Ideal.ofBits .f32 0x40800000#32 * Ideal.atan 1))
    = ((-(2 / Real.sqrt Real.pi) : ℝ) : EReal) := by
  have h : Real.sqrt Real.pi ≠ 0 := (Real.sqrt_pos.mpr Real.pi_pos).ne'
  have e : (1 : EReal) = ((1 : ℝ) : EReal) := rfl
  rw [lit_neg_two, lit_four, e, Ideal.atan_coe, Real.arctan_one, ← EReal.coe_mul,
    show (4 : ℝ) * (Real.pi / 4) = Real.pi by ring, Ideal.sqrt_coe, if_neg (not_lt.mpr Real.pi_pos.le)]
  rw [Ideal.div_coe h, ← EReal.coe_mul]
  exact congrArg _ (by ring)

/-- The activation as the reference writes it is the kernel's. -/
theorem act_eq (a : EReal) : Ideal.ofBits .f32 0x3F000000#32 * a * Ideal.erfc (-a * Ideal.sqrt (Ideal.ofBits .f32 0x3F000000#32))
    = a * cdfK a := by
  rw [cdfK, sqrt_half, named_sqrt2, EReal.neg_mul, Ideal.erfc_neg, mul_comm (Ideal.ofBits .f32 0x3F000000#32) a, mul_assoc]

/-- The error function of a real. -/
theorem erf_real (x : ℝ) : ∃ y : ℝ, Ideal.erf (x : EReal) = (y : EReal) := ⟨_, Ideal.erf_coe x⟩

/-- The derivative times a finite number: the reference's is the kernel's. -/
theorem slope_eq (a ct : ℝ) :
    -(Ideal.div (Ideal.ofBits .f32 0xC0000000#32) (Ideal.sqrt (Ideal.ofBits .f32 0x40800000#32 * Ideal.atan 1))
          * Ideal.exp (-(-(a : EReal) * Ideal.sqrt (Ideal.ofBits .f32 0x3F000000#32) * (-(a : EReal) * Ideal.sqrt (Ideal.ofBits .f32 0x3F000000#32))))
        * (Ideal.ofBits .f32 0x3F000000#32 * (a : EReal) * (ct : EReal)) * Ideal.sqrt (Ideal.ofBits .f32 0x3F000000#32))
      + Ideal.ofBits .f32 0x3F000000#32 * ((ct : EReal) * Ideal.erfc (-(a : EReal) * Ideal.sqrt (Ideal.ofBits .f32 0x3F000000#32)))
    = (ct : EReal) * slopeK (a : EReal) := by
  have e1 : (1 : EReal) = ((1 : ℝ) : EReal) := rfl
  rw [neg_two_div, sqrt_half, EReal.neg_mul, Ideal.erfc_neg, slopeK, cdfK, named_sqrt2, named_2pi, lit_half, lit_neg_half]
  obtain ⟨y, hy⟩ := erf_real (a * (Real.sqrt 2)⁻¹)
  rw [← EReal.coe_mul, hy, e1, ← EReal.coe_neg, ← EReal.coe_mul, ← EReal.coe_neg, Ideal.exp_coe,
    show ((-(1 / 2) : ℝ) : EReal) * (a : EReal) * (a : EReal) = ((-(1 / 2) * a * a : ℝ) : EReal) by push_cast; rfl, Ideal.exp_coe]
  norm_cast
  have h2 : Real.sqrt 2 ≠ 0 := (Real.sqrt_pos.mpr (by norm_num)).ne'
  have hp : Real.sqrt Real.pi ≠ 0 := (Real.sqrt_pos.mpr Real.pi_pos).ne'
  have hs : (Real.sqrt 2)⁻¹ * (Real.sqrt 2)⁻¹ = 1 / 2 := by
    rw [← mul_inv, Real.mul_self_sqrt (by norm_num)]; norm_num
  have ex : -(-(a * (Real.sqrt 2)⁻¹) * -(a * (Real.sqrt 2)⁻¹)) = -(1 / 2) * a * a := by
    rw [show -(-(a * (Real.sqrt 2)⁻¹) * -(a * (Real.sqrt 2)⁻¹)) = -(((Real.sqrt 2)⁻¹ * (Real.sqrt 2)⁻¹) * a * a) by ring, hs]; ring
  rw [ex, Real.sqrt_mul (by norm_num)]
  generalize Real.exp (-(1 / 2) * a * a) = E
  field_simp
  ring

end Cert.Act

end
-- ==== Proof.RefValue.lean ====
/- The reference's forward values and the gradient of the convolution's output, read at an index. -/
module

public import proofs.«01_k».proof.Proof.RefRead
public import proofs.«01_k».proof.Proof.Scalar

@[expose] public section

set_option maxRecDepth 16384

noncomputable section

namespace Cert.Act

open Cert.ReferenceIdeal Cert.ReferenceIdeal.Gen Cert.ReferenceIdeal.Read
open Idealize.ShloMosaic Idealize.ShloMosaic.TcCoe
open Idealize.ShloMosaic.Pointwise

variable (x0 : FVec Ideal S4096x1024 .f32) (x1 x2 : FVec Ideal S1024x2816 .f32) (x3 : FVec Ideal S3x2816 .f32) (x4 : FVec Ideal S2816 .f32)
  (x5 : FVec Ideal S2816x1024 .f32) (x6 : FVec Ideal S4096x1024 .f32)

theorem ap_at (s : Fin 4096) (f : Fin 2816) : val_main_v0 (F := Ideal) x0 x1 (ix2 s f) = ∑ k : Fin 1024, x0 (ix2 s k) * x1 (ix2 k f) := by
  unfold val_main_v0
  pointwise []
theorem bl_at (s : Fin 4096) (f : Fin 2816) : val_main_v1 (F := Ideal) x0 x2 (ix2 s f) = ∑ k : Fin 1024, x0 (ix2 s k) * x2 (ix2 k f) := by
  unfold val_main_v1
  pointwise []
theorem ct_at (s : Fin 4096) (f : Fin 2816) : val_main_v51 (F := Ideal) x0 x2 x5 x6 (ix2 s f)
    = (∑ k : Fin 1024, x6 (ix2 s k) * x5 (ix2 f k)) * val_main_v1 (F := Ideal) x0 x2 (ix2 s f) := by
  unfold val_main_v51 val_main_v49
  generalize val_main_v1 (F := Ideal) x0 x2 = y
  pointwise []
theorem a_at (s : Fin 4096) (f : Fin 2816) : val_main_v27 (F := Ideal) x0 x1 x3 x4 (ix2 s f)
    = x4 (ix1 f) + x3 (ix2 0 f) * val_main_v7 (F := Ideal) x0 x1 (ix2 s f) + x3 (ix2 1 f) * val_main_v16 (F := Ideal) x0 x1 (ix2 s f)
      + x3 (ix2 2 f) * val_main_v23 (F := Ideal) x0 x1 (ix2 s f) := by
  unfold val_main_v27 val_main_v20 val_main_v13 val_main_v26 val_main_v19 val_main_v10
  generalize val_main_v23 (F := Ideal) x0 x1 = u
  generalize val_main_v16 (F := Ideal) x0 x1 = v
  generalize val_main_v7 (F := Ideal) x0 x1 = w
  pointwise [val_main_v25, val_main_v24, val_main_v22, val_main_v21, val_main_v18, val_main_v17, val_main_v15, val_main_v14, val_main_v9, val_main_v8, val_main_v6, val_main_v5, val_main_v12, val_main_v11]

/-- The activation. -/
theorem act_at (s : Fin 4096) (f : Fin 2816) : val_main_v44 (F := Ideal) x0 x1 x3 x4 (ix2 s f)
    = val_main_v27 (F := Ideal) x0 x1 x3 x4 (ix2 s f) * cdfK (val_main_v27 (F := Ideal) x0 x1 x3 x4 (ix2 s f)) := by
  rw [← act_eq]
  unfold val_main_v44 val_main_v36 val_main_v33 val_main_v30 val_main_v29
  generalize val_main_v27 (F := Ideal) x0 x1 x3 x4 = a
  pointwise [val_main_v32, val_main_v31, val_main_v28, val_main_cst_1, val_main_cst_2]

/-- The gradient of the convolution's output, where its operands are finite. -/
theorem da_at (s : Fin 4096) (f : Fin 2816) (a ct : ℝ) (ha : val_main_v27 (F := Ideal) x0 x1 x3 x4 (ix2 s f) = (a : EReal))
    (hc : val_main_v51 (F := Ideal) x0 x2 x5 x6 (ix2 s f) = (ct : EReal)) :
    val_main_v60 (F := Ideal) x0 x1 x2 x3 x4 x5 x6 (ix2 s f) = (ct : EReal) * slopeK (a : EReal) := by
  rw [← slope_eq, ← ha, ← hc]
  unfold val_main_v60 val_main_v59 val_main_v57 val_main_v56 val_main_v54 val_main_v53 val_main_v52 val_main_v43 val_main_v41 val_main_v40 val_main_v39 val_main_v36 val_main_v33 val_main_v30 val_main_v29
  generalize val_main_v27 (F := Ideal) x0 x1 x3 x4 = a
  generalize val_main_v51 (F := Ideal) x0 x2 x5 x6 = ct
  pointwise [val_main_v58, val_main_v55, val_main_v32, val_main_v31, val_main_v42, val_main_v38, val_main_v37, val_main_v35, val_main_v34, val_main_v28, val_main_cst_1, val_main_cst_2, val_main_cst_3, val_main_cst_4, val_main_cst_5, val_main_cst_6]

end Cert.Act

end
-- ==== Proof.Finite.lean ====
/- Finite arguments: what the precondition says of each element, and that the forward values are then finite too. -/
module

public import proofs.«01_k».proof.Defs
public import proofs.«01_k».proof.Proof.RefValue
public import Idealize.ShloMosaic.Lib.ReduceAll

@[expose] public section

set_option maxRecDepth 16384

noncomputable section

namespace Cert.Act

open Idealize.ShloMosaic Idealize.ShloMosaic.TcCoe
open Idealize.ShloMosaic.Pointwise

/-- An extended real that is a real. -/
def IsReal (x : EReal) : Prop := ∃ y : ℝ, x = (y : EReal)

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.zero : IsReal 0 := ⟨0, rfl⟩
theorem IsReal.sum {ι : Type} (s : Finset ι) (f : ι → EReal) (h : ∀ i, IsReal (f i)) : IsReal (∑ i ∈ s, f i) :=
  Finset.sum_induction f IsReal (fun _ _ => IsReal.add) IsReal.zero fun i _ => h i

/-- An absolute value less than infinity is a real's. -/
theorem isReal_of_abs (x : EReal) (h : Ideal.cmp .olt (max x (-x)) ⊤ = 1#1) : IsReal x := by
  have h' : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  induction x with
  | bot => exact absurd (le_max_right (⊥ : EReal) (-⊥)) (by rw [EReal.neg_bot] at h' ⊢; exact not_le.mpr h')
  | top => exact absurd (le_max_left (⊤ : EReal) (-⊤)) (not_le.mpr h')
  | coe r => exact ⟨r, rfl⟩

/-- The index of a scalar is one. -/
instance : Subsingleton (Cert.Pre_finite.S_.Idx) := ⟨fun a b => funext fun i => i.elim0⟩

/-- "All absolute values are less than infinity", read at an element. -/
theorem all_real {s : Shape} {axes : List (Fin s.rank)} (x : FVec Ideal s .f32) (hb : Cert.Pre_finite.S_.BroadcastsInDim s (![] : Fin 0 → Fin s.rank))
    (hr : s.ReducesTo axes Cert.Pre_finite.S_) (h0 : 0 < Cert.Pre_finite.S_.numel)
    (h : Host.reduce IntOp.andi (cmpf .olt (Host.absf x) (broadcastInDim s ![] hb (constant (F := Ideal) Cert.Pre_finite.S_ .f32 0x7F800000#32)))
      (constantI Cert.Pre_finite.S_ 1 1#1) hr h0 = fun _ => 1#1) (i : s.Idx) : IsReal (x i) := by
  refine isReal_of_abs _ ?_
  rw [← lit_inf]
  exact Host.reduce_andi_all _ _ hr h0 (fun a => a.elim0) (congrFun h _) i

section Forward

open Cert.ReferenceIdeal Cert.ReferenceIdeal.Read

variable {x0 : FVec Ideal S4096x1024 .f32} {x1 x2 : FVec Ideal S1024x2816 .f32} {x3 : FVec Ideal S3x2816 .f32} {x4 : FVec Ideal S2816 .f32}
  {x5 : FVec Ideal S2816x1024 .f32} {x6 : FVec Ideal S4096x1024 .f32}
  (h0 : ∀ i, IsReal (x0 i)) (h1 : ∀ i, IsReal (x1 i)) (h2 : ∀ i, IsReal (x2 i)) (h3 : ∀ i, IsReal (x3 i)) (h4 : ∀ i, IsReal (x4 i))
  (h5 : ∀ i, IsReal (x5 i)) (h6 : ∀ i, IsReal (x6 i)) (s : Fin 4096) (f : Fin 2816)

include h0 h1 in
theorem ap_real : IsReal (val_main_v0 (F := Ideal) x0 x1 (ix2 s f)) := by
  rw [ap_at]; exact .sum _ _ fun k => (h0 _).mul (h1 _)

include h0 h1 h3 h4 in
theorem a_real : IsReal (val_main_v27 (F := Ideal) x0 x1 x3 x4 (ix2 s f)) := by
  rw [a_at, shift0, shift1, shift2]
  refine (((h4 _).add ((h3 _).mul ?_)).add ((h3 _).mul ?_)).add ((h3 _).mul (ap_real h0 h1 s f))
  · split
    · exact .zero
    · exact ap_real h0 h1 _ f
  · split
    · exact .zero
    · exact ap_real h0 h1 _ f

include h0 h2 h5 h6 in
theorem ct_real : IsReal (val_main_v51 (F := Ideal) x0 x2 x5 x6 (ix2 s f)) := by
  rw [ct_at, bl_at]
  exact (IsReal.sum _ _ fun k => (h6 _).mul (h5 _)).mul (.sum _ _ fun k => (h0 _).mul (h2 _))

end Forward

end Cert.Act

end
-- ==== Proof.Mix.Row.lean ====
/- One row of the normalisation's backward pass: the kernel's form, with the two means taken off, is the form the derivative
   of mean, variance and reciprocal root gives. Finite values. -/
module

public import proofs.«01_k».proof.Proof.Finite

@[expose] public section

noncomputable section

namespace Cert.Mix

open Idealize.ShloMosaic
open Cert.Act (IsReal)

/-- The row's length. -/
abbrev cN : EReal := Ideal.ofBits .f32 0x44800000#32
/-- The number added to the variance. -/
abbrev cE : EReal := Ideal.ofBits .f32 0x3727C5AC#32

theorem lit_n : cN = ((1024 : ℝ) : EReal) := by
  simp [Ideal.ofBits, Ideal.ieee, -EReal.coe_mul]; norm_num
theorem lit_eps : cE = ((10995116 / 2 ^ 40 : ℝ) : EReal) := by
  simp [Ideal.ofBits, Ideal.ieee, -EReal.coe_mul]; norm_num
theorem lit_alpha : Ideal.ofBits .f32 0x3F9837F0#32 = ((9975792 / 2 ^ 23 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_minus_half : Ideal.ofBits .f32 0xBF000000#32 = ((-(1 / 2) : ℝ) : EReal) := by
  simp [Ideal.ofBits, Ideal.ieee, -EReal.coe_mul]; norm_num

theorem sum_coe {ι : Type} [Fintype ι] (f : ι → ℝ) : (∑ i, ((f i : ℝ) : EReal)) = ((∑ i, f i : ℝ) : EReal) := by
  classical
  refine Finset.induction_on (Finset.univ : Finset ι) rfl fun a s ha ih => ?_
  rw [Finset.sum_insert ha, Finset.sum_insert ha, ih, EReal.coe_add]

/-- A row less its mean. -/
def cen (y : Fin 1024 → EReal) (k : Fin 1024) : EReal := y k - Ideal.div (∑ j, y j) cN
/-- The variance of a centred row, the small number added. -/
def vari (u : Fin 1024 → EReal) : EReal := Ideal.div (∑ j, u j * u j) cN + cE

/-- The kernel's form. -/
def kern (d g u : Fin 1024 → EReal) (r : EReal) (k : Fin 1024) : EReal :=
  r * ((d k * g k - Ideal.div (∑ j, d j * g j) cN) - u k * r * Ideal.div (∑ j, d j * g j * (u j * r)) cN)

/-- What the variance's share of the derivative is multiplied by. -/
def share (d g u : Fin 1024 → EReal) (r v : EReal) : EReal :=
  Ideal.div ((∑ j, u j * (d j * g j)) * (Ideal.ofBits .f32 0xBF000000#32 * Ideal.div r v)) cN

/-- The derivative's form. -/
def refn (d g u : Fin 1024 → EReal) (r v : EReal) (k : Fin 1024) : EReal :=
  d k * g k * r + share d g u r v * (Ideal.ofBits .f32 0x40000000#32 * u k)
    + Ideal.div ((∑ j, -(d j * g j * r)) + ∑ j, -(share d g u r v * (Ideal.ofBits .f32 0x40000000#32 * u j))) cN

theorem real_row (d g u : Fin 1024 → ℝ) (r v : ℝ) (hu : ∑ j, u j = 0) (hr : r * r * v = 1) (k : Fin 1024) :
    r * ((d k * g k - (∑ j, d j * g j) * (1 / 1024)) - u k * r * ((∑ j, d j * g j * (u j * r)) * (1 / 1024)))
      = d k * g k * r + (∑ j, u j * (d j * g j)) * (-(1 / 2) * (r * (1 / v))) * (1 / 1024) * (2 * u k)
        + ((∑ j, -(d j * g j * r)) + ∑ j, -((∑ j, u j * (d j * g j)) * (-(1 / 2) * (r * (1 / v))) * (1 / 1024) * (2 * u j))) * (1 / 1024) := by
  have hv : v ≠ 0 := by rintro rfl; simp at hr
  have e1 : (∑ j, d j * g j * (u j * r)) = (∑ j, u j * (d j * g j)) * r := by
    rw [Finset.sum_mul]; exact Finset.sum_congr rfl fun j _ => by ring
  have e2 : (∑ j, -(d j * g j * r)) = -((∑ j, d j * g j) * r) := by
    rw [Finset.sum_neg_distrib, Finset.sum_mul]
  rw [e1, e2]
  generalize (∑ j, u j * (d j * g j)) = P
  generalize (∑ j, d j * g j) = S
  have e3 : (∑ j, -(P * (-(1 / 2) * (r * (1 / v))) * (1 / 1024) * (2 * u j))) = 0 := by
    rw [Finset.sum_neg_distrib, ← Finset.mul_sum, ← Finset.mul_sum, hu]; ring
  rw [e3]
  have e4 : 1 / v = r * r := by field_simp; linarith
  rw [e4]
  ring

/-- The two forms agree on finite rows. -/
theorem kern_eq_refn (y d g : Fin 1024 → EReal) (hy : ∀ j, IsReal (y j)) (hd : ∀ j, IsReal (d j)) (hg : ∀ j, IsReal (g j)) (k : Fin 1024) :
    kern d g (cen y) (Ideal.rsqrt (vari (cen y))) k = refn d g (cen y) (Ideal.rsqrt (vari (cen y))) (vari (cen y)) k := by
  choose y' hy' using hy
  choose d' hd' using hd
  choose g' hg' using hg
  obtain rfl : y = fun j => ((y' j : ℝ) : EReal) := funext hy'
  obtain rfl : d = fun j => ((d' j : ℝ) : EReal) := funext hd'
  obtain rfl : g = fun j => ((g' j : ℝ) : EReal) := funext hg'
  have hn : (1024 : ℝ) ≠ 0 := by norm_num
  obtain ⟨u, hu, hu0⟩ : ∃ u : Fin 1024 → ℝ, (cen fun j => ((y' j : ℝ) : EReal)) = (fun j => ((u j : ℝ) : EReal)) ∧ ∑ j, u j = 0 := by
    refine ⟨fun j => y' j - (∑ i, y' i) * (1 / 1024), funext fun j => ?_, ?_⟩
    · show ((y' j : ℝ) : EReal) - Ideal.div (∑ i, ((y' i : ℝ) : EReal)) cN = _
      rw [lit_n, Ideal.div_coe hn, sum_coe, ← EReal.coe_mul, ← EReal.coe_sub]
    · rw [Finset.sum_sub_distrib, Finset.sum_const, Finset.card_univ, Fintype.card_fin, nsmul_eq_mul]
      push_cast; ring
  rw [hu]
  obtain ⟨v, hv, hv0⟩ : ∃ v : ℝ, vari (fun j => ((u j : ℝ) : EReal)) = ((v : ℝ) : EReal) ∧ 0 < v := by
    refine ⟨(∑ j, u j * u j) * (1 / 1024) + 10995116 / 2 ^ 40, ?_, ?_⟩
    · show Ideal.div (∑ i, ((u i : ℝ) : EReal) * ((u i : ℝ) : EReal)) cN + cE = _
      simp only [← EReal.coe_mul]
      rw [lit_n, lit_eps, Ideal.div_coe hn, sum_coe, ← EReal.coe_mul, ← EReal.coe_add]
    · have : 0 ≤ ∑ j, u j * u j := Finset.sum_nonneg fun j _ => mul_self_nonneg _
      positivity
  rw [hv, Ideal.rsqrt_coe, if_neg (not_lt.mpr hv0.le), if_neg hv0.ne']
  have hr : (Real.sqrt v)⁻¹ * (Real.sqrt v)⁻¹ * v = 1 := by
    rw [← mul_inv, Real.mul_self_sqrt hv0.le, inv_mul_cancel₀ hv0.ne']
  generalize (Real.sqrt v)⁻¹ = r at hr
  unfold kern refn share
  simp only [lit_n, lit_two, lit_minus_half, Ideal.div_coe hn, Ideal.div_coe hv0.ne', ← EReal.coe_mul, ← EReal.coe_neg, sum_coe,
    ← EReal.coe_add, ← EReal.coe_sub]
  exact congrArg _ (real_row d' g' u r v hu0 hr k)

end Cert.Mix

end
-- ==== Proof.Mix.RefRead.lean ====
/- The reference's operations, element by element. -/
module

public import proofs.«01_k».proof.Proof.Mix.Row
public import proofs.«01_k».proof.Proof.Gen.Reference3Ideal.Read
public import Idealize.ShloMosaic.Lib.Claim
public import Idealize.ShloMosaic.Lib.StableHlo.RunRead
public import Idealize.ShloMosaic.Lib.Pointwise

@[expose] public section

set_option maxRecDepth 16384
set_option maxHeartbeats 1000000

noncomputable section

namespace Cert.Mix

open Cert.Reference3Ideal
open Idealize.ShloMosaic Idealize.ShloMosaic.TcCoe
open Idealize.ShloMosaic.Pointwise
open Cert.Reference3Ideal.Read

variable (x0 : Vec Ideal S4096x1024 .f32) (x1 x2 : Vec Ideal S4096x512 .f32) (x3 : Vec Ideal S1024x1024 .f32) (x4 : Vec Ideal S1024 .f32)
  (x5 x6 : Vec Ideal S1024x2816 .f32) (x7 : Vec Ideal S4096x1024 .f32) (x8 x9 : Vec Ideal S4096x2816 .f32)

theorem v44_apply (s : Fin 4096) (k : Fin 1024) : val_main_v44 (F := Ideal) x5 x6 x7 x8 x9 (ix2 s k)
    = (∑ j : Fin 2816, x9 (ix2 s j) * x6 (ix2 k j)) + (∑ j : Fin 2816, x8 (ix2 s j) * x5 (ix2 k j))
      + Ideal.ofBits .f32 0x3F9837F0#32 * x7 (ix2 s k) := by
  unfold val_main_v44 val_main_v43 val_main_v42 val_main_v41 val_main_v40 val_main_v39 val_main_cst_9
  pointwise []

theorem v5_apply (s : Fin 4096) (k : Fin 1024) : val_main_v5 (F := Ideal) x0 x1 x2 x3 (ix2 s k)
    = Ideal.ofBits .f32 0x3F9837F0#32 * x0 (ix2 s k) + ∑ j : Fin 1024, val_main_v3 (F := Ideal) x1 x2 (ix2 s j) * x3 (ix2 j k) := by
  unfold val_main_v5 val_main_v4 val_main_v2 val_main_v1
  generalize val_main_v3 (F := Ideal) x1 x2 = R
  pointwise [val_main_cst_0]

theorem v20_apply (s : Fin 4096) (k : Fin 1024) : val_main_v20 (F := Ideal) x0 x1 x2 x3 (ix2 s k)
    = cen (fun j => val_main_v5 (F := Ideal) x0 x1 x2 x3 (ix2 s j)) k := by
  unfold val_main_v20 val_main_v19 val_main_v9 val_main_v8 val_main_v7 val_main_v6
  generalize val_main_v5 (F := Ideal) x0 x1 x2 x3 = R
  pointwise [val_main_cst_1, val_main_cst_2, cen]

theorem v11_eq : val_main_v11 (F := Ideal) x0 x1 x2 x3 = val_main_v20 (F := Ideal) x0 x1 x2 x3 := rfl

theorem v14_apply (s : Fin 4096) (k : Fin 1024) : val_main_v14 (F := Ideal) x0 x1 x2 x3 (ix2 s k)
    = Ideal.ofBits .f32 0x40000000#32 * val_main_v20 (F := Ideal) x0 x1 x2 x3 (ix2 s k) := by
  unfold val_main_v14 val_main_v13 val_main_cst_3
  rw [v11_eq]
  generalize val_main_v20 (F := Ideal) x0 x1 x2 x3 = R
  pointwise []

theorem v22_apply (s : Fin 4096) : val_main_v22 (F := Ideal) x0 x1 x2 x3 (ix2 s 0)
    = vari (fun j => val_main_v20 (F := Ideal) x0 x1 x2 x3 (ix2 s j)) := by
  unfold val_main_v22 val_main_v21 val_main_v18 val_main_v17 val_main_v16 val_main_v15 val_main_v12
  rw [v11_eq]
  generalize val_main_v20 (F := Ideal) x0 x1 x2 x3 = R
  pointwise [val_main_cst_4, val_main_cst_5, val_main_cst_6, vari]

theorem v23_apply (s : Fin 4096) : val_main_v23 (F := Ideal) x0 x1 x2 x3 (ix2 s 0)
    = Ideal.rsqrt (val_main_v22 (F := Ideal) x0 x1 x2 x3 (ix2 s 0)) := by
  unfold val_main_v23
  generalize val_main_v22 (F := Ideal) x0 x1 x2 x3 = R
  pointwise []

theorem v26_apply (s : Fin 4096) : val_main_v26 (F := Ideal) x0 x1 x2 x3 (ix2 s 0)
    = Ideal.ofBits .f32 0xBF000000#32 * Ideal.div (val_main_v23 (F := Ideal) x0 x1 x2 x3 (ix2 s 0)) (val_main_v22 (F := Ideal) x0 x1 x2 x3 (ix2 s 0)) := by
  unfold val_main_v26 val_main_v25 val_main_v24
  generalize val_main_v23 (F := Ideal) x0 x1 x2 x3 = R
  generalize val_main_v22 (F := Ideal) x0 x1 x2 x3 = R
  pointwise [val_main_cst_7]

theorem v28_apply (s : Fin 4096) (k : Fin 1024) : val_main_v28 (F := Ideal) x0 x1 x2 x3 (ix2 s k)
    = val_main_v20 (F := Ideal) x0 x1 x2 x3 (ix2 s k) * val_main_v23 (F := Ideal) x0 x1 x2 x3 (ix2 s 0) := by
  unfold val_main_v28 val_main_v27
  generalize val_main_v20 (F := Ideal) x0 x1 x2 x3 = U
  generalize val_main_v23 (F := Ideal) x0 x1 x2 x3 = R
  pointwise []

theorem v77_apply (s : Fin 4096) (k : Fin 1024) : val_main_v77 (F := Ideal) x0 x1 x2 x3 x4 x5 x6 x7 x8 x9 (ix2 s k)
    = refn (fun j => val_main_v44 (F := Ideal) x5 x6 x7 x8 x9 (ix2 s j)) (fun j => x4 (ix1 j))
        (fun j => val_main_v20 (F := Ideal) x0 x1 x2 x3 (ix2 s j)) (val_main_v23 (F := Ideal) x0 x1 x2 x3 (ix2 s 0))
        (val_main_v22 (F := Ideal) x0 x1 x2 x3 (ix2 s 0)) k := by
  have e14 := fun k => v14_apply x0 x1 x2 x3 s k
  have e26 := v26_apply x0 x1 x2 x3 s
  revert e14 e26
  unfold val_main_v77 val_main_v76 val_main_v75 val_main_v74 val_main_v72 val_main_v71 val_main_v70 val_main_v69 val_main_v68 val_main_v67 val_main_v66 val_main_v65 val_main_v64 val_main_v62 val_main_v61 val_main_v60 val_main_v59 val_main_v58 val_main_v57 val_main_v56 val_main_v55 val_main_v54 val_main_v52
  generalize val_main_v44 (F := Ideal) x5 x6 x7 x8 x9 = D
  generalize val_main_v20 (F := Ideal) x0 x1 x2 x3 = U
  generalize val_main_v14 (F := Ideal) x0 x1 x2 x3 = W
  generalize val_main_v23 (F := Ideal) x0 x1 x2 x3 = R
  generalize val_main_v22 (F := Ideal) x0 x1 x2 x3 = V
  generalize val_main_v26 (F := Ideal) x0 x1 x2 x3 = Q
  intro e14 e26
  pointwise [val_main_v51, val_main_v29, val_main_cst_14, val_main_cst_15, val_main_cst_16, val_main_cst_17, val_main_cst_18, val_main_cst_19, val_main_cst_20, val_main_v63, val_main_v73]
  have one : ∀ f : Fin 1 → EReal, (∑ x, f x) = f 0 := fun f => Fin.sum_univ_one f
  simp only [one, e14, e26]
  rfl

/-- The sum's gradient as the kernel writes it. -/
theorem v77_eq (hy : ∀ j, Cert.Act.IsReal (val_main_v5 (F := Ideal) x0 x1 x2 x3 j)) (hd : ∀ j, Cert.Act.IsReal (val_main_v44 (F := Ideal) x5 x6 x7 x8 x9 j))
    (hg : ∀ j, Cert.Act.IsReal (x4 j)) (s : Fin 4096) (k : Fin 1024) : val_main_v77 (F := Ideal) x0 x1 x2 x3 x4 x5 x6 x7 x8 x9 (ix2 s k)
    = kern (fun j => val_main_v44 (F := Ideal) x5 x6 x7 x8 x9 (ix2 s j)) (fun j => x4 (ix1 j))
        (fun j => val_main_v20 (F := Ideal) x0 x1 x2 x3 (ix2 s j)) (val_main_v23 (F := Ideal) x0 x1 x2 x3 (ix2 s 0)) k := by
  rw [v77_apply, v23_apply, v22_apply, show (fun j => val_main_v20 (F := Ideal) x0 x1 x2 x3 (ix2 s j))
    = cen (fun j => val_main_v5 (F := Ideal) x0 x1 x2 x3 (ix2 s j)) from funext fun j => v20_apply x0 x1 x2 x3 s j]
  exact (kern_eq_refn _ _ _ (fun _ => hy _) (fun _ => hd _) (fun _ => hg _) k).symm

theorem v80_apply (s : Fin 4096) (k : Fin 1024) : val_main_v80 (F := Ideal) x0 x1 x2 x3 x4 x5 x6 x7 x8 x9 (ix2 s k)
    = ∑ j : Fin 1024, val_main_v77 (F := Ideal) x0 x1 x2 x3 x4 x5 x6 x7 x8 x9 (ix2 s j) * x3 (ix2 k j) := by
  unfold val_main_v80
  generalize val_main_v77 (F := Ideal) x0 x1 x2 x3 x4 x5 x6 x7 x8 x9 = Y
  pointwise []

theorem v81_apply (s : Fin 4096) (k : Fin 512) : val_main_v81 (F := Ideal) x0 x1 x2 x3 x4 x5 x6 x7 x8 x9 (ix2 s k)
    = val_main_v80 (F := Ideal) x0 x1 x2 x3 x4 x5 x6 x7 x8 x9 (ix2 s ⟨k.val, by omega⟩) := by
  unfold val_main_v81
  generalize val_main_v80 (F := Ideal) x0 x1 x2 x3 x4 x5 x6 x7 x8 x9 = Y
  pointwise []

theorem v82_apply (s : Fin 4096) (k : Fin 512) : val_main_v82 (F := Ideal) x0 x1 x2 x3 x4 x5 x6 x7 x8 x9 (ix2 s k)
    = val_main_v80 (F := Ideal) x0 x1 x2 x3 x4 x5 x6 x7 x8 x9 (ix2 s ⟨512 + k.val, by omega⟩) := by
  unfold val_main_v82
  generalize val_main_v80 (F := Ideal) x0 x1 x2 x3 x4 x5 x6 x7 x8 x9 = Y
  pointwise []

theorem v87_apply (s : Fin 4096) (k : Fin 512) : val_main_v87 (F := Ideal) x0 x1 x2 x3 x4 x5 x6 x7 x8 x9 (ix2 s k)
    = ∑ j : Fin 64, val_main_v81 (F := Ideal) x0 x1 x2 x3 x4 x5 x6 x7 x8 x9 (ix2 s ⟨k.val / 64 * 64 + j.val, by omega⟩)
        * x1 (ix2 s ⟨k.val / 64 * 64 + j.val, by omega⟩) := by
  unfold val_main_v87 val_main_v86 val_main_v85 val_main_v84 val_main_v83
  generalize val_main_v81 (F := Ideal) x0 x1 x2 x3 x4 x5 x6 x7 x8 x9 = Y
  pointwise [val_main_cst_21]

theorem v95_apply (b : Fin 8) (r : Fin 128) (k : Fin 1024) : val_main_v95 (F := Ideal) x0 x1 x2 x3 x4 x5 x6 x7 x8 x9 (ix3 b r k)
    = ∑ s : Fin 4096, val_main_v77 (F := Ideal) x0 x1 x2 x3 x4 x5 x6 x7 x8 x9 (ix2 s k)
        * val_main_v3 (F := Ideal) x1 x2 (ix2 s ⟨b.val % 4 * 256 + b.val / 4 * 128 + r.val, by omega⟩) := by
  unfold val_main_v95 val_main_v90 val_main_v89 val_main_v88 val_main_v79 val_main_v78
  generalize val_main_v77 (F := Ideal) x0 x1 x2 x3 x4 x5 x6 x7 x8 x9 = Y
  generalize val_main_v3 (F := Ideal) x1 x2 = M
  pointwise []

theorem v94_apply (r : Fin 8) (k : Fin 1024) : val_main_v94 (F := Ideal) x0 x1 x2 x3 x5 x6 x7 x8 x9 (ix2 r k)
    = if r.val = 0 then ∑ s : Fin 4096, val_main_v28 (F := Ideal) x0 x1 x2 x3 (ix2 s k) * val_main_v44 (F := Ideal) x5 x6 x7 x8 x9 (ix2 s k)
      else if r.val = 1 then ∑ s : Fin 4096, val_main_v44 (F := Ideal) x5 x6 x7 x8 x9 (ix2 s k) else 0 := by
  unfold val_main_v94 val_main_v93 val_main_v92 val_main_v91 val_main_v53 val_main_v50 val_main_v49 val_main_v48 val_main_v47 val_main_v46 val_main_v45
  generalize val_main_v44 (F := Ideal) x5 x6 x7 x8 x9 = D
  generalize val_main_v28 (F := Ideal) x0 x1 x2 x3 = X
  pointwise [val_main_cst_22, val_main_cst_10, val_main_cst_11, val_main_cst_12, val_main_cst_13]
  have one : ∀ f : Fin 1 → EReal, (∑ x, f x) = f 0 := fun f => Fin.sum_univ_one f
  simp only [one]
  split_ifs <;> first | rfl | omega

theorem v3_left (s : Fin 4096) (k : Fin 512) : val_main_v3 (F := Ideal) x1 x2 (ix2 s ⟨k.val, by omega⟩) = x1 (ix2 s k) := by
  unfold val_main_v3
  pointwise []
theorem v3_right (s : Fin 4096) (k : Fin 512) : val_main_v3 (F := Ideal) x1 x2 (ix2 s ⟨512 + k.val, by omega⟩) = x2 (ix2 s k) := by
  unfold val_main_v3
  pointwise []

end Cert.Mix

end
-- ==== Proof.Mix.Value.lean ====
/- What the buffers hold at a point, as the reference's arrays at that point's rows. -/
module

public import proofs.«01_k».proof.Proof.Mix.Delta
public import proofs.«01_k».proof.Proof.Mix.Puts
public import proofs.«01_k».proof.Proof.Mix.RefRead
public import proofs.«01_k».proof.Proof.Wgt.Value
public import Idealize.ShloMosaic.Lib.Pointwise

@[expose] public section

set_option maxRecDepth 16384
set_option maxHeartbeats 1000000

noncomputable section

namespace Cert.Mix

open Cert.Kernel3Ideal Cert.Kernel3Ideal.Gen
open Idealize.ShloMosaic Idealize.ShloMosaic.TcCoe
open Idealize.ShloMosaic.Pointwise
open Cert.Reference3Ideal.Read
open Idealize.ShloMosaic.VecWindow

variable (m : (ℓ : Loc nD τ sig) → Buf (Elt Ideal) ℓ) (c : Dev nD)

/-- The reference's arrays on the launch's arguments: the normalised sum's gradient, the gradient before the normalisation,
    the concatenation and the normalised rows. -/
abbrev rD : S4096x1024.Idx → EReal := val_main_v44 (F := Ideal) (a5 m c) (a6 m c) (a7 m c) (a8 m c) (a9 m c)
abbrev rY : S4096x1024.Idx → EReal := val_main_v77 (F := Ideal) (a0 m c) (a1 m c) (a2 m c) (a3 m c) (a4 m c) (a5 m c) (a6 m c) (a7 m c) (a8 m c) (a9 m c)
abbrev rM : S4096x1024.Idx → EReal := val_main_v3 (F := Ideal) (a1 m c) (a2 m c)
abbrev rX : S4096x1024.Idx → EReal := val_main_v28 (F := Ideal) (a0 m c) (a1 m c) (a2 m c) (a3 m c)

/-- Every element of every argument is a real. -/
structure Reals : Prop where
  h0 : ∀ i, Cert.Act.IsReal (a0 m c i)
  h1 : ∀ i, Cert.Act.IsReal (a1 m c i)
  h2 : ∀ i, Cert.Act.IsReal (a2 m c i)
  h3 : ∀ i, Cert.Act.IsReal (a3 m c i)
  h4 : ∀ i, Cert.Act.IsReal (a4 m c i)
  h5 : ∀ i, Cert.Act.IsReal (a5 m c i)
  h6 : ∀ i, Cert.Act.IsReal (a6 m c i)
  h7 : ∀ i, Cert.Act.IsReal (a7 m c i)
  h8 : ∀ i, Cert.Act.IsReal (a8 m c i)
  h9 : ∀ i, Cert.Act.IsReal (a9 m c i)

theorem real_D (h : Reals m c) (i : S4096x1024.Idx) : Cert.Act.IsReal (rD m c i) := by
  obtain ⟨s, k, rfl⟩ : ∃ (s : Fin 4096) (k : Fin 1024), i = ix2 s k := ⟨i 0, i 1, eq_ix2 i⟩
  rw [rD, v44_apply]
  exact ((Cert.Act.IsReal.sum _ _ fun _ => (h.h9 _).mul (h.h6 _)).add (Cert.Act.IsReal.sum _ _ fun _ => (h.h8 _).mul (h.h5 _))).add
    (Cert.Act.IsReal.mul ⟨_, lit_alpha⟩ (h.h7 _))

theorem real_M (h : Reals m c) (s : Fin 4096) (k : Fin 1024) : Cert.Act.IsReal (rM m c (ix2 s k)) := by
  by_cases hk : k.val < 512
  · have e := v3_left (a1 m c) (a2 m c) s ⟨k.val, hk⟩
    rw [rM, show ix2 s k = (ix2 s ⟨(⟨k.val, hk⟩ : Fin 512).val, by dsimp only; omega⟩ : S4096x1024.Idx) from rfl, e]
    exact h.h1 _
  · have e := v3_right (a1 m c) (a2 m c) s ⟨k.val - 512, by omega⟩
    rw [rM, show k = (⟨512 + (⟨k.val - 512, by omega⟩ : Fin 512).val, by dsimp only; omega⟩ : Fin 1024) from Fin.ext (by dsimp only; omega), e]
    exact h.h2 _

theorem real_sum (h : Reals m c) (i : S4096x1024.Idx) : Cert.Act.IsReal (val_main_v5 (F := Ideal) (a0 m c) (a1 m c) (a2 m c) (a3 m c) i) := by
  obtain ⟨s, k, rfl⟩ : ∃ (s : Fin 4096) (k : Fin 1024), i = ix2 s k := ⟨i 0, i 1, eq_ix2 i⟩
  rw [v5_apply]
  exact (Cert.Act.IsReal.mul ⟨_, lit_alpha⟩ (h.h0 _)).add (Cert.Act.IsReal.sum _ _ fun j => (real_M m c h s j).mul (h.h3 _))

section Inputs

variable (t : Fin cfg0.N) (r : Fin 512)

/-- The input blocks at an index of the launch's arguments. -/
theorem in_0 (k : Fin 1024) : iblk m c 0 t (ix2 r k) = a7 m c (ix2 (rI t r) k) := (blk_0 m c t r k).trans (congrFun (V_arg7 m c) _)
theorem in_1 (k : Fin 2816) : iblk m c 1 t (ix2 r k) = a8 m c (ix2 (rI t r) k) := (blk_1 m c t r k).trans (congrFun (V_v23 m c) _)
theorem in_2 (k : Fin 2816) : iblk m c 2 t (ix2 r k) = a9 m c (ix2 (rI t r) k) := (blk_2 m c t r k).trans (congrFun (V_v24 m c) _)
theorem in_3 (j : Fin 2816) (k : Fin 1024) : iblk m c 3 t (ix2 j k) = a5 m c (ix2 k j) := (blk_3 m c t j k).trans (V_v26 m c j k)
theorem in_4 (j : Fin 2816) (k : Fin 1024) : iblk m c 4 t (ix2 j k) = a6 m c (ix2 k j) := (blk_4 m c t j k).trans (V_v28 m c j k)
theorem in_5 (k : Fin 1024) : iblk m c 5 t (ix2 r k) = rX m c (ix2 (rI t r) k) := (blk_5 m c t r k).trans (congrFun (V_v22 m c) _)
theorem in_6 : iblk m c 6 t (ix2 r 0) = val_main_v23 (F := Ideal) (a0 m c) (a1 m c) (a2 m c) (a3 m c) (ix2 (rI t r) 0) := (blk_6 m c t r 0).trans (congrFun (V_v18 m c) _)
theorem in_7 (k : Fin 1024) : iblk m c 7 t (ix2 0 k) = a4 m c (ix1 k) := (blk_7 m c t 0 k).trans (V_v29 m c k)
theorem in_8 (k : Fin 512) : iblk m c 8 t (ix2 r k) = a1 m c (ix2 (rI t r) k) := (blk_8 m c t r k).trans (congrFun (V_arg1 m c) _)
theorem in_9 (k : Fin 512) : iblk m c 9 t (ix2 r k) = a2 m c (ix2 (rI t r) k) := (blk_9 m c t r k).trans (congrFun (V_v30 m c) _)
theorem in_10 (j k : Fin 1024) : iblk m c 10 t (ix2 j k) = a3 m c (ix2 j k) := (blk_10 m c t j k).trans (congrFun (V_v31 m c) _)

end Inputs

theorem dXt_apply (t : Fin cfg0.N) (r : Fin 512) (k : Fin 1024) : dXt m c t (ix2 r k) = rD m c (ix2 (rI t r) k) := by
  unfold dXt
  rw [dX_apply, rD, v44_apply]
  simp only [in_0, in_1, in_2, in_3, in_4]
  rw [add_assoc, add_comm, add_comm (∑ j : Fin 2816, a8 m c (ix2 (rI t r) j) * a5 m c (ix2 k j))]
  rfl

theorem dYt_apply (h : Reals m c) (t : Fin cfg0.N) (r : Fin 512) (k : Fin 1024) : dYt m c t (ix2 r k) = rY m c (ix2 (rI t r) k) := by
  unfold dYt
  rw [dY_apply, rY, v77_eq _ _ _ _ _ _ _ _ _ _ (real_sum m c h) (real_D m c h) h.h4]
  simp only [dXt_apply, in_5, in_6, in_7, rX, v28_apply]
  rfl

theorem dAttn_value (h : Reals m c) (t : Fin cfg0.N) (r : Fin 512) (k : Fin 512) : dAttn (dYt m c t) (iblk m c 10 t) (ix2 r k)
    = val_main_v81 (F := Ideal) (a0 m c) (a1 m c) (a2 m c) (a3 m c) (a4 m c) (a5 m c) (a6 m c) (a7 m c) (a8 m c) (a9 m c) (ix2 (rI t r) k) := by
  rw [dAttn_apply, v81_apply, v80_apply]
  simp only [dYt_apply m c h, in_10]

theorem dGm_value (h : Reals m c) (t : Fin cfg0.N) (r : Fin 512) (k : Fin 512) : dGm (dYt m c t) (iblk m c 10 t) (ix2 r k)
    = val_main_v82 (F := Ideal) (a0 m c) (a1 m c) (a2 m c) (a3 m c) (a4 m c) (a5 m c) (a6 m c) (a7 m c) (a8 m c) (a9 m c) (ix2 (rI t r) k) := by
  rw [dGm_apply, v82_apply, v80_apply]
  simp only [dYt_apply m c h, in_10]

theorem delta_value (h : Reals m c) (t : Fin cfg0.N) (old : Vec Ideal S512x512 .f32) (r : Fin 512) (k : Fin 512) :
    deltaPut (dAttn (dYt m c t) (iblk m c 10 t)) (iblk m c 8 t) old (ix2 r k)
      = val_main_v87 (F := Ideal) (a0 m c) (a1 m c) (a2 m c) (a3 m c) (a4 m c) (a5 m c) (a6 m c) (a7 m c) (a8 m c) (a9 m c) (ix2 (rI t r) k) := by
  rw [delta_apply, v87_apply]
  simp only [prod, dAttn_value m c h, in_8]

/-- One point's rows of a sum over all rows, numbered through. -/
def rowN (g : Fin 4096 → EReal) (n : ℕ) : EReal := if h : n < 4096 then g ⟨n, h⟩ else 0

theorem rowN_tile (g : Fin 4096 → EReal) {i : ℕ} (hi : i < cfg0.N) (r : Fin 512) : rowN g (i * 512 + r.val) = g (rI ⟨i, hi⟩ r) :=
  dif_pos _

theorem rowN_all (g : Fin 4096 → EReal) : (∑ s : Fin 4096, rowN g s.val) = ∑ s, g s :=
  Finset.sum_congr rfl fun s _ => dif_pos s.isLt

/-- A buffer that starts at zero and takes every point's rows holds, after the last, the sum over all rows. -/
theorem all_rows (g : Fin 4096 → EReal) (a : (n : ℕ) → n < cfg0.N → EReal)
    (h0 : ∀ h, a 0 h = 0 + ∑ r : Fin 512, g (rI ⟨0, h⟩ r))
    (h1 : ∀ n h, a (n + 1) h = a n (Nat.lt_of_succ_lt h) + ∑ r : Fin 512, g (rI ⟨n + 1, h⟩ r)) (h7 : 7 < cfg0.N) :
    a 7 h7 = ∑ s, g s := by
  have hN : cfg0.N = 8 := N_0
  rw [← rowN_all]
  refine Eq.trans ?_ (Cert.Wgt.tile_sum_all (rowN g) (fun n => if h : n < cfg0.N then a n h else 0) ?_ fun i hi => ?_)
  · exact (dif_pos h7).symm
  · rw [dif_pos (by omega), h0 (by omega)]
    exact congrArg (0 + ·) (Finset.sum_congr rfl fun r _ => (rowN_tile g (by omega) r).symm)
  · rw [dif_pos (by omega), dif_pos (by omega), h1 i (by omega)]
    exact congrArg _ (Finset.sum_congr rfl fun r _ => (rowN_tile g (by omega) r).symm)

theorem vec_value (h7 : 7 < cfg0.N) (r : Fin 8) (k : Fin 1024) : vecN m c 7 h7 (ix2 r k)
    = val_main_v94 (F := Ideal) (a0 m c) (a1 m c) (a2 m c) (a3 m c) (a5 m c) (a6 m c) (a7 m c) (a8 m c) (a9 m c) (ix2 r k) := by
  rw [v94_apply]
  by_cases hr : r.val = 0
  · obtain rfl : r = 0 := Fin.ext hr
    refine Eq.trans ?_ (if_pos rfl).symm
    refine all_rows (fun s => rX m c (ix2 s k) * rD m c (ix2 s k)) (fun n h => vecN m c n h (ix2 0 k)) (fun h => ?_) (fun n h => ?_) h7
    · refine (vecPut_0 _ _ _ k).trans ?_
      rw [pay12_apply]
      simp only [dXt_apply, in_5]
      exact congrArg (0 + ·) (Finset.sum_congr rfl fun s _ => mul_comm _ _)
    · refine (vecPut_0 _ _ _ k).trans ?_
      simp only [dXt_apply, in_5]
      exact congrArg (_ + ·) (Finset.sum_congr rfl fun s _ => mul_comm _ _)
  rw [if_neg hr]
  by_cases hr1 : r.val = 1
  · obtain rfl : r = 1 := Fin.ext hr1
    refine Eq.trans ?_ (if_pos rfl).symm
    refine all_rows (fun s => rD m c (ix2 s k)) (fun n h => vecN m c n h (ix2 1 k)) (fun h => ?_) (fun n h => ?_) h7
    · refine (vecPut_1 _ _ _ k).trans ?_
      rw [pay12_apply]
      simp only [dXt_apply]
    · refine (vecPut_1 _ _ _ k).trans ?_
      simp only [dXt_apply]
  rw [if_neg hr1]
  have e : ∀ n h, vecN m c n h (ix2 r k) = 0 := by
    intro n
    induction n with
    | zero => exact fun h => (vecPut_2 _ _ _ r (by omega) k).trans (pay12_apply r k)
    | succ n ih => exact fun h => (vecPut_2 _ _ _ r (by omega) k).trans (ih _)
  exact e 7 h7

theorem dwo_low (h : Reals m c) (h7 : 7 < cfg0.N) (p : Fin 512) (k : Fin 1024) : dwoN m c 7 h7 (ix2 ⟨p.val, by omega⟩ k)
    = ∑ s : Fin 4096, rY m c (ix2 s k) * rM m c (ix2 s ⟨p.val, by omega⟩) := by
  refine all_rows (fun s => rY m c (ix2 s k) * rM m c (ix2 s ⟨p.val, by omega⟩)) (fun n h => dwoN m c n h (ix2 ⟨p.val, by omega⟩ k)) (fun h' => ?_) (fun n h' => ?_) h7
  · refine (dwoPut_low _ _ _ _ p k).trans ?_
    rw [pay11_apply]
    simp only [dYt_apply m c h, in_8, rM, v3_left]
    exact congrArg (0 + ·) (Finset.sum_congr rfl fun s _ => mul_comm _ _)
  · refine (dwoPut_low _ _ _ _ p k).trans ?_
    simp only [dYt_apply m c h, in_8, rM, v3_left]
    exact congrArg (_ + ·) (Finset.sum_congr rfl fun s _ => mul_comm _ _)

theorem dwo_high (h : Reals m c) (h7 : 7 < cfg0.N) (p : Fin 512) (k : Fin 1024) : dwoN m c 7 h7 (ix2 ⟨512 + p.val, by omega⟩ k)
    = ∑ s : Fin 4096, rY m c (ix2 s k) * rM m c (ix2 s ⟨512 + p.val, by omega⟩) := by
  refine all_rows (fun s => rY m c (ix2 s k) * rM m c (ix2 s ⟨512 + p.val, by omega⟩)) (fun n h => dwoN m c n h (ix2 ⟨512 + p.val, by omega⟩ k)) (fun h' => ?_) (fun n h' => ?_) h7
  · refine (dwoPut_high _ _ _ _ p k).trans ?_
    rw [pay11_apply]
    simp only [dYt_apply m c h, in_9, rM, v3_right]
    exact congrArg (0 + ·) (Finset.sum_congr rfl fun s _ => mul_comm _ _)
  · refine (dwoPut_high _ _ _ _ p k).trans ?_
    simp only [dYt_apply m c h, in_9, rM, v3_right]
    exact congrArg (_ + ·) (Finset.sum_congr rfl fun s _ => mul_comm _ _)

theorem dwo_value (h : Reals m c) (h7 : 7 < cfg0.N) (q k : Fin 1024) : dwoN m c 7 h7 (ix2 q k)
    = ∑ s : Fin 4096, rY m c (ix2 s k) * rM m c (ix2 s q) := by
  by_cases hq : q.val < 512
  · exact dwo_low m c h h7 ⟨q.val, hq⟩ k
  · have e := dwo_high m c h h7 ⟨q.val - 512, by omega⟩ k
    rwa [show (⟨512 + (⟨q.val - 512, by omega⟩ : Fin 512).val, by dsimp only; omega⟩ : Fin 1024) = q from Fin.ext (by dsimp only; omega)] at e

theorem gwo_value (h : Reals m c) (h7 : 7 < cfg0.N) (old : Vec Ideal S8x128x1024 .bf16) (b : Fin 8) (r : Fin 128) (k : Fin 1024) :
    slabs (dwoN m c 7 h7) old (ix3 b r k) = val_main_v95 (F := Ideal) (a0 m c) (a1 m c) (a2 m c) (a3 m c) (a4 m c) (a5 m c) (a6 m c) (a7 m c) (a8 m c) (a9 m c) (ix3 b r k) := by
  rw [slabs_apply, dwo_value m c h, v95_apply]

end Cert.Mix

end
-- ==== Proof.Mix.Results.lean ====
/- The six result arrays after the run, and the arguments: finite ones give the reference's arrays. -/
module

public import proofs.«01_k».proof.Proof.Mix.Value
public import Idealize.ShloMosaic.Lib.Pointwise
public import Idealize.ShloMosaic.Lib.Pipeline.ValueKit

@[expose] public section

set_option maxRecDepth 16384
set_option maxHeartbeats 1000000

noncomputable section

namespace Cert.Mix

open Cert.Kernel3Ideal Cert.Kernel3Ideal.Gen
open Idealize.ShloMosaic Idealize.ShloMosaic.TcCoe
open Idealize.ShloMosaic.Pointwise
open Cert.Reference3Ideal.Read
open Idealize.ShloMosaic.Pipeline (Dat)

variable (m : (ℓ : Loc nD τ sig) → Buf (Elt Ideal) ℓ) (c : Dev nD)

theorem ox11_0 : ∀ t : Fin cfg0.N, win0_11.index t (0 : Fin 2) = t.val := by decide +kernel
theorem ox11_1 : ∀ t : Fin cfg0.N, win0_11.index t (1 : Fin 2) = 0 := by decide +kernel
theorem emb_11 (t : Fin cfg0.N) (r : Fin 512) (k : Fin 1024) : ((win0_11.blk t).view.emb (ix2 r k) : S4096x1024.Idx) = ix2 (rI t r) k := by
  refine funext fun a => Fin.ext ?_
  match a with
  | ⟨0, _⟩ =>
    show win0_11.index t 0 * 512 + 1 * r.val = _
    rw [ox11_0, Nat.one_mul]; rfl
  | ⟨1, _⟩ =>
    show win0_11.index t 1 * 1024 + 1 * k.val = _
    rw [ox11_1, Nat.one_mul, Nat.zero_mul, Nat.zero_add]; rfl

theorem ox12_0 : ∀ t : Fin cfg0.N, win0_12.index t (0 : Fin 2) = t.val := by decide +kernel
theorem ox12_1 : ∀ t : Fin cfg0.N, win0_12.index t (1 : Fin 2) = 0 := by decide +kernel
theorem emb_12 (t : Fin cfg0.N) (r : Fin 512) (k : Fin 512) : ((win0_12.blk t).view.emb (ix2 r k) : S4096x512.Idx) = ix2 (rI t r) k := by
  refine funext fun a => Fin.ext ?_
  match a with
  | ⟨0, _⟩ =>
    show win0_12.index t 0 * 512 + 1 * r.val = _
    rw [ox12_0, Nat.one_mul]; rfl
  | ⟨1, _⟩ =>
    show win0_12.index t 1 * 512 + 1 * k.val = _
    rw [ox12_1, Nat.one_mul, Nat.zero_mul, Nat.zero_add]; rfl

theorem ox13_0 : ∀ t : Fin cfg0.N, win0_13.index t (0 : Fin 2) = t.val := by decide +kernel
theorem ox13_1 : ∀ t : Fin cfg0.N, win0_13.index t (1 : Fin 2) = 0 := by decide +kernel
theorem emb_13 (t : Fin cfg0.N) (r : Fin 512) (k : Fin 512) : ((win0_13.blk t).view.emb (ix2 r k) : S4096x512.Idx) = ix2 (rI t r) k := by
  refine funext fun a => Fin.ext ?_
  match a with
  | ⟨0, _⟩ =>
    show win0_13.index t 0 * 512 + 1 * r.val = _
    rw [ox13_0, Nat.one_mul]; rfl
  | ⟨1, _⟩ =>
    show win0_13.index t 1 * 512 + 1 * k.val = _
    rw [ox13_1, Nat.one_mul, Nat.zero_mul, Nat.zero_add]; rfl

theorem ox14_0 : ∀ t : Fin cfg0.N, win0_14.index t (0 : Fin 2) = t.val := by decide +kernel
theorem ox14_1 : ∀ t : Fin cfg0.N, win0_14.index t (1 : Fin 2) = 0 := by decide +kernel
theorem emb_14 (t : Fin cfg0.N) (r : Fin 512) (k : Fin 512) : ((win0_14.blk t).view.emb (ix2 r k) : S4096x512.Idx) = ix2 (rI t r) k := by
  refine funext fun a => Fin.ext ?_
  match a with
  | ⟨0, _⟩ =>
    show win0_14.index t 0 * 512 + 1 * r.val = _
    rw [ox14_0, Nat.one_mul]; rfl
  | ⟨1, _⟩ =>
    show win0_14.index t 1 * 512 + 1 * k.val = _
    rw [ox14_1, Nat.one_mul, Nat.zero_mul, Nat.zero_add]; rfl

/-- The last point. -/
theorem lt7 : 7 < cfg0.N := by decide +kernel

theorem whole_15 : (cfg0.win 15).WholeAt ⟨7, lt7⟩ := by decide +kernel
theorem whole_16 : (cfg0.win 16).WholeAt ⟨7, lt7⟩ := by decide +kernel

section Run

variable {r : PUnit × MemSt nD τ sig (Elt Ideal)} (h : Pipeline.FramePost cfgs (dats m) 0 (V m) r) (hr : Reals m c)

include h hr

theorem arr_11 : r.2.mem ((c.tc : Thread nD τ).loc main_v32_0) = val_main_v77 (F := Ideal) (a0 m c) (a1 m c) (a2 m c) (a3 m c) (a4 m c) (a5 m c) (a6 m c) (a7 m c) (a8 m c) (a9 m c) := by
  refine ((h c).1 11).trans ((dats m 0 c).arrAt_eq_of_covers 11 (val_main_v77 (F := Ideal) (a0 m c) (a1 m c) (a2 m c) (a3 m c) (a4 m c) (a5 m c) (a6 m c) (a7 m c) (a8 m c) (a9 m c)) (by decide +kernel) fun t hf y => ?_)
  blk_simp
  show (dats m 0 c).after 11 t y = _
  rw [after0_11, at_11 m c t]
  obtain ⟨q, l, rfl⟩ : ∃ (q : Fin 512) (l : Fin 1024), y = ix2 q l := ⟨y 0, y 1, eq_ix2 y⟩
  exact (dYt_apply m c hr t q l).trans (congrArg (val_main_v77 (F := Ideal) (a0 m c) (a1 m c) (a2 m c) (a3 m c) (a4 m c) (a5 m c) (a6 m c) (a7 m c) (a8 m c) (a9 m c)) (emb_11 t q l)).symm

theorem arr_12 : r.2.mem ((c.tc : Thread nD τ).loc main_v32_1) = val_main_v81 (F := Ideal) (a0 m c) (a1 m c) (a2 m c) (a3 m c) (a4 m c) (a5 m c) (a6 m c) (a7 m c) (a8 m c) (a9 m c) := by
  refine ((h c).1 12).trans ((dats m 0 c).arrAt_eq_of_covers 12 (val_main_v81 (F := Ideal) (a0 m c) (a1 m c) (a2 m c) (a3 m c) (a4 m c) (a5 m c) (a6 m c) (a7 m c) (a8 m c) (a9 m c)) (by decide +kernel) fun t hf y => ?_)
  blk_simp
  show (dats m 0 c).after 12 t y = _
  rw [after0_12, at_12 m c t]
  obtain ⟨q, l, rfl⟩ : ∃ (q : Fin 512) (l : Fin 512), y = ix2 q l := ⟨y 0, y 1, eq_ix2 y⟩
  exact (dAttn_value m c hr t q l).trans (congrArg (val_main_v81 (F := Ideal) (a0 m c) (a1 m c) (a2 m c) (a3 m c) (a4 m c) (a5 m c) (a6 m c) (a7 m c) (a8 m c) (a9 m c)) (emb_12 t q l)).symm

theorem arr_13 : r.2.mem ((c.tc : Thread nD τ).loc main_v32_2) = val_main_v87 (F := Ideal) (a0 m c) (a1 m c) (a2 m c) (a3 m c) (a4 m c) (a5 m c) (a6 m c) (a7 m c) (a8 m c) (a9 m c) := by
  refine ((h c).1 13).trans ((dats m 0 c).arrAt_eq_of_covers 13 (val_main_v87 (F := Ideal) (a0 m c) (a1 m c) (a2 m c) (a3 m c) (a4 m c) (a5 m c) (a6 m c) (a7 m c) (a8 m c) (a9 m c)) (by decide +kernel) fun t hf y => ?_)
  blk_simp
  show (dats m 0 c).after 13 t y = _
  rw [after0_13, at_13 m c t]
  obtain ⟨q, l, rfl⟩ : ∃ (q : Fin 512) (l : Fin 512), y = ix2 q l := ⟨y 0, y 1, eq_ix2 y⟩
  exact (delta_value m c hr t _ q l).trans (congrArg (val_main_v87 (F := Ideal) (a0 m c) (a1 m c) (a2 m c) (a3 m c) (a4 m c) (a5 m c) (a6 m c) (a7 m c) (a8 m c) (a9 m c)) (emb_13 t q l)).symm

theorem arr_14 : r.2.mem ((c.tc : Thread nD τ).loc main_v32_3) = val_main_v82 (F := Ideal) (a0 m c) (a1 m c) (a2 m c) (a3 m c) (a4 m c) (a5 m c) (a6 m c) (a7 m c) (a8 m c) (a9 m c) := by
  refine ((h c).1 14).trans ((dats m 0 c).arrAt_eq_of_covers 14 (val_main_v82 (F := Ideal) (a0 m c) (a1 m c) (a2 m c) (a3 m c) (a4 m c) (a5 m c) (a6 m c) (a7 m c) (a8 m c) (a9 m c)) (by decide +kernel) fun t hf y => ?_)
  blk_simp
  show (dats m 0 c).after 14 t y = _
  rw [after0_14, at_14 m c t]
  obtain ⟨q, l, rfl⟩ : ∃ (q : Fin 512) (l : Fin 512), y = ix2 q l := ⟨y 0, y 1, eq_ix2 y⟩
  exact (dGm_value m c hr t q l).trans (congrArg (val_main_v82 (F := Ideal) (a0 m c) (a1 m c) (a2 m c) (a3 m c) (a4 m c) (a5 m c) (a6 m c) (a7 m c) (a8 m c) (a9 m c)) (emb_14 t q l)).symm

theorem arr_15 : r.2.mem ((c.tc : Thread nD τ).loc main_v32_4) = val_main_v95 (F := Ideal) (a0 m c) (a1 m c) (a2 m c) (a3 m c) (a4 m c) (a5 m c) (a6 m c) (a7 m c) (a8 m c) (a9 m c) := by
  refine ((h c).1 15).trans (funext fun y => ?_)
  refine ((dats m 0 c).arrAt_emb_eq_after_last 15 ⟨7, lt7⟩ whole_15 y).trans ?_
  blk_simp
  show (dats m 0 c).after 15 ⟨7, lt7⟩ y = _
  rw [after0_15]
  dsimp only
  rw [at_15 m c lt7]
  obtain ⟨b, q, k, rfl⟩ : ∃ (b : Fin 8) (q : Fin 128) (k : Fin 1024), y = ix3 b q k := ⟨y 0, y 1, y 2, eq_ix3 y⟩
  exact gwo_value m c hr lt7 _ b q k

omit hr in
theorem arr_16 : r.2.mem ((c.tc : Thread nD τ).loc main_v32_5) = val_main_v94 (F := Ideal) (a0 m c) (a1 m c) (a2 m c) (a3 m c) (a5 m c) (a6 m c) (a7 m c) (a8 m c) (a9 m c) := by
  refine ((h c).1 16).trans (funext fun y => ?_)
  refine ((dats m 0 c).arrAt_emb_eq_after_last 16 ⟨7, lt7⟩ whole_16 y).trans ?_
  blk_simp
  show (dats m 0 c).after 16 ⟨7, lt7⟩ y = _
  rw [after0_16]
  dsimp only
  rw [at_16 m c 7 lt7]
  obtain ⟨q, k, rfl⟩ : ∃ (q : Fin 8) (k : Fin 1024), y = ix2 q k := ⟨y 0, y 1, eq_ix2 y⟩
  exact vec_value m c lt7 q k

end Run

end Cert.Mix

end
-- ==== Proof.Mix.Precond.lean ====
/- The precondition, read: every element of every argument array is a real. -/
module

public import proofs.«01_k».proof.Proof.Mix.Value
public import proofs.«01_k».proof.Defs

@[expose] public section

set_option maxRecDepth 16384
set_option maxHeartbeats 1000000

noncomputable section

namespace Cert.Mix

open Cert.Kernel3Ideal Cert.Kernel3Ideal.Gen
open Idealize.ShloMosaic Idealize.ShloMosaic.TcCoe

variable (m : (ℓ : Loc nD τ sig) → Buf (Elt Ideal) ℓ) (c : Dev nD)

theorem args_real [Cert.Pre_finite3.Facts] (h : Cert.Pre_Kernel3Ideal_finite3 m) : Reals m c := by
  have hc := h c
  unfold Cert.Pre_finite3.fn Cert.Pre_finite3.fn_part1 Cert.Pre_finite3.fn_part2 at hc
  dsimp only at hc
  obtain ⟨h0, h1, h2, h3, h4, h5, h6, h7, h8, h9⟩ := hc
  exact ⟨Cert.Act.all_real (a0 m c) _ _ _ h0, Cert.Act.all_real (a1 m c) _ _ _ h1, Cert.Act.all_real (a2 m c) _ _ _ h2, Cert.Act.all_real (a3 m c) _ _ _ h3, Cert.Act.all_real (a4 m c) _ _ _ h4, Cert.Act.all_real (a5 m c) _ _ _ h5, Cert.Act.all_real (a6 m c) _ _ _ h6, Cert.Act.all_real (a7 m c) _ _ _ h7, Cert.Act.all_real (a8 m c) _ _ _ h8, Cert.Act.all_real (a9 m c) _ _ _ h9⟩

end Cert.Mix

end
-- ==== Proof.Inp.Same.lean ====
/- The fourth program as printed and as idealised have one text: no constant in it is named. So the frame of the one is the
   frame of the other. -/
module

public import proofs.«01_k».proof.Defs
public import proofs.«01_k».proof.Proof.Gen.Kernel4
public import proofs.«01_k».proof.Proof.Gen.Kernel4Ideal
public import proofs.«01_k».proof.Proof.Gen.Kernel4Ideal.Frame

@[expose] public section

set_option maxRecDepth 16384

noncomputable section

namespace Cert.Inp

open Idealize.ShloMosaic Idealize.ShloMosaic.TcCoe Idealize.SL.Sem

attribute [local instance] Cert.Kernel4.Gen.facts

set_option maxHeartbeats 4000000 in
theorem bodies_eq : Cert.Kernel4.defs₀ (F := Bits) = Cert.Kernel4Ideal.defs₀ (F := Bits) := by
  unfold Cert.Kernel4.defs₀ Cert.Kernel4Ideal.defs₀
  refine congrArg (Defs.onTc (Λ := Cert.Kernel4Ideal.Λ₀) (nD := Cert.Kernel4Ideal.nD) (τ := Cert.Kernel4Ideal.τ) (sig := Cert.Kernel4Ideal.sig))
    (funext fun l => funext fun x => ?_)
  match l, x with
  | ⟨0, _⟩, (t, s) => rfl

theorem defs_eq : Cert.Kernel4.defs (F := Bits) = Cert.Kernel4Ideal.defs (F := Bits) :=
  congrArg (Pipeline.defs Cert.Kernel4Ideal.pcfgs) bodies_eq

set_option maxHeartbeats 4000000 in
theorem frame_printed : Cert.quiescent_Kernel4 (hKernel4 := Cert.Kernel4.Gen.facts) := fun m ρ _ =>
  (congrArg (fun d => θ_run d (onTc (τ := Cert.Kernel4Ideal.τ) (Cert.Kernel4Ideal.main (F := Bits))) ⟨m, fun _ => 0, ρ⟩ _) defs_eq).mpr
    (Cert.Kernel4Ideal.Gen.frame (F := Bits) m ρ)

end Cert.Inp

end
-- ==== Proof.Inp.Step.lean ====
/- What one run of the kernel's body leaves in its buffers, as functions of what it finds there: one tile's products added
   to the five row blocks of the projection's gradient, and the owners' blocks of its rows. -/
module

public import proofs.«01_k».proof.Proof.Gen.Kernel4Ideal
public import proofs.«01_k».proof.Proof.Gen.Kernel4Ideal.Frame
public import proofs.«01_k».proof.Proof.Step
public import Idealize.ShloMosaic.Lib.Tactic

@[expose] public section

set_option maxRecDepth 16384

noncomputable section

namespace Cert.Inp

open Cert.Kernel4Ideal Cert.Kernel4Ideal.Gen
open Idealize.ShloMosaic Idealize.ShloMosaic.TcCoe
open Idealize.ShloMosaic.VecWindow (window put)

variable {F : FTy → Type} [FloatOps F]

section Windows

variable {α : Type}

theorem win_x (x : S512x1024.Idx → α) (inb) : window x ![0, 0] ![512, 1024] inb = x := Cert.Act.window_all (s := S512x1024) x inb
theorem win_p (x : S512x512.Idx → α) (inb) : window x ![0, 0] ![512, 512] inb = x := Cert.Act.window_all (s := S512x512) x inb
theorem win_acc (x : S2560x1024.Idx → α) (inb) : window x ![0, 0] ![2560, 1024] inb = x := Cert.Act.window_all (s := S2560x1024) x inb
theorem put_acc (x w : S2560x1024.Idx → α) : put x ![0, 0] ![2560, 1024] w = w := Cert.Act.put_all (s := S2560x1024) x w (by decide)

/-- A row block reads what was there before a block above it was put. -/
theorem win_below (x : S2560x1024.Idx → α) (p q : ℕ) (h : p + 512 ≤ q)
    (inb : ∀ a, (![q, 0] : Fin 2 → ℕ) a + (![512, 1024] : Fin 2 → ℕ) a ≤ S2560x1024.size a)
    (w : ((a : Fin 2) → Fin ((![512, 1024] : Fin 2 → ℕ) a)) → α) :
    window (put x ![p, 0] ![512, 1024] w) ![q, 0] ![512, 1024] inb = window x ![q, 0] ![512, 1024] inb :=
  VecWindow.window_put_of_disjoint x ![p, 0] ![512, 1024] ![q, 0] ![512, 1024] inb w 0 (Or.inr h)

/-- Two puts of one row block agree at an index if what they are put over agrees wherever the block is not. -/
theorem put_agree (x x' : S2560x1024.Idx → α) (q : ℕ) (w : ((a : Fin 2) → Fin ((![512, 1024] : Fin 2 → ℕ) a)) → α) (y : S2560x1024.Idx)
    (h : ¬(q ≤ (y 0).val ∧ (y 0).val < q + 512) → x y = x' y) :
    put (s := S2560x1024) x ![q, 0] ![512, 1024] w y = put (s := S2560x1024) x' ![q, 0] ![512, 1024] w y := by
  unfold VecWindow.put
  split
  · rfl
  · rename_i hn
    have h1 : (y 1).val < 1024 := (y 1).isLt
    exact h fun hq => hn fun a => by
      fin_cases a
      · exact hq
      · show 0 ≤ (y 1).val ∧ (y 1).val < 0 + 1024
        omega

/-- The five row blocks are all of the rows: what was there before does not matter. -/
theorem put_five (x x' : S2560x1024.Idx → α) (w0 w1 w2 w3 w4 : ((a : Fin 2) → Fin ((![512, 1024] : Fin 2 → ℕ) a)) → α) :
    put (s := S2560x1024) (put (s := S2560x1024) (put (s := S2560x1024) (put (s := S2560x1024) (put (s := S2560x1024) x ![0, 0] ![512, 1024] w0)
        ![512, 0] ![512, 1024] w1) ![1024, 0] ![512, 1024] w2) ![1536, 0] ![512, 1024] w3) ![2048, 0] ![512, 1024] w4
      = put (s := S2560x1024) (put (s := S2560x1024) (put (s := S2560x1024) (put (s := S2560x1024) (put (s := S2560x1024) x' ![0, 0] ![512, 1024] w0)
        ![512, 0] ![512, 1024] w1) ![1024, 0] ![512, 1024] w2) ![1536, 0] ![512, 1024] w3) ![2048, 0] ![512, 1024] w4 := by
  funext y
  have h0 : (y 0).val < 2560 := (y 0).isLt
  refine put_agree _ _ 2048 _ y fun n4 => put_agree _ _ 1536 _ y fun n3 => put_agree _ _ 1024 _ y fun n2 =>
    put_agree _ _ 512 _ y fun n1 => put_agree _ _ 0 _ y fun n0 => ?_
  exfalso
  omega

end Windows

/-- One tile's products added to the five row blocks. -/
def accPut (x : Vec F S512x1024 .bf16) (p0 p1 p2 p3 p4 : Vec F S512x512 .bf16) (old : Vec F S2560x1024 .f32) : Vec F S2560x1024 .f32 :=
  put (put (put (put (put old
    ![0, 0] S512x1024.size (k0_pay14 x (window old ![0, 0] S512x1024.size inb_S2560x1024_S512x1024_0_0) p0))
    ![512, 0] S512x1024.size (k0_pay15 x (window old ![512, 0] S512x1024.size inb_S2560x1024_S512x1024_512_0) p1))
    ![1024, 0] S512x1024.size (k0_pay16 x (window old ![1024, 0] S512x1024.size inb_S2560x1024_S512x1024_1024_0) p2))
    ![1536, 0] S512x1024.size (k0_pay1 (k0_pay13 x) (window old ![1536, 0] S512x1024.size inb_S2560x1024_S512x1024_1536_0) p3))
    ![2048, 0] S512x1024.size (k0_pay2 (k0_pay13 x) (window old ![2048, 0] S512x1024.size inb_S2560x1024_S512x1024_2048_0) p4)

/-- Eight row blocks put at the places of an eight-block buffer. -/
def slabs8 (w0 w1 w2 w3 w4 : Vec F S320x1024 .f32) (w5 : FVec F S320x1024 .bf16) (w6 w7 : Vec F S320x1024 .f32)
    (old : Vec F S8x320x1024 .bf16) : Vec F S8x320x1024 .bf16 :=
  put (put (put (put (put (put (put (put old
    ![0, 0, 0] S1x320x1024.size (k0_pay6 w0))
    ![4, 0, 0] S1x320x1024.size (k0_pay7 w1))
    ![1, 0, 0] S1x320x1024.size (k0_pay8 w2))
    ![5, 0, 0] S1x320x1024.size (k0_pay9 w3))
    ![2, 0, 0] S1x320x1024.size (k0_pay10 w4))
    ![6, 0, 0] S1x320x1024.size (k0_pay3 w5))
    ![3, 0, 0] S1x320x1024.size (k0_pay4 w6))
    ![7, 0, 0] S1x320x1024.size (k0_pay5 w7)

theorem slabs8_congr {w0 w1 w2 w3 w4 : Vec F S320x1024 .f32} {w5 : FVec F S320x1024 .bf16} {w6 w7 : Vec F S320x1024 .f32}
    {u0 u1 u2 u3 u4 : Vec F S320x1024 .f32} {u5 : FVec F S320x1024 .bf16} {u6 u7 : Vec F S320x1024 .f32} (old : Vec F S8x320x1024 .bf16)
    (h0 : w0 = u0) (h1 : w1 = u1) (h2 : w2 = u2) (h3 : w3 = u3) (h4 : w4 = u4) (h5 : w5 = u5) (h6 : w6 = u6) (h7 : w7 = u7) :
    slabs8 w0 w1 w2 w3 w4 w5 w6 w7 old = slabs8 u0 u1 u2 u3 u4 u5 u6 u7 old := by
  subst h0 h1 h2 h3 h4 h5 h6 h7
  rfl

/-- Eight row blocks of the accumulator at their places. -/
def slabs (acc : Vec F S2560x1024 .f32) (old : Vec F S8x320x1024 .bf16) : Vec F S8x320x1024 .bf16 :=
  slabs8 (window acc ![0, 0] S320x1024.size inb_S2560x1024_S320x1024_0_0) (window acc ![320, 0] S320x1024.size inb_S2560x1024_S320x1024_320_0)
    (window acc ![640, 0] S320x1024.size inb_S2560x1024_S320x1024_640_0) (window acc ![960, 0] S320x1024.size inb_S2560x1024_S320x1024_960_0)
    (window acc ![1280, 0] S320x1024.size inb_S2560x1024_S320x1024_1280_0)
    (k0_pay11 (window acc ![1600, 0] S320x1024.size inb_S2560x1024_S320x1024_1600_0))
    (window acc ![1920, 0] S320x1024.size inb_S2560x1024_S320x1024_1920_0) (window acc ![2240, 0] S320x1024.size inb_S2560x1024_S320x1024_2240_0) old

end Cert.Inp

end
-- ==== Proof.Inp.CaseA.lean ====
/- What the first point's run leaves in the accumulator. -/
module

public import proofs.«01_k».proof.Proof.Inp.Step

@[expose] public section

set_option maxRecDepth 16384
set_option maxHeartbeats 4000000

noncomputable section

namespace Cert.Inp

open Cert.Kernel4Ideal Cert.Kernel4Ideal.Gen
open Idealize.ShloMosaic Idealize.ShloMosaic.TcCoe
open Idealize.ShloMosaic.VecWindow (window put)

variable {F : FTy → Type} [FloatOps F]

section

theorem caseA_s (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x320x1024 .bf16) (harg7 : arg7.IsWhole) (arg8 : Memref sig .tc .vmem S2560x1024 .f32) (harg8 : arg8.IsWhole) (hc0 : cond0_0 i) (hc1 : ¬cond0_1 i)
    (x0 : Vec F S512x1024 .bf16) (x1 x2 x3 x4 x5 : Vec F S512x512 .bf16) :
    sout0_A_0 c i arg1 harg1 arg2 harg2 arg3 harg3 arg4 harg4 arg5 harg5 arg6 harg6 arg7 harg7 arg8 harg8 hc0 hc1 x0 x1 x2 x3 x4 x5 = accPut x0 x1 x2 x3 x4 x5 k0_pay12 := by
  unfold sout0_A_0 kernelRun0_A
  dsimp only
  sl_unfold_words
  simp only [View.readCov, Cert.Act.readAt_window, Cert.Act.read_writes_put, View.writes_nil, Memref.IsWhole.read_unread, win_x, win_p, win_acc, put_acc, win_below, Nat.reduceAdd, Nat.reduceLeDiff]
  rfl

end

end Cert.Inp

end
-- ==== Proof.Inp.CaseB.lean ====
/- What the run of a point neither first nor last leaves in the accumulator. -/
module

public import proofs.«01_k».proof.Proof.Inp.Step

@[expose] public section

set_option maxRecDepth 16384
set_option maxHeartbeats 4000000

noncomputable section

namespace Cert.Inp

open Cert.Kernel4Ideal Cert.Kernel4Ideal.Gen
open Idealize.ShloMosaic Idealize.ShloMosaic.TcCoe
open Idealize.ShloMosaic.VecWindow (window put)

variable {F : FTy → Type} [FloatOps F]

section

theorem caseB_s (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x320x1024 .bf16) (harg7 : arg7.IsWhole) (arg8 : Memref sig .tc .vmem S2560x1024 .f32) (harg8 : arg8.IsWhole) (hc0 : ¬cond0_0 i) (hc1 : ¬cond0_1 i)
    (x0 : Vec F S512x1024 .bf16) (x1 x2 x3 x4 x5 : Vec F S512x512 .bf16) (xs0 : Vec F S2560x1024 .f32) :
    sout0_B_0 c i arg1 harg1 arg2 harg2 arg3 harg3 arg4 harg4 arg5 harg5 arg6 harg6 arg7 harg7 arg8 harg8 hc0 hc1 x0 x1 x2 x3 x4 x5 xs0 = accPut x0 x1 x2 x3 x4 x5 xs0 := by
  unfold sout0_B_0 kernelRun0_B
  dsimp only
  sl_unfold_words
  simp only [View.readCov, Cert.Act.readAt_window, Cert.Act.read_writes_put, View.writes_nil, Memref.IsWhole.read_unread, win_x, win_p, win_acc, put_acc, win_below, Nat.reduceAdd, Nat.reduceLeDiff]
  exact (put_five _ xs0 _ _ _ _ _).trans rfl

end

end Cert.Inp

end
-- ==== Proof.Inp.CaseC.lean ====
/- What the last point's run leaves in the accumulator. -/
module

public import proofs.«01_k».proof.Proof.Inp.Step

@[expose] public section

set_option maxRecDepth 16384
set_option maxHeartbeats 4000000

noncomputable section

namespace Cert.Inp

open Cert.Kernel4Ideal Cert.Kernel4Ideal.Gen
open Idealize.ShloMosaic Idealize.ShloMosaic.TcCoe
open Idealize.ShloMosaic.VecWindow (window put)

variable {F : FTy → Type} [FloatOps F]

section

theorem caseC_s (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x320x1024 .bf16) (harg7 : arg7.IsWhole) (arg8 : Memref sig .tc .vmem S2560x1024 .f32) (harg8 : arg8.IsWhole) (hc0 : ¬cond0_0 i) (hc1 : cond0_1 i)
    (x0 : Vec F S512x1024 .bf16) (x1 x2 x3 x4 x5 : Vec F S512x512 .bf16) (xs0 : Vec F S2560x1024 .f32) :
    sout0_C_0 c i arg1 harg1 arg2 harg2 arg3 harg3 arg4 harg4 arg5 harg5 arg6 harg6 arg7 harg7 arg8 harg8 hc0 hc1 x0 x1 x2 x3 x4 x5 xs0 = accPut x0 x1 x2 x3 x4 x5 xs0 := by
  unfold sout0_C_0 kernelRun0_C
  dsimp only
  sl_unfold_words
  simp only [View.readCov, Cert.Act.readAt_window, Cert.Act.read_writes_put, View.writes_nil, Memref.IsWhole.read_unread, win_x, win_p, win_acc, put_acc, win_below, Nat.reduceAdd, Nat.reduceLeDiff]
  exact (put_five _ xs0 _ _ _ _ _).trans rfl

end

end Cert.Inp

end
-- ==== Proof.Inp.CaseD.lean ====
/- What the last point's run leaves in the gradient's blocks. -/
module

public import proofs.«01_k».proof.Proof.Inp.Step

@[expose] public section

set_option maxRecDepth 16384
set_option maxHeartbeats 4000000

noncomputable section

namespace Cert.Inp

open Cert.Kernel4Ideal Cert.Kernel4Ideal.Gen
open Idealize.ShloMosaic Idealize.ShloMosaic.TcCoe
open Idealize.ShloMosaic.VecWindow (window put)

variable {F : FTy → Type} [FloatOps F]

section

theorem caseC_6 (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x320x1024 .bf16) (harg7 : arg7.IsWhole) (arg8 : Memref sig .tc .vmem S2560x1024 .f32) (harg8 : arg8.IsWhole) (hc0 : ¬cond0_0 i) (hc1 : cond0_1 i)
    (x0 : Vec F S512x1024 .bf16) (x1 x2 x3 x4 x5 : Vec F S512x512 .bf16) (xs0 : Vec F S2560x1024 .f32) :
    out0_C_6 c i arg1 harg1 arg2 harg2 arg3 harg3 arg4 harg4 arg5 harg5 arg6 harg6 arg7 harg7 arg8 harg8 hc0 hc1 x0 x1 x2 x3 x4 x5 xs0 = slabs (accPut x0 x1 x2 x3 x4 x5 xs0) (VO0_6.read (Elt F) VO0_6.junk) := by
  unfold out0_C_6 kernelRun0_C
  dsimp only
  simp only [Cert.Act.read_writes_put, View.writes_nil]
  refine slabs8_congr _ ?_ ?_ ?_ ?_ ?_ ?_ ?_ ?_
  · sl_unfold_words
    simp only [View.readCov, Cert.Act.readAt_window, Cert.Act.read_writes_put, View.writes_nil, Memref.IsWhole.read_unread, win_x, win_p, win_acc, put_acc, win_below, Nat.reduceAdd, Nat.reduceLeDiff]
    exact congrArg (fun z => window z _ _ _) ((put_five _ xs0 _ _ _ _ _).trans rfl)
  · sl_unfold_words
    simp only [View.readCov, Cert.Act.readAt_window, Cert.Act.read_writes_put, View.writes_nil, Memref.IsWhole.read_unread, win_x, win_p, win_acc, put_acc, win_below, Nat.reduceAdd, Nat.reduceLeDiff]
    exact congrArg (fun z => window z _ _ _) ((put_five _ xs0 _ _ _ _ _).trans rfl)
  · sl_unfold_words
    simp only [View.readCov, Cert.Act.readAt_window, Cert.Act.read_writes_put, View.writes_nil, Memref.IsWhole.read_unread, win_x, win_p, win_acc, put_acc, win_below, Nat.reduceAdd, Nat.reduceLeDiff]
    exact congrArg (fun z => window z _ _ _) ((put_five _ xs0 _ _ _ _ _).trans rfl)
  · sl_unfold_words
    simp only [View.readCov, Cert.Act.readAt_window, Cert.Act.read_writes_put, View.writes_nil, Memref.IsWhole.read_unread, win_x, win_p, win_acc, put_acc, win_below, Nat.reduceAdd, Nat.reduceLeDiff]
    exact congrArg (fun z => window z _ _ _) ((put_five _ xs0 _ _ _ _ _).trans rfl)
  · sl_unfold_words
    simp only [View.readCov, Cert.Act.readAt_window, Cert.Act.read_writes_put, View.writes_nil, Memref.IsWhole.read_unread, win_x, win_p, win_acc, put_acc, win_below, Nat.reduceAdd, Nat.reduceLeDiff]
    exact congrArg (fun z => window z _ _ _) ((put_five _ xs0 _ _ _ _ _).trans rfl)
  · sl_unfold_words
    simp only [View.readCov, Cert.Act.readAt_window, Cert.Act.read_writes_put, View.writes_nil, Memref.IsWhole.read_unread, win_x, win_p, win_acc, put_acc, win_below, Nat.reduceAdd, Nat.reduceLeDiff]
    exact congrArg (fun z : Vec F S2560x1024 .f32 => k0_pay11 (window z ![1600, 0] S320x1024.size inb_S2560x1024_S320x1024_1600_0)) ((put_five _ xs0 _ _ _ _ _).trans rfl)
  · sl_unfold_words
    simp only [View.readCov, Cert.Act.readAt_window, Cert.Act.read_writes_put, View.writes_nil, Memref.IsWhole.read_unread, win_x, win_p, win_acc, put_acc, win_below, Nat.reduceAdd, Nat.reduceLeDiff]
    exact congrArg (fun z => window z _ _ _) ((put_five _ xs0 _ _ _ _ _).trans rfl)
  · sl_unfold_words
    simp only [View.readCov, Cert.Act.readAt_window, Cert.Act.read_writes_put, View.writes_nil, Memref.IsWhole.read_unread, win_x, win_p, win_acc, put_acc, win_below, Nat.reduceAdd, Nat.reduceLeDiff]
    exact congrArg (fun z => window z _ _ _) ((put_five _ xs0 _ _ _ _ _).trans rfl)

end

end Cert.Inp

end
-- ==== Proof.Inp.Chain.lean ====
/- What every point leaves in the buffers, the accumulator as a running sum over the points. -/
module

public import proofs.«01_k».proof.Proof.Inp.CaseA
public import proofs.«01_k».proof.Proof.Inp.CaseB
public import proofs.«01_k».proof.Proof.Inp.CaseC
public import proofs.«01_k».proof.Proof.Inp.CaseD

@[expose] public section

set_option maxRecDepth 16384
set_option maxHeartbeats 400000

noncomputable section

namespace Cert.Inp

open Cert.Kernel4Ideal Cert.Kernel4Ideal.Gen
open Idealize.ShloMosaic Idealize.ShloMosaic.TcCoe
open Idealize.ShloMosaic.Pipeline (Dat)

variable {F : FTy → Type} [FloatOps F]
variable (m : (ℓ : Loc nD τ sig) → Buf (Elt F) ℓ) (c : Dev nD)

/-- A point's products added to what is there. -/
def accT (t : Fin cfg0.N) (old : Vec F S2560x1024 .f32) : Vec F S2560x1024 .f32 :=
  accPut (iblk m c 0 t) (iblk m c 1 t) (iblk m c 2 t) (iblk m c 3 t) (iblk m c 4 t) (iblk m c 5 t) old

/-- The accumulator after a point. -/
def accN : (n : ℕ) → n < cfg0.N → Vec F S2560x1024 .f32
  | 0, h => accT m c ⟨0, h⟩ k0_pay12
  | n + 1, h => accT m c ⟨n + 1, h⟩ (accN n (Nat.lt_of_succ_lt h))

theorem at_s : ∀ (n : ℕ) (h : n < cfg0.N), (outsAt0 m c n h).2 = accN m c n h
  | 0, h => by
    have h1 : ¬(⟨0, h⟩ : Fin cfg0.N).val % 8 = 7 := by dsimp only; omega
    rw [outsAt0_A m c ⟨0, h⟩ rfl h1]; dsimp only; rw [caseA_s]
    rfl
  | n + 1, h => by
    have hN : cfg0.N = 8 := N_0
    have ih := at_s n (Nat.lt_of_succ_lt h)
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1]; dsimp only; rw [caseC_s]
      exact congrArg (accT m c ⟨n + 1, h⟩) ih
    · rw [outsAt0_B m c ⟨n + 1, h⟩ h0 h1]; dsimp only; rw [caseB_s]
      exact congrArg (accT m c ⟨n + 1, h⟩) ih

/-- The last point's blocks are the whole accumulator's. -/
theorem at_6 (h : 7 < cfg0.N) : (outsAt0 m c 7 h).1 = slabs (accN m c 7 h) (VO0_6.read (Elt F) VO0_6.junk) := by
  have ih := at_s m c 6 (Nat.lt_of_succ_lt h)
  have h0 : ¬(⟨7, h⟩ : Fin cfg0.N).val % 8 = 0 := by dsimp only; omega
  rw [outsAt0_C m c ⟨7, h⟩ h0 rfl]; dsimp only; rw [caseC_6]
  exact congrArg (fun z => slabs (accT m c ⟨7, h⟩ z) (VO0_6.read (Elt F) VO0_6.junk)) ih

end Cert.Inp

end
-- ==== Proof.Inp.Entry.lean ====
/- What the arrays hold when the kernel starts, and the blocks its points read of them. -/
module

public import proofs.«01_k».proof.Proof.Inp.Chain
public import Idealize.ShloMosaic.Lib.Claim
public import Idealize.ShloMosaic.Lib.StableHlo.RunRead
public import Idealize.ShloMosaic.Lib.Pointwise

@[expose] public section

set_option maxRecDepth 16384
set_option maxHeartbeats 1000000

noncomputable section

namespace Cert.Inp

open Cert.Kernel4Ideal Cert.Kernel4Ideal.Gen
open Idealize.ShloMosaic Idealize.ShloMosaic.TcCoe
open Idealize.ShloMosaic.Pointwise

variable (m : (ℓ : Loc nD τ sig) → Buf (Elt Ideal) ℓ) (c : Dev nD)

/-- An argument array, as launched. -/
abbrev a0 : Vec Ideal S4096x1024 .f32 := m ((c : Thread nD τ).loc main_arg0)
abbrev a1 : Vec Ideal S4096x512 .f32 := m ((c : Thread nD τ).loc main_arg1)
abbrev a2 : Vec Ideal S4096x512 .f32 := m ((c : Thread nD τ).loc main_arg2)
abbrev a3 : Vec Ideal S4096x512 .f32 := m ((c : Thread nD τ).loc main_arg3)
abbrev a4 : Vec Ideal S4096x512 .f32 := m ((c : Thread nD τ).loc main_arg4)
abbrev a5 : Vec Ideal S4096x512 .f32 := m ((c : Thread nD τ).loc main_arg5)

theorem V_v0 : (V m c main_v0 : S4096x1024.Idx → EReal) = a0 m c := by unfold V; after_reads_simp; rfl
theorem V_v1 : (V m c main_v1 : S4096x512.Idx → EReal) = a1 m c := by unfold V; after_reads_simp; rfl
theorem V_v2 : (V m c main_v2 : S4096x512.Idx → EReal) = a2 m c := by unfold V; after_reads_simp; rfl
theorem V_v3 : (V m c main_v3 : S4096x512.Idx → EReal) = a3 m c := by unfold V; after_reads_simp; rfl
theorem V_v4 : (V m c main_v4 : S4096x512.Idx → EReal) = a4 m c := by unfold V; after_reads_simp; rfl
theorem V_v5 : (V m c main_v5 : S4096x512.Idx → EReal) = a5 m c := by unfold V; after_reads_simp; rfl

/-- A row of a row tile. -/
abbrev rI (t : Fin cfg0.N) (r : Fin 512) : Fin 4096 := ⟨t.val * 512 + r.val, by have := t.isLt; have : cfg0.N = 8 := N_0; omega⟩

theorem idx0_0 : ∀ t : Fin cfg0.N, win0_0.index t (0 : Fin 2) = t.val := by decide +kernel
theorem idx0_1 : ∀ t : Fin cfg0.N, win0_0.index t (1 : Fin 2) = 0 := by decide +kernel
theorem idx1_0 : ∀ t : Fin cfg0.N, win0_1.index t (0 : Fin 2) = t.val := by decide +kernel
theorem idx1_1 : ∀ t : Fin cfg0.N, win0_1.index t (1 : Fin 2) = 0 := by decide +kernel
theorem idx2_0 : ∀ t : Fin cfg0.N, win0_2.index t (0 : Fin 2) = t.val := by decide +kernel
theorem idx2_1 : ∀ t : Fin cfg0.N, win0_2.index t (1 : Fin 2) = 0 := by decide +kernel
theorem idx3_0 : ∀ t : Fin cfg0.N, win0_3.index t (0 : Fin 2) = t.val := by decide +kernel
theorem idx3_1 : ∀ t : Fin cfg0.N, win0_3.index t (1 : Fin 2) = 0 := by decide +kernel
theorem idx4_0 : ∀ t : Fin cfg0.N, win0_4.index t (0 : Fin 2) = t.val := by decide +kernel
theorem idx4_1 : ∀ t : Fin cfg0.N, win0_4.index t (1 : Fin 2) = 0 := by decide +kernel
theorem idx5_0 : ∀ t : Fin cfg0.N, win0_5.index t (0 : Fin 2) = t.val := by decide +kernel
theorem idx5_1 : ∀ t : Fin cfg0.N, win0_5.index t (1 : Fin 2) = 0 := by decide +kernel

theorem in_0 (t : Fin cfg0.N) (r : Fin 512) (k : Fin 1024) : iblk m c 0 t (ix2 r k) = a0 m c (ix2 (rI t r) k) := by
  refine Eq.trans ?_ (congrFun (V_v0 m c) (ix2 (rI t r) k))
  show V m c main_v0 (((cfg0.win 0).blk t).view.emb (ix2 r k)) = _
  refine congrArg (V m c main_v0) (funext fun a => Fin.ext ?_)
  match a with
  | ⟨0, _⟩ =>
    show win0_0.index t 0 * 512 + 1 * r.val = _
    rw [idx0_0, Nat.one_mul]; rfl
  | ⟨1, _⟩ =>
    show win0_0.index t 1 * 1024 + 1 * k.val = _
    rw [idx0_1, Nat.zero_mul, Nat.zero_add, Nat.one_mul]; rfl

theorem in_1 (t : Fin cfg0.N) (r : Fin 512) (k : Fin 512) : iblk m c 1 t (ix2 r k) = a1 m c (ix2 (rI t r) k) := by
  refine Eq.trans ?_ (congrFun (V_v1 m c) (ix2 (rI t r) k))
  show V m c main_v1 (((cfg0.win 1).blk t).view.emb (ix2 r k)) = _
  refine congrArg (V m c main_v1) (funext fun a => Fin.ext ?_)
  match a with
  | ⟨0, _⟩ =>
    show win0_1.index t 0 * 512 + 1 * r.val = _
    rw [idx1_0, Nat.one_mul]; rfl
  | ⟨1, _⟩ =>
    show win0_1.index t 1 * 512 + 1 * k.val = _
    rw [idx1_1, Nat.zero_mul, Nat.zero_add, Nat.one_mul]; rfl

theorem in_2 (t : Fin cfg0.N) (r : Fin 512) (k : Fin 512) : iblk m c 2 t (ix2 r k) = a2 m c (ix2 (rI t r) k) := by
  refine Eq.trans ?_ (congrFun (V_v2 m c) (ix2 (rI t r) k))
  show V m c main_v2 (((cfg0.win 2).blk t).view.emb (ix2 r k)) = _
  refine congrArg (V m c main_v2) (funext fun a => Fin.ext ?_)
  match a with
  | ⟨0, _⟩ =>
    show win0_2.index t 0 * 512 + 1 * r.val = _
    rw [idx2_0, Nat.one_mul]; rfl
  | ⟨1, _⟩ =>
    show win0_2.index t 1 * 512 + 1 * k.val = _
    rw [idx2_1, Nat.zero_mul, Nat.zero_add, Nat.one_mul]; rfl

theorem in_3 (t : Fin cfg0.N) (r : Fin 512) (k : Fin 512) : iblk m c 3 t (ix2 r k) = a3 m c (ix2 (rI t r) k) := by
  refine Eq.trans ?_ (congrFun (V_v3 m c) (ix2 (rI t r) k))
  show V m c main_v3 (((cfg0.win 3).blk t).view.emb (ix2 r k)) = _
  refine congrArg (V m c main_v3) (funext fun a => Fin.ext ?_)
  match a with
  | ⟨0, _⟩ =>
    show win0_3.index t 0 * 512 + 1 * r.val = _
    rw [idx3_0, Nat.one_mul]; rfl
  | ⟨1, _⟩ =>
    show win0_3.index t 1 * 512 + 1 * k.val = _
    rw [idx3_1, Nat.zero_mul, Nat.zero_add, Nat.one_mul]; rfl

theorem in_4 (t : Fin cfg0.N) (r : Fin 512) (k : Fin 512) : iblk m c 4 t (ix2 r k) = a4 m c (ix2 (rI t r) k) := by
  refine Eq.trans ?_ (congrFun (V_v4 m c) (ix2 (rI t r) k))
  show V m c main_v4 (((cfg0.win 4).blk t).view.emb (ix2 r k)) = _
  refine congrArg (V m c main_v4) (funext fun a => Fin.ext ?_)
  match a with
  | ⟨0, _⟩ =>
    show win0_4.index t 0 * 512 + 1 * r.val = _
    rw [idx4_0, Nat.one_mul]; rfl
  | ⟨1, _⟩ =>
    show win0_4.index t 1 * 512 + 1 * k.val = _
    rw [idx4_1, Nat.zero_mul, Nat.zero_add, Nat.one_mul]; rfl

theorem in_5 (t : Fin cfg0.N) (r : Fin 512) (k : Fin 512) : iblk m c 5 t (ix2 r k) = a5 m c (ix2 (rI t r) k) := by
  refine Eq.trans ?_ (congrFun (V_v5 m c) (ix2 (rI t r) k))
  show V m c main_v5 (((cfg0.win 5).blk t).view.emb (ix2 r k)) = _
  refine congrArg (V m c main_v5) (funext fun a => Fin.ext ?_)
  match a with
  | ⟨0, _⟩ =>
    show win0_5.index t 0 * 512 + 1 * r.val = _
    rw [idx5_0, Nat.one_mul]; rfl
  | ⟨1, _⟩ =>
    show win0_5.index t 1 * 512 + 1 * k.val = _
    rw [idx5_1, Nat.zero_mul, Nat.zero_add, Nat.one_mul]; rfl

end Cert.Inp

end
-- ==== Proof.Inp.Puts.lean ====
/- The accumulator's puts at an index: its five row blocks, and the owners' blocks at their places. -/
module

public import proofs.«01_k».proof.Proof.Inp.Step
public import proofs.«01_k».proof.Proof.Mix.Puts
public import Idealize.ShloMosaic.Lib.Pointwise

@[expose] public section

set_option maxRecDepth 16384
set_option maxHeartbeats 1000000

noncomputable section

namespace Cert.Inp

open Cert.Kernel4Ideal Cert.Kernel4Ideal.Gen
open Idealize.ShloMosaic Idealize.ShloMosaic.TcCoe
open Idealize.ShloMosaic.Pointwise
open Idealize.ShloMosaic.VecWindow
open Cert.Mix (put_rows_same put_rows_other win_rows)

/-- The five parts side by side: column `j` is column `j % 512` of part `j / 512`. -/
def cols {R : ℕ} (p0 p1 p2 p3 p4 : (⟨2, ![R, 512]⟩ : Shape).Idx → EReal) (s : Fin R) (j : Fin 2560) : EReal :=
  if h0 : j.val < 512 then p0 (ix2 s ⟨j.val, h0⟩)
  else if h1 : j.val < 1024 then p1 (ix2 s ⟨j.val - 512, by omega⟩)
  else if h2 : j.val < 1536 then p2 (ix2 s ⟨j.val - 1024, by omega⟩)
  else if h3 : j.val < 2048 then p3 (ix2 s ⟨j.val - 1536, by omega⟩)
  else p4 (ix2 s ⟨j.val - 2048, by omega⟩)

section Cols

variable {R : ℕ} (p0 p1 p2 p3 p4 : (⟨2, ![R, 512]⟩ : Shape).Idx → EReal) (s : Fin R) (j : Fin 2560)

theorem cols_0 (h : j.val < 512) : cols p0 p1 p2 p3 p4 s j = p0 (ix2 s ⟨j.val, h⟩) := dif_pos h
theorem cols_1 (h : 512 ≤ j.val) (h' : j.val < 1024) : cols p0 p1 p2 p3 p4 s j = p1 (ix2 s ⟨j.val - 512, by omega⟩) := by
  unfold cols; rw [dif_neg (by omega), dif_pos h']
theorem cols_2 (h : 1024 ≤ j.val) (h' : j.val < 1536) : cols p0 p1 p2 p3 p4 s j = p2 (ix2 s ⟨j.val - 1024, by omega⟩) := by
  unfold cols; rw [dif_neg (by omega), dif_neg (by omega), dif_pos h']
theorem cols_3 (h : 1536 ≤ j.val) (h' : j.val < 2048) : cols p0 p1 p2 p3 p4 s j = p3 (ix2 s ⟨j.val - 1536, by omega⟩) := by
  unfold cols; rw [dif_neg (by omega), dif_neg (by omega), dif_neg (by omega), dif_pos h']
theorem cols_4 (h : 2048 ≤ j.val) : cols p0 p1 p2 p3 p4 s j = p4 (ix2 s ⟨j.val - 2048, by omega⟩) := by
  unfold cols; rw [dif_neg (by omega), dif_neg (by omega), dif_neg (by omega), dif_neg (by omega)]

end Cols

section Stored

variable (x : Vec Ideal S512x1024 .bf16) (old : Vec Ideal S512x1024 .f32) (p : Vec Ideal S512x512 .bf16) (r : Fin 512) (k : Fin 1024)

theorem pay14_apply : k0_pay14 x old p (ix2 r k) = old (ix2 r k) + ∑ s : Fin 512, p (ix2 s r) * x (ix2 s k) := by
  pointwise [k0_pay14, k0_pay13]
theorem pay15_apply : k0_pay15 x old p (ix2 r k) = old (ix2 r k) + ∑ s : Fin 512, p (ix2 s r) * x (ix2 s k) := by
  pointwise [k0_pay15, k0_pay13]
theorem pay16_apply : k0_pay16 x old p (ix2 r k) = old (ix2 r k) + ∑ s : Fin 512, p (ix2 s r) * x (ix2 s k) := by
  pointwise [k0_pay16, k0_pay13]
theorem pay1_apply : k0_pay1 (k0_pay13 x) old p (ix2 r k) = old (ix2 r k) + ∑ s : Fin 512, p (ix2 s r) * x (ix2 s k) := by
  pointwise [k0_pay1, k0_pay13]
theorem pay2_apply : k0_pay2 (k0_pay13 x) old p (ix2 r k) = old (ix2 r k) + ∑ s : Fin 512, p (ix2 s r) * x (ix2 s k) := by
  pointwise [k0_pay2, k0_pay13]
theorem pay12_apply (q : Fin 2560) : k0_pay12 (F := Ideal) (ix2 q k) = 0 := by
  pointwise [k0_pay12]

variable (w : Vec Ideal S320x1024 .f32) (q : Fin 320)

theorem stored_4 : k0_pay4 w (ix3 0 q k) = w (ix2 q k) := by pointwise [k0_pay4]
theorem stored_5 : k0_pay5 w (ix3 0 q k) = w (ix2 q k) := by pointwise [k0_pay5]
theorem stored_6 : k0_pay6 w (ix3 0 q k) = w (ix2 q k) := by pointwise [k0_pay6]
theorem stored_7 : k0_pay7 w (ix3 0 q k) = w (ix2 q k) := by pointwise [k0_pay7]
theorem stored_8 : k0_pay8 w (ix3 0 q k) = w (ix2 q k) := by pointwise [k0_pay8]
theorem stored_9 : k0_pay9 w (ix3 0 q k) = w (ix2 q k) := by pointwise [k0_pay9]
theorem stored_10 : k0_pay10 w (ix3 0 q k) = w (ix2 q k) := by pointwise [k0_pay10]
theorem stored_3 : k0_pay3 (k0_pay11 w) (ix3 0 q k) = w (ix2 q k) := by pointwise [k0_pay3, k0_pay11]

end Stored

/-- One tile's products, at an index: the rows of the parts side by side against the input's. -/
theorem accPut_apply (x : Vec Ideal S512x1024 .bf16) (p0 p1 p2 p3 p4 : Vec Ideal S512x512 .bf16) (old : Vec Ideal S2560x1024 .f32)
    (j : Fin 2560) (k : Fin 1024) : accPut x p0 p1 p2 p3 p4 old (ix2 j k)
      = old (ix2 j k) + ∑ s : Fin 512, cols p0 p1 p2 p3 p4 s j * x (ix2 s k) := by
  have hc : ∀ f g : Fin 2560, f.val = g.val → old (ix2 f k) = old (ix2 g k) := fun f g h => by rw [Fin.ext h]
  unfold accPut
  by_cases h4 : 2048 ≤ j.val
  · refine (put_rows_same _ 2048 _ j k h4 (by omega)).trans ((pay2_apply _ _ _ _ k).trans ?_)
    refine congrArg₂ (· + ·) ((win_rows old 2048 (by decide) _ _ k).trans (hc _ _ (by dsimp only; omega))) (Finset.sum_congr rfl fun s _ => ?_)
    rw [cols_4 _ _ _ _ _ s j h4]
  refine (put_rows_other _ 2048 _ j k (by omega)).trans ?_
  by_cases h3 : 1536 ≤ j.val
  · refine (put_rows_same _ 1536 _ j k h3 (by omega)).trans ((pay1_apply _ _ _ _ k).trans ?_)
    refine congrArg₂ (· + ·) ((win_rows old 1536 (by decide) _ _ k).trans (hc _ _ (by dsimp only; omega))) (Finset.sum_congr rfl fun s _ => ?_)
    rw [cols_3 _ _ _ _ _ s j h3 (by omega)]
  refine (put_rows_other _ 1536 _ j k (by omega)).trans ?_
  by_cases h2 : 1024 ≤ j.val
  · refine (put_rows_same _ 1024 _ j k h2 (by omega)).trans ((pay16_apply _ _ _ _ k).trans ?_)
    refine congrArg₂ (· + ·) ((win_rows old 1024 (by decide) _ _ k).trans (hc _ _ (by dsimp only; omega))) (Finset.sum_congr rfl fun s _ => ?_)
    rw [cols_2 _ _ _ _ _ s j h2 (by omega)]
  refine (put_rows_other _ 1024 _ j k (by omega)).trans ?_
  by_cases h1 : 512 ≤ j.val
  · refine (put_rows_same _ 512 _ j k h1 (by omega)).trans ((pay15_apply _ _ _ _ k).trans ?_)
    refine congrArg₂ (· + ·) ((win_rows old 512 (by decide) _ _ k).trans (hc _ _ (by dsimp only; omega))) (Finset.sum_congr rfl fun s _ => ?_)
    rw [cols_1 _ _ _ _ _ s j h1 (by omega)]
  refine (put_rows_other _ 512 _ j k (by omega)).trans ?_
  refine (put_rows_same _ 0 _ j k (Nat.zero_le _) (by omega)).trans ((pay14_apply _ _ _ _ k).trans ?_)
  refine congrArg₂ (· + ·) ((win_rows old 0 (by decide) _ _ k).trans (hc _ _ (by dsimp only; omega))) (Finset.sum_congr rfl fun s _ => ?_)
  rw [cols_0 _ _ _ _ _ s j (by omega)]
  rfl

/-- A put of one block, read at that block. -/
theorem put_block_same (x : S8x320x1024.Idx → EReal) (q : ℕ) (w : S1x320x1024.Idx → EReal) (b : Fin 8) (hb : b.val = q)
    (r : Fin 320) (k : Fin 1024) : put x ![q, 0, 0] S1x320x1024.size w (ix3 b r k) = w (ix3 0 r k) := by
  subst hb
  have hm : ∀ a : Fin 3, (![b.val, 0, 0] : Fin 3 → ℕ) a ≤ ((ix3 b r k : S8x320x1024.Idx) a).val
      ∧ ((ix3 b r k : S8x320x1024.Idx) a).val < (![b.val, 0, 0] : Fin 3 → ℕ) a + S1x320x1024.size a := fun a =>
    match a with
    | ⟨0, _⟩ => ⟨le_refl b.val, Nat.lt_succ_self b.val⟩
    | ⟨1, _⟩ => ⟨Nat.zero_le _, (by show r.val < 0 + 320; omega)⟩
    | ⟨2, _⟩ => ⟨Nat.zero_le _, (by show k.val < 0 + 1024; omega)⟩
  refine (dif_pos hm).trans (congrArg w (funext fun a => Fin.ext ?_))
  match a with
  | ⟨0, _⟩ => show b.val - b.val = 0; omega
  | ⟨1, _⟩ => rfl
  | ⟨2, _⟩ => rfl

/-- A put of one block, read at another. -/
theorem put_block_other (x : S8x320x1024.Idx → EReal) (q : ℕ) (w : S1x320x1024.Idx → EReal) (b : Fin 8) (hb : b.val ≠ q)
    (r : Fin 320) (k : Fin 1024) : put x ![q, 0, 0] S1x320x1024.size w (ix3 b r k) = x (ix3 b r k) :=
  dif_neg fun hm => hb (by
    have h0 := hm 0
    have h1 : q ≤ b.val := h0.1
    have h2 : b.val < q + 1 := h0.2
    omega)

/-- The eight blocks are the accumulator's rows, block `b` from `b % 4 * 640 + b / 4 * 320` on. -/
theorem slabs_apply (acc : Vec Ideal S2560x1024 .f32) (old : Vec Ideal S8x320x1024 .bf16) (b : Fin 8) (r : Fin 320) (k : Fin 1024) :
    slabs acc old (ix3 b r k) = acc (ix2 ⟨b.val % 4 * 640 + b.val / 4 * 320 + r.val, by omega⟩ k) := by
  have hc : ∀ f g : Fin 2560, f.val = g.val → acc (ix2 f k) = acc (ix2 g k) := fun f g h => by rw [Fin.ext h]
  unfold slabs slabs8
  by_cases h7 : b.val = 7
  · refine (put_block_same _ 7 _ b h7 r k).trans ((stored_5 k _ r).trans ((win_rows acc 2240 (by decide) _ r k).trans ?_))
    exact hc _ _ (by dsimp only; omega)
  refine (put_block_other _ 7 _ b h7 r k).trans ?_
  by_cases h3 : b.val = 3
  · refine (put_block_same _ 3 _ b h3 r k).trans ((stored_4 k _ r).trans ((win_rows acc 1920 (by decide) _ r k).trans ?_))
    exact hc _ _ (by dsimp only; omega)
  refine (put_block_other _ 3 _ b h3 r k).trans ?_
  by_cases h6 : b.val = 6
  · refine (put_block_same _ 6 _ b h6 r k).trans ((stored_3 k _ r).trans ((win_rows acc 1600 (by decide) _ r k).trans ?_))
    exact hc _ _ (by dsimp only; omega)
  refine (put_block_other _ 6 _ b h6 r k).trans ?_
  by_cases h2 : b.val = 2
  · refine (put_block_same _ 2 _ b h2 r k).trans ((stored_10 k _ r).trans ((win_rows acc 1280 (by decide) _ r k).trans ?_))
    exact hc _ _ (by dsimp only; omega)
  refine (put_block_other _ 2 _ b h2 r k).trans ?_
  by_cases h5 : b.val = 5
  · refine (put_block_same _ 5 _ b h5 r k).trans ((stored_9 k _ r).trans ((win_rows acc 960 (by decide) _ r k).trans ?_))
    exact hc _ _ (by dsimp only; omega)
  refine (put_block_other _ 5 _ b h5 r k).trans ?_
  by_cases h1 : b.val = 1
  · refine (put_block_same _ 1 _ b h1 r k).trans ((stored_8 k _ r).trans ((win_rows acc 640 (by decide) _ r k).trans ?_))
    exact hc _ _ (by dsimp only; omega)
  refine (put_block_other _ 1 _ b h1 r k).trans ?_
  by_cases h4 : b.val = 4
  · refine (put_block_same _ 4 _ b h4 r k).trans ((stored_7 k _ r).trans ((win_rows acc 320 (by decide) _ r k).trans ?_))
    exact hc _ _ (by dsimp only; omega)
  refine (put_block_other _ 4 _ b h4 r k).trans ?_
  by_cases h0 : b.val = 0
  · refine (put_block_same _ 0 _ b h0 r k).trans ((stored_6 k _ r).trans ((win_rows acc 0 (by decide) _ r k).trans ?_))
    exact hc _ _ (by dsimp only; omega)
  exfalso
  omega

end Cert.Inp

end
-- ==== Proof.Inp.RefRead.lean ====
/- The reference's array at an index: the five parts' rows side by side against the input's. -/
module

public import proofs.«01_k».proof.Proof.Inp.Puts
public import proofs.«01_k».proof.Proof.Gen.Reference4Ideal.Read
public import Idealize.ShloMosaic.Lib.Pointwise

@[expose] public section

set_option maxRecDepth 16384
set_option maxHeartbeats 1000000

noncomputable section

namespace Cert.Inp

open Cert.Kernel4Ideal Cert.Kernel4Ideal.Gen
open Idealize.ShloMosaic Idealize.ShloMosaic.TcCoe
open Idealize.ShloMosaic.Pointwise
open Cert.Reference4Ideal.Read

section Pads

variable {α : Type} {u : Shape} (x : (⟨2, ![4096, 512]⟩ : Shape).Idx → α) (v : u.Idx → α) (lo hi : ℕ)
  (h : (⟨2, ![4096, 512]⟩ : Shape).Pads ![0, lo] ![0, hi] ![0, 0] (⟨2, ![4096, 2560]⟩ : Shape)) (hu : 0 < u.numel) (s : Fin 4096) (j : Fin 2560)

/-- A part padded to all columns, read at one of its own. -/
theorem pad_in (h1 : lo ≤ j.val) (h2 : j.val < lo + 512) :
    pad (⟨2, ![4096, 2560]⟩ : Shape) ![0, lo] ![0, hi] ![0, 0] x v h hu (ix2 s j) = x (ix2 s ⟨j.val - lo, by omega⟩) := by
  rw [pad_apply]
  refine (dif_pos fun a => ?_).trans (congrArg x (funext fun a => Fin.ext ?_))
  · match a with
    | ⟨0, _⟩ => exact ⟨Nat.zero_le _, Nat.mod_one _, (by show (s.val - 0) / 1 < 4096; omega)⟩
    | ⟨1, _⟩ => exact ⟨h1, Nat.mod_one _, (by show (j.val - lo) / 1 < 512; omega)⟩
  · match a with
    | ⟨0, _⟩ => show (s.val - 0) / 1 = s.val; omega
    | ⟨1, _⟩ => show (j.val - lo) / 1 = j.val - lo; omega

/-- A part padded to all columns, read at another. -/
theorem pad_out (hn : ¬(lo ≤ j.val ∧ j.val < lo + 512)) :
    pad (⟨2, ![4096, 2560]⟩ : Shape) ![0, lo] ![0, hi] ![0, 0] x v h hu (ix2 s j) = v (Shape.Idx.first hu) := by
  rw [pad_apply]
  refine dif_neg fun hin => hn ?_
  have h1 : lo ≤ j.val ∧ (j.val - lo) % (0 + 1) = 0 ∧ (j.val - lo) / (0 + 1) < 512 := hin (1 : Fin 2)
  omega

end Pads

theorem zero_0 (i) : val_main_cst_0 (F := Ideal) i = 0 := by pointwise [val_main_cst_0]
theorem zero_1 (i) : val_main_cst_1 (F := Ideal) i = 0 := by pointwise [val_main_cst_1]
theorem zero_2 (i) : val_main_cst_2 (F := Ideal) i = 0 := by pointwise [val_main_cst_2]
theorem zero_3 (i) : val_main_cst_3 (F := Ideal) i = 0 := by pointwise [val_main_cst_3]
theorem zero_4 (i) : val_main_cst_4 (F := Ideal) i = 0 := by pointwise [val_main_cst_4]

variable (x0 : Vec Ideal S4096x1024 .f32) (x1 x2 x3 x4 x5 : Vec Ideal S4096x512 .f32)

theorem v15_sum (s : Fin 4096) (j : Fin 2560) : val_main_v15 (F := Ideal) x1 x2 x3 x4 x5 (ix2 s j)
    = (((val_main_v7 (F := Ideal) x5 (ix2 s j) + val_main_v8 (F := Ideal) x4 (ix2 s j)) + val_main_v10 (F := Ideal) x3 (ix2 s j))
        + val_main_v12 (F := Ideal) x2 (ix2 s j)) + val_main_v14 (F := Ideal) x1 (ix2 s j) := rfl

/-- The padded parts' sum is the parts side by side. -/
theorem v15_apply (s : Fin 4096) (j : Fin 2560) : val_main_v15 (F := Ideal) x1 x2 x3 x4 x5 (ix2 s j) = cols x1 x2 x3 x4 x5 s j := by
  rw [v15_sum]
  by_cases h4 : 2048 ≤ j.val
  · have e0 : val_main_v14 (F := Ideal) x1 (ix2 s j) = 0 := (pad_out _ _ _ _ _ _ s j (by omega)).trans (zero_4 _)
    have e1 : val_main_v12 (F := Ideal) x2 (ix2 s j) = 0 := (pad_out _ _ _ _ _ _ s j (by omega)).trans (zero_3 _)
    have e2 : val_main_v10 (F := Ideal) x3 (ix2 s j) = 0 := (pad_out _ _ _ _ _ _ s j (by omega)).trans (zero_2 _)
    have e3 : val_main_v8 (F := Ideal) x4 (ix2 s j) = 0 := (pad_out _ _ _ _ _ _ s j (by omega)).trans (zero_1 _)
    have e4 : val_main_v7 (F := Ideal) x5 (ix2 s j) = x5 (ix2 s ⟨j.val - 2048, by omega⟩) := pad_in _ _ _ _ _ _ s j (by omega) (by omega)
    rw [e0, e1, e2, e3, e4, cols_4 _ _ _ _ _ s j h4]
    simp only [add_zero, zero_add, Nat.sub_zero]
  by_cases h3 : 1536 ≤ j.val
  · have e0 : val_main_v14 (F := Ideal) x1 (ix2 s j) = 0 := (pad_out _ _ _ _ _ _ s j (by omega)).trans (zero_4 _)
    have e1 : val_main_v12 (F := Ideal) x2 (ix2 s j) = 0 := (pad_out _ _ _ _ _ _ s j (by omega)).trans (zero_3 _)
    have e2 : val_main_v10 (F := Ideal) x3 (ix2 s j) = 0 := (pad_out _ _ _ _ _ _ s j (by omega)).trans (zero_2 _)
    have e3 : val_main_v8 (F := Ideal) x4 (ix2 s j) = x4 (ix2 s ⟨j.val - 1536, by omega⟩) := pad_in _ _ _ _ _ _ s j (by omega) (by omega)
    have e4 : val_main_v7 (F := Ideal) x5 (ix2 s j) = 0 := (pad_out _ _ _ _ _ _ s j (by omega)).trans (zero_0 _)
    rw [e0, e1, e2, e3, e4, cols_3 _ _ _ _ _ s j h3 (by omega)]
    simp only [add_zero, zero_add, Nat.sub_zero]
  by_cases h2 : 1024 ≤ j.val
  · have e0 : val_main_v14 (F := Ideal) x1 (ix2 s j) = 0 := (pad_out _ _ _ _ _ _ s j (by omega)).trans (zero_4 _)
    have e1 : val_main_v12 (F := Ideal) x2 (ix2 s j) = 0 := (pad_out _ _ _ _ _ _ s j (by omega)).trans (zero_3 _)
    have e2 : val_main_v10 (F := Ideal) x3 (ix2 s j) = x3 (ix2 s ⟨j.val - 1024, by omega⟩) := pad_in _ _ _ _ _ _ s j (by omega) (by omega)
    have e3 : val_main_v8 (F := Ideal) x4 (ix2 s j) = 0 := (pad_out _ _ _ _ _ _ s j (by omega)).trans (zero_1 _)
    have e4 : val_main_v7 (F := Ideal) x5 (ix2 s j) = 0 := (pad_out _ _ _ _ _ _ s j (by omega)).trans (zero_0 _)
    rw [e0, e1, e2, e3, e4, cols_2 _ _ _ _ _ s j h2 (by omega)]
    simp only [add_zero, zero_add, Nat.sub_zero]
  by_cases h1 : 512 ≤ j.val
  · have e0 : val_main_v14 (F := Ideal) x1 (ix2 s j) = 0 := (pad_out _ _ _ _ _ _ s j (by omega)).trans (zero_4 _)
    have e1 : val_main_v12 (F := Ideal) x2 (ix2 s j) = x2 (ix2 s ⟨j.val - 512, by omega⟩) := pad_in _ _ _ _ _ _ s j (by omega) (by omega)
    have e2 : val_main_v10 (F := Ideal) x3 (ix2 s j) = 0 := (pad_out _ _ _ _ _ _ s j (by omega)).trans (zero_2 _)
    have e3 : val_main_v8 (F := Ideal) x4 (ix2 s j) = 0 := (pad_out _ _ _ _ _ _ s j (by omega)).trans (zero_1 _)
    have e4 : val_main_v7 (F := Ideal) x5 (ix2 s j) = 0 := (pad_out _ _ _ _ _ _ s j (by omega)).trans (zero_0 _)
    rw [e0, e1, e2, e3, e4, cols_1 _ _ _ _ _ s j h1 (by omega)]
    simp only [add_zero, zero_add, Nat.sub_zero]
  have e0 : val_main_v14 (F := Ideal) x1 (ix2 s j) = x1 (ix2 s ⟨j.val - 0, by omega⟩) := pad_in _ _ _ _ _ _ s j (by omega) (by omega)
  have e1 : val_main_v12 (F := Ideal) x2 (ix2 s j) = 0 := (pad_out _ _ _ _ _ _ s j (by omega)).trans (zero_3 _)
  have e2 : val_main_v10 (F := Ideal) x3 (ix2 s j) = 0 := (pad_out _ _ _ _ _ _ s j (by omega)).trans (zero_2 _)
  have e3 : val_main_v8 (F := Ideal) x4 (ix2 s j) = 0 := (pad_out _ _ _ _ _ _ s j (by omega)).trans (zero_1 _)
  have e4 : val_main_v7 (F := Ideal) x5 (ix2 s j) = 0 := (pad_out _ _ _ _ _ _ s j (by omega)).trans (zero_0 _)
  rw [e0, e1, e2, e3, e4, cols_0 _ _ _ _ _ s j (by omega)]
  simp only [add_zero, zero_add, Nat.sub_zero]

/-- Block `b` is the weight's gradient from row `b % 4 * 640 + b / 4 * 320` on. -/
theorem v22_apply (b : Fin 8) (r : Fin 320) (k : Fin 1024) : val_main_v22 (F := Ideal) x0 x1 x2 x3 x4 x5 (ix3 b r k)
    = ∑ s : Fin 4096, cols x1 x2 x3 x4 x5 s ⟨b.val % 4 * 640 + b.val / 4 * 320 + r.val, by omega⟩ * x0 (ix2 s k) := by
  have e : val_main_v22 (F := Ideal) x0 x1 x2 x3 x4 x5 (ix3 b r k)
      = ∑ s : Fin 4096, val_main_v15 (F := Ideal) x1 x2 x3 x4 x5 (ix2 s ⟨b.val % 4 * 640 + b.val / 4 * 320 + r.val, by omega⟩) * x0 (ix2 s k) := by
    unfold val_main_v22 val_main_v21 val_main_v20 val_main_v19 val_main_v18 val_main_v17 val_main_v16
    generalize val_main_v15 (F := Ideal) x1 x2 x3 x4 x5 = Y
    pointwise []
  rw [e]
  exact Finset.sum_congr rfl fun s _ => by rw [v15_apply]

end Cert.Inp

end
-- ==== Proof.Inp.Value.lean ====
/- The accumulator after the last point is the weight's gradient, so its blocks are the reference's. -/
module

public import proofs.«01_k».proof.Proof.Inp.Entry
public import proofs.«01_k».proof.Proof.Inp.Puts
public import proofs.«01_k».proof.Proof.Inp.RefRead
public import proofs.«01_k».proof.Proof.Wgt.Value
public import Idealize.ShloMosaic.Lib.Pointwise

@[expose] public section

set_option maxRecDepth 16384
set_option maxHeartbeats 1000000

noncomputable section

namespace Cert.Inp

open Cert.Kernel4Ideal Cert.Kernel4Ideal.Gen
open Idealize.ShloMosaic Idealize.ShloMosaic.TcCoe
open Idealize.ShloMosaic.Pointwise
open Cert.Reference4Ideal.Read

variable (m : (ℓ : Loc nD τ sig) → Buf (Elt Ideal) ℓ) (c : Dev nD)

/-- One row's product, for every row at one index of the gradient. -/
abbrev term (j : Fin 2560) (k : Fin 1024) (s : Fin 4096) : EReal :=
  cols (a1 m c) (a2 m c) (a3 m c) (a4 m c) (a5 m c) s j * a0 m c (ix2 s k)

theorem accT_apply (t : Fin cfg0.N) (old : Vec Ideal S2560x1024 .f32) (j : Fin 2560) (k : Fin 1024) :
    accT m c t old (ix2 j k) = old (ix2 j k) + ∑ r : Fin 512, term m c j k (rI t r) := by
  unfold accT
  rw [accPut_apply]
  refine congrArg (_ + ·) (Finset.sum_congr rfl fun r _ => congrArg₂ (· * ·) ?_ (in_0 m c t r k))
  unfold cols
  simp only [in_1, in_2, in_3, in_4, in_5]

/-- A row's product by its number. -/
def termN (j : Fin 2560) (k : Fin 1024) (n : ℕ) : EReal := if h : n < 4096 then term m c j k ⟨n, h⟩ else 0

theorem termN_tile (j : Fin 2560) (k : Fin 1024) {i : ℕ} (hi : i < cfg0.N) (r : Fin 512) :
    termN m c j k (i * 512 + r.val) = term m c j k (rI ⟨i, hi⟩ r) := dif_pos _

theorem acc_value (h7 : 7 < cfg0.N) (j : Fin 2560) (k : Fin 1024) : accN m c 7 h7 (ix2 j k) = ∑ s : Fin 4096, term m c j k s := by
  have hN : cfg0.N = 8 := N_0
  rw [← show (∑ s : Fin 4096, termN m c j k s.val) = ∑ s, term m c j k s from Finset.sum_congr rfl fun s _ => dif_pos s.isLt]
  refine Eq.trans ?_ (Cert.Wgt.tile_sum_all (termN m c j k) (fun n => if h : n < cfg0.N then accN m c n h (ix2 j k) else 0) ?_ fun i hi => ?_)
  · rw [dif_pos h7]
  · rw [dif_pos (show 0 < cfg0.N by omega)]
    refine (accT_apply m c _ _ j k).trans ?_
    rw [pay12_apply]
    exact congrArg (0 + ·) (Finset.sum_congr rfl fun r _ => (termN_tile m c j k (by omega) r).symm)
  · rw [dif_pos (show i + 1 < cfg0.N by omega), dif_pos (show i < cfg0.N by omega)]
    refine (accT_apply m c _ _ j k).trans ?_
    exact congrArg (_ + ·) (Finset.sum_congr rfl fun r _ => (termN_tile m c j k (by omega) r).symm)

theorem gwi_value (h7 : 7 < cfg0.N) (old : Vec Ideal S8x320x1024 .bf16) (b : Fin 8) (r : Fin 320) (k : Fin 1024) :
    slabs (accN m c 7 h7) old (ix3 b r k)
      = val_main_v22 (F := Ideal) (a0 m c) (a1 m c) (a2 m c) (a3 m c) (a4 m c) (a5 m c) (ix3 b r k) := by
  rw [slabs_apply, acc_value, v22_apply]

end Cert.Inp

end
-- ==== Proof.Inp.Results.lean ====
/- The result array after the run is the reference's. -/
module

public import proofs.«01_k».proof.Proof.Inp.Value
public import Idealize.ShloMosaic.Lib.Pointwise
public import Idealize.ShloMosaic.Lib.Pipeline.ValueKit

@[expose] public section

set_option maxRecDepth 16384
set_option maxHeartbeats 1000000

noncomputable section

namespace Cert.Inp

open Cert.Kernel4Ideal Cert.Kernel4Ideal.Gen
open Idealize.ShloMosaic Idealize.ShloMosaic.TcCoe
open Idealize.ShloMosaic.Pointwise
open Cert.Reference4Ideal.Read
open Idealize.ShloMosaic.Pipeline (Dat)

variable (m : (ℓ : Loc nD τ sig) → Buf (Elt Ideal) ℓ) (c : Dev nD)

/-- The last point. -/
theorem lt7 : 7 < cfg0.N := by decide +kernel

theorem whole_6 : (cfg0.win 6).WholeAt ⟨7, lt7⟩ := by decide +kernel

theorem arr_6 {r : PUnit × MemSt nD τ sig (Elt Ideal)} (h : Pipeline.FramePost cfgs (dats m) 0 (V m) r) :
    r.2.mem ((c.tc : Thread nD τ).loc main_v6) = val_main_v22 (F := Ideal) (a0 m c) (a1 m c) (a2 m c) (a3 m c) (a4 m c) (a5 m c) := by
  refine ((h c).1 6).trans (funext fun y => ?_)
  refine ((dats m 0 c).arrAt_emb_eq_after_last 6 ⟨7, lt7⟩ whole_6 y).trans ?_
  blk_simp
  show (dats m 0 c).after 6 ⟨7, lt7⟩ y = _
  rw [after0_6]
  dsimp only
  rw [at_6 m c lt7]
  obtain ⟨b, q, k, rfl⟩ : ∃ (b : Fin 8) (q : Fin 320) (k : Fin 1024), y = ix3 b q k := ⟨y 0, y 1, y 2, eq_ix3 y⟩
  exact gwi_value m c lt7 _ b q k

end Cert.Inp

end
-- ==== Proof.Dwn.Same.lean ====
/- The fifth program as printed and as idealised have one text: no constant in it is named. So the frame of the one is the
   frame of the other. -/
module

public import proofs.«01_k».proof.Defs
public import proofs.«01_k».proof.Proof.Gen.Kernel5
public import proofs.«01_k».proof.Proof.Gen.Kernel5Ideal
public import proofs.«01_k».proof.Proof.Gen.Kernel5Ideal.Frame

@[expose] public section

set_option maxRecDepth 16384

noncomputable section

namespace Cert.Dwn

open Idealize.ShloMosaic Idealize.ShloMosaic.TcCoe Idealize.SL.Sem

attribute [local instance] Cert.Kernel5.Gen.facts

set_option maxHeartbeats 4000000 in
theorem bodies_eq : Cert.Kernel5.defs₀ (F := Bits) = Cert.Kernel5Ideal.defs₀ (F := Bits) := by
  unfold Cert.Kernel5.defs₀ Cert.Kernel5Ideal.defs₀
  refine congrArg (Defs.onTc (Λ := Cert.Kernel5Ideal.Λ₀) (nD := Cert.Kernel5Ideal.nD) (τ := Cert.Kernel5Ideal.τ) (sig := Cert.Kernel5Ideal.sig))
    (funext fun l => funext fun x => ?_)
  match l, x with
  | ⟨0, _⟩, (t, s) => rfl

theorem defs_eq : Cert.Kernel5.defs (F := Bits) = Cert.Kernel5Ideal.defs (F := Bits) :=
  congrArg (Pipeline.defs Cert.Kernel5Ideal.pcfgs) bodies_eq

set_option maxHeartbeats 4000000 in
theorem frame_printed : Cert.quiescent_Kernel5 (hKernel5 := Cert.Kernel5.Gen.facts) := fun m ρ _ =>
  (congrArg (fun d => θ_run d (onTc (τ := Cert.Kernel5Ideal.τ) (Cert.Kernel5Ideal.main (F := Bits))) ⟨m, fun _ => 0, ρ⟩ _) defs_eq).mpr
    (Cert.Kernel5Ideal.Gen.frame (F := Bits) m ρ)

end Cert.Dwn

end
-- ==== Proof.Dwn.Point.lean ====
/- What one point computes, element by element: a row less its mean, its reciprocal root, and their product. -/
module

public import proofs.«01_k».proof.Proof.Gen.Kernel5Ideal
public import proofs.«01_k».proof.Proof.Gen.Kernel5Ideal.Frame
public import proofs.«01_k».proof.Proof.Mix.Row
public import Idealize.ShloMosaic.Lib.Claim
public import Idealize.ShloMosaic.Lib.StableHlo.RunRead
public import Idealize.ShloMosaic.Lib.Pointwise

@[expose] public section

set_option maxRecDepth 16384
set_option maxHeartbeats 1000000

noncomputable section

namespace Cert.Dwn

open Cert.Kernel5Ideal Cert.Kernel5Ideal.Gen
open Idealize.ShloMosaic Idealize.ShloMosaic.TcCoe
open Idealize.ShloMosaic.Pointwise
open Cert.Mix (cen vari)

section

variable (x : Vec Ideal S512x1024 .f32) (g b : Vec Ideal S1x1024 .f32) (h : Vec Ideal S512x2816 .bf16) (w : Vec Ideal S2816x1024 .bf16)

/-- A row of the residual's sum. -/
def rowK (r : Fin 512) (j : Fin 1024) : EReal :=
  Ideal.ofBits .f32 0x3F9837F0#32 * (x (ix2 r j) * g (ix2 0 j) + b (ix2 0 j)) + ∑ q : Fin 2816, h (ix2 r q) * w (ix2 q j)

theorem pay1_apply (r : Fin 512) (k : Fin 1024) : k0_pay1 x g b h w (ix2 r k) = cen (rowK x g b h w r) k := by
  pointwise [k0_pay1, cen, rowK]

theorem pay2_apply (r : Fin 512) : k0_pay2 x g b h w (ix2 r 0) = Ideal.rsqrt (vari (fun j => k0_pay1 x g b h w (ix2 r j))) := by
  unfold k0_pay2
  generalize k0_pay1 x g b h w = U
  pointwise [vari]

theorem pay3_apply (r : Fin 512) (k : Fin 1024) :
    k0_pay3 x g b h w (ix2 r k) = k0_pay1 x g b h w (ix2 r k) * k0_pay2 x g b h w (ix2 r 0) := by
  unfold k0_pay3
  generalize k0_pay1 x g b h w = U
  generalize k0_pay2 x g b h w = R
  pointwise []

end

end Cert.Dwn

end
-- ==== Proof.Dwn.Entry.lean ====
/- What the arrays hold when the kernel starts, and the blocks its points read of them. -/
module

public import proofs.«01_k».proof.Proof.Gen.Kernel5Ideal
public import proofs.«01_k».proof.Proof.Gen.Kernel5Ideal.Frame
public import Idealize.ShloMosaic.Lib.Claim
public import Idealize.ShloMosaic.Lib.StableHlo.RunRead
public import Idealize.ShloMosaic.Lib.Pointwise

@[expose] public section

set_option maxRecDepth 16384
set_option maxHeartbeats 1000000

noncomputable section

namespace Cert.Dwn

open Cert.Kernel5Ideal Cert.Kernel5Ideal.Gen
open Idealize.ShloMosaic Idealize.ShloMosaic.TcCoe
open Idealize.ShloMosaic.Pointwise

variable (m : (ℓ : Loc nD τ sig) → Buf (Elt Ideal) ℓ) (c : Dev nD)

/-- An argument array, as launched. -/
abbrev a0 : Vec Ideal S4096x2816 .f32 := m ((c : Thread nD τ).loc main_arg0)
abbrev a1 : Vec Ideal S2816x1024 .f32 := m ((c : Thread nD τ).loc main_arg1)
abbrev a2 : Vec Ideal S4096x1024 .f32 := m ((c : Thread nD τ).loc main_arg2)
abbrev a3 : Vec Ideal S1024 .f32 := m ((c : Thread nD τ).loc main_arg3)
abbrev a4 : Vec Ideal S1024 .f32 := m ((c : Thread nD τ).loc main_arg4)

theorem V_v0 : (V m c main_v0 : S4096x2816.Idx → EReal) = a0 m c := by unfold V; after_reads_simp; rfl
theorem V_v1 : (V m c main_v1 : S2816x1024.Idx → EReal) = a1 m c := by unfold V; after_reads_simp; rfl
theorem V_arg2 : (V m c main_arg2 : S4096x1024.Idx → EReal) = a2 m c := by unfold V; after_reads_simp
theorem V_v2 (k : Fin 1024) : (V m c main_v2 : S1x1024.Idx → EReal) (ix2 0 k) = a3 m c (ix1 k) := by
  unfold V; after_reads_simp
  pointwise []
theorem V_v3 (k : Fin 1024) : (V m c main_v3 : S1x1024.Idx → EReal) (ix2 0 k) = a4 m c (ix1 k) := by
  unfold V; after_reads_simp
  pointwise []

/-- A row of a row tile. -/
abbrev rI (t : Fin cfg0.N) (r : Fin 512) : Fin 4096 := ⟨t.val * 512 + r.val, by have := t.isLt; have : cfg0.N = 8 := N_0; omega⟩

theorem idx0_0 : ∀ t : Fin cfg0.N, win0_0.index t (0 : Fin 2) = t.val := by decide +kernel
theorem idx0_1 : ∀ t : Fin cfg0.N, win0_0.index t (1 : Fin 2) = 0 := by decide +kernel
theorem idx1_0 : ∀ t : Fin cfg0.N, win0_1.index t (0 : Fin 2) = 0 := by decide +kernel
theorem idx1_1 : ∀ t : Fin cfg0.N, win0_1.index t (1 : Fin 2) = 0 := by decide +kernel
theorem idx2_0 : ∀ t : Fin cfg0.N, win0_2.index t (0 : Fin 2) = t.val := by decide +kernel
theorem idx2_1 : ∀ t : Fin cfg0.N, win0_2.index t (1 : Fin 2) = 0 := by decide +kernel
theorem idx3_0 : ∀ t : Fin cfg0.N, win0_3.index t (0 : Fin 2) = 0 := by decide +kernel
theorem idx3_1 : ∀ t : Fin cfg0.N, win0_3.index t (1 : Fin 2) = 0 := by decide +kernel
theorem idx4_0 : ∀ t : Fin cfg0.N, win0_4.index t (0 : Fin 2) = 0 := by decide +kernel
theorem idx4_1 : ∀ t : Fin cfg0.N, win0_4.index t (1 : Fin 2) = 0 := by decide +kernel
theorem idx5_0 : ∀ t : Fin cfg0.N, win0_5.index t (0 : Fin 2) = t.val := by decide +kernel
theorem idx5_1 : ∀ t : Fin cfg0.N, win0_5.index t (1 : Fin 2) = 0 := by decide +kernel
theorem idx6_0 : ∀ t : Fin cfg0.N, win0_6.index t (0 : Fin 2) = t.val := by decide +kernel
theorem idx6_1 : ∀ t : Fin cfg0.N, win0_6.index t (1 : Fin 2) = 0 := by decide +kernel

theorem in_0 (t : Fin cfg0.N) (r : Fin 512) (k : Fin 2816) : iblk m c 0 t (ix2 r k) = a0 m c (ix2 (rI t r) k) := by
  refine Eq.trans ?_ (congrFun (V_v0 m c) (ix2 (rI t r) k))
  show V m c main_v0 (((cfg0.win 0).blk t).view.emb (ix2 r k)) = _
  refine congrArg (V m c main_v0) (funext fun a => Fin.ext ?_)
  match a with
  | ⟨0, _⟩ =>
    show win0_0.index t 0 * 512 + 1 * r.val = _
    rw [idx0_0, Nat.one_mul]; rfl
  | ⟨1, _⟩ =>
    show win0_0.index t 1 * 2816 + 1 * k.val = _
    rw [idx0_1, Nat.zero_mul, Nat.zero_add, Nat.one_mul]; rfl

theorem in_1 (t : Fin cfg0.N) (r : Fin 2816) (k : Fin 1024) : iblk m c 1 t (ix2 r k) = a1 m c (ix2 r k) := by
  refine Eq.trans ?_ (congrFun (V_v1 m c) (ix2 r k))
  show V m c main_v1 (((cfg0.win 1).blk t).view.emb (ix2 r k)) = _
  refine congrArg (V m c main_v1) (funext fun a => Fin.ext ?_)
  match a with
  | ⟨0, _⟩ =>
    show win0_1.index t 0 * 2816 + 1 * r.val = _
    rw [idx1_0, Nat.zero_mul, Nat.zero_add, Nat.one_mul]; rfl
  | ⟨1, _⟩ =>
    show win0_1.index t 1 * 1024 + 1 * k.val = _
    rw [idx1_1, Nat.zero_mul, Nat.zero_add, Nat.one_mul]; rfl

theorem in_2 (t : Fin cfg0.N) (r : Fin 512) (k : Fin 1024) : iblk m c 2 t (ix2 r k) = a2 m c (ix2 (rI t r) k) := by
  refine Eq.trans ?_ (congrFun (V_arg2 m c) (ix2 (rI t r) k))
  show V m c main_arg2 (((cfg0.win 2).blk t).view.emb (ix2 r k)) = _
  refine congrArg (V m c main_arg2) (funext fun a => Fin.ext ?_)
  match a with
  | ⟨0, _⟩ =>
    show win0_2.index t 0 * 512 + 1 * r.val = _
    rw [idx2_0, Nat.one_mul]; rfl
  | ⟨1, _⟩ =>
    show win0_2.index t 1 * 1024 + 1 * k.val = _
    rw [idx2_1, Nat.zero_mul, Nat.zero_add, Nat.one_mul]; rfl

theorem in_3 (t : Fin cfg0.N) (k : Fin 1024) : iblk m c 3 t (ix2 0 k) = a3 m c (ix1 k) := by
  refine Eq.trans ?_ (V_v2 m c k)
  show V m c main_v2 (((cfg0.win 3).blk t).view.emb (ix2 0 k)) = _
  refine congrArg (V m c main_v2) (funext fun a => Fin.ext ?_)
  match a with
  | ⟨0, _⟩ =>
    show win0_3.index t 0 * 1 + 1 * 0 = _
    rw [idx3_0]; rfl
  | ⟨1, _⟩ =>
    show win0_3.index t 1 * 1024 + 1 * k.val = _
    rw [idx3_1, Nat.zero_mul, Nat.zero_add, Nat.one_mul]; rfl

theorem in_4 (t : Fin cfg0.N) (k : Fin 1024) : iblk m c 4 t (ix2 0 k) = a4 m c (ix1 k) := by
  refine Eq.trans ?_ (V_v3 m c k)
  show V m c main_v3 (((cfg0.win 4).blk t).view.emb (ix2 0 k)) = _
  refine congrArg (V m c main_v3) (funext fun a => Fin.ext ?_)
  match a with
  | ⟨0, _⟩ =>
    show win0_4.index t 0 * 1 + 1 * 0 = _
    rw [idx4_0]; rfl
  | ⟨1, _⟩ =>
    show win0_4.index t 1 * 1024 + 1 * k.val = _
    rw [idx4_1, Nat.zero_mul, Nat.zero_add, Nat.one_mul]; rfl

end Cert.Dwn

end
-- ==== Proof.Dwn.RefRead.lean ====
/- The reference's operations, element by element. -/
module

public import proofs.«01_k».proof.Proof.Mix.Row
public import proofs.«01_k».proof.Proof.Gen.Reference5Ideal.Read
public import Idealize.ShloMosaic.Lib.Claim
public import Idealize.ShloMosaic.Lib.StableHlo.RunRead
public import Idealize.ShloMosaic.Lib.Pointwise

@[expose] public section

set_option maxRecDepth 16384
set_option maxHeartbeats 1000000

noncomputable section

namespace Cert.Dwn

open Cert.Reference5Ideal
open Idealize.ShloMosaic Idealize.ShloMosaic.TcCoe
open Idealize.ShloMosaic.Pointwise
open Cert.Reference5Ideal.Read
open Cert.Mix (cen vari)

variable (x0 : Vec Ideal S4096x2816 .f32) (x1 : Vec Ideal S2816x1024 .f32) (x2 : Vec Ideal S4096x1024 .f32) (x3 x4 : Vec Ideal S1024 .f32)

theorem v9_apply (s : Fin 4096) (k : Fin 1024) : val_main_v9 (F := Ideal) x0 x1 x2 x3 x4 (ix2 s k)
    = Ideal.ofBits .f32 0x3F9837F0#32 * (x2 (ix2 s k) * x3 (ix1 k) + x4 (ix1 k)) + ∑ j : Fin 2816, x0 (ix2 s j) * x1 (ix2 j k) := by
  unfold val_main_v9 val_main_v8 val_main_v7 val_main_v6 val_main_v5 val_main_v4 val_main_v3 val_main_v2 val_main_v1 val_main_v0
  pointwise [val_main_cst]

theorem v25_apply (s : Fin 4096) (k : Fin 1024) : val_main_v25 (F := Ideal) x0 x1 x2 x3 x4 (ix2 s k)
    = cen (fun j => val_main_v9 (F := Ideal) x0 x1 x2 x3 x4 (ix2 s j)) k := by
  unfold val_main_v25 val_main_v24 val_main_v13 val_main_v12 val_main_v11 val_main_v10
  generalize val_main_v9 (F := Ideal) x0 x1 x2 x3 x4 = R
  pointwise [val_main_cst_0, val_main_cst_1, cen]

theorem v15_eq : val_main_v15 (F := Ideal) x0 x1 x2 x3 x4 = val_main_v25 (F := Ideal) x0 x1 x2 x3 x4 := rfl

theorem v23_apply (s : Fin 4096) : val_main_v23 (F := Ideal) x0 x1 x2 x3 x4 (ix2 s 0)
    = Ideal.rsqrt (vari (fun j => val_main_v25 (F := Ideal) x0 x1 x2 x3 x4 (ix2 s j))) := by
  unfold val_main_v23 val_main_v22 val_main_v21 val_main_v20 val_main_v19 val_main_v18 val_main_v17 val_main_v16
  rw [v15_eq]
  generalize val_main_v25 (F := Ideal) x0 x1 x2 x3 x4 = R
  pointwise [val_main_cst_2, val_main_cst_3, val_main_cst_4, vari]

theorem v27_apply (s : Fin 4096) (k : Fin 1024) : val_main_v27 (F := Ideal) x0 x1 x2 x3 x4 (ix2 s k)
    = val_main_v25 (F := Ideal) x0 x1 x2 x3 x4 (ix2 s k) * val_main_v23 (F := Ideal) x0 x1 x2 x3 x4 (ix2 s 0) := by
  unfold val_main_v27 val_main_v26
  generalize val_main_v25 (F := Ideal) x0 x1 x2 x3 x4 = U
  generalize val_main_v23 (F := Ideal) x0 x1 x2 x3 x4 = R
  pointwise []

end Cert.Dwn

end
-- ==== Proof.Dwn.Results.lean ====
/- The two result arrays after the run are the reference's. -/
module

public import proofs.«01_k».proof.Proof.Dwn.Point
public import proofs.«01_k».proof.Proof.Dwn.Entry
public import proofs.«01_k».proof.Proof.Dwn.RefRead
public import Idealize.ShloMosaic.Lib.Pointwise
public import Idealize.ShloMosaic.Lib.Pipeline.Value
public import Idealize.ShloMosaic.Lib.Pipeline.ValueKit

@[expose] public section

set_option maxRecDepth 16384
set_option maxHeartbeats 1000000

noncomputable section

namespace Cert.Dwn

open Cert.Kernel5Ideal Cert.Kernel5Ideal.Gen
open Idealize.ShloMosaic Idealize.ShloMosaic.TcCoe
open Idealize.ShloMosaic.Pointwise
open Cert.Reference5Ideal.Read
open Idealize.ShloMosaic.Pipeline (Dat)
open Cert.Mix (cen vari)

variable (m : (ℓ : Loc nD τ sig) → Buf (Elt Ideal) ℓ) (c : Dev nD)

theorem off_zero : (![0, 0] : Fin 2 → ℕ) = fun _ => 0 := by
  funext a
  fin_cases a <;> rfl

section Bodies

variable (h : Vec Ideal S512x2816 .bf16) (w : Vec Ideal S2816x1024 .bf16) (x : Vec Ideal S512x1024 .f32) (g b : Vec Ideal S1x1024 .f32)

theorem out_5 : out0_5 h w x g b = k0_pay3 x g b h w := by
  unfold out0_5
  rw [View.canon_unit_zero (S := S512x1024) off_zero]
  rw [View.ld_unit_zero (S := S512x1024) off_zero, View.ld_unit_zero (S := S1x1024) off_zero, View.ld_unit_zero (S := S1x1024) off_zero,
    View.ld_unit_zero (S := S512x2816) off_zero, View.ld_unit_zero (S := S2816x1024) off_zero]

theorem out_6 : out0_6 h w x g b = k0_pay2 x g b h w := by
  unfold out0_6
  rw [View.canon_unit_zero (S := S512x1) off_zero]
  rw [View.ld_unit_zero (S := S512x1024) off_zero, View.ld_unit_zero (S := S1x1024) off_zero, View.ld_unit_zero (S := S1x1024) off_zero,
    View.ld_unit_zero (S := S512x2816) off_zero, View.ld_unit_zero (S := S2816x1024) off_zero]

end Bodies

theorem row_eq (t : Fin cfg0.N) (r : Fin 512) : rowK (iblk m c 2 t) (iblk m c 3 t) (iblk m c 4 t) (iblk m c 0 t) (iblk m c 1 t) r
    = fun j => val_main_v9 (F := Ideal) (a0 m c) (a1 m c) (a2 m c) (a3 m c) (a4 m c) (ix2 (rI t r) j) := by
  funext j
  rw [v9_apply]
  unfold rowK
  have e2 := in_2 m c t r j
  have e3 := in_3 m c t j
  have e4 := in_4 m c t j
  have e0 := fun q => in_0 m c t r q
  have e1 := fun q => in_1 m c t q j
  revert e0 e1 e2 e3 e4
  generalize iblk m c 0 t = B0
  generalize iblk m c 1 t = B1
  generalize iblk m c 2 t = B2
  generalize iblk m c 3 t = B3
  generalize iblk m c 4 t = B4
  intro e2 e3 e4 e0 e1
  refine congrArg₂ (· + ·) (congrArg _ (congrArg₂ (· + ·) (congrArg₂ (· * ·) e2 e3) e4)) (Finset.sum_congr rfl fun q _ => ?_)
  exact congrArg₂ (· * ·) (e0 q) (e1 q)

theorem cen_value (t : Fin cfg0.N) (r : Fin 512) (k : Fin 1024) :
    k0_pay1 (iblk m c 2 t) (iblk m c 3 t) (iblk m c 4 t) (iblk m c 0 t) (iblk m c 1 t) (ix2 r k)
      = val_main_v25 (F := Ideal) (a0 m c) (a1 m c) (a2 m c) (a3 m c) (a4 m c) (ix2 (rI t r) k) := by
  rw [v25_apply, ← row_eq m c t r]
  exact pay1_apply _ _ _ _ _ r k

theorem rstd_value (t : Fin cfg0.N) (r : Fin 512) :
    k0_pay2 (iblk m c 2 t) (iblk m c 3 t) (iblk m c 4 t) (iblk m c 0 t) (iblk m c 1 t) (ix2 r 0)
      = val_main_v23 (F := Ideal) (a0 m c) (a1 m c) (a2 m c) (a3 m c) (a4 m c) (ix2 (rI t r) 0) := by
  rw [v23_apply]
  exact (pay2_apply _ _ _ _ _ r).trans (congrArg (fun u => Ideal.rsqrt (vari u)) (funext fun j => cen_value m c t r j))

theorem xhat_value (t : Fin cfg0.N) (r : Fin 512) (k : Fin 1024) :
    k0_pay3 (iblk m c 2 t) (iblk m c 3 t) (iblk m c 4 t) (iblk m c 0 t) (iblk m c 1 t) (ix2 r k)
      = val_main_v27 (F := Ideal) (a0 m c) (a1 m c) (a2 m c) (a3 m c) (a4 m c) (ix2 (rI t r) k) := by
  rw [v27_apply]
  exact (pay3_apply _ _ _ _ _ r k).trans (congrArg₂ (· * ·) (cen_value m c t r k) (rstd_value m c t r))

theorem emb_5 (t : Fin cfg0.N) (r : Fin 512) (k : Fin 1024) : ((win0_5.blk t).view.emb (ix2 r k) : S4096x1024.Idx) = ix2 (rI t r) k := by
  refine funext fun a => Fin.ext ?_
  match a with
  | ⟨0, _⟩ =>
    show win0_5.index t 0 * 512 + 1 * r.val = _
    rw [idx5_0, Nat.one_mul]; rfl
  | ⟨1, _⟩ =>
    show win0_5.index t 1 * 1024 + 1 * k.val = _
    rw [idx5_1, Nat.one_mul, Nat.zero_mul, Nat.zero_add]; rfl

theorem emb_6 (t : Fin cfg0.N) (r : Fin 512) : ((win0_6.blk t).view.emb (ix2 r 0) : S4096x1.Idx) = ix2 (rI t r) 0 := by
  refine funext fun a => Fin.ext ?_
  match a with
  | ⟨0, _⟩ =>
    show win0_6.index t 0 * 512 + 1 * r.val = _
    rw [idx6_0, Nat.one_mul]; rfl
  | ⟨1, _⟩ =>
    show win0_6.index t 1 * 1 + 1 * 0 = _
    rw [idx6_1]; rfl

section Run

variable {r : PUnit × MemSt nD τ sig (Elt Ideal)} (h : Pipeline.FramePost cfgs (dats m) 0 (V m) r)

include h

theorem arr_5 : r.2.mem ((c.tc : Thread nD τ).loc main_v4_0) = val_main_v27 (F := Ideal) (a0 m c) (a1 m c) (a2 m c) (a3 m c) (a4 m c) := by
  refine ((h c).1 5).trans ((dats m 0 c).arrAt_eq_of_covers 5 (val_main_v27 (F := Ideal) (a0 m c) (a1 m c) (a2 m c) (a3 m c) (a4 m c)) (by decide +kernel) fun t hf y => ?_)
  blk_simp
  show (dats m 0 c).after 5 t y = _
  rw [after0_5, out_5]
  obtain ⟨q, l, rfl⟩ : ∃ (q : Fin 512) (l : Fin 1024), y = ix2 q l := ⟨y 0, y 1, eq_ix2 y⟩
  exact (xhat_value m c t q l).trans (congrArg (val_main_v27 (F := Ideal) (a0 m c) (a1 m c) (a2 m c) (a3 m c) (a4 m c)) (emb_5 t q l)).symm

theorem arr_6 : r.2.mem ((c.tc : Thread nD τ).loc main_v4_1) = val_main_v23 (F := Ideal) (a0 m c) (a1 m c) (a2 m c) (a3 m c) (a4 m c) := by
  refine ((h c).1 6).trans ((dats m 0 c).arrAt_eq_of_covers 6 (val_main_v23 (F := Ideal) (a0 m c) (a1 m c) (a2 m c) (a3 m c) (a4 m c)) (by decide +kernel) fun t hf y => ?_)
  blk_simp
  show (dats m 0 c).after 6 t y = _
  rw [after0_6, out_6]
  obtain ⟨q, l, rfl⟩ : ∃ (q : Fin 512) (l : Fin 1), y = ix2 q l := ⟨y 0, y 1, eq_ix2 y⟩
  obtain rfl : l = 0 := Subsingleton.elim _ _
  exact (rstd_value m c t q).trans (congrArg (val_main_v23 (F := Ideal) (a0 m c) (a1 m c) (a2 m c) (a3 m c) (a4 m c)) (emb_6 t q)).symm

end Run

end Cert.Dwn

end
-- ==== Proof.Tail.Same.lean ====
/- The sixth program as printed and as idealised have one text: no constant in it is named. So the frame of the one is the
   frame of the other. -/
module

public import proofs.«01_k».proof.Defs
public import proofs.«01_k».proof.Proof.Gen.Kernel6
public import proofs.«01_k».proof.Proof.Gen.Kernel6Ideal
public import proofs.«01_k».proof.Proof.Gen.Kernel6Ideal.Frame

@[expose] public section

set_option maxRecDepth 16384

noncomputable section

namespace Cert.Tail

open Idealize.ShloMosaic Idealize.ShloMosaic.TcCoe Idealize.SL.Sem

attribute [local instance] Cert.Kernel6.Gen.facts

set_option maxHeartbeats 4000000 in
theorem bodies_eq : Cert.Kernel6.defs₀ (F := Bits) = Cert.Kernel6Ideal.defs₀ (F := Bits) := by
  unfold Cert.Kernel6.defs₀ Cert.Kernel6Ideal.defs₀
  refine congrArg (Defs.onTc (Λ := Cert.Kernel6Ideal.Λ₀) (nD := Cert.Kernel6Ideal.nD) (τ := Cert.Kernel6Ideal.τ) (sig := Cert.Kernel6Ideal.sig))
    (funext fun l => funext fun x => ?_)
  match l, x with
  | ⟨0, _⟩, (t, s) => rfl

theorem defs_eq : Cert.Kernel6.defs (F := Bits) = Cert.Kernel6Ideal.defs (F := Bits) :=
  congrArg (Pipeline.defs Cert.Kernel6Ideal.pcfgs) bodies_eq

set_option maxHeartbeats 4000000 in
theorem frame_printed : Cert.quiescent_Kernel6 (hKernel6 := Cert.Kernel6.Gen.facts) := fun m ρ _ =>
  (congrArg (fun d => θ_run d (onTc (τ := Cert.Kernel6Ideal.τ) (Cert.Kernel6Ideal.main (F := Bits))) ⟨m, fun _ => 0, ρ⟩ _) defs_eq).mpr
    (Cert.Kernel6Ideal.Gen.frame (F := Bits) m ρ)

end Cert.Tail

end
-- ==== Proof.Tail.Step.lean ====
/- What one run of the kernel's body leaves in its buffers, as functions of what it finds there: the loss, the gradient of
   the block's input, and one tile's share of the two weights' and of the five vectors' gradients. -/
module

public import proofs.«01_k».proof.Proof.Gen.Kernel6Ideal
public import proofs.«01_k».proof.Proof.Gen.Kernel6Ideal.Frame
public import proofs.«01_k».proof.Proof.Step
public import Idealize.ShloMosaic.Lib.Tactic

@[expose] public section

set_option maxRecDepth 16384

noncomputable section

namespace Cert.Tail

open Cert.Kernel6Ideal Cert.Kernel6Ideal.Gen
open Idealize.ShloMosaic Idealize.ShloMosaic.TcCoe
open Idealize.ShloMosaic.VecWindow (window put)

variable {F : FTy → Type} [FloatOps F]

section Windows

variable {α : Type}

theorem win_a (x : S512x1024.Idx → α) (inb) : window x ![0, 0] ![512, 1024] inb = x := Cert.Act.window_all (s := S512x1024) x inb
theorem win_b (x : S512x1.Idx → α) (inb) : window x ![0, 0] ![512, 1] inb = x := Cert.Act.window_all (s := S512x1) x inb
theorem win_c (x : S512x256.Idx → α) (inb) : window x ![0, 0] ![512, 256] inb = x := Cert.Act.window_all (s := S512x256) x inb
theorem win_d (x : S1024x1024.Idx → α) (inb) : window x ![0, 0] ![1024, 1024] inb = x := Cert.Act.window_all (s := S1024x1024) x inb
theorem win_e (x : S256x1024.Idx → α) (inb) : window x ![0, 0] ![256, 1024] inb = x := Cert.Act.window_all (s := S256x1024) x inb
theorem win_f (x : S1x1024.Idx → α) (inb) : window x ![0, 0] ![1, 1024] inb = x := Cert.Act.window_all (s := S1x1024) x inb
theorem win_g (x : S8x128.Idx → α) (inb) : window x ![0, 0] ![8, 128] inb = x := Cert.Act.window_all (s := S8x128) x inb
theorem win_h (x : S8x1024.Idx → α) (inb) : window x ![0, 0] ![8, 1024] inb = x := Cert.Act.window_all (s := S8x1024) x inb
theorem put_a (x w : S512x1024.Idx → α) : put x ![0, 0] ![512, 1024] w = w := Cert.Act.put_all (s := S512x1024) x w (by decide)
theorem put_b (x w : S1024x1024.Idx → α) : put x ![0, 0] ![1024, 1024] w = w := Cert.Act.put_all (s := S1024x1024) x w (by decide)
theorem put_c (x w : S256x1024.Idx → α) : put x ![0, 0] ![256, 1024] w = w := Cert.Act.put_all (s := S256x1024) x w (by decide)
theorem put_d (x w : S8x128.Idx → α) : put x ![0, 0] ![8, 128] w = w := Cert.Act.put_all (s := S8x128) x w (by decide)
theorem put_e (x w : S8x1024.Idx → α) : put x ![0, 0] ![8, 1024] w = w := Cert.Act.put_all (s := S8x1024) x w (by decide)

/-- A later row reads what was there before an earlier one was put. -/
theorem win_row (x : S8x1024.Idx → α) (q q' : ℕ) (inb : ∀ a, (![q', 0] : Fin 2 → ℕ) a + (![1, 1024] : Fin 2 → ℕ) a ≤ S8x1024.size a)
    (w : ((a : Fin 2) → Fin ((![1, 1024] : Fin 2 → ℕ) a)) → α) (h : q < q') :
    window (put x ![q, 0] ![1, 1024] w) ![q', 0] ![1, 1024] inb = window x ![q', 0] ![1, 1024] inb :=
  VecWindow.window_put_of_disjoint x ![q, 0] ![1, 1024] ![q', 0] ![1, 1024] inb w 0 (by
    show q' + 1 ≤ q ∨ q + 1 ≤ q'
    omega)

end Windows

/-- The input blocks of one point: the normalised rows and their reciprocal deviations, the second input, the target, the two
    weights, and the vectors: the second normalisation's scale and shift, the gate's bias, the third one's scale and shift. -/
structure Ins (F : FTy → Type) where
  xh : Vec F S512x1024 .f32
  rs : Vec F S512x1 .f32
  p : Vec F S512x256 .f32
  tg : Vec F S512x1024 .f32
  wg : Vec F S1024x1024 .bf16
  wp : Vec F S256x1024 .bf16
  g2 : Vec F S1x1024 .f32
  b2 : Vec F S1x1024 .f32
  bg : Vec F S1x1024 .f32
  g3 : Vec F S1x1024 .f32
  b3 : Vec F S1x1024 .f32

variable (I : Ins F)

/-- The gate. -/
def gate : FVec F S512x1024 .f32 := k0_pay30 I.xh I.g2 I.b2 I.wg I.bg
/-- What the gate multiplies. -/
def pin : FVec F S512x1024 .f32 := k0_pay31 I.p I.wp
/-- The gated sum, its mean taken off. -/
def cenY : FVec F S512x1024 .f32 := k0_pay32 I.xh I.g2 I.b2 I.p I.wg I.bg I.wp
/-- The loss's gradient with respect to the output. -/
def dOut : FVec F S512x1024 .f32 := k0_pay37 (cenY I) I.g3 I.b3 I.tg
/-- The gradient of the gated sum. -/
def dY3 : FVec F S512x1024 .f32 := k0_pay39 (k0_pay33 (cenY I)) (k0_pay34 (cenY I)) (dOut I) (k0_pay38 I.g3)
/-- The gradient before the gate's logistic function. -/
def dGp : FVec F S512x1024 .f32 := k0_pay40 (gate I) (pin I) (k0_pay33 (cenY I)) (k0_pay34 (cenY I)) (dOut I) (k0_pay38 I.g3)
/-- The same, rounded. -/
def dGpb : FVec F S512x1024 .bf16 := k0_pay41 (gate I) (pin I) (k0_pay33 (cenY I)) (k0_pay34 (cenY I)) (dOut I) (k0_pay38 I.g3)
/-- The residual's share of the gradient. -/
def aDy : FVec F S512x1024 .f32 := k0_pay44 (k0_pay33 (cenY I)) (k0_pay34 (cenY I)) (dOut I) (k0_pay38 I.g3)
/-- The gradient of the second normalisation's result. -/
def dX2 : FVec F S512x1024 .f32 := k0_pay45 (dGpb I) (aDy I) I.wg
/-- The gradient of the second normalisation's input. -/
def dY2 : FVec F S512x1024 .f32 := k0_pay46 (k0_pay26 I.xh) (dGpb I) (aDy I) I.wg I.g2 I.rs
/-- The same, rounded. -/
def dY2b : FVec F S512x1024 .bf16 := k0_pay47 (k0_pay26 I.xh) (dGpb I) (aDy I) I.wg I.g2 I.rs

/-- One tile's loss added. -/
def lossPut (old : Vec F S8x128 .f32) : Vec F S8x128 .f32 := k0_pay36 (cenY I) I.g3 I.b3 I.tg old

/-- One tile's product added to the gate weight's gradient. -/
def dwgPut (old : Vec F S1024x1024 .f32) : Vec F S1024x1024 .f32 :=
  k0_pay42 (k0_pay28 I.xh I.g2 I.b2) (gate I) (pin I) (k0_pay33 (cenY I)) (k0_pay34 (cenY I)) (dOut I) (k0_pay38 I.g3) old

/-- One tile's product added to the input weight's gradient. -/
def dwpPut (old : Vec F S256x1024 .f32) : Vec F S256x1024 .f32 :=
  k0_pay43 (k0_pay29 I.p) (gate I) (k0_pay33 (cenY I)) (k0_pay34 (cenY I)) (dOut I) (k0_pay38 I.g3) old

/-- One tile's sums added to the five vectors' gradient rows. -/
def vecPut (old : Vec F S8x1024 .f32) : Vec F S8x1024 .f32 :=
  put (put (put (put (put old
    ![0, 0] S1x1024.size (k0_pay48 (dGp I) (window old ![0, 0] S1x1024.size inb_S8x1024_S1x1024_0_0)))
    ![1, 0] S1x1024.size (k0_pay1 (k0_pay49 (window old ![1, 0] S1x1024.size inb_S8x1024_S1x1024_1_0)) (k0_pay50 (k0_pay34 (cenY I)) (dOut I))))
    ![2, 0] S1x1024.size (k0_pay2 (dOut I) (window old ![2, 0] S1x1024.size inb_S8x1024_S1x1024_2_0)))
    ![3, 0] S1x1024.size (k0_pay3 (k0_pay26 I.xh) (dX2 I) (window old ![3, 0] S1x1024.size inb_S8x1024_S1x1024_3_0)))
    ![4, 0] S1x1024.size (k0_pay4 (dX2 I) (window old ![4, 0] S1x1024.size inb_S8x1024_S1x1024_4_0))

/-- Eight row blocks put at the places of an eight-block buffer. -/
def rows8 (w0 w1 w2 w3 w4 w5 w6 w7 : Vec F S1x128x1024 .bf16) (old : Vec F S8x128x1024 .bf16) : Vec F S8x128x1024 .bf16 :=
  put (put (put (put (put (put (put (put old
    ![0, 0, 0] S1x128x1024.size w0)
    ![4, 0, 0] S1x128x1024.size w1)
    ![1, 0, 0] S1x128x1024.size w2)
    ![5, 0, 0] S1x128x1024.size w3)
    ![2, 0, 0] S1x128x1024.size w4)
    ![6, 0, 0] S1x128x1024.size w5)
    ![3, 0, 0] S1x128x1024.size w6)
    ![7, 0, 0] S1x128x1024.size w7

theorem rows8_congr {w0 w1 w2 w3 w4 w5 w6 w7 u0 u1 u2 u3 u4 u5 u6 u7 : Vec F S1x128x1024 .bf16} (old : Vec F S8x128x1024 .bf16)
    (h0 : w0 = u0) (h1 : w1 = u1) (h2 : w2 = u2) (h3 : w3 = u3) (h4 : w4 = u4) (h5 : w5 = u5) (h6 : w6 = u6) (h7 : w7 = u7) :
    rows8 w0 w1 w2 w3 w4 w5 w6 w7 old = rows8 u0 u1 u2 u3 u4 u5 u6 u7 old := by
  subst h0 h1 h2 h3 h4 h5 h6 h7
  rfl

/-- Eight column blocks put at the places of an eight-block buffer. -/
def cols8 (w0 w1 w2 w3 w4 w5 w6 w7 : Vec F S1x256x128 .bf16) (old : Vec F S8x256x128 .bf16) : Vec F S8x256x128 .bf16 :=
  put (put (put (put (put (put (put (put old
    ![0, 0, 0] S1x256x128.size w0)
    ![4, 0, 0] S1x256x128.size w1)
    ![1, 0, 0] S1x256x128.size w2)
    ![5, 0, 0] S1x256x128.size w3)
    ![2, 0, 0] S1x256x128.size w4)
    ![6, 0, 0] S1x256x128.size w5)
    ![3, 0, 0] S1x256x128.size w6)
    ![7, 0, 0] S1x256x128.size w7

theorem cols8_congr {w0 w1 w2 w3 w4 w5 w6 w7 u0 u1 u2 u3 u4 u5 u6 u7 : Vec F S1x256x128 .bf16} (old : Vec F S8x256x128 .bf16)
    (h0 : w0 = u0) (h1 : w1 = u1) (h2 : w2 = u2) (h3 : w3 = u3) (h4 : w4 = u4) (h5 : w5 = u5) (h6 : w6 = u6) (h7 : w7 = u7) :
    cols8 w0 w1 w2 w3 w4 w5 w6 w7 old = cols8 u0 u1 u2 u3 u4 u5 u6 u7 old := by
  subst h0 h1 h2 h3 h4 h5 h6 h7
  rfl

/-- The gate weight's gradient, its row blocks at their places. -/
def rows (acc : Vec F S1024x1024 .f32) (old : Vec F S8x128x1024 .bf16) : Vec F S8x128x1024 .bf16 :=
  rows8
    (k0_pay10 (window acc ![0, 0] S128x1024.size inb_S1024x1024_S128x1024_0_0))
    (k0_pay12 (window acc ![128, 0] S128x1024.size inb_S1024x1024_S128x1024_128_0))
    (k0_pay14 (window acc ![256, 0] S128x1024.size inb_S1024x1024_S128x1024_256_0))
    (k0_pay17 (window acc ![384, 0] S128x1024.size inb_S1024x1024_S128x1024_384_0))
    (k0_pay19 (window acc ![512, 0] S128x1024.size inb_S1024x1024_S128x1024_512_0))
    (k0_pay21 (window acc ![640, 0] S128x1024.size inb_S1024x1024_S128x1024_640_0))
    (k0_pay6 (window acc ![768, 0] S128x1024.size inb_S1024x1024_S128x1024_768_0))
    (k0_pay8 (window acc ![896, 0] S128x1024.size inb_S1024x1024_S128x1024_896_0))
    old

/-- The input weight's gradient, its column blocks at their places. -/
def cols (acc : Vec F S256x1024 .f32) (old : Vec F S8x256x128 .bf16) : Vec F S8x256x128 .bf16 :=
  cols8
    (k0_pay11 (window acc ![0, 0] S256x128.size inb_S256x1024_S256x128_0_0))
    (k0_pay13 (window acc ![0, 128] S256x128.size inb_S256x1024_S256x128_0_128))
    (k0_pay16 (k0_pay15 (window acc ![0, 256] S256x128.size inb_S256x1024_S256x128_0_256)))
    (k0_pay18 (window acc ![0, 384] S256x128.size inb_S256x1024_S256x128_0_384))
    (k0_pay20 (window acc ![0, 512] S256x128.size inb_S256x1024_S256x128_0_512))
    (k0_pay5 (window acc ![0, 640] S256x128.size inb_S256x1024_S256x128_0_640))
    (k0_pay7 (window acc ![0, 768] S256x128.size inb_S256x1024_S256x128_0_768))
    (k0_pay9 (window acc ![0, 896] S256x128.size inb_S256x1024_S256x128_0_896))
    old

end Cert.Tail

end
-- ==== Proof.Tail.CaseA.lean ====
/- What the first point's run leaves in each buffer. -/
module

public import proofs.«01_k».proof.Proof.Tail.Step

@[expose] public section

set_option maxRecDepth 16384
set_option maxHeartbeats 4000000

noncomputable section

namespace Cert.Tail

open Cert.Kernel6Ideal Cert.Kernel6Ideal.Gen
open Idealize.ShloMosaic Idealize.ShloMosaic.TcCoe
open Idealize.ShloMosaic.VecWindow (window put)

variable {F : FTy → Type} [FloatOps F]

section

variable (c : Dev nD) (i : grid0.Coords) (arg1 : Memref sig .tc .vmem S512x1024 .f32) (harg1 : arg1.IsWhole) (arg2 : Memref sig .tc .vmem S512x1 .f32) (harg2 : arg2.IsWhole) (arg3 : Memref sig .tc .vmem S512x256 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x128x1024 .bf16) (harg15 : arg15.IsWhole) (arg16 : Memref sig .tc .vmem S8x256x128 .bf16) (harg16 : arg16.IsWhole) (arg17 : Memref sig .tc .vmem S8x1024 .f32) (harg17 : arg17.IsWhole) (arg18 : Memref sig .tc .vmem S1024x1024 .f32) (harg18 : arg18.IsWhole) (arg19 : Memref sig .tc .vmem S256x1024 .f32) (harg19 : arg19.IsWhole) (hc0 : cond0_0 i) (hc1 : ¬cond0_1 i)
    (x0 : Vec F S512x1024 .f32) (x1 : Vec F S512x1 .f32) (x2 : Vec F S512x256 .f32) (x3 : Vec F S512x1024 .f32) (x4 : Vec F S1024x1024 .bf16) (x5 : Vec F S256x1024 .bf16) (x6 : Vec F S1x1024 .f32) (x7 : Vec F S1x1024 .f32) (x8 : Vec F S1x1024 .f32) (x9 : Vec F S1x1024 .f32) (x10 : Vec F S1x1024 .f32)

theorem caseA_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = lossPut ⟨x0, x1, x2, x3, x4, x5, x6, x7, x8, x9, x10⟩ k0_pay22 := by
  unfold out0_A_11 kernelRun0_A
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseA_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = dY2 ⟨x0, x1, x2, x3, x4, x5, x6, x7, x8, x9, x10⟩ := by
  unfold out0_A_12 kernelRun0_A
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseA_13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = dY2b ⟨x0, x1, x2, x3, x4, x5, x6, x7, x8, x9, x10⟩ := by
  unfold out0_A_13 kernelRun0_A
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseA_16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = vecPut ⟨x0, x1, x2, x3, x4, x5, x6, x7, x8, x9, x10⟩ k0_pay25 := by
  unfold out0_A_16 kernelRun0_A
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseA_s0 : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = dwgPut ⟨x0, x1, x2, x3, x4, x5, x6, x7, x8, x9, x10⟩ k0_pay23 := by
  unfold sout0_A_0 kernelRun0_A
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseA_s1 : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = dwpPut ⟨x0, x1, x2, x3, x4, x5, x6, x7, x8, x9, x10⟩ k0_pay24 := by
  unfold sout0_A_1 kernelRun0_A
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

end

end Cert.Tail

end
-- ==== Proof.Tail.CaseB.lean ====
/- What a middle point's run leaves in each buffer. -/
module

public import proofs.«01_k».proof.Proof.Tail.Step

@[expose] public section

set_option maxRecDepth 16384
set_option maxHeartbeats 4000000

noncomputable section

namespace Cert.Tail

open Cert.Kernel6Ideal Cert.Kernel6Ideal.Gen
open Idealize.ShloMosaic Idealize.ShloMosaic.TcCoe
open Idealize.ShloMosaic.VecWindow (window put)

variable {F : FTy → Type} [FloatOps F]

section

variable (c : Dev nD) (i : grid0.Coords) (arg1 : Memref sig .tc .vmem S512x1024 .f32) (harg1 : arg1.IsWhole) (arg2 : Memref sig .tc .vmem S512x1 .f32) (harg2 : arg2.IsWhole) (arg3 : Memref sig .tc .vmem S512x256 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x128x1024 .bf16) (harg15 : arg15.IsWhole) (arg16 : Memref sig .tc .vmem S8x256x128 .bf16) (harg16 : arg16.IsWhole) (arg17 : Memref sig .tc .vmem S8x1024 .f32) (harg17 : arg17.IsWhole) (arg18 : Memref sig .tc .vmem S1024x1024 .f32) (harg18 : arg18.IsWhole) (arg19 : Memref sig .tc .vmem S256x1024 .f32) (harg19 : arg19.IsWhole) (hc0 : ¬cond0_0 i) (hc1 : ¬cond0_1 i)
    (x0 : Vec F S512x1024 .f32) (x1 : Vec F S512x1 .f32) (x2 : Vec F S512x256 .f32) (x3 : Vec F S512x1024 .f32) (x4 : Vec F S1024x1024 .bf16) (x5 : Vec F S256x1024 .bf16) (x6 : Vec F S1x1024 .f32) (x7 : Vec F S1x1024 .f32) (x8 : Vec F S1x1024 .f32) (x9 : Vec F S1x1024 .f32) (x10 : Vec F S1x1024 .f32) (xo11 : Vec F S8x128 .f32) (xo16 : Vec F S8x1024 .f32) (xs0 : Vec F S1024x1024 .f32) (xs1 : Vec F S256x1024 .f32)

theorem caseB_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = lossPut ⟨x0, x1, x2, x3, x4, x5, x6, x7, x8, x9, x10⟩ xo11 := by
  unfold out0_B_11 kernelRun0_B
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseB_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = dY2 ⟨x0, x1, x2, x3, x4, x5, x6, x7, x8, x9, x10⟩ := by
  unfold out0_B_12 kernelRun0_B
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseB_13 : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = dY2b ⟨x0, x1, x2, x3, x4, x5, x6, x7, x8, x9, x10⟩ := by
  unfold out0_B_13 kernelRun0_B
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseB_16 : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = vecPut ⟨x0, x1, x2, x3, x4, x5, x6, x7, x8, x9, x10⟩ xo16 := by
  unfold out0_B_16 kernelRun0_B
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseB_s0 : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = dwgPut ⟨x0, x1, x2, x3, x4, x5, x6, x7, x8, x9, x10⟩ xs0 := by
  unfold sout0_B_0 kernelRun0_B
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseB_s1 : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = dwpPut ⟨x0, x1, x2, x3, x4, x5, x6, x7, x8, x9, x10⟩ xs1 := by
  unfold sout0_B_1 kernelRun0_B
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

end

end Cert.Tail

end
-- ==== Proof.Tail.CaseC.lean ====
/- What the last point's run leaves in each buffer. -/
module

public import proofs.«01_k».proof.Proof.Tail.Step

@[expose] public section

set_option maxRecDepth 16384
set_option maxHeartbeats 4000000

noncomputable section

namespace Cert.Tail

open Cert.Kernel6Ideal Cert.Kernel6Ideal.Gen
open Idealize.ShloMosaic Idealize.ShloMosaic.TcCoe
open Idealize.ShloMosaic.VecWindow (window put)

variable {F : FTy → Type} [FloatOps F]

section

variable (c : Dev nD) (i : grid0.Coords) (arg1 : Memref sig .tc .vmem S512x1024 .f32) (harg1 : arg1.IsWhole) (arg2 : Memref sig .tc .vmem S512x1 .f32) (harg2 : arg2.IsWhole) (arg3 : Memref sig .tc .vmem S512x256 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x128x1024 .bf16) (harg15 : arg15.IsWhole) (arg16 : Memref sig .tc .vmem S8x256x128 .bf16) (harg16 : arg16.IsWhole) (arg17 : Memref sig .tc .vmem S8x1024 .f32) (harg17 : arg17.IsWhole) (arg18 : Memref sig .tc .vmem S1024x1024 .f32) (harg18 : arg18.IsWhole) (arg19 : Memref sig .tc .vmem S256x1024 .f32) (harg19 : arg19.IsWhole) (hc0 : ¬cond0_0 i) (hc1 : cond0_1 i)
    (x0 : Vec F S512x1024 .f32) (x1 : Vec F S512x1 .f32) (x2 : Vec F S512x256 .f32) (x3 : Vec F S512x1024 .f32) (x4 : Vec F S1024x1024 .bf16) (x5 : Vec F S256x1024 .bf16) (x6 : Vec F S1x1024 .f32) (x7 : Vec F S1x1024 .f32) (x8 : Vec F S1x1024 .f32) (x9 : Vec F S1x1024 .f32) (x10 : Vec F S1x1024 .f32) (xo11 : Vec F S8x128 .f32) (xo16 : Vec F S8x1024 .f32) (xs0 : Vec F S1024x1024 .f32) (xs1 : Vec F S256x1024 .f32)

theorem caseC_11 : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = lossPut ⟨x0, x1, x2, x3, x4, x5, x6, x7, x8, x9, x10⟩ xo11 := by
  unfold out0_C_11 kernelRun0_C
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseC_12 : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = dY2 ⟨x0, x1, x2, x3, x4, x5, x6, x7, x8, x9, x10⟩ := by
  unfold out0_C_12 kernelRun0_C
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseC_13 : out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = dY2b ⟨x0, x1, x2, x3, x4, x5, x6, x7, x8, x9, x10⟩ := by
  unfold out0_C_13 kernelRun0_C
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseC_16 : out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = vecPut ⟨x0, x1, x2, x3, x4, x5, x6, x7, x8, x9, x10⟩ xo16 := by
  unfold out0_C_16 kernelRun0_C
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseC_s0 : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = dwgPut ⟨x0, x1, x2, x3, x4, x5, x6, x7, x8, x9, x10⟩ xs0 := by
  unfold sout0_C_0 kernelRun0_C
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

theorem caseC_s1 : sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = dwpPut ⟨x0, x1, x2, x3, x4, x5, x6, x7, x8, x9, x10⟩ xs1 := by
  unfold sout0_C_1 kernelRun0_C
  dsimp only
  sl_unfold_words
  simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
  rfl

end

end Cert.Tail

end
-- ==== Proof.Tail.CaseD.lean ====
/- What the last point's run leaves in the two buffers of weight blocks. -/
module

public import proofs.«01_k».proof.Proof.Tail.Step

@[expose] public section

set_option maxRecDepth 16384
set_option maxHeartbeats 4000000

noncomputable section

namespace Cert.Tail

open Cert.Kernel6Ideal Cert.Kernel6Ideal.Gen
open Idealize.ShloMosaic Idealize.ShloMosaic.TcCoe
open Idealize.ShloMosaic.VecWindow (window put)

variable {F : FTy → Type} [FloatOps F]

section

variable (c : Dev nD) (i : grid0.Coords) (arg1 : Memref sig .tc .vmem S512x1024 .f32) (harg1 : arg1.IsWhole) (arg2 : Memref sig .tc .vmem S512x1 .f32) (harg2 : arg2.IsWhole) (arg3 : Memref sig .tc .vmem S512x256 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x128x1024 .bf16) (harg15 : arg15.IsWhole) (arg16 : Memref sig .tc .vmem S8x256x128 .bf16) (harg16 : arg16.IsWhole) (arg17 : Memref sig .tc .vmem S8x1024 .f32) (harg17 : arg17.IsWhole) (arg18 : Memref sig .tc .vmem S1024x1024 .f32) (harg18 : arg18.IsWhole) (arg19 : Memref sig .tc .vmem S256x1024 .f32) (harg19 : arg19.IsWhole) (hc0 : ¬cond0_0 i) (hc1 : cond0_1 i)
    (x0 : Vec F S512x1024 .f32) (x1 : Vec F S512x1 .f32) (x2 : Vec F S512x256 .f32) (x3 : Vec F S512x1024 .f32) (x4 : Vec F S1024x1024 .bf16) (x5 : Vec F S256x1024 .bf16) (x6 : Vec F S1x1024 .f32) (x7 : Vec F S1x1024 .f32) (x8 : Vec F S1x1024 .f32) (x9 : Vec F S1x1024 .f32) (x10 : Vec F S1x1024 .f32) (xo11 : Vec F S8x128 .f32) (xo16 : Vec F S8x1024 .f32) (xs0 : Vec F S1024x1024 .f32) (xs1 : Vec F S256x1024 .f32)

theorem caseC_14 : out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = rows (dwgPut ⟨x0, x1, x2, x3, x4, x5, x6, x7, x8, x9, x10⟩ xs0) (VO0_14.read (Elt F) VO0_14.junk) := by
  unfold out0_C_14 kernelRun0_C
  dsimp only
  simp only [Cert.Act.read_writes_put, View.writes_nil]
  refine rows8_congr _ ?_ ?_ ?_ ?_ ?_ ?_ ?_ ?_
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl

theorem caseC_15 : out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo11 xo16 xs0 xs1 = cols (dwpPut ⟨x0, x1, x2, x3, x4, x5, x6, x7, x8, x9, x10⟩ xs1) (VO0_15.read (Elt F) VO0_15.junk) := by
  unfold out0_C_15 kernelRun0_C
  dsimp only
  simp only [Cert.Act.read_writes_put, View.writes_nil]
  refine cols8_congr _ ?_ ?_ ?_ ?_ ?_ ?_ ?_ ?_
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl
  · sl_unfold_words
    simp only [View.readCov, Cert.Act.readAt_window, Cert.Act.read_writes_put, View.writes_nil, Memref.IsWhole.read_unread, win_a, win_b, win_c, win_d, win_e, win_f, win_g, win_h, put_a, put_b, put_c, put_d, put_e, win_row, Nat.lt_add_one, Nat.zero_lt_succ, Nat.reduceLT]
    rfl

end

end Cert.Tail

end
-- ==== Proof.Tail.Chain.lean ====
/- What every point leaves in the buffers, the accumulators as running sums over the points. -/
module

public import proofs.«01_k».proof.Proof.Tail.CaseA
public import proofs.«01_k».proof.Proof.Tail.CaseB
public import proofs.«01_k».proof.Proof.Tail.CaseC
public import proofs.«01_k».proof.Proof.Tail.CaseD

@[expose] public section

set_option maxRecDepth 16384
set_option maxHeartbeats 1000000

noncomputable section

namespace Cert.Tail

open Cert.Kernel6Ideal Cert.Kernel6Ideal.Gen
open Idealize.ShloMosaic Idealize.ShloMosaic.TcCoe
open Idealize.ShloMosaic.Pipeline (Dat)

variable {F : FTy → Type} [FloatOps F]
variable (m : (ℓ : Loc nD τ sig) → Buf (Elt F) ℓ) (c : Dev nD)

/-- The input blocks at a point. -/
def ins (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t⟩

/-- The loss after a point. -/
def lossN : (n : ℕ) → n < cfg0.N → Vec F S8x128 .f32
  | 0, h => lossPut (ins m c ⟨0, h⟩) k0_pay22
  | n + 1, h => lossPut (ins m c ⟨n + 1, h⟩) (lossN n (Nat.lt_of_succ_lt h))

/-- The five vectors' gradient rows after a point. -/
def vecN : (n : ℕ) → n < cfg0.N → Vec F S8x1024 .f32
  | 0, h => vecPut (ins m c ⟨0, h⟩) k0_pay25
  | n + 1, h => vecPut (ins m c ⟨n + 1, h⟩) (vecN n (Nat.lt_of_succ_lt h))

/-- The gate weight's gradient after a point. -/
def dwgN : (n : ℕ) → n < cfg0.N → Vec F S1024x1024 .f32
  | 0, h => dwgPut (ins m c ⟨0, h⟩) k0_pay23
  | n + 1, h => dwgPut (ins m c ⟨n + 1, h⟩) (dwgN n (Nat.lt_of_succ_lt h))

/-- The input weight's gradient after a point. -/
def dwpN : (n : ℕ) → n < cfg0.N → Vec F S256x1024 .f32
  | 0, h => dwpPut (ins m c ⟨0, h⟩) k0_pay24
  | n + 1, h => dwpPut (ins m c ⟨n + 1, h⟩) (dwpN n (Nat.lt_of_succ_lt h))

theorem at_12 (t : Fin cfg0.N) : (outsAt0 m c t.val t.isLt).2.1 = dY2 (ins m c t) := by
  unfold ins
  by_cases h0 : t.val % 8 = 0
  · rw [outsAt0_A m c t h0 (by omega)]; dsimp only; rw [caseA_12]
  · by_cases h1 : t.val % 8 = 7
    · rw [outsAt0_C m c t h0 h1]; dsimp only; rw [caseC_12]
    · rw [outsAt0_B m c t h0 h1]; dsimp only; rw [caseB_12]

theorem at_13 (t : Fin cfg0.N) : (outsAt0 m c t.val t.isLt).2.2.1 = dY2b (ins m c t) := by
  unfold ins
  by_cases h0 : t.val % 8 = 0
  · rw [outsAt0_A m c t h0 (by omega)]; dsimp only; rw [caseA_13]
  · by_cases h1 : t.val % 8 = 7
    · rw [outsAt0_C m c t h0 h1]; dsimp only; rw [caseC_13]
    · rw [outsAt0_B m c t h0 h1]; dsimp only; rw [caseB_13]

theorem at_11 : ∀ (n : ℕ) (h : n < cfg0.N), (outsAt0 m c n h).1 = lossN m c n h
  | 0, h => by
    have h1 : ¬(⟨0, h⟩ : Fin cfg0.N).val % 8 = 7 := by dsimp only; omega
    rw [outsAt0_A m c ⟨0, h⟩ rfl h1]; dsimp only; rw [caseA_11]
    rfl
  | n + 1, h => by
    have hN : cfg0.N = 8 := N_0
    have ih := at_11 n (Nat.lt_of_succ_lt h)
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1]; dsimp only; rw [caseC_11]
      exact congrArg (lossPut (ins m c ⟨n + 1, h⟩)) ih
    · rw [outsAt0_B m c ⟨n + 1, h⟩ h0 h1]; dsimp only; rw [caseB_11]
      exact congrArg (lossPut (ins m c ⟨n + 1, h⟩)) ih

theorem at_16 : ∀ (n : ℕ) (h : n < cfg0.N), (outsAt0 m c n h).2.2.2.2.2.1 = vecN m c n h
  | 0, h => by
    have h1 : ¬(⟨0, h⟩ : Fin cfg0.N).val % 8 = 7 := by dsimp only; omega
    rw [outsAt0_A m c ⟨0, h⟩ rfl h1]; dsimp only; rw [caseA_16]
    rfl
  | n + 1, h => by
    have hN : cfg0.N = 8 := N_0
    have ih := at_16 n (Nat.lt_of_succ_lt h)
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1]; dsimp only; rw [caseC_16]
      exact congrArg (vecPut (ins m c ⟨n + 1, h⟩)) ih
    · rw [outsAt0_B m c ⟨n + 1, h⟩ h0 h1]; dsimp only; rw [caseB_16]
      exact congrArg (vecPut (ins m c ⟨n + 1, h⟩)) ih

theorem at_s0 : ∀ (n : ℕ) (h : n < cfg0.N), (outsAt0 m c n h).2.2.2.2.2.2.1 = dwgN m c n h
  | 0, h => by
    have h1 : ¬(⟨0, h⟩ : Fin cfg0.N).val % 8 = 7 := by dsimp only; omega
    rw [outsAt0_A m c ⟨0, h⟩ rfl h1]; dsimp only; rw [caseA_s0]
    rfl
  | n + 1, h => by
    have hN : cfg0.N = 8 := N_0
    have ih := at_s0 n (Nat.lt_of_succ_lt h)
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1]; dsimp only; rw [caseC_s0]
      exact congrArg (dwgPut (ins m c ⟨n + 1, h⟩)) ih
    · rw [outsAt0_B m c ⟨n + 1, h⟩ h0 h1]; dsimp only; rw [caseB_s0]
      exact congrArg (dwgPut (ins m c ⟨n + 1, h⟩)) ih

theorem at_s1 : ∀ (n : ℕ) (h : n < cfg0.N), (outsAt0 m c n h).2.2.2.2.2.2.2 = dwpN m c n h
  | 0, h => by
    have h1 : ¬(⟨0, h⟩ : Fin cfg0.N).val % 8 = 7 := by dsimp only; omega
    rw [outsAt0_A m c ⟨0, h⟩ rfl h1]; dsimp only; rw [caseA_s1]
    rfl
  | n + 1, h => by
    have hN : cfg0.N = 8 := N_0
    have ih := at_s1 n (Nat.lt_of_succ_lt h)
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1]; dsimp only; rw [caseC_s1]
      exact congrArg (dwpPut (ins m c ⟨n + 1, h⟩)) ih
    · rw [outsAt0_B m c ⟨n + 1, h⟩ h0 h1]; dsimp only; rw [caseB_s1]
      exact congrArg (dwpPut (ins m c ⟨n + 1, h⟩)) ih

/-- The last point's blocks are the whole accumulator's. -/
theorem at_14 (h : 7 < cfg0.N) : (outsAt0 m c 7 h).2.2.2.1 = rows (dwgN m c 7 h) (VO0_14.read (Elt F) VO0_14.junk) := by
  have ih := at_s0 m c 6 (Nat.lt_of_succ_lt h)
  have h0 : ¬(⟨7, h⟩ : Fin cfg0.N).val % 8 = 0 := by dsimp only; omega
  rw [outsAt0_C m c ⟨7, h⟩ h0 rfl]; dsimp only; rw [caseC_14]
  exact congrArg (fun z => rows (dwgPut (ins m c ⟨7, h⟩) z) (VO0_14.read (Elt F) VO0_14.junk)) ih

/-- The last point's blocks are the whole accumulator's. -/
theorem at_15 (h : 7 < cfg0.N) : (outsAt0 m c 7 h).2.2.2.2.1 = cols (dwpN m c 7 h) (VO0_15.read (Elt F) VO0_15.junk) := by
  have ih := at_s1 m c 6 (Nat.lt_of_succ_lt h)
  have h0 : ¬(⟨7, h⟩ : Fin cfg0.N).val % 8 = 0 := by dsimp only; omega
  rw [outsAt0_C m c ⟨7, h⟩ h0 rfl]; dsimp only; rw [caseC_15]
  exact congrArg (fun z => cols (dwpPut (ins m c ⟨7, h⟩) z) (VO0_15.read (Elt F) VO0_15.junk)) ih

end Cert.Tail

end
-- ==== Proof.Tail.Entry.lean ====
/- What the arrays hold when the kernel starts: the arguments, and what the host computes from them. -/
module

public import proofs.«01_k».proof.Proof.Tail.Step
public import proofs.«01_k».proof.Proof.Gen.Reference6Ideal.Read
public import Idealize.ShloMosaic.Lib.Claim
public import Idealize.ShloMosaic.Lib.StableHlo.RunRead
public import Idealize.ShloMosaic.Lib.Pointwise

@[expose] public section

set_option maxRecDepth 16384
set_option maxHeartbeats 1000000

noncomputable section

namespace Cert.Tail

open Cert.Kernel6Ideal Cert.Kernel6Ideal.Gen
open Idealize.ShloMosaic Idealize.ShloMosaic.TcCoe
open Idealize.ShloMosaic.Pointwise
open Cert.Reference6Ideal.Read

variable (m : (ℓ : Loc nD τ sig) → Buf (Elt Ideal) ℓ) (c : Dev nD)

/-- An argument array, as launched. -/
abbrev a0 : Vec Ideal S4096x1024 .f32 := m ((c : Thread nD τ).loc main_arg0)
abbrev a1 : Vec Ideal S4096x256 .f32 := m ((c : Thread nD τ).loc main_arg1)
abbrev a2 : Vec Ideal S4096x1024 .f32 := m ((c : Thread nD τ).loc main_arg2)
abbrev a3 : Vec Ideal S1024x1024 .f32 := m ((c : Thread nD τ).loc main_arg3)
abbrev a4 : Vec Ideal S1024 .f32 := m ((c : Thread nD τ).loc main_arg4)
abbrev a5 : Vec Ideal S256x1024 .f32 := m ((c : Thread nD τ).loc main_arg5)
abbrev a6 : Vec Ideal S1024 .f32 := m ((c : Thread nD τ).loc main_arg6)
abbrev a7 : Vec Ideal S1024 .f32 := m ((c : Thread nD τ).loc main_arg7)
abbrev a8 : Vec Ideal S1024 .f32 := m ((c : Thread nD τ).loc main_arg8)
abbrev a9 : Vec Ideal S1024 .f32 := m ((c : Thread nD τ).loc main_arg9)

theorem V_arg1 : (V m c main_arg1 : S4096x256.Idx → EReal) = a1 m c := by unfold V; after_reads_simp
theorem V_arg2 : (V m c main_arg2 : S4096x1024.Idx → EReal) = a2 m c := by unfold V; after_reads_simp
theorem V_v18 : (V m c main_v18 : S1024x1024.Idx → EReal) = a3 m c := by unfold V; after_reads_simp; rfl
theorem V_v19 : (V m c main_v19 : S256x1024.Idx → EReal) = a5 m c := by unfold V; after_reads_simp; rfl
theorem V_v20 (k : Fin 1024) : (V m c main_v20 : S1x1024.Idx → EReal) (ix2 0 k) = a6 m c (ix1 k) := by
  unfold V; after_reads_simp; pointwise []
theorem V_v21 (k : Fin 1024) : (V m c main_v21 : S1x1024.Idx → EReal) (ix2 0 k) = a7 m c (ix1 k) := by
  unfold V; after_reads_simp; pointwise []
theorem V_v22 (k : Fin 1024) : (V m c main_v22 : S1x1024.Idx → EReal) (ix2 0 k) = a4 m c (ix1 k) := by
  unfold V; after_reads_simp; pointwise []
theorem V_v23 (k : Fin 1024) : (V m c main_v23 : S1x1024.Idx → EReal) (ix2 0 k) = a8 m c (ix1 k) := by
  unfold V; after_reads_simp; pointwise []
theorem V_v24 (k : Fin 1024) : (V m c main_v24 : S1x1024.Idx → EReal) (ix2 0 k) = a9 m c (ix1 k) := by
  unfold V; after_reads_simp; pointwise []
theorem V_v17 : (V m c main_v17 : S4096x1024.Idx → EReal) = val_main_v22 (F := Ideal) (a0 m c) := by
  unfold V; after_reads_simp; rfl
theorem V_v13 : (V m c main_v13 : S4096x1.Idx → EReal) = val_main_v17 (F := Ideal) (a0 m c) := by
  unfold V; after_reads_simp; rfl

end Cert.Tail

end
-- ==== Proof.Tail.Blocks.lean ====
/- A block of every input window at an index of its array: row tiles, or the whole array. -/
module

public import proofs.«01_k».proof.Proof.Tail.Chain
public import proofs.«01_k».proof.Proof.Tail.Entry

@[expose] public section

set_option maxRecDepth 16384
set_option maxHeartbeats 1000000

noncomputable section

namespace Cert.Tail

open Cert.Kernel6Ideal Cert.Kernel6Ideal.Gen
open Idealize.ShloMosaic Idealize.ShloMosaic.TcCoe
open Idealize.ShloMosaic.Pointwise
open Cert.Reference6Ideal.Read

variable (m : (ℓ : Loc nD τ sig) → Buf (Elt Ideal) ℓ) (c : Dev nD)

/-- A row of a row tile. -/
abbrev rI (t : Fin cfg0.N) (r : Fin 512) : Fin 4096 := ⟨t.val * 512 + r.val, by have := t.isLt; have : cfg0.N = 8 := N_0; omega⟩

theorem idx0_0 : ∀ t : Fin cfg0.N, win0_0.index t (0 : Fin 2) = t.val := by decide +kernel
theorem idx0_1 : ∀ t : Fin cfg0.N, win0_0.index t (1 : Fin 2) = 0 := by decide +kernel
theorem idx1_0 : ∀ t : Fin cfg0.N, win0_1.index t (0 : Fin 2) = t.val := by decide +kernel
theorem idx1_1 : ∀ t : Fin cfg0.N, win0_1.index t (1 : Fin 2) = 0 := by decide +kernel
theorem idx2_0 : ∀ t : Fin cfg0.N, win0_2.index t (0 : Fin 2) = t.val := by decide +kernel
theorem idx2_1 : ∀ t : Fin cfg0.N, win0_2.index t (1 : Fin 2) = 0 := by decide +kernel
theorem idx3_0 : ∀ t : Fin cfg0.N, win0_3.index t (0 : Fin 2) = t.val := by decide +kernel
theorem idx3_1 : ∀ t : Fin cfg0.N, win0_3.index t (1 : Fin 2) = 0 := by decide +kernel
theorem idx4_0 : ∀ t : Fin cfg0.N, win0_4.index t (0 : Fin 2) = 0 := by decide +kernel
theorem idx4_1 : ∀ t : Fin cfg0.N, win0_4.index t (1 : Fin 2) = 0 := by decide +kernel
theorem idx5_0 : ∀ t : Fin cfg0.N, win0_5.index t (0 : Fin 2) = 0 := by decide +kernel
theorem idx5_1 : ∀ t : Fin cfg0.N, win0_5.index t (1 : Fin 2) = 0 := by decide +kernel
theorem idx6_0 : ∀ t : Fin cfg0.N, win0_6.index t (0 : Fin 2) = 0 := by decide +kernel
theorem idx6_1 : ∀ t : Fin cfg0.N, win0_6.index t (1 : Fin 2) = 0 := by decide +kernel
theorem idx7_0 : ∀ t : Fin cfg0.N, win0_7.index t (0 : Fin 2) = 0 := by decide +kernel
theorem idx7_1 : ∀ t : Fin cfg0.N, win0_7.index t (1 : Fin 2) = 0 := by decide +kernel
theorem idx8_0 : ∀ t : Fin cfg0.N, win0_8.index t (0 : Fin 2) = 0 := by decide +kernel
theorem idx8_1 : ∀ t : Fin cfg0.N, win0_8.index t (1 : Fin 2) = 0 := by decide +kernel
theorem idx9_0 : ∀ t : Fin cfg0.N, win0_9.index t (0 : Fin 2) = 0 := by decide +kernel
theorem idx9_1 : ∀ t : Fin cfg0.N, win0_9.index t (1 : Fin 2) = 0 := by decide +kernel
theorem idx10_0 : ∀ t : Fin cfg0.N, win0_10.index t (0 : Fin 2) = 0 := by decide +kernel
theorem idx10_1 : ∀ t : Fin cfg0.N, win0_10.index t (1 : Fin 2) = 0 := by decide +kernel

theorem blk_0 (t : Fin cfg0.N) (r : Fin 512) (k : Fin 1024) : iblk m c 0 t (ix2 r k) = V m c main_v17 (ix2 (rI t r) k) := by
  show V m c main_v17 (((cfg0.win 0).blk t).view.emb (ix2 r k)) = _
  refine congrArg (V m c main_v17) (funext fun a => Fin.ext ?_)
  match a with
  | ⟨0, _⟩ =>
    show win0_0.index t 0 * 512 + 1 * r.val = _
    rw [idx0_0, Nat.one_mul]; rfl
  | ⟨1, _⟩ =>
    show win0_0.index t 1 * 1024 + 1 * k.val = _
    rw [idx0_1, Nat.zero_mul, Nat.zero_add, Nat.one_mul]; rfl

theorem blk_1 (t : Fin cfg0.N) (r : Fin 512) (k : Fin 1) : iblk m c 1 t (ix2 r k) = V m c main_v13 (ix2 (rI t r) k) := by
  show V m c main_v13 (((cfg0.win 1).blk t).view.emb (ix2 r k)) = _
  refine congrArg (V m c main_v13) (funext fun a => Fin.ext ?_)
  match a with
  | ⟨0, _⟩ =>
    show win0_1.index t 0 * 512 + 1 * r.val = _
    rw [idx1_0, Nat.one_mul]; rfl
  | ⟨1, _⟩ =>
    show win0_1.index t 1 * 1 + 1 * k.val = _
    rw [idx1_1, Nat.zero_mul, Nat.zero_add, Nat.one_mul]; rfl

theorem blk_2 (t : Fin cfg0.N) (r : Fin 512) (k : Fin 256) : iblk m c 2 t (ix2 r k) = V m c main_arg1 (ix2 (rI t r) k) := by
  show V m c main_arg1 (((cfg0.win 2).blk t).view.emb (ix2 r k)) = _
  refine congrArg (V m c main_arg1) (funext fun a => Fin.ext ?_)
  match a with
  | ⟨0, _⟩ =>
    show win0_2.index t 0 * 512 + 1 * r.val = _
    rw [idx2_0, Nat.one_mul]; rfl
  | ⟨1, _⟩ =>
    show win0_2.index t 1 * 256 + 1 * k.val = _
    rw [idx2_1, Nat.zero_mul, Nat.zero_add, Nat.one_mul]; rfl

theorem blk_3 (t : Fin cfg0.N) (r : Fin 512) (k : Fin 1024) : iblk m c 3 t (ix2 r k) = V m c main_arg2 (ix2 (rI t r) k) := by
  show V m c main_arg2 (((cfg0.win 3).blk t).view.emb (ix2 r k)) = _
  refine congrArg (V m c main_arg2) (funext fun a => Fin.ext ?_)
  match a with
  | ⟨0, _⟩ =>
    show win0_3.index t 0 * 512 + 1 * r.val = _
    rw [idx3_0, Nat.one_mul]; rfl
  | ⟨1, _⟩ =>
    show win0_3.index t 1 * 1024 + 1 * k.val = _
    rw [idx3_1, Nat.zero_mul, Nat.zero_add, Nat.one_mul]; rfl

theorem blk_4 (t : Fin cfg0.N) (r : Fin 1024) (k : Fin 1024) : iblk m c 4 t (ix2 r k) = V m c main_v18 (ix2 r k) := by
  show V m c main_v18 (((cfg0.win 4).blk t).view.emb (ix2 r k)) = _
  refine congrArg (V m c main_v18) (funext fun a => Fin.ext ?_)
  match a with
  | ⟨0, _⟩ =>
    show win0_4.index t 0 * 1024 + 1 * r.val = _
    rw [idx4_0, Nat.one_mul, Nat.zero_mul, Nat.zero_add]; rfl
  | ⟨1, _⟩ =>
    show win0_4.index t 1 * 1024 + 1 * k.val = _
    rw [idx4_1, Nat.zero_mul, Nat.zero_add, Nat.one_mul]; rfl

theorem blk_5 (t : Fin cfg0.N) (r : Fin 256) (k : Fin 1024) : iblk m c 5 t (ix2 r k) = V m c main_v19 (ix2 r k) := by
  show V m c main_v19 (((cfg0.win 5).blk t).view.emb (ix2 r k)) = _
  refine congrArg (V m c main_v19) (funext fun a => Fin.ext ?_)
  match a with
  | ⟨0, _⟩ =>
    show win0_5.index t 0 * 256 + 1 * r.val = _
    rw [idx5_0, Nat.one_mul, Nat.zero_mul, Nat.zero_add]; rfl
  | ⟨1, _⟩ =>
    show win0_5.index t 1 * 1024 + 1 * k.val = _
    rw [idx5_1, Nat.zero_mul, Nat.zero_add, Nat.one_mul]; rfl

theorem blk_6 (t : Fin cfg0.N) (r : Fin 1) (k : Fin 1024) : iblk m c 6 t (ix2 r k) = V m c main_v20 (ix2 r k) := by
  show V m c main_v20 (((cfg0.win 6).blk t).view.emb (ix2 r k)) = _
  refine congrArg (V m c main_v20) (funext fun a => Fin.ext ?_)
  match a with
  | ⟨0, _⟩ =>
    show win0_6.index t 0 * 1 + 1 * r.val = _
    rw [idx6_0, Nat.one_mul, Nat.zero_mul, Nat.zero_add]; rfl
  | ⟨1, _⟩ =>
    show win0_6.index t 1 * 1024 + 1 * k.val = _
    rw [idx6_1, Nat.zero_mul, Nat.zero_add, Nat.one_mul]; rfl

theorem blk_7 (t : Fin cfg0.N) (r : Fin 1) (k : Fin 1024) : iblk m c 7 t (ix2 r k) = V m c main_v21 (ix2 r k) := by
  show V m c main_v21 (((cfg0.win 7).blk t).view.emb (ix2 r k)) = _
  refine congrArg (V m c main_v21) (funext fun a => Fin.ext ?_)
  match a with
  | ⟨0, _⟩ =>
    show win0_7.index t 0 * 1 + 1 * r.val = _
    rw [idx7_0, Nat.one_mul, Nat.zero_mul, Nat.zero_add]; rfl
  | ⟨1, _⟩ =>
    show win0_7.index t 1 * 1024 + 1 * k.val = _
    rw [idx7_1, Nat.zero_mul, Nat.zero_add, Nat.one_mul]; rfl

theorem blk_8 (t : Fin cfg0.N) (r : Fin 1) (k : Fin 1024) : iblk m c 8 t (ix2 r k) = V m c main_v22 (ix2 r k) := by
  show V m c main_v22 (((cfg0.win 8).blk t).view.emb (ix2 r k)) = _
  refine congrArg (V m c main_v22) (funext fun a => Fin.ext ?_)
  match a with
  | ⟨0, _⟩ =>
    show win0_8.index t 0 * 1 + 1 * r.val = _
    rw [idx8_0, Nat.one_mul, Nat.zero_mul, Nat.zero_add]; rfl
  | ⟨1, _⟩ =>
    show win0_8.index t 1 * 1024 + 1 * k.val = _
    rw [idx8_1, Nat.zero_mul, Nat.zero_add, Nat.one_mul]; rfl

theorem blk_9 (t : Fin cfg0.N) (r : Fin 1) (k : Fin 1024) : iblk m c 9 t (ix2 r k) = V m c main_v23 (ix2 r k) := by
  show V m c main_v23 (((cfg0.win 9).blk t).view.emb (ix2 r k)) = _
  refine congrArg (V m c main_v23) (funext fun a => Fin.ext ?_)
  match a with
  | ⟨0, _⟩ =>
    show win0_9.index t 0 * 1 + 1 * r.val = _
    rw [idx9_0, Nat.one_mul, Nat.zero_mul, Nat.zero_add]; rfl
  | ⟨1, _⟩ =>
    show win0_9.index t 1 * 1024 + 1 * k.val = _
    rw [idx9_1, Nat.zero_mul, Nat.zero_add, Nat.one_mul]; rfl

theorem blk_10 (t : Fin cfg0.N) (r : Fin 1) (k : Fin 1024) : iblk m c 10 t (ix2 r k) = V m c main_v24 (ix2 r k) := by
  show V m c main_v24 (((cfg0.win 10).blk t).view.emb (ix2 r k)) = _
  refine congrArg (V m c main_v24) (funext fun a => Fin.ext ?_)
  match a with
  | ⟨0, _⟩ =>
    show win0_10.index t 0 * 1 + 1 * r.val = _
    rw [idx10_0, Nat.one_mul, Nat.zero_mul, Nat.zero_add]; rfl
  | ⟨1, _⟩ =>
    show win0_10.index t 1 * 1024 + 1 * k.val = _
    rw [idx10_1, Nat.zero_mul, Nat.zero_add, Nat.one_mul]; rfl

section Inputs

variable (t : Fin cfg0.N) (r : Fin 512)

/-- The input blocks at an index of the launch's arguments. -/
theorem in_xh (k : Fin 1024) : (ins m c t).xh (ix2 r k) = val_main_v22 (F := Ideal) (a0 m c) (ix2 (rI t r) k) := (blk_0 m c t r k).trans (congrFun (V_v17 m c) _)
theorem in_rs : (ins m c t).rs (ix2 r 0) = val_main_v17 (F := Ideal) (a0 m c) (ix2 (rI t r) 0) := (blk_1 m c t r 0).trans (congrFun (V_v13 m c) _)
theorem in_p (k : Fin 256) : (ins m c t).p (ix2 r k) = a1 m c (ix2 (rI t r) k) := (blk_2 m c t r k).trans (congrFun (V_arg1 m c) _)
theorem in_tg (k : Fin 1024) : (ins m c t).tg (ix2 r k) = a2 m c (ix2 (rI t r) k) := (blk_3 m c t r k).trans (congrFun (V_arg2 m c) _)
theorem in_wg (j k : Fin 1024) : (ins m c t).wg (ix2 j k) = a3 m c (ix2 j k) := (blk_4 m c t j k).trans (congrFun (V_v18 m c) _)
theorem in_wp (j : Fin 256) (k : Fin 1024) : (ins m c t).wp (ix2 j k) = a5 m c (ix2 j k) := (blk_5 m c t j k).trans (congrFun (V_v19 m c) _)
theorem in_g2 (k : Fin 1024) : (ins m c t).g2 (ix2 0 k) = a6 m c (ix1 k) := (blk_6 m c t 0 k).trans (V_v20 m c k)
theorem in_b2 (k : Fin 1024) : (ins m c t).b2 (ix2 0 k) = a7 m c (ix1 k) := (blk_7 m c t 0 k).trans (V_v21 m c k)
theorem in_bg (k : Fin 1024) : (ins m c t).bg (ix2 0 k) = a4 m c (ix1 k) := (blk_8 m c t 0 k).trans (V_v22 m c k)
theorem in_g3 (k : Fin 1024) : (ins m c t).g3 (ix2 0 k) = a8 m c (ix1 k) := (blk_9 m c t 0 k).trans (V_v23 m c k)
theorem in_b3 (k : Fin 1024) : (ins m c t).b3 (ix2 0 k) = a9 m c (ix1 k) := (blk_10 m c t 0 k).trans (V_v24 m c k)

end Inputs

end Cert.Tail

end
-- ==== Proof.Tail.Real.lean ====
/- Reals among the extended reals: sums, differences, quotients, a normalised row and the logistic function keep them real. -/
module

public import proofs.«01_k».proof.Proof.Mix.Row
public import proofs.«01_k».proof.Proof.Scalar

@[expose] public section

noncomputable section

namespace Cert.Tail

open Idealize.ShloMosaic
open Cert.Act (IsReal)
open Cert.Mix (cN cE cen vari kern lit_n lit_eps sum_coe)

theorem lit_one : Ideal.ofBits .f32 0x3F800000#32 = 1 := by
  rw [← EReal.coe_one]
  simp [Ideal.ofBits, Ideal.ieee, -EReal.coe_mul]; norm_num

theorem real_sub {x y : EReal} : IsReal x → IsReal y → IsReal (x - y) := by
  rintro ⟨a, rfl⟩ ⟨b, rfl⟩; exact ⟨a - b, (EReal.coe_sub a b).symm⟩

theorem real_mean {x : EReal} : IsReal x → IsReal (Ideal.div x cN) := by
  rintro ⟨a, rfl⟩
  exact ⟨a * (1 / 1024), by rw [lit_n, Ideal.div_coe (by norm_num), ← EReal.coe_mul]⟩

theorem real_logistic {x : EReal} : IsReal x → IsReal (Ideal.logistic x) := by
  rintro ⟨a, rfl⟩
  exact ⟨_, Ideal.logistic_coe a⟩

theorem real_cen (y : Fin 1024 → EReal) (hy : ∀ j, IsReal (y j)) (k : Fin 1024) : IsReal (cen y k) :=
  real_sub (hy k) (real_mean (.sum _ _ fun j => hy j))

theorem real_rstd (u : Fin 1024 → EReal) (hu : ∀ j, IsReal (u j)) : IsReal (Ideal.rsqrt (vari u)) := by
  choose u' hu' using hu
  obtain rfl : u = fun j => ((u' j : ℝ) : EReal) := funext hu'
  obtain ⟨v, hv, hv0⟩ : ∃ v : ℝ, vari (fun j => ((u' j : ℝ) : EReal)) = ((v : ℝ) : EReal) ∧ 0 < v := by
    refine ⟨(∑ j, u' j * u' j) * (1 / 1024) + 10995116 / 2 ^ 40, ?_, ?_⟩
    · show Ideal.div (∑ i, ((u' i : ℝ) : EReal) * ((u' i : ℝ) : EReal)) cN + cE = _
      simp only [← EReal.coe_mul]
      rw [lit_n, lit_eps, Ideal.div_coe (by norm_num), sum_coe, ← EReal.coe_mul, ← EReal.coe_add]
    · have : 0 ≤ ∑ j, u' j * u' j := Finset.sum_nonneg fun j _ => mul_self_nonneg _
      positivity
  rw [hv, Ideal.rsqrt_coe, if_neg (not_lt.mpr hv0.le), if_neg hv0.ne']
  exact ⟨_, rfl⟩

theorem real_kern (d g u : Fin 1024 → EReal) (r : EReal) (hd : ∀ j, IsReal (d j)) (hg : ∀ j, IsReal (g j)) (hu : ∀ j, IsReal (u j))
    (hr : IsReal r) (k : Fin 1024) : IsReal (kern d g u r k) :=
  hr.mul (real_sub (real_sub ((hd k).mul (hg k)) (real_mean (.sum _ _ fun j => (hd j).mul (hg j))))
    (((hu k).mul hr).mul (real_mean (.sum _ _ fun j => ((hd j).mul (hg j)).mul ((hu j).mul hr)))))

/-- Half of one, over the row's length, times two. -/
theorem lit_grad : Ideal.div (Ideal.ofBits .f32 0x3F000000#32 * Ideal.ofBits .f32 0x3F800000#32) cN * Ideal.ofBits .f32 0x40000000#32
    = Ideal.ofBits .f32 0x3A800000#32 := by
  have e : Ideal.ofBits .f32 0x3A800000#32 = ((1 / 1024 : ℝ) : EReal) := by
    simp [Ideal.ofBits, Ideal.ieee, -EReal.coe_mul]; norm_num
  rw [e, Cert.Act.lit_half, lit_one, lit_n, Cert.Mix.lit_two, mul_one, Ideal.div_coe (by norm_num), ← EReal.coe_mul, ← EReal.coe_mul]
  norm_num

end Cert.Tail

end
-- ==== Proof.Tail.Point.lean ====
/- What one point computes, element by element. -/
module

public import proofs.«01_k».proof.Proof.Tail.Step
public import proofs.«01_k».proof.Proof.Tail.Real
public import Idealize.ShloMosaic.Lib.Claim
public import Idealize.ShloMosaic.Lib.StableHlo.RunRead
public import Idealize.ShloMosaic.Lib.Pointwise

@[expose] public section

set_option maxRecDepth 16384
set_option maxHeartbeats 1000000

noncomputable section

namespace Cert.Tail

open Cert.Kernel6Ideal Cert.Kernel6Ideal.Gen
open Idealize.ShloMosaic Idealize.ShloMosaic.TcCoe
open Idealize.ShloMosaic.Pointwise
open Cert.Mix (cN cen vari kern)

variable (I : Ins Ideal) (r : Fin 512) (k : Fin 1024)

/-- The second normalisation's result. -/
abbrev x2 : FVec Ideal S512x1024 .f32 := k0_pay27 I.xh I.g2 I.b2
/-- The output less the target. -/
abbrev err : FVec Ideal S512x1024 .f32 := k0_pay35 (cenY I) I.g3 I.b3 I.tg

theorem x2_apply : x2 I (ix2 r k) = I.xh (ix2 r k) * I.g2 (ix2 0 k) + I.b2 (ix2 0 k) := by
  unfold x2
  pointwise [k0_pay27, k0_pay26]

theorem gate_apply : gate I (ix2 r k) = Ideal.logistic ((∑ j : Fin 1024, x2 I (ix2 r j) * I.wg (ix2 j k)) + I.bg (ix2 0 k)) := by
  unfold gate k0_pay30 k0_pay28 x2
  generalize k0_pay27 I.xh I.g2 I.b2 = X
  pointwise []

theorem pin_apply : pin I (ix2 r k) = ∑ j : Fin 256, I.p (ix2 r j) * I.wp (ix2 j k) := by
  unfold pin
  pointwise [k0_pay31, k0_pay29]

theorem cenY_apply : cenY I (ix2 r k)
    = cen (fun j => Ideal.ofBits .f32 0x3F9837F0#32 * x2 I (ix2 r j) + gate I (ix2 r j) * pin I (ix2 r j)) k := by
  unfold cenY k0_pay32 x2 gate pin
  generalize k0_pay27 I.xh I.g2 I.b2 = X
  generalize k0_pay30 I.xh I.g2 I.b2 I.wg I.bg = G
  generalize k0_pay31 I.p I.wp = Q
  pointwise [cen]

theorem pay33_apply (u : FVec Ideal S512x1024 .f32) : k0_pay33 u (ix2 r 0) = Ideal.rsqrt (vari fun j => u (ix2 r j)) := by
  pointwise [k0_pay33, vari]

theorem pay34_apply (u : FVec Ideal S512x1024 .f32) : k0_pay34 u (ix2 r k) = u (ix2 r k) * k0_pay33 u (ix2 r 0) := by
  unfold k0_pay34
  generalize k0_pay33 u = R
  pointwise []

theorem err_apply : err I (ix2 r k) = k0_pay34 (cenY I) (ix2 r k) * I.g3 (ix2 0 k) + I.b3 (ix2 0 k) - I.tg (ix2 r k) := by
  unfold err k0_pay35
  generalize k0_pay34 (cenY I) = U
  pointwise []

theorem dOut_apply : dOut I (ix2 r k) = err I (ix2 r k) * Ideal.ofBits .f32 0x3A800000#32 := by
  unfold dOut k0_pay37 err
  generalize k0_pay35 (cenY I) I.g3 I.b3 I.tg = U
  pointwise []

theorem lossPut_apply (old : Vec Ideal S8x128 .f32) (a : Fin 8) (l : Fin 128) : lossPut I old (ix2 a l)
    = old (ix2 a l) + (∑ s : Fin 512, Ideal.div (∑ j : Fin 1024, err I (ix2 s j) * err I (ix2 s j)) cN) * Ideal.ofBits .f32 0x3F000000#32 := by
  unfold lossPut k0_pay36 err
  generalize k0_pay35 (cenY I) I.g3 I.b3 I.tg = U
  pointwise []

theorem pay38_apply (g : Vec Ideal S1x1024 .f32) : k0_pay38 g (ix2 r k) = g (ix2 0 k) := by
  pointwise [k0_pay38]

theorem pay39_apply (q : FVec Ideal S512x1 .f32) (x d g : FVec Ideal S512x1024 .f32) : k0_pay39 q x d g (ix2 r k)
    = q (ix2 r 0) * ((d (ix2 r k) * g (ix2 r k) - Ideal.div (∑ j : Fin 1024, d (ix2 r j) * g (ix2 r j)) cN)
      - x (ix2 r k) * Ideal.div (∑ j : Fin 1024, d (ix2 r j) * g (ix2 r j) * x (ix2 r j)) cN) := by
  pointwise [k0_pay39]

theorem dY3_apply : dY3 I (ix2 r k) = kern (fun j => dOut I (ix2 r j)) (fun j => I.g3 (ix2 0 j)) (fun j => cenY I (ix2 r j))
    (k0_pay33 (cenY I) (ix2 r 0)) k := by
  unfold dY3
  rw [pay39_apply]
  simp only [pay38_apply, pay34_apply]
  rfl

theorem dGp_apply : dGp I (ix2 r k) = dY3 I (ix2 r k) * pin I (ix2 r k) * gate I (ix2 r k) * (Ideal.ofBits .f32 0x3F800000#32 - gate I (ix2 r k)) := by
  unfold dGp dY3 k0_pay40
  generalize k0_pay39 (k0_pay33 (cenY I)) (k0_pay34 (cenY I)) (dOut I) (k0_pay38 I.g3) = Y
  generalize gate I = G
  generalize pin I = Q
  pointwise []

theorem dwgPut_apply (old : Vec Ideal S1024x1024 .f32) (q k : Fin 1024) : dwgPut I old (ix2 q k)
    = old (ix2 q k) + ∑ s : Fin 512, x2 I (ix2 s q) * dGp I (ix2 s k) := by
  unfold dwgPut k0_pay42 k0_pay41 k0_pay28 dGp x2
  generalize k0_pay40 (gate I) (pin I) (k0_pay33 (cenY I)) (k0_pay34 (cenY I)) (dOut I) (k0_pay38 I.g3) = Y
  generalize k0_pay27 I.xh I.g2 I.b2 = X
  pointwise []

theorem dwpPut_apply (old : Vec Ideal S256x1024 .f32) (q : Fin 256) (k : Fin 1024) : dwpPut I old (ix2 q k)
    = old (ix2 q k) + ∑ s : Fin 512, I.p (ix2 s q) * (dY3 I (ix2 s k) * gate I (ix2 s k)) := by
  unfold dwpPut k0_pay43 k0_pay29 dY3
  generalize k0_pay39 (k0_pay33 (cenY I)) (k0_pay34 (cenY I)) (dOut I) (k0_pay38 I.g3) = Y
  generalize gate I = G
  pointwise []

theorem dX2_apply : dX2 I (ix2 r k) = Ideal.ofBits .f32 0x3F9837F0#32 * dY3 I (ix2 r k) + ∑ j : Fin 1024, dGp I (ix2 r j) * I.wg (ix2 k j) := by
  unfold dX2 k0_pay45 dGpb aDy k0_pay44 k0_pay41 dGp dY3
  generalize k0_pay40 (gate I) (pin I) (k0_pay33 (cenY I)) (k0_pay34 (cenY I)) (dOut I) (k0_pay38 I.g3) = Z
  generalize k0_pay39 (k0_pay33 (cenY I)) (k0_pay34 (cenY I)) (dOut I) (k0_pay38 I.g3) = Y
  pointwise []

theorem dY2_apply : dY2 I (ix2 r k)
    = I.rs (ix2 r 0) * ((dX2 I (ix2 r k) * I.g2 (ix2 0 k) - Ideal.div (∑ j : Fin 1024, dX2 I (ix2 r j) * I.g2 (ix2 0 j)) cN)
      - I.xh (ix2 r k) * Ideal.div (∑ j : Fin 1024, dX2 I (ix2 r j) * I.g2 (ix2 0 j) * I.xh (ix2 r j)) cN) := by
  unfold dY2 k0_pay46 dX2
  generalize k0_pay45 (dGpb I) (aDy I) I.wg = X
  pointwise [k0_pay26]

theorem dY2b_eq : (dY2b I : S512x1024.Idx → EReal) = dY2 I := rfl

theorem pay22_apply (a : Fin 8) (l : Fin 128) : k0_pay22 (F := Ideal) (ix2 a l) = 0 := by
  pointwise [k0_pay22]
theorem pay23_apply (q k : Fin 1024) : k0_pay23 (F := Ideal) (ix2 q k) = 0 := by
  pointwise [k0_pay23]
theorem pay24_apply (q : Fin 256) (k : Fin 1024) : k0_pay24 (F := Ideal) (ix2 q k) = 0 := by
  pointwise [k0_pay24]
theorem pay25_apply (q : Fin 8) (k : Fin 1024) : k0_pay25 (F := Ideal) (ix2 q k) = 0 := by
  pointwise [k0_pay25]

section Vectors

variable (d x : FVec Ideal S512x1024 .f32) (old : Vec Ideal S1x1024 .f32) (k : Fin 1024)

/-- One tile's sums over its rows. -/
theorem pay48_apply : k0_pay48 d old (ix2 0 k) = old (ix2 0 k) + ∑ r : Fin 512, d (ix2 r k) := by
  pointwise [k0_pay48]
theorem pay1_apply : k0_pay1 (k0_pay49 old) (k0_pay50 x d) (ix2 0 k) = old (ix2 0 k) + ∑ r : Fin 512, d (ix2 r k) * x (ix2 r k) := by
  pointwise [k0_pay1, k0_pay49, k0_pay50]
theorem pay2_apply : k0_pay2 d old (ix2 0 k) = old (ix2 0 k) + ∑ r : Fin 512, d (ix2 r k) := by
  pointwise [k0_pay2]
theorem pay3_apply (xh : Vec Ideal S512x1024 .f32) : k0_pay3 (k0_pay26 xh) d old (ix2 0 k) = old (ix2 0 k) + ∑ r : Fin 512, d (ix2 r k) * xh (ix2 r k) := by
  pointwise [k0_pay3, k0_pay26]
theorem pay4_apply : k0_pay4 d old (ix2 0 k) = old (ix2 0 k) + ∑ r : Fin 512, d (ix2 r k) := by
  pointwise [k0_pay4]

end Vectors

end Cert.Tail

end
-- ==== Proof.Tail.RefRead.lean ====
/- The reference's operations, element by element. -/
module

public import proofs.«01_k».proof.Proof.Tail.Real
public import proofs.«01_k».proof.Proof.Gen.Reference6Ideal.Read
public import Idealize.ShloMosaic.Lib.Claim
public import Idealize.ShloMosaic.Lib.StableHlo.RunRead
public import Idealize.ShloMosaic.Lib.Pointwise

@[expose] public section

set_option maxRecDepth 16384
set_option maxHeartbeats 1000000

noncomputable section

namespace Cert.Tail

open Cert.Reference6Ideal
open Idealize.ShloMosaic Idealize.ShloMosaic.TcCoe
open Idealize.ShloMosaic.Pointwise
open Cert.Reference6Ideal.Read
open Cert.Mix (cen vari kern refn kern_eq_refn)

variable (x0 : Vec Ideal S4096x1024 .f32) (x1 : Vec Ideal S4096x256 .f32) (x2 : Vec Ideal S4096x1024 .f32) (x3 : Vec Ideal S1024x1024 .f32)
  (x4 : Vec Ideal S1024 .f32) (x5 : Vec Ideal S256x1024 .f32) (x6 x7 x8 x9 : Vec Ideal S1024 .f32)

theorem v5_apply (s : Fin 4096) (k : Fin 1024) : val_main_v5 (F := Ideal) x0 (ix2 s k)
    = cen (fun j => x0 (ix2 s j)) k := by
  unfold val_main_v5 val_main_v4 val_main_v3 val_main_v2 val_main_v1 val_main_v0
  pointwise [val_main_cst, val_main_cst_0, cen]

theorem v14_eq : val_main_v14 (F := Ideal) x0 = val_main_v5 (F := Ideal) x0 := rfl

theorem v8_apply (s : Fin 4096) (k : Fin 1024) : val_main_v8 (F := Ideal) x0 (ix2 s k)
    = Ideal.ofBits .f32 0x40000000#32 * val_main_v5 (F := Ideal) x0 (ix2 s k) := by
  unfold val_main_v8 val_main_v7 val_main_cst_1
  generalize val_main_v5 (F := Ideal) x0 = R
  pointwise []

theorem v16_apply (s : Fin 4096) : val_main_v16 (F := Ideal) x0 (ix2 s 0)
    = vari (fun j => val_main_v5 (F := Ideal) x0 (ix2 s j)) := by
  unfold val_main_v16 val_main_v15 val_main_v12 val_main_v11 val_main_v10 val_main_v9 val_main_v6
  generalize val_main_v5 (F := Ideal) x0 = R
  pointwise [val_main_cst_2, val_main_cst_3, val_main_cst_4, vari]

theorem v17_apply (s : Fin 4096) : val_main_v17 (F := Ideal) x0 (ix2 s 0)
    = Ideal.rsqrt (val_main_v16 (F := Ideal) x0 (ix2 s 0)) := by
  unfold val_main_v17
  generalize val_main_v16 (F := Ideal) x0 = R
  pointwise []

theorem v20_apply (s : Fin 4096) : val_main_v20 (F := Ideal) x0 (ix2 s 0)
    = Ideal.ofBits .f32 0xBF000000#32 * Ideal.div (val_main_v17 (F := Ideal) x0 (ix2 s 0)) (val_main_v16 (F := Ideal) x0 (ix2 s 0)) := by
  unfold val_main_v20 val_main_v19 val_main_v18
  generalize val_main_v17 (F := Ideal) x0 = R
  generalize val_main_v16 (F := Ideal) x0 = Q
  pointwise [val_main_cst_5]

theorem v22_apply (s : Fin 4096) (k : Fin 1024) : val_main_v22 (F := Ideal) x0 (ix2 s k)
    = val_main_v5 (F := Ideal) x0 (ix2 s k) * val_main_v17 (F := Ideal) x0 (ix2 s 0) := by
  unfold val_main_v22 val_main_v21
  rw [v14_eq]
  generalize val_main_v5 (F := Ideal) x0 = U
  generalize val_main_v17 (F := Ideal) x0 = R
  pointwise []

theorem v28_apply (s : Fin 4096) (k : Fin 1024) : val_main_v28 (F := Ideal) x0 x6 x7 (ix2 s k)
    = val_main_v22 (F := Ideal) x0 (ix2 s k) * x6 (ix1 k) + x7 (ix1 k) := by
  unfold val_main_v28 val_main_v27 val_main_v26 val_main_v25 val_main_v24 val_main_v23
  generalize val_main_v22 (F := Ideal) x0 = U
  pointwise []

theorem v38_apply (s : Fin 4096) (k : Fin 1024) : val_main_v38 (F := Ideal) x0 x3 x4 x6 x7 (ix2 s k)
    = Ideal.logistic ((∑ j : Fin 1024, val_main_v28 (F := Ideal) x0 x6 x7 (ix2 s j) * x3 (ix2 j k)) + x4 (ix1 k)) := by
  unfold val_main_v38 val_main_v37 val_main_v36 val_main_v35 val_main_v34 val_main_v33 val_main_v32 val_main_v31 val_main_v30 val_main_v29
  generalize val_main_v28 (F := Ideal) x0 x6 x7 = U
  pointwise [val_main_cst_6, val_main_cst_7]
  rfl

theorem v42_apply (s : Fin 4096) (k : Fin 1024) : val_main_v42 (F := Ideal) x1 x5 (ix2 s k)
    = ∑ j : Fin 256, x1 (ix2 s j) * x5 (ix2 j k) := by
  unfold val_main_v42
  pointwise []

theorem v46_apply (s : Fin 4096) (k : Fin 1024) : val_main_v46 (F := Ideal) x0 x1 x3 x4 x5 x6 x7 (ix2 s k)
    = Ideal.ofBits .f32 0x3F9837F0#32 * val_main_v28 (F := Ideal) x0 x6 x7 (ix2 s k) + val_main_v38 (F := Ideal) x0 x3 x4 x6 x7 (ix2 s k) * val_main_v42 (F := Ideal) x1 x5 (ix2 s k) := by
  unfold val_main_v46 val_main_v45 val_main_v44 val_main_v43
  generalize val_main_v28 (F := Ideal) x0 x6 x7 = U
  generalize val_main_v38 (F := Ideal) x0 x3 x4 x6 x7 = R
  generalize val_main_v42 (F := Ideal) x1 x5 = P
  pointwise [val_main_cst_9]

theorem v61_apply (s : Fin 4096) (k : Fin 1024) : val_main_v61 (F := Ideal) x0 x1 x3 x4 x5 x6 x7 (ix2 s k)
    = cen (fun j => val_main_v46 (F := Ideal) x0 x1 x3 x4 x5 x6 x7 (ix2 s j)) k := by
  unfold val_main_v61 val_main_v60 val_main_v50 val_main_v49 val_main_v48 val_main_v47
  generalize val_main_v46 (F := Ideal) x0 x1 x3 x4 x5 x6 x7 = R
  pointwise [val_main_cst_10, val_main_cst_11, cen]

theorem v52_eq : val_main_v52 (F := Ideal) x0 x1 x3 x4 x5 x6 x7 = val_main_v61 (F := Ideal) x0 x1 x3 x4 x5 x6 x7 := rfl

theorem v55_apply (s : Fin 4096) (k : Fin 1024) : val_main_v55 (F := Ideal) x0 x1 x3 x4 x5 x6 x7 (ix2 s k)
    = Ideal.ofBits .f32 0x40000000#32 * val_main_v61 (F := Ideal) x0 x1 x3 x4 x5 x6 x7 (ix2 s k) := by
  unfold val_main_v55 val_main_v54 val_main_cst_12
  rw [v52_eq]
  generalize val_main_v61 (F := Ideal) x0 x1 x3 x4 x5 x6 x7 = R
  pointwise []

theorem v63_apply (s : Fin 4096) : val_main_v63 (F := Ideal) x0 x1 x3 x4 x5 x6 x7 (ix2 s 0)
    = vari (fun j => val_main_v61 (F := Ideal) x0 x1 x3 x4 x5 x6 x7 (ix2 s j)) := by
  unfold val_main_v63 val_main_v62 val_main_v59 val_main_v58 val_main_v57 val_main_v56 val_main_v53
  rw [v52_eq]
  generalize val_main_v61 (F := Ideal) x0 x1 x3 x4 x5 x6 x7 = R
  pointwise [val_main_cst_13, val_main_cst_14, val_main_cst_15, vari]

theorem v64_apply (s : Fin 4096) : val_main_v64 (F := Ideal) x0 x1 x3 x4 x5 x6 x7 (ix2 s 0)
    = Ideal.rsqrt (val_main_v63 (F := Ideal) x0 x1 x3 x4 x5 x6 x7 (ix2 s 0)) := by
  unfold val_main_v64
  generalize val_main_v63 (F := Ideal) x0 x1 x3 x4 x5 x6 x7 = R
  pointwise []

theorem v67_apply (s : Fin 4096) : val_main_v67 (F := Ideal) x0 x1 x3 x4 x5 x6 x7 (ix2 s 0)
    = Ideal.ofBits .f32 0xBF000000#32 * Ideal.div (val_main_v64 (F := Ideal) x0 x1 x3 x4 x5 x6 x7 (ix2 s 0)) (val_main_v63 (F := Ideal) x0 x1 x3 x4 x5 x6 x7 (ix2 s 0)) := by
  unfold val_main_v67 val_main_v66 val_main_v65
  generalize val_main_v64 (F := Ideal) x0 x1 x3 x4 x5 x6 x7 = R
  generalize val_main_v63 (F := Ideal) x0 x1 x3 x4 x5 x6 x7 = Q
  pointwise [val_main_cst_16]

theorem v69_apply (s : Fin 4096) (k : Fin 1024) : val_main_v69 (F := Ideal) x0 x1 x3 x4 x5 x6 x7 (ix2 s k)
    = val_main_v61 (F := Ideal) x0 x1 x3 x4 x5 x6 x7 (ix2 s k) * val_main_v64 (F := Ideal) x0 x1 x3 x4 x5 x6 x7 (ix2 s 0) := by
  unfold val_main_v69 val_main_v68
  generalize val_main_v61 (F := Ideal) x0 x1 x3 x4 x5 x6 x7 = U
  generalize val_main_v64 (F := Ideal) x0 x1 x3 x4 x5 x6 x7 = R
  pointwise []

theorem v76_apply (s : Fin 4096) (k : Fin 1024) : val_main_v76 (F := Ideal) x0 x1 x2 x3 x4 x5 x6 x7 x8 x9 (ix2 s k)
    = val_main_v69 (F := Ideal) x0 x1 x3 x4 x5 x6 x7 (ix2 s k) * x8 (ix1 k) + x9 (ix1 k) - x2 (ix2 s k) := by
  unfold val_main_v76 val_main_v75 val_main_v74 val_main_v73 val_main_v72 val_main_v71 val_main_v70
  generalize val_main_v69 (F := Ideal) x0 x1 x3 x4 x5 x6 x7 = U
  pointwise []

theorem v184_apply (r : Fin 8) (l : Fin 128) : val_main_v184 (F := Ideal) x0 x1 x2 x3 x4 x5 x6 x7 x8 x9 (ix2 r l)
    = Ideal.ofBits .f32 0x3F000000#32 * ∑ s : Fin 4096, Ideal.div (∑ j : Fin 1024, val_main_v76 (F := Ideal) x0 x1 x2 x3 x4 x5 x6 x7 x8 x9 (ix2 s j) * val_main_v76 (F := Ideal) x0 x1 x2 x3 x4 x5 x6 x7 x8 x9 (ix2 s j)) (Ideal.ofBits .f32 0x44800000#32) := by
  unfold val_main_v184 val_main_v84 val_main_v83 val_main_v82 val_main_v81 val_main_v80 val_main_v77
  generalize val_main_v76 (F := Ideal) x0 x1 x2 x3 x4 x5 x6 x7 x8 x9 = E
  pointwise [val_main_cst_18, val_main_cst_19, val_main_cst_20, val_main_cst_21]

theorem v90_apply (s : Fin 4096) (k : Fin 1024) : val_main_v90 (F := Ideal) x0 x1 x2 x3 x4 x5 x6 x7 x8 x9 (ix2 s k)
    = Ideal.div (Ideal.ofBits .f32 0x3F000000#32 * Ideal.ofBits .f32 0x3F800000#32) (Ideal.ofBits .f32 0x44800000#32) * (Ideal.ofBits .f32 0x40000000#32 * val_main_v76 (F := Ideal) x0 x1 x2 x3 x4 x5 x6 x7 x8 x9 (ix2 s k)) := by
  unfold val_main_v90 val_main_v89 val_main_v88 val_main_v87 val_main_v86 val_main_v85 val_main_v79 val_main_v78
  generalize val_main_v76 (F := Ideal) x0 x1 x2 x3 x4 x5 x6 x7 x8 x9 = E
  pointwise [val_main_cst_17, val_main_cst_22, val_main_cst_23, val_main_cst_24]

theorem v123_apply (s : Fin 4096) (k : Fin 1024) : val_main_v123 (F := Ideal) x0 x1 x2 x3 x4 x5 x6 x7 x8 x9 (ix2 s k)
    = refn (fun j => val_main_v90 (F := Ideal) x0 x1 x2 x3 x4 x5 x6 x7 x8 x9 (ix2 s j)) (fun j => x8 (ix1 j)) (fun j => val_main_v61 (F := Ideal) x0 x1 x3 x4 x5 x6 x7 (ix2 s j)) (val_main_v64 (F := Ideal) x0 x1 x3 x4 x5 x6 x7 (ix2 s 0)) (val_main_v63 (F := Ideal) x0 x1 x3 x4 x5 x6 x7 (ix2 s 0)) k := by
  have eW := fun k => v55_apply x0 x1 x3 x4 x5 x6 x7 s k
  have eQ := v67_apply x0 x1 x3 x4 x5 x6 x7 s
  revert eW eQ
  unfold val_main_v123 val_main_v122 val_main_v121 val_main_v120 val_main_v118 val_main_v117 val_main_v116 val_main_v115 val_main_v114 val_main_v113 val_main_v112 val_main_v111 val_main_v110 val_main_v108 val_main_v107 val_main_v106 val_main_v105 val_main_v104 val_main_v103 val_main_v102 val_main_v101 val_main_v100 val_main_v98
  generalize val_main_v90 (F := Ideal) x0 x1 x2 x3 x4 x5 x6 x7 x8 x9 = D
  generalize val_main_v61 (F := Ideal) x0 x1 x3 x4 x5 x6 x7 = U
  generalize val_main_v55 (F := Ideal) x0 x1 x3 x4 x5 x6 x7 = W
  generalize val_main_v64 (F := Ideal) x0 x1 x3 x4 x5 x6 x7 = R
  generalize val_main_v63 (F := Ideal) x0 x1 x3 x4 x5 x6 x7 = V
  generalize val_main_v67 (F := Ideal) x0 x1 x3 x4 x5 x6 x7 = Q
  intro eW eQ
  pointwise [val_main_v97, val_main_v70, val_main_v109, val_main_v119, val_main_cst_29, val_main_cst_30, val_main_cst_31, val_main_cst_32, val_main_cst_33, val_main_cst_34, val_main_cst_35]
  have one : ∀ f : Fin 1 → EReal, (∑ x, f x) = f 0 := fun f => Fin.sum_univ_one f
  simp only [one, eW, eQ]
  rfl

theorem v170_apply (s : Fin 4096) (k : Fin 1024) : val_main_v170 (F := Ideal) x0 x1 x2 x3 x4 x5 x6 x7 x8 x9 (ix2 s k)
    = refn (fun j => val_main_v137 (F := Ideal) x0 x1 x2 x3 x4 x5 x6 x7 x8 x9 (ix2 s j)) (fun j => x6 (ix1 j)) (fun j => val_main_v5 (F := Ideal) x0 (ix2 s j)) (val_main_v17 (F := Ideal) x0 (ix2 s 0)) (val_main_v16 (F := Ideal) x0 (ix2 s 0)) k := by
  have eW := fun k => v8_apply x0 s k
  have eQ := v20_apply x0 s
  revert eW eQ
  unfold val_main_v170 val_main_v169 val_main_v168 val_main_v167 val_main_v165 val_main_v164 val_main_v163 val_main_v162 val_main_v161 val_main_v160 val_main_v159 val_main_v158 val_main_v157 val_main_v155 val_main_v154 val_main_v153 val_main_v152 val_main_v151 val_main_v150 val_main_v149 val_main_v148 val_main_v147 val_main_v145
  rw [v14_eq]
  generalize val_main_v137 (F := Ideal) x0 x1 x2 x3 x4 x5 x6 x7 x8 x9 = D
  generalize val_main_v5 (F := Ideal) x0 = U
  generalize val_main_v8 (F := Ideal) x0 = W
  generalize val_main_v17 (F := Ideal) x0 = R
  generalize val_main_v16 (F := Ideal) x0 = V
  generalize val_main_v20 (F := Ideal) x0 = Q
  intro eW eQ
  pointwise [val_main_v144, val_main_v23, val_main_v156, val_main_v166, val_main_cst_43, val_main_cst_44, val_main_cst_45, val_main_cst_46, val_main_cst_47, val_main_cst_48, val_main_cst_49]
  have one : ∀ f : Fin 1 → EReal, (∑ x, f x) = f 0 := fun f => Fin.sum_univ_one f
  simp only [one, eW, eQ]
  rfl

theorem v126_apply (s : Fin 4096) (k : Fin 1024) : val_main_v126 (F := Ideal) x0 x1 x2 x3 x4 x5 x6 x7 x8 x9 (ix2 s k)
    = val_main_v38 (F := Ideal) x0 x3 x4 x6 x7 (ix2 s k) * val_main_v123 (F := Ideal) x0 x1 x2 x3 x4 x5 x6 x7 x8 x9 (ix2 s k) := by
  unfold val_main_v126
  generalize val_main_v38 (F := Ideal) x0 x3 x4 x6 x7 = R
  generalize val_main_v123 (F := Ideal) x0 x1 x2 x3 x4 x5 x6 x7 x8 x9 = T
  pointwise []

theorem v130_apply (s : Fin 4096) (k : Fin 1024) : val_main_v130 (F := Ideal) x0 x1 x2 x3 x4 x5 x6 x7 x8 x9 (ix2 s k)
    = val_main_v123 (F := Ideal) x0 x1 x2 x3 x4 x5 x6 x7 x8 x9 (ix2 s k) * val_main_v42 (F := Ideal) x1 x5 (ix2 s k) * (val_main_v38 (F := Ideal) x0 x3 x4 x6 x7 (ix2 s k) * (Ideal.ofBits .f32 0x3F800000#32 - val_main_v38 (F := Ideal) x0 x3 x4 x6 x7 (ix2 s k))) := by
  unfold val_main_v130 val_main_v127 val_main_v41 val_main_v40 val_main_v39
  generalize val_main_v123 (F := Ideal) x0 x1 x2 x3 x4 x5 x6 x7 x8 x9 = T
  generalize val_main_v38 (F := Ideal) x0 x3 x4 x6 x7 = R
  generalize val_main_v42 (F := Ideal) x1 x5 = P
  pointwise [val_main_cst_8]

theorem v137_apply (s : Fin 4096) (k : Fin 1024) : val_main_v137 (F := Ideal) x0 x1 x2 x3 x4 x5 x6 x7 x8 x9 (ix2 s k)
    = Ideal.ofBits .f32 0x3F9837F0#32 * val_main_v123 (F := Ideal) x0 x1 x2 x3 x4 x5 x6 x7 x8 x9 (ix2 s k) + ∑ j : Fin 1024, val_main_v130 (F := Ideal) x0 x1 x2 x3 x4 x5 x6 x7 x8 x9 (ix2 s j) * x3 (ix2 k j) := by
  unfold val_main_v137 val_main_v136 val_main_v125 val_main_v124
  generalize val_main_v123 (F := Ideal) x0 x1 x2 x3 x4 x5 x6 x7 x8 x9 = T
  generalize val_main_v130 (F := Ideal) x0 x1 x2 x3 x4 x5 x6 x7 x8 x9 = G
  pointwise [val_main_cst_36]

theorem v186_apply (b : Fin 8) (r : Fin 128) (k : Fin 1024) : val_main_v186 (F := Ideal) x0 x1 x2 x3 x4 x5 x6 x7 x8 x9 (ix3 b r k)
    = ∑ s : Fin 4096, val_main_v130 (F := Ideal) x0 x1 x2 x3 x4 x5 x6 x7 x8 x9 (ix2 s k) * val_main_v28 (F := Ideal) x0 x6 x7 (ix2 s ⟨b.val % 4 * 256 + b.val / 4 * 128 + r.val, by omega⟩) := by
  unfold val_main_v186 val_main_v173 val_main_v172 val_main_v171 val_main_v135 val_main_v134
  generalize val_main_v130 (F := Ideal) x0 x1 x2 x3 x4 x5 x6 x7 x8 x9 = G
  generalize val_main_v28 (F := Ideal) x0 x6 x7 = X
  pointwise []

theorem v187_apply (b : Fin 8) (r : Fin 256) (l : Fin 128) : val_main_v187 (F := Ideal) x0 x1 x2 x3 x4 x5 x6 x7 x8 x9 (ix3 b r l)
    = ∑ s : Fin 4096, val_main_v126 (F := Ideal) x0 x1 x2 x3 x4 x5 x6 x7 x8 x9 (ix2 s ⟨b.val % 4 * 256 + b.val / 4 * 128 + l.val, by omega⟩) * x1 (ix2 s r) := by
  unfold val_main_v187 val_main_v176 val_main_v175 val_main_v174 val_main_v129 val_main_v128
  generalize val_main_v126 (F := Ideal) x0 x1 x2 x3 x4 x5 x6 x7 x8 x9 = G
  pointwise []

theorem v99_apply (k : Fin 1024) : val_main_v99 (F := Ideal) x0 x1 x2 x3 x4 x5 x6 x7 x8 x9 (ix1 k)
    = ∑ s : Fin 4096, val_main_v69 (F := Ideal) x0 x1 x3 x4 x5 x6 x7 (ix2 s k) * val_main_v90 (F := Ideal) x0 x1 x2 x3 x4 x5 x6 x7 x8 x9 (ix2 s k) := by
  unfold val_main_v99 val_main_v96 val_main_v95 val_main_v94
  generalize val_main_v69 (F := Ideal) x0 x1 x3 x4 x5 x6 x7 = X
  generalize val_main_v90 (F := Ideal) x0 x1 x2 x3 x4 x5 x6 x7 x8 x9 = D
  pointwise [val_main_cst_27, val_main_cst_28]
  have one : ∀ f : Fin 1 → EReal, (∑ x, f x) = f 0 := fun f => Fin.sum_univ_one f
  simp only [one]

theorem v93_apply (k : Fin 1024) : val_main_v93 (F := Ideal) x0 x1 x2 x3 x4 x5 x6 x7 x8 x9 (ix1 k)
    = ∑ s : Fin 4096, val_main_v90 (F := Ideal) x0 x1 x2 x3 x4 x5 x6 x7 x8 x9 (ix2 s k) := by
  unfold val_main_v93 val_main_v92 val_main_v91
  generalize val_main_v90 (F := Ideal) x0 x1 x2 x3 x4 x5 x6 x7 x8 x9 = D
  pointwise [val_main_cst_25, val_main_cst_26]
  have one : ∀ f : Fin 1 → EReal, (∑ x, f x) = f 0 := fun f => Fin.sum_univ_one f
  simp only [one]

theorem v133_apply (k : Fin 1024) : val_main_v133 (F := Ideal) x0 x1 x2 x3 x4 x5 x6 x7 x8 x9 (ix1 k)
    = ∑ s : Fin 4096, val_main_v130 (F := Ideal) x0 x1 x2 x3 x4 x5 x6 x7 x8 x9 (ix2 s k) := by
  unfold val_main_v133 val_main_v132 val_main_v131
  generalize val_main_v130 (F := Ideal) x0 x1 x2 x3 x4 x5 x6 x7 x8 x9 = G
  pointwise [val_main_cst_37, val_main_cst_38]
  have one : ∀ f : Fin 1 → EReal, (∑ x, f x) = f 0 := fun f => Fin.sum_univ_one f
  simp only [one]

theorem v146_apply (k : Fin 1024) : val_main_v146 (F := Ideal) x0 x1 x2 x3 x4 x5 x6 x7 x8 x9 (ix1 k)
    = ∑ s : Fin 4096, val_main_v22 (F := Ideal) x0 (ix2 s k) * val_main_v137 (F := Ideal) x0 x1 x2 x3 x4 x5 x6 x7 x8 x9 (ix2 s k) := by
  unfold val_main_v146 val_main_v143 val_main_v142 val_main_v141
  generalize val_main_v22 (F := Ideal) x0 = X
  generalize val_main_v137 (F := Ideal) x0 x1 x2 x3 x4 x5 x6 x7 x8 x9 = D
  pointwise [val_main_cst_41, val_main_cst_42]
  have one : ∀ f : Fin 1 → EReal, (∑ x, f x) = f 0 := fun f => Fin.sum_univ_one f
  simp only [one]

theorem v140_apply (k : Fin 1024) : val_main_v140 (F := Ideal) x0 x1 x2 x3 x4 x5 x6 x7 x8 x9 (ix1 k)
    = ∑ s : Fin 4096, val_main_v137 (F := Ideal) x0 x1 x2 x3 x4 x5 x6 x7 x8 x9 (ix2 s k) := by
  unfold val_main_v140 val_main_v139 val_main_v138
  generalize val_main_v137 (F := Ideal) x0 x1 x2 x3 x4 x5 x6 x7 x8 x9 = D
  pointwise [val_main_cst_39, val_main_cst_40]
  have one : ∀ f : Fin 1 → EReal, (∑ x, f x) = f 0 := fun f => Fin.sum_univ_one f
  simp only [one]

theorem v183_apply (r : Fin 8) (k : Fin 1024) : val_main_v183 (F := Ideal) x0 x1 x2 x3 x4 x5 x6 x7 x8 x9 (ix2 r k)
    = if r.val = 0 then val_main_v133 (F := Ideal) x0 x1 x2 x3 x4 x5 x6 x7 x8 x9 (ix1 k)
      else if r.val = 1 then val_main_v99 (F := Ideal) x0 x1 x2 x3 x4 x5 x6 x7 x8 x9 (ix1 k)
      else if r.val = 2 then val_main_v93 (F := Ideal) x0 x1 x2 x3 x4 x5 x6 x7 x8 x9 (ix1 k)
      else if r.val = 3 then val_main_v146 (F := Ideal) x0 x1 x2 x3 x4 x5 x6 x7 x8 x9 (ix1 k)
      else if r.val = 4 then val_main_v140 (F := Ideal) x0 x1 x2 x3 x4 x5 x6 x7 x8 x9 (ix1 k) else 0 := by
  unfold val_main_v183 val_main_v182 val_main_v181 val_main_v180 val_main_v179 val_main_v178 val_main_v177
  generalize val_main_v133 (F := Ideal) x0 x1 x2 x3 x4 x5 x6 x7 x8 x9 = R133
  generalize val_main_v99 (F := Ideal) x0 x1 x2 x3 x4 x5 x6 x7 x8 x9 = R99
  generalize val_main_v93 (F := Ideal) x0 x1 x2 x3 x4 x5 x6 x7 x8 x9 = R93
  generalize val_main_v146 (F := Ideal) x0 x1 x2 x3 x4 x5 x6 x7 x8 x9 = R146
  generalize val_main_v140 (F := Ideal) x0 x1 x2 x3 x4 x5 x6 x7 x8 x9 = R140
  pointwise [val_main_cst_50]
  split_ifs <;> first | rfl | omega

end Cert.Tail

end
-- ==== Proof.Tail.Reals.lean ====
/- Finite arguments: the reference's arrays that the two normalisations' gradients are taken of are finite, so those gradients
   have the form the kernel computes. -/
module

public import proofs.«01_k».proof.Proof.Tail.Entry
public import proofs.«01_k».proof.Proof.Tail.RefRead

@[expose] public section

set_option maxRecDepth 16384
set_option maxHeartbeats 1000000

noncomputable section

namespace Cert.Tail

open Cert.Kernel6Ideal Cert.Kernel6Ideal.Gen
open Idealize.ShloMosaic Idealize.ShloMosaic.TcCoe
open Cert.Reference6Ideal.Read
open Cert.Act (IsReal)
open Cert.Mix (cen vari kern kern_eq_refn)

variable (m : (ℓ : Loc nD τ sig) → Buf (Elt Ideal) ℓ) (c : Dev nD)

/-- The reference's arrays on the launch's arguments. -/
abbrev R5 : S4096x1024.Idx → EReal := val_main_v5 (F := Ideal) (a0 m c)
abbrev R17 : S4096x1.Idx → EReal := val_main_v17 (F := Ideal) (a0 m c)
abbrev R22 : S4096x1024.Idx → EReal := val_main_v22 (F := Ideal) (a0 m c)
abbrev R28 : S4096x1024.Idx → EReal := val_main_v28 (F := Ideal) (a0 m c) (a6 m c) (a7 m c)
abbrev R38 : S4096x1024.Idx → EReal := val_main_v38 (F := Ideal) (a0 m c) (a3 m c) (a4 m c) (a6 m c) (a7 m c)
abbrev R42 : S4096x1024.Idx → EReal := val_main_v42 (F := Ideal) (a1 m c) (a5 m c)
abbrev R46 : S4096x1024.Idx → EReal := val_main_v46 (F := Ideal) (a0 m c) (a1 m c) (a3 m c) (a4 m c) (a5 m c) (a6 m c) (a7 m c)
abbrev R61 : S4096x1024.Idx → EReal := val_main_v61 (F := Ideal) (a0 m c) (a1 m c) (a3 m c) (a4 m c) (a5 m c) (a6 m c) (a7 m c)
abbrev R64 : S4096x1.Idx → EReal := val_main_v64 (F := Ideal) (a0 m c) (a1 m c) (a3 m c) (a4 m c) (a5 m c) (a6 m c) (a7 m c)
abbrev R69 : S4096x1024.Idx → EReal := val_main_v69 (F := Ideal) (a0 m c) (a1 m c) (a3 m c) (a4 m c) (a5 m c) (a6 m c) (a7 m c)
abbrev R76 : S4096x1024.Idx → EReal := val_main_v76 (F := Ideal) (a0 m c) (a1 m c) (a2 m c) (a3 m c) (a4 m c) (a5 m c) (a6 m c) (a7 m c) (a8 m c) (a9 m c)
abbrev R90 : S4096x1024.Idx → EReal := val_main_v90 (F := Ideal) (a0 m c) (a1 m c) (a2 m c) (a3 m c) (a4 m c) (a5 m c) (a6 m c) (a7 m c) (a8 m c) (a9 m c)
abbrev R123 : S4096x1024.Idx → EReal := val_main_v123 (F := Ideal) (a0 m c) (a1 m c) (a2 m c) (a3 m c) (a4 m c) (a5 m c) (a6 m c) (a7 m c) (a8 m c) (a9 m c)
abbrev R126 : S4096x1024.Idx → EReal := val_main_v126 (F := Ideal) (a0 m c) (a1 m c) (a2 m c) (a3 m c) (a4 m c) (a5 m c) (a6 m c) (a7 m c) (a8 m c) (a9 m c)
abbrev R130 : S4096x1024.Idx → EReal := val_main_v130 (F := Ideal) (a0 m c) (a1 m c) (a2 m c) (a3 m c) (a4 m c) (a5 m c) (a6 m c) (a7 m c) (a8 m c) (a9 m c)
abbrev R137 : S4096x1024.Idx → EReal := val_main_v137 (F := Ideal) (a0 m c) (a1 m c) (a2 m c) (a3 m c) (a4 m c) (a5 m c) (a6 m c) (a7 m c) (a8 m c) (a9 m c)
abbrev R170 : S4096x1024.Idx → EReal := val_main_v170 (F := Ideal) (a0 m c) (a1 m c) (a2 m c) (a3 m c) (a4 m c) (a5 m c) (a6 m c) (a7 m c) (a8 m c) (a9 m c)

/-- Every element of every argument is a real. -/
structure Reals : Prop where
  h0 : ∀ i, IsReal (a0 m c i)
  h1 : ∀ i, IsReal (a1 m c i)
  h2 : ∀ i, IsReal (a2 m c i)
  h3 : ∀ i, IsReal (a3 m c i)
  h4 : ∀ i, IsReal (a4 m c i)
  h5 : ∀ i, IsReal (a5 m c i)
  h6 : ∀ i, IsReal (a6 m c i)
  h7 : ∀ i, IsReal (a7 m c i)
  h8 : ∀ i, IsReal (a8 m c i)
  h9 : ∀ i, IsReal (a9 m c i)

variable {m c} (h : Reals m c)

include h

variable (s : Fin 4096) (k : Fin 1024)

theorem real_5 : IsReal (R5 m c (ix2 s k)) := by
  rw [R5, v5_apply]
  exact real_cen _ (fun _ => h.h0 _) k
theorem real_17 : IsReal (R17 m c (ix2 s 0)) := by
  rw [R17, v17_apply, v16_apply]
  exact real_rstd _ fun j => real_5 h s j
theorem real_22 : IsReal (R22 m c (ix2 s k)) := by
  rw [R22, v22_apply]
  exact (real_5 h s k).mul (real_17 h s)
theorem real_28 : IsReal (R28 m c (ix2 s k)) := by
  rw [R28, v28_apply]
  exact ((real_22 h s k).mul (h.h6 _)).add (h.h7 _)
theorem real_38 : IsReal (R38 m c (ix2 s k)) := by
  rw [R38, v38_apply]
  exact real_logistic ((IsReal.sum _ _ fun j => (real_28 h s j).mul (h.h3 _)).add (h.h4 _))
theorem real_42 : IsReal (R42 m c (ix2 s k)) := by
  rw [R42, v42_apply]
  exact IsReal.sum _ _ fun j => (h.h1 _).mul (h.h5 _)
theorem real_46 : IsReal (R46 m c (ix2 s k)) := by
  rw [R46, v46_apply]
  exact (IsReal.mul ⟨_, Cert.Mix.lit_alpha⟩ (real_28 h s k)).add ((real_38 h s k).mul (real_42 h s k))
theorem real_61 : IsReal (R61 m c (ix2 s k)) := by
  rw [R61, v61_apply]
  exact real_cen _ (fun j => real_46 h s j) k
theorem real_64 : IsReal (R64 m c (ix2 s 0)) := by
  rw [R64, v64_apply, v63_apply]
  exact real_rstd _ fun j => real_61 h s j
theorem real_69 : IsReal (R69 m c (ix2 s k)) := by
  rw [R69, v69_apply]
  exact (real_61 h s k).mul (real_64 h s)
theorem real_76 : IsReal (R76 m c (ix2 s k)) := by
  rw [R76, v76_apply]
  exact real_sub (((real_69 h s k).mul (h.h8 _)).add (h.h9 _)) (h.h2 _)

omit h in
/-- The loss's gradient is the error over the row's length. -/
theorem grad_eq : R90 m c (ix2 s k) = R76 m c (ix2 s k) * Ideal.ofBits .f32 0x3A800000#32 := by
  rw [R90, v90_apply, ← lit_grad, mul_comm (R76 m c (ix2 s k)), mul_assoc]

theorem real_90 : IsReal (R90 m c (ix2 s k)) := by
  rw [grad_eq, ← lit_grad, Cert.Act.lit_half, lit_one, mul_one, Cert.Mix.lit_two]
  exact (real_76 h s k).mul ((real_mean ⟨_, rfl⟩).mul ⟨_, rfl⟩)

/-- The gated sum's gradient as the kernel writes it. -/
theorem form_123 : R123 m c (ix2 s k) = kern (fun j => R90 m c (ix2 s j)) (fun j => a8 m c (ix1 j)) (fun j => R61 m c (ix2 s j)) (R64 m c (ix2 s 0)) k := by
  rw [R123, v123_apply, R64, v64_apply, v63_apply]
  rw [show (fun j => R61 m c (ix2 s j)) = cen (fun j => R46 m c (ix2 s j)) from funext fun j => v61_apply _ _ _ _ _ _ _ s j]
  exact (kern_eq_refn _ _ _ (fun j => real_46 h s j) (fun j => real_90 h s j) (fun _ => h.h8 _) k).symm

theorem real_123 : IsReal (R123 m c (ix2 s k)) := by
  rw [form_123 h]
  exact real_kern _ _ _ _ (fun j => real_90 h s j) (fun _ => h.h8 _) (fun j => real_61 h s j) (real_64 h s) k

theorem real_130 : IsReal (R130 m c (ix2 s k)) := by
  rw [R130, v130_apply, lit_one]
  exact ((real_123 h s k).mul (real_42 h s k)).mul ((real_38 h s k).mul (real_sub ⟨1, EReal.coe_one.symm⟩ (real_38 h s k)))

theorem real_137 : IsReal (R137 m c (ix2 s k)) := by
  rw [R137, v137_apply]
  exact (IsReal.mul ⟨_, Cert.Mix.lit_alpha⟩ (real_123 h s k)).add (IsReal.sum _ _ fun j => (real_130 h s j).mul (h.h3 _))

/-- The gradient of the second normalisation's input as the kernel writes it. -/
theorem form_170 : R170 m c (ix2 s k) = kern (fun j => R137 m c (ix2 s j)) (fun j => a6 m c (ix1 j)) (fun j => R5 m c (ix2 s j)) (R17 m c (ix2 s 0)) k := by
  rw [R170, v170_apply, R17, v17_apply, v16_apply]
  rw [show (fun j => R5 m c (ix2 s j)) = cen (fun j => a0 m c (ix2 s j)) from funext fun j => v5_apply _ s j]
  exact (kern_eq_refn _ _ _ (fun _ => h.h0 _) (fun j => real_137 h s j) (fun _ => h.h6 _) k).symm

end Cert.Tail

end
-- ==== Proof.Tail.PointValue.lean ====
/- What one point computes, as the reference's arrays at that point's rows. -/
module

public import proofs.«01_k».proof.Proof.Tail.Blocks
public import proofs.«01_k».proof.Proof.Tail.Point
public import proofs.«01_k».proof.Proof.Tail.Reals

@[expose] public section

set_option maxRecDepth 16384
set_option maxHeartbeats 1000000

noncomputable section

namespace Cert.Tail

open Cert.Kernel6Ideal Cert.Kernel6Ideal.Gen
open Idealize.ShloMosaic Idealize.ShloMosaic.TcCoe
open Cert.Reference6Ideal.Read
open Cert.Mix (cen vari kern)

variable (m : (ℓ : Loc nD τ sig) → Buf (Elt Ideal) ℓ) (c : Dev nD) (t : Fin cfg0.N) (r : Fin 512) (k : Fin 1024)

theorem x2_value : x2 (ins m c t) (ix2 r k) = R28 m c (ix2 (rI t r) k) := by
  rw [x2_apply, R28, v28_apply, in_xh, in_g2, in_b2]

theorem gate_value : gate (ins m c t) (ix2 r k) = R38 m c (ix2 (rI t r) k) := by
  rw [gate_apply, R38, v38_apply, in_bg]
  simp only [x2_value, in_wg]

theorem pin_value : pin (ins m c t) (ix2 r k) = R42 m c (ix2 (rI t r) k) := by
  rw [pin_apply, R42, v42_apply]
  simp only [in_p, in_wp]

theorem cenY_value : cenY (ins m c t) (ix2 r k) = R61 m c (ix2 (rI t r) k) := by
  rw [cenY_apply, R61, v61_apply]
  simp only [x2_value, gate_value, pin_value, v46_apply]

theorem rstd_value : k0_pay33 (cenY (ins m c t)) (ix2 r 0) = R64 m c (ix2 (rI t r) 0) := by
  rw [pay33_apply, R64, v64_apply, v63_apply]
  simp only [cenY_value]

theorem xhat_value : k0_pay34 (cenY (ins m c t)) (ix2 r k) = R69 m c (ix2 (rI t r) k) := by
  rw [pay34_apply, R69, v69_apply, cenY_value, rstd_value]

theorem err_value : err (ins m c t) (ix2 r k) = R76 m c (ix2 (rI t r) k) := by
  rw [err_apply, R76, v76_apply, xhat_value, in_g3, in_b3, in_tg]

theorem dOut_value : dOut (ins m c t) (ix2 r k) = R90 m c (ix2 (rI t r) k) := by
  rw [dOut_apply, grad_eq, err_value]

variable (h : Reals m c)

include h

theorem dY3_value : dY3 (ins m c t) (ix2 r k) = R123 m c (ix2 (rI t r) k) := by
  rw [dY3_apply, form_123 h, rstd_value]
  simp only [dOut_value, in_g3, cenY_value]

theorem dGp_value : dGp (ins m c t) (ix2 r k) = R130 m c (ix2 (rI t r) k) := by
  rw [dGp_apply, R130, v130_apply, dY3_value m c t r k h, pin_value, gate_value, mul_assoc]

theorem dX2_value : dX2 (ins m c t) (ix2 r k) = R137 m c (ix2 (rI t r) k) := by
  rw [dX2_apply, R137, v137_apply, dY3_value m c t r k h]
  simp only [fun j => dGp_value m c t r j h, in_wg]

theorem dY2_value : dY2 (ins m c t) (ix2 r k) = R170 m c (ix2 (rI t r) k) := by
  rw [dY2_apply, form_170 h]
  simp only [fun j => dX2_value m c t r j h, in_rs, in_xh, in_g2, v22_apply]
  rfl

end Cert.Tail

end
-- ==== Proof.Tail.Puts.lean ====
/- The accumulators' puts at an index: rows of the five vectors, and the two weights' gradients with their blocks at their places. -/
module

public import proofs.«01_k».proof.Proof.Tail.Point
public import proofs.«01_k».proof.Proof.Mix.Puts

@[expose] public section

set_option maxRecDepth 16384
set_option maxHeartbeats 1000000

noncomputable section

namespace Cert.Tail

open Cert.Kernel6Ideal Cert.Kernel6Ideal.Gen
open Idealize.ShloMosaic Idealize.ShloMosaic.TcCoe
open Idealize.ShloMosaic.Pointwise
open Idealize.ShloMosaic.VecWindow
open Cert.Mix (put_rows_same put_rows_other win_rows put_block_same put_block_other)

variable (I : Ins Ideal)

theorem vecPut_0 (old : Vec Ideal S8x1024 .f32) (k : Fin 1024) : vecPut I old (ix2 0 k)
    = old (ix2 0 k) + ∑ s : Fin 512, dGp I (ix2 s k) := by
  unfold vecPut
  refine (put_rows_other _ 4 _ 0 k (by decide)).trans ?_
  refine (put_rows_other _ 3 _ 0 k (by decide)).trans ?_
  refine (put_rows_other _ 2 _ 0 k (by decide)).trans ?_
  refine (put_rows_other _ 1 _ 0 k (by decide)).trans ?_
  refine (put_rows_same _ 0 _ 0 k (by decide) (by decide)).trans ?_
  refine Eq.trans (pay48_apply _ _ k) ?_
  exact congrArg (· + _) (win_rows old 0 (by decide) _ 0 k)

theorem vecPut_1 (old : Vec Ideal S8x1024 .f32) (k : Fin 1024) : vecPut I old (ix2 1 k)
    = old (ix2 1 k) + ∑ s : Fin 512, dOut I (ix2 s k) * k0_pay34 (cenY I) (ix2 s k) := by
  unfold vecPut
  refine (put_rows_other _ 4 _ 1 k (by decide)).trans ?_
  refine (put_rows_other _ 3 _ 1 k (by decide)).trans ?_
  refine (put_rows_other _ 2 _ 1 k (by decide)).trans ?_
  refine (put_rows_same _ 1 _ 1 k (by decide) (by decide)).trans ?_
  refine Eq.trans (pay1_apply _ _ _ k) ?_
  exact congrArg (· + _) (win_rows old 1 (by decide) _ 0 k)

theorem vecPut_2 (old : Vec Ideal S8x1024 .f32) (k : Fin 1024) : vecPut I old (ix2 2 k)
    = old (ix2 2 k) + ∑ s : Fin 512, dOut I (ix2 s k) := by
  unfold vecPut
  refine (put_rows_other _ 4 _ 2 k (by decide)).trans ?_
  refine (put_rows_other _ 3 _ 2 k (by decide)).trans ?_
  refine (put_rows_same _ 2 _ 2 k (by decide) (by decide)).trans ?_
  refine Eq.trans (pay2_apply _ _ k) ?_
  exact congrArg (· + _) (win_rows old 2 (by decide) _ 0 k)

theorem vecPut_3 (old : Vec Ideal S8x1024 .f32) (k : Fin 1024) : vecPut I old (ix2 3 k)
    = old (ix2 3 k) + ∑ s : Fin 512, dX2 I (ix2 s k) * I.xh (ix2 s k) := by
  unfold vecPut
  refine (put_rows_other _ 4 _ 3 k (by decide)).trans ?_
  refine (put_rows_same _ 3 _ 3 k (by decide) (by decide)).trans ?_
  refine Eq.trans (pay3_apply _ _ k _) ?_
  exact congrArg (· + _) (win_rows old 3 (by decide) _ 0 k)

theorem vecPut_4 (old : Vec Ideal S8x1024 .f32) (k : Fin 1024) : vecPut I old (ix2 4 k)
    = old (ix2 4 k) + ∑ s : Fin 512, dX2 I (ix2 s k) := by
  unfold vecPut
  refine (put_rows_same _ 4 _ 4 k (by decide) (by decide)).trans ?_
  refine Eq.trans (pay4_apply _ _ k) ?_
  exact congrArg (· + _) (win_rows old 4 (by decide) _ 0 k)

theorem vecPut_5 (old : Vec Ideal S8x1024 .f32) (r : Fin 8) (hr : 5 ≤ r.val) (k : Fin 1024) : vecPut I old (ix2 r k) = old (ix2 r k) := by
  unfold vecPut
  refine (put_rows_other _ 4 _ r k (by omega)).trans ?_
  refine (put_rows_other _ 3 _ r k (by omega)).trans ?_
  refine (put_rows_other _ 2 _ r k (by omega)).trans ?_
  refine (put_rows_other _ 1 _ r k (by omega)).trans ?_
  exact put_rows_other _ 0 _ r k (by omega)

section Stored

variable (w : Vec Ideal S128x1024 .f32) (r : Fin 128) (k : Fin 1024)

theorem stored_10 : k0_pay10 w (ix3 0 r k) = w (ix2 r k) := by pointwise [k0_pay10]
theorem stored_12 : k0_pay12 w (ix3 0 r k) = w (ix2 r k) := by pointwise [k0_pay12]
theorem stored_14 : k0_pay14 w (ix3 0 r k) = w (ix2 r k) := by pointwise [k0_pay14]
theorem stored_17 : k0_pay17 w (ix3 0 r k) = w (ix2 r k) := by pointwise [k0_pay17]
theorem stored_19 : k0_pay19 w (ix3 0 r k) = w (ix2 r k) := by pointwise [k0_pay19]
theorem stored_21 : k0_pay21 w (ix3 0 r k) = w (ix2 r k) := by pointwise [k0_pay21]
theorem stored_6 : k0_pay6 w (ix3 0 r k) = w (ix2 r k) := by pointwise [k0_pay6]
theorem stored_8 : k0_pay8 w (ix3 0 r k) = w (ix2 r k) := by pointwise [k0_pay8]

end Stored

section StoredColumns

variable (w : Vec Ideal S256x128 .f32) (r : Fin 256) (l : Fin 128)

theorem stored_11 : k0_pay11 w (ix3 0 r l) = w (ix2 r l) := by pointwise [k0_pay11]
theorem stored_13 : k0_pay13 w (ix3 0 r l) = w (ix2 r l) := by pointwise [k0_pay13]
theorem stored_16 : k0_pay16 (k0_pay15 w) (ix3 0 r l) = w (ix2 r l) := by pointwise [k0_pay16, k0_pay15]
theorem stored_18 : k0_pay18 w (ix3 0 r l) = w (ix2 r l) := by pointwise [k0_pay18]
theorem stored_20 : k0_pay20 w (ix3 0 r l) = w (ix2 r l) := by pointwise [k0_pay20]
theorem stored_5 : k0_pay5 w (ix3 0 r l) = w (ix2 r l) := by pointwise [k0_pay5]
theorem stored_7 : k0_pay7 w (ix3 0 r l) = w (ix2 r l) := by pointwise [k0_pay7]
theorem stored_9 : k0_pay9 w (ix3 0 r l) = w (ix2 r l) := by pointwise [k0_pay9]

end StoredColumns

/-- A window of whole columns at an index. -/
theorem win_cols (x : S256x1024.Idx → EReal) (q : ℕ) (hq : q + 128 ≤ 1024) (inb) (r : Fin 256) (l : Fin 128) :
    window x ![0, q] S256x128.size inb (ix2 r l) = x (ix2 r ⟨q + l.val, by omega⟩) := by
  refine congrArg x (funext fun a => Fin.ext ?_)
  match a with
  | ⟨0, _⟩ => show 0 + 1 * r.val = r.val; omega
  | ⟨1, _⟩ => show q + 1 * l.val = q + l.val; omega

/-- A put of one block, read at that block. -/
theorem put_column_same (x : S8x256x128.Idx → EReal) (q : ℕ) (w : S1x256x128.Idx → EReal) (b : Fin 8) (hb : b.val = q)
    (r : Fin 256) (k : Fin 128) : put x ![q, 0, 0] S1x256x128.size w (ix3 b r k) = w (ix3 0 r k) := by
  subst hb
  have hm : ∀ a : Fin 3, (![b.val, 0, 0] : Fin 3 → ℕ) a ≤ ((ix3 b r k : S8x256x128.Idx) a).val
      ∧ ((ix3 b r k : S8x256x128.Idx) a).val < (![b.val, 0, 0] : Fin 3 → ℕ) a + S1x256x128.size a := fun a =>
    match a with
    | ⟨0, _⟩ => ⟨le_refl b.val, Nat.lt_succ_self b.val⟩
    | ⟨1, _⟩ => ⟨Nat.zero_le _, (by show r.val < 0 + 256; omega)⟩
    | ⟨2, _⟩ => ⟨Nat.zero_le _, (by show k.val < 0 + 128; omega)⟩
  refine (dif_pos hm).trans (congrArg w (funext fun a => Fin.ext ?_))
  match a with
  | ⟨0, _⟩ => show b.val - b.val = 0; omega
  | ⟨1, _⟩ => rfl
  | ⟨2, _⟩ => rfl

/-- A put of one block, read at another. -/
theorem put_column_other (x : S8x256x128.Idx → EReal) (q : ℕ) (w : S1x256x128.Idx → EReal) (b : Fin 8) (hb : b.val ≠ q)
    (r : Fin 256) (k : Fin 128) : put x ![q, 0, 0] S1x256x128.size w (ix3 b r k) = x (ix3 b r k) :=
  dif_neg fun hm => hb (by
    have h0 := hm 0
    have h1 : q ≤ b.val := h0.1
    have h2 : b.val < q + 1 := h0.2
    omega)

/-- The eight blocks are the accumulator's rows, block `b` from `b % 4 * 256 + b / 4 * 128` on. -/
theorem rows_apply (acc : Vec Ideal S1024x1024 .f32) (old : Vec Ideal S8x128x1024 .bf16) (b : Fin 8) (r : Fin 128) (k : Fin 1024) :
    rows acc old (ix3 b r k) = acc (ix2 ⟨b.val % 4 * 256 + b.val / 4 * 128 + r.val, by omega⟩ k) := by
  have hc : ∀ f g : Fin 1024, f.val = g.val → acc (ix2 f k) = acc (ix2 g k) := fun f g h => by rw [Fin.ext h]
  unfold rows rows8
  by_cases h7 : b.val = 7
  · refine (put_block_same _ 7 _ b h7 r k).trans ((stored_8 _ r k).trans ((win_rows acc 896 (by decide) _ r k).trans ?_))
    exact hc _ _ (by dsimp only; omega)
  refine (put_block_other _ 7 _ b h7 r k).trans ?_
  by_cases h3 : b.val = 3
  · refine (put_block_same _ 3 _ b h3 r k).trans ((stored_6 _ r k).trans ((win_rows acc 768 (by decide) _ r k).trans ?_))
    exact hc _ _ (by dsimp only; omega)
  refine (put_block_other _ 3 _ b h3 r k).trans ?_
  by_cases h6 : b.val = 6
  · refine (put_block_same _ 6 _ b h6 r k).trans ((stored_21 _ r k).trans ((win_rows acc 640 (by decide) _ r k).trans ?_))
    exact hc _ _ (by dsimp only; omega)
  refine (put_block_other _ 6 _ b h6 r k).trans ?_
  by_cases h2 : b.val = 2
  · refine (put_block_same _ 2 _ b h2 r k).trans ((stored_19 _ r k).trans ((win_rows acc 512 (by decide) _ r k).trans ?_))
    exact hc _ _ (by dsimp only; omega)
  refine (put_block_other _ 2 _ b h2 r k).trans ?_
  by_cases h5 : b.val = 5
  · refine (put_block_same _ 5 _ b h5 r k).trans ((stored_17 _ r k).trans ((win_rows acc 384 (by decide) _ r k).trans ?_))
    exact hc _ _ (by dsimp only; omega)
  refine (put_block_other _ 5 _ b h5 r k).trans ?_
  by_cases h1 : b.val = 1
  · refine (put_block_same _ 1 _ b h1 r k).trans ((stored_14 _ r k).trans ((win_rows acc 256 (by decide) _ r k).trans ?_))
    exact hc _ _ (by dsimp only; omega)
  refine (put_block_other _ 1 _ b h1 r k).trans ?_
  by_cases h4 : b.val = 4
  · refine (put_block_same _ 4 _ b h4 r k).trans ((stored_12 _ r k).trans ((win_rows acc 128 (by decide) _ r k).trans ?_))
    exact hc _ _ (by dsimp only; omega)
  refine (put_block_other _ 4 _ b h4 r k).trans ?_
  by_cases h0 : b.val = 0
  · refine (put_block_same _ 0 _ b h0 r k).trans ((stored_10 _ r k).trans ((win_rows acc 0 (by decide) _ r k).trans ?_))
    exact hc _ _ (by dsimp only; omega)
  exfalso
  omega

/-- The eight blocks are the accumulator's columns, in the same order. -/
theorem cols_apply (acc : Vec Ideal S256x1024 .f32) (old : Vec Ideal S8x256x128 .bf16) (b : Fin 8) (r : Fin 256) (k : Fin 128) :
    cols acc old (ix3 b r k) = acc (ix2 r ⟨b.val % 4 * 256 + b.val / 4 * 128 + k.val, by omega⟩) := by
  have hc : ∀ f g : Fin 1024, f.val = g.val → acc (ix2 r f) = acc (ix2 r g) := fun f g h => by rw [Fin.ext h]
  unfold cols cols8
  by_cases h7 : b.val = 7
  · refine (put_column_same _ 7 _ b h7 r k).trans ((stored_9 _ r k).trans ((win_cols acc 896 (by decide) _ r k).trans ?_))
    exact hc _ _ (by dsimp only; omega)
  refine (put_column_other _ 7 _ b h7 r k).trans ?_
  by_cases h3 : b.val = 3
  · refine (put_column_same _ 3 _ b h3 r k).trans ((stored_7 _ r k).trans ((win_cols acc 768 (by decide) _ r k).trans ?_))
    exact hc _ _ (by dsimp only; omega)
  refine (put_column_other _ 3 _ b h3 r k).trans ?_
  by_cases h6 : b.val = 6
  · refine (put_column_same _ 6 _ b h6 r k).trans ((stored_5 _ r k).trans ((win_cols acc 640 (by decide) _ r k).trans ?_))
    exact hc _ _ (by dsimp only; omega)
  refine (put_column_other _ 6 _ b h6 r k).trans ?_
  by_cases h2 : b.val = 2
  · refine (put_column_same _ 2 _ b h2 r k).trans ((stored_20 _ r k).trans ((win_cols acc 512 (by decide) _ r k).trans ?_))
    exact hc _ _ (by dsimp only; omega)
  refine (put_column_other _ 2 _ b h2 r k).trans ?_
  by_cases h5 : b.val = 5
  · refine (put_column_same _ 5 _ b h5 r k).trans ((stored_18 _ r k).trans ((win_cols acc 384 (by decide) _ r k).trans ?_))
    exact hc _ _ (by dsimp only; omega)
  refine (put_column_other _ 5 _ b h5 r k).trans ?_
  by_cases h1 : b.val = 1
  · refine (put_column_same _ 1 _ b h1 r k).trans ((stored_16 _ r k).trans ((win_cols acc 256 (by decide) _ r k).trans ?_))
    exact hc _ _ (by dsimp only; omega)
  refine (put_column_other _ 1 _ b h1 r k).trans ?_
  by_cases h4 : b.val = 4
  · refine (put_column_same _ 4 _ b h4 r k).trans ((stored_13 _ r k).trans ((win_cols acc 128 (by decide) _ r k).trans ?_))
    exact hc _ _ (by dsimp only; omega)
  refine (put_column_other _ 4 _ b h4 r k).trans ?_
  by_cases h0 : b.val = 0
  · refine (put_column_same _ 0 _ b h0 r k).trans ((stored_11 _ r k).trans ((win_cols acc 0 (by decide) _ r k).trans ?_))
    exact hc _ _ (by dsimp only; omega)
  exfalso
  omega

end Cert.Tail

end
-- ==== Proof.Tail.Value.lean ====
/- What the accumulators hold after the last point, as the reference's sums over all rows. -/
module

public import proofs.«01_k».proof.Proof.Tail.PointValue
public import proofs.«01_k».proof.Proof.Tail.Puts
public import proofs.«01_k».proof.Proof.Wgt.Value

@[expose] public section

set_option maxRecDepth 16384
set_option maxHeartbeats 1000000

noncomputable section

namespace Cert.Tail

open Cert.Kernel6Ideal Cert.Kernel6Ideal.Gen
open Idealize.ShloMosaic Idealize.ShloMosaic.TcCoe
open Cert.Reference6Ideal.Read
open Cert.Act (IsReal)
open Cert.Mix (cN)

variable (m : (ℓ : Loc nD τ sig) → Buf (Elt Ideal) ℓ) (c : Dev nD)

/-- One point's rows of a sum over all rows, numbered through. -/
def rowN (g : Fin 4096 → EReal) (n : ℕ) : EReal := if h : n < 4096 then g ⟨n, h⟩ else 0

theorem rowN_tile (g : Fin 4096 → EReal) {i : ℕ} (hi : i < cfg0.N) (r : Fin 512) : rowN g (i * 512 + r.val) = g (rI ⟨i, hi⟩ r) :=
  dif_pos _

theorem rowN_all (g : Fin 4096 → EReal) : (∑ s : Fin 4096, rowN g s.val) = ∑ s, g s :=
  Finset.sum_congr rfl fun s _ => dif_pos s.isLt

/-- A buffer that starts at zero and takes every point's rows holds, after the last, the sum over all rows. -/
theorem all_rows (g : Fin 4096 → EReal) (a : (n : ℕ) → n < cfg0.N → EReal)
    (h0 : ∀ h, a 0 h = 0 + ∑ r : Fin 512, g (rI ⟨0, h⟩ r))
    (h1 : ∀ n h, a (n + 1) h = a n (Nat.lt_of_succ_lt h) + ∑ r : Fin 512, g (rI ⟨n + 1, h⟩ r)) (h7 : 7 < cfg0.N) :
    a 7 h7 = ∑ s, g s := by
  have hN : cfg0.N = 8 := N_0
  rw [← rowN_all]
  refine Eq.trans ?_ (Cert.Wgt.tile_sum_all (rowN g) (fun n => if h : n < cfg0.N then a n h else 0) ?_ fun i hi => ?_)
  · exact (dif_pos h7).symm
  · rw [dif_pos (by omega), h0 (by omega)]
    exact congrArg (0 + ·) (Finset.sum_congr rfl fun r _ => (rowN_tile g (by omega) r).symm)
  · rw [dif_pos (by omega), dif_pos (by omega), h1 i (by omega)]
    exact congrArg _ (Finset.sum_congr rfl fun r _ => (rowN_tile g (by omega) r).symm)

/-- A real factor goes into a sum of reals. -/
theorem sum_mul_real {ι : Type} [Fintype ι] (f : ι → EReal) (hf : ∀ i, IsReal (f i)) (q : ℝ) :
    (∑ i, f i) * ((q : ℝ) : EReal) = ∑ i, f i * ((q : ℝ) : EReal) := by
  choose f' hf' using hf
  obtain rfl : f = fun i => ((f' i : ℝ) : EReal) := funext hf'
  simp only [← EReal.coe_mul]
  rw [Cert.Mix.sum_coe, Cert.Mix.sum_coe, ← EReal.coe_mul, Finset.sum_mul]

variable (h : Reals m c)

/-- A row's mean square error. -/
def rowLoss (s : Fin 4096) : EReal := Ideal.div (∑ j : Fin 1024, R76 m c (ix2 s j) * R76 m c (ix2 s j)) cN

include h in
theorem rowLoss_real (s : Fin 4096) : IsReal (rowLoss m c s) :=
  real_mean (.sum _ _ fun j => (real_76 h s j).mul (real_76 h s j))

include h in
theorem loss_value (h7 : 7 < cfg0.N) (a : Fin 8) (l : Fin 128) : lossN m c 7 h7 (ix2 a l) = val_main_v184 (F := Ideal) (a0 m c) (a1 m c) (a2 m c) (a3 m c) (a4 m c) (a5 m c) (a6 m c) (a7 m c) (a8 m c) (a9 m c) (ix2 a l) := by
  rw [v184_apply]
  have e : lossN m c 7 h7 (ix2 a l) = ∑ s, rowLoss m c s * Ideal.ofBits .f32 0x3F000000#32 := by
    refine all_rows (fun s => rowLoss m c s * Ideal.ofBits .f32 0x3F000000#32) (fun n h => lossN m c n h (ix2 a l)) (fun h' => ?_) (fun n h' => ?_) h7
    · refine (lossPut_apply _ _ a l).trans ?_
      rw [pay22_apply, Cert.Act.lit_half, ← sum_mul_real _ fun s => rowLoss_real m c h _]
      simp only [err_value]
      rfl
    · refine (lossPut_apply _ _ a l).trans ?_
      rw [Cert.Act.lit_half, ← sum_mul_real _ fun s => rowLoss_real m c h _]
      simp only [err_value]
      rfl
  rw [e, Cert.Act.lit_half, ← sum_mul_real _ fun s => rowLoss_real m c h s, mul_comm]
  rfl

include h in
theorem vec_0 (h7 : 7 < cfg0.N) (k : Fin 1024) : vecN m c 7 h7 (ix2 0 k) = ∑ s : Fin 4096, R130 m c (ix2 s k) := by
  refine all_rows (fun s => R130 m c (ix2 s k)) (fun n h => vecN m c n h (ix2 0 k)) (fun h' => ?_) (fun n h' => ?_) h7
  · refine (vecPut_0 _ _ k).trans ?_
    rw [pay25_apply]
    simp only [fun t r => dGp_value m c t r k h]
  · refine (vecPut_0 _ _ k).trans ?_
    simp only [fun t r => dGp_value m c t r k h]

include h in
theorem vec_1 (h7 : 7 < cfg0.N) (k : Fin 1024) : vecN m c 7 h7 (ix2 1 k) = ∑ s : Fin 4096, R69 m c (ix2 s k) * R90 m c (ix2 s k) := by
  refine all_rows (fun s => R69 m c (ix2 s k) * R90 m c (ix2 s k)) (fun n h => vecN m c n h (ix2 1 k)) (fun h' => ?_) (fun n h' => ?_) h7
  · refine (vecPut_1 _ _ k).trans ?_
    rw [pay25_apply]
    simp only [dOut_value, xhat_value]
    exact congrArg (0 + ·) (Finset.sum_congr rfl fun s _ => mul_comm _ _)
  · refine (vecPut_1 _ _ k).trans ?_
    simp only [dOut_value, xhat_value]
    exact congrArg (_ + ·) (Finset.sum_congr rfl fun s _ => mul_comm _ _)

include h in
theorem vec_2 (h7 : 7 < cfg0.N) (k : Fin 1024) : vecN m c 7 h7 (ix2 2 k) = ∑ s : Fin 4096, R90 m c (ix2 s k) := by
  refine all_rows (fun s => R90 m c (ix2 s k)) (fun n h => vecN m c n h (ix2 2 k)) (fun h' => ?_) (fun n h' => ?_) h7
  · refine (vecPut_2 _ _ k).trans ?_
    rw [pay25_apply]
    simp only [dOut_value]
  · refine (vecPut_2 _ _ k).trans ?_
    simp only [dOut_value]

include h in
theorem vec_3 (h7 : 7 < cfg0.N) (k : Fin 1024) : vecN m c 7 h7 (ix2 3 k) = ∑ s : Fin 4096, R22 m c (ix2 s k) * R137 m c (ix2 s k) := by
  refine all_rows (fun s => R22 m c (ix2 s k) * R137 m c (ix2 s k)) (fun n h => vecN m c n h (ix2 3 k)) (fun h' => ?_) (fun n h' => ?_) h7
  · refine (vecPut_3 _ _ k).trans ?_
    rw [pay25_apply]
    simp only [fun t r => dX2_value m c t r k h, in_xh]
    exact congrArg (0 + ·) (Finset.sum_congr rfl fun s _ => mul_comm _ _)
  · refine (vecPut_3 _ _ k).trans ?_
    simp only [fun t r => dX2_value m c t r k h, in_xh]
    exact congrArg (_ + ·) (Finset.sum_congr rfl fun s _ => mul_comm _ _)

include h in
theorem vec_4 (h7 : 7 < cfg0.N) (k : Fin 1024) : vecN m c 7 h7 (ix2 4 k) = ∑ s : Fin 4096, R137 m c (ix2 s k) := by
  refine all_rows (fun s => R137 m c (ix2 s k)) (fun n h => vecN m c n h (ix2 4 k)) (fun h' => ?_) (fun n h' => ?_) h7
  · refine (vecPut_4 _ _ k).trans ?_
    rw [pay25_apply]
    simp only [fun t r => dX2_value m c t r k h]
  · refine (vecPut_4 _ _ k).trans ?_
    simp only [fun t r => dX2_value m c t r k h]

theorem vec_5 (r : Fin 8) (hr : 5 ≤ r.val) (k : Fin 1024) : ∀ n h, vecN m c n h (ix2 r k) = 0
  | 0, h => (vecPut_5 _ _ r hr k).trans (pay25_apply r k)
  | n + 1, h => (vecPut_5 _ _ r hr k).trans (vec_5 r hr k n _)

include h in
theorem vec_value (h7 : 7 < cfg0.N) (r : Fin 8) (k : Fin 1024) : vecN m c 7 h7 (ix2 r k) = val_main_v183 (F := Ideal) (a0 m c) (a1 m c) (a2 m c) (a3 m c) (a4 m c) (a5 m c) (a6 m c) (a7 m c) (a8 m c) (a9 m c) (ix2 r k) := by
  rw [v183_apply]
  by_cases h0 : r.val = 0
  · obtain rfl : r = 0 := Fin.ext h0
    rw [if_pos h0, v133_apply]
    exact vec_0 m c h h7 k
  rw [if_neg h0]
  by_cases h1 : r.val = 1
  · obtain rfl : r = 1 := Fin.ext h1
    rw [if_pos h1, v99_apply]
    exact vec_1 m c h h7 k
  rw [if_neg h1]
  by_cases h2 : r.val = 2
  · obtain rfl : r = 2 := Fin.ext h2
    rw [if_pos h2, v93_apply]
    exact vec_2 m c h h7 k
  rw [if_neg h2]
  by_cases h3 : r.val = 3
  · obtain rfl : r = 3 := Fin.ext h3
    rw [if_pos h3, v146_apply]
    exact vec_3 m c h h7 k
  rw [if_neg h3]
  by_cases h4 : r.val = 4
  · obtain rfl : r = 4 := Fin.ext h4
    rw [if_pos h4, v140_apply]
    exact vec_4 m c h h7 k
  rw [if_neg h4]
  exact vec_5 m c r (by omega) k 7 h7

include h in
theorem dwg_value (h7 : 7 < cfg0.N) (q k : Fin 1024) : dwgN m c 7 h7 (ix2 q k) = ∑ s : Fin 4096, R130 m c (ix2 s k) * R28 m c (ix2 s q) := by
  refine all_rows (fun s => R130 m c (ix2 s k) * R28 m c (ix2 s q)) (fun n h => dwgN m c n h (ix2 q k)) (fun h' => ?_) (fun n h' => ?_) h7
  · refine (dwgPut_apply _ _ q k).trans ?_
    rw [pay23_apply]
    simp only [fun t r => dGp_value m c t r k h, x2_value]
    exact congrArg (0 + ·) (Finset.sum_congr rfl fun s _ => mul_comm _ _)
  · refine (dwgPut_apply _ _ q k).trans ?_
    simp only [fun t r => dGp_value m c t r k h, x2_value]
    exact congrArg (_ + ·) (Finset.sum_congr rfl fun s _ => mul_comm _ _)

theorem gated (s : Fin 4096) (k : Fin 1024) (x : EReal) : x * (R123 m c (ix2 s k) * R38 m c (ix2 s k)) = R126 m c (ix2 s k) * x := by
  rw [R126, v126_apply, mul_comm x, mul_comm (R123 m c (ix2 s k))]

include h in
theorem dwp_value (h7 : 7 < cfg0.N) (q : Fin 256) (k : Fin 1024) : dwpN m c 7 h7 (ix2 q k) = ∑ s : Fin 4096, R126 m c (ix2 s k) * a1 m c (ix2 s q) := by
  refine all_rows (fun s => R126 m c (ix2 s k) * a1 m c (ix2 s q)) (fun n h => dwpN m c n h (ix2 q k)) (fun h' => ?_) (fun n h' => ?_) h7
  · refine (dwpPut_apply _ _ q k).trans ?_
    rw [pay24_apply]
    simp only [fun t r => dY3_value m c t r k h, gate_value, in_p]
    exact congrArg (0 + ·) (Finset.sum_congr rfl fun s _ => gated m c _ k _)
  · refine (dwpPut_apply _ _ q k).trans ?_
    simp only [fun t r => dY3_value m c t r k h, gate_value, in_p]
    exact congrArg (_ + ·) (Finset.sum_congr rfl fun s _ => gated m c _ k _)

include h in
theorem gwg_value (h7 : 7 < cfg0.N) (old : Vec Ideal S8x128x1024 .bf16) (b : Fin 8) (r : Fin 128) (k : Fin 1024) :
    rows (dwgN m c 7 h7) old (ix3 b r k) = val_main_v186 (F := Ideal) (a0 m c) (a1 m c) (a2 m c) (a3 m c) (a4 m c) (a5 m c) (a6 m c) (a7 m c) (a8 m c) (a9 m c) (ix3 b r k) := by
  rw [rows_apply, dwg_value m c h, v186_apply]

include h in
theorem gwp_value (h7 : 7 < cfg0.N) (old : Vec Ideal S8x256x128 .bf16) (b : Fin 8) (r : Fin 256) (k : Fin 128) :
    cols (dwpN m c 7 h7) old (ix3 b r k) = val_main_v187 (F := Ideal) (a0 m c) (a1 m c) (a2 m c) (a3 m c) (a4 m c) (a5 m c) (a6 m c) (a7 m c) (a8 m c) (a9 m c) (ix3 b r k) := by
  rw [cols_apply, dwp_value m c h, v187_apply]

end Cert.Tail

end
-- ==== Proof.Tail.Results.lean ====
/- The six result arrays after the run, and the arguments: finite ones give the reference's arrays. -/
module

public import proofs.«01_k».proof.Proof.Tail.Value
public import Idealize.ShloMosaic.Lib.Pipeline.ValueKit

@[expose] public section

set_option maxRecDepth 16384
set_option maxHeartbeats 1000000

noncomputable section

namespace Cert.Tail

open Cert.Kernel6Ideal Cert.Kernel6Ideal.Gen
open Idealize.ShloMosaic Idealize.ShloMosaic.TcCoe
open Cert.Reference6Ideal.Read
open Idealize.ShloMosaic.Pipeline (Dat)

variable (m : (ℓ : Loc nD τ sig) → Buf (Elt Ideal) ℓ) (c : Dev nD)

theorem ox12_0 : ∀ t : Fin cfg0.N, win0_12.index t (0 : Fin 2) = t.val := by decide +kernel
theorem ox12_1 : ∀ t : Fin cfg0.N, win0_12.index t (1 : Fin 2) = 0 := by decide +kernel
theorem emb_12 (t : Fin cfg0.N) (r : Fin 512) (k : Fin 1024) : ((win0_12.blk t).view.emb (ix2 r k) : S4096x1024.Idx) = ix2 (rI t r) k := by
  refine funext fun a => Fin.ext ?_
  match a with
  | ⟨0, _⟩ =>
    show win0_12.index t 0 * 512 + 1 * r.val = _
    rw [ox12_0, Nat.one_mul]; rfl
  | ⟨1, _⟩ =>
    show win0_12.index t 1 * 1024 + 1 * k.val = _
    rw [ox12_1, Nat.one_mul, Nat.zero_mul, Nat.zero_add]; rfl

theorem ox13_0 : ∀ t : Fin cfg0.N, win0_13.index t (0 : Fin 2) = t.val := by decide +kernel
theorem ox13_1 : ∀ t : Fin cfg0.N, win0_13.index t (1 : Fin 2) = 0 := by decide +kernel
theorem emb_13 (t : Fin cfg0.N) (r : Fin 512) (k : Fin 1024) : ((win0_13.blk t).view.emb (ix2 r k) : S4096x1024.Idx) = ix2 (rI t r) k := by
  refine funext fun a => Fin.ext ?_
  match a with
  | ⟨0, _⟩ =>
    show win0_13.index t 0 * 512 + 1 * r.val = _
    rw [ox13_0, Nat.one_mul]; rfl
  | ⟨1, _⟩ =>
    show win0_13.index t 1 * 1024 + 1 * k.val = _
    rw [ox13_1, Nat.one_mul, Nat.zero_mul, Nat.zero_add]; rfl

/-- The last point. -/
theorem lt7 : 7 < cfg0.N := by decide +kernel

theorem whole_11 : (cfg0.win 11).WholeAt ⟨7, lt7⟩ := by decide +kernel
theorem whole_14 : (cfg0.win 14).WholeAt ⟨7, lt7⟩ := by decide +kernel
theorem whole_15 : (cfg0.win 15).WholeAt ⟨7, lt7⟩ := by decide +kernel
theorem whole_16 : (cfg0.win 16).WholeAt ⟨7, lt7⟩ := by decide +kernel

section Run

variable {r : PUnit × MemSt nD τ sig (Elt Ideal)} (h : Pipeline.FramePost cfgs (dats m) 0 (V m) r) (hr : Reals m c)

include h hr

theorem arr_11 : r.2.mem ((c.tc : Thread nD τ).loc main_v25_0) = val_main_v184 (F := Ideal) (a0 m c) (a1 m c) (a2 m c) (a3 m c) (a4 m c) (a5 m c) (a6 m c) (a7 m c) (a8 m c) (a9 m c) := by
  refine ((h c).1 11).trans (funext fun y => ?_)
  refine ((dats m 0 c).arrAt_emb_eq_after_last 11 ⟨7, lt7⟩ whole_11 y).trans ?_
  blk_simp
  show (dats m 0 c).after 11 ⟨7, lt7⟩ y = _
  rw [after0_11]
  dsimp only
  rw [at_11 m c 7 lt7]
  obtain ⟨q, k, rfl⟩ : ∃ (q : Fin 8) (k : Fin 128), y = ix2 q k := ⟨y 0, y 1, eq_ix2 y⟩
  exact loss_value m c hr lt7 q k

theorem arr_12 : r.2.mem ((c.tc : Thread nD τ).loc main_v25_1) = val_main_v170 (F := Ideal) (a0 m c) (a1 m c) (a2 m c) (a3 m c) (a4 m c) (a5 m c) (a6 m c) (a7 m c) (a8 m c) (a9 m c) := by
  refine ((h c).1 12).trans ((dats m 0 c).arrAt_eq_of_covers 12 (val_main_v170 (F := Ideal) (a0 m c) (a1 m c) (a2 m c) (a3 m c) (a4 m c) (a5 m c) (a6 m c) (a7 m c) (a8 m c) (a9 m c)) (by decide +kernel) fun t hf y => ?_)
  blk_simp
  show (dats m 0 c).after 12 t y = _
  rw [after0_12, at_12 m c t]
  obtain ⟨q, l, rfl⟩ : ∃ (q : Fin 512) (l : Fin 1024), y = ix2 q l := ⟨y 0, y 1, eq_ix2 y⟩
  exact (dY2_value m c t q l hr).trans (congrArg (val_main_v170 (F := Ideal) (a0 m c) (a1 m c) (a2 m c) (a3 m c) (a4 m c) (a5 m c) (a6 m c) (a7 m c) (a8 m c) (a9 m c)) (emb_12 t q l)).symm

theorem arr_13 : r.2.mem ((c.tc : Thread nD τ).loc main_v25_2) = val_main_v185 (F := Ideal) (a0 m c) (a1 m c) (a2 m c) (a3 m c) (a4 m c) (a5 m c) (a6 m c) (a7 m c) (a8 m c) (a9 m c) := by
  refine ((h c).1 13).trans ((dats m 0 c).arrAt_eq_of_covers 13 (val_main_v185 (F := Ideal) (a0 m c) (a1 m c) (a2 m c) (a3 m c) (a4 m c) (a5 m c) (a6 m c) (a7 m c) (a8 m c) (a9 m c)) (by decide +kernel) fun t hf y => ?_)
  blk_simp
  show (dats m 0 c).after 13 t y = _
  rw [after0_13, at_13 m c t]
  obtain ⟨q, l, rfl⟩ : ∃ (q : Fin 512) (l : Fin 1024), y = ix2 q l := ⟨y 0, y 1, eq_ix2 y⟩
  exact (dY2_value m c t q l hr).trans (congrArg (val_main_v170 (F := Ideal) (a0 m c) (a1 m c) (a2 m c) (a3 m c) (a4 m c) (a5 m c) (a6 m c) (a7 m c) (a8 m c) (a9 m c)) (emb_13 t q l)).symm

theorem arr_14 : r.2.mem ((c.tc : Thread nD τ).loc main_v25_3) = val_main_v186 (F := Ideal) (a0 m c) (a1 m c) (a2 m c) (a3 m c) (a4 m c) (a5 m c) (a6 m c) (a7 m c) (a8 m c) (a9 m c) := by
  refine ((h c).1 14).trans (funext fun y => ?_)
  refine ((dats m 0 c).arrAt_emb_eq_after_last 14 ⟨7, lt7⟩ whole_14 y).trans ?_
  blk_simp
  show (dats m 0 c).after 14 ⟨7, lt7⟩ y = _
  rw [after0_14]
  dsimp only
  rw [at_14 m c lt7]
  obtain ⟨b, q, k, rfl⟩ : ∃ (b : Fin 8) (q : Fin 128) (k : Fin 1024), y = ix3 b q k := ⟨y 0, y 1, y 2, eq_ix3 y⟩
  exact gwg_value m c hr lt7 _ b q k

theorem arr_15 : r.2.mem ((c.tc : Thread nD τ).loc main_v25_4) = val_main_v187 (F := Ideal) (a0 m c) (a1 m c) (a2 m c) (a3 m c) (a4 m c) (a5 m c) (a6 m c) (a7 m c) (a8 m c) (a9 m c) := by
  refine ((h c).1 15).trans (funext fun y => ?_)
  refine ((dats m 0 c).arrAt_emb_eq_after_last 15 ⟨7, lt7⟩ whole_15 y).trans ?_
  blk_simp
  show (dats m 0 c).after 15 ⟨7, lt7⟩ y = _
  rw [after0_15]
  dsimp only
  rw [at_15 m c lt7]
  obtain ⟨b, q, k, rfl⟩ : ∃ (b : Fin 8) (q : Fin 256) (k : Fin 128), y = ix3 b q k := ⟨y 0, y 1, y 2, eq_ix3 y⟩
  exact gwp_value m c hr lt7 _ b q k

theorem arr_16 : r.2.mem ((c.tc : Thread nD τ).loc main_v25_5) = val_main_v183 (F := Ideal) (a0 m c) (a1 m c) (a2 m c) (a3 m c) (a4 m c) (a5 m c) (a6 m c) (a7 m c) (a8 m c) (a9 m c) := by
  refine ((h c).1 16).trans (funext fun y => ?_)
  refine ((dats m 0 c).arrAt_emb_eq_after_last 16 ⟨7, lt7⟩ whole_16 y).trans ?_
  blk_simp
  show (dats m 0 c).after 16 ⟨7, lt7⟩ y = _
  rw [after0_16]
  dsimp only
  rw [at_16 m c 7 lt7]
  obtain ⟨q, k, rfl⟩ : ∃ (q : Fin 8) (k : Fin 1024), y = ix2 q k := ⟨y 0, y 1, eq_ix2 y⟩
  exact vec_value m c hr lt7 q k

end Run

end Cert.Tail

end
-- ==== Proof.Tail.Precond.lean ====
/- The precondition, read: every element of every argument array is a real. -/
module

public import proofs.«01_k».proof.Proof.Tail.Reals
public import proofs.«01_k».proof.Defs

@[expose] public section

set_option maxRecDepth 16384
set_option maxHeartbeats 1000000

noncomputable section

namespace Cert.Tail

open Cert.Kernel6Ideal Cert.Kernel6Ideal.Gen
open Idealize.ShloMosaic Idealize.ShloMosaic.TcCoe

variable (m : (ℓ : Loc nD τ sig) → Buf (Elt Ideal) ℓ) (c : Dev nD)

theorem args_real [Cert.Pre_finite6.Facts] (h : Cert.Pre_Kernel6Ideal_finite6 m) : Reals m c := by
  have hc := h c
  unfold Cert.Pre_finite6.fn Cert.Pre_finite6.fn_part1 Cert.Pre_finite6.fn_part2 at hc
  dsimp only at hc
  obtain ⟨h0, h1, h2, h3, h4, h5, h6, h7, h8, h9⟩ := hc
  exact ⟨Cert.Act.all_real (a0 m c) _ _ _ h0, Cert.Act.all_real (a1 m c) _ _ _ h1, Cert.Act.all_real (a2 m c) _ _ _ h2, Cert.Act.all_real (a3 m c) _ _ _ h3, Cert.Act.all_real (a4 m c) _ _ _ h4, Cert.Act.all_real (a5 m c) _ _ _ h5, Cert.Act.all_real (a6 m c) _ _ _ h6, Cert.Act.all_real (a7 m c) _ _ _ h7, Cert.Act.all_real (a8 m c) _ _ _ h8, Cert.Act.all_real (a9 m c) _ _ _ h9⟩

end Cert.Tail

end
-- ==== Proof.RunA.lean ====
module

public import proofs.«01_k».proof.Proof.Step

@[expose] public section

set_option maxRecDepth 16384

noncomputable section

namespace Cert.Act

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.VecWindow (window put)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body at a point that starts a column tile: the accumulating buffers start at zero. -/
theorem runA (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S512x1408 .bf16) (harg4 : arg4.IsWhole) (arg5 : Memref sig .tc .vmem S512x1408 .f32) (harg5 : arg5.IsWhole) (arg6 : Memref sig .tc .vmem S512x1408 .bf16) (harg6 : arg6.IsWhole) (arg7 : Memref sig .tc .vmem S512x1408 .bf16) (harg7 : arg7.IsWhole) (arg8 : Memref sig .tc .vmem S8x1408 .f32) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S8x352x1024 .bf16) (harg11 : arg11.IsWhole) (arg12 : Memref sig .tc .vmem S8x1408 .f32) (harg12 : arg12.IsWhole) (arg13 : Memref sig .tc .vmem S8x1408 .f32) (harg13 : arg13.IsWhole) (arg14 : Memref sig .tc .vmem S1408x1024 .f32) (harg14 : arg14.IsWhole) (hc0 : starts i) (hc1 : ¬ends i)
    (x0 : Vec F S512x1024 .bf16) (x1 : Vec F S1408x1024 .bf16) (x2 : Vec F S512x1408 .bf16) (x3 : Vec F S512x1408 .f32) (x4 : Vec F S512x1408 .bf16) (x5 : Vec F S512x1408 .bf16) (x6 : Vec F S8x1408 .f32) (y9 : Vec F S8x352x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare y9 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outAp (dA x0 x1 x3 x4) k0_pay7 x6) ∗ owns (c : Thread nD τ) arg10 fullShare (outBl x0 x1 x3) ∗ owns (c : Thread nD τ) arg11 fullShare y9 ∗ owns (c : Thread nD τ) arg12 fullShare (outCw (dA x0 x1 x3 x4) x2 k0_pay7 k0_pay9) ∗ owns (c : Thread nD τ) arg13 fullShare (outCarry (dA x0 x1 x3 x4)) ∗ owns (c : Thread nD τ) arg14 fullShare (outAcc x0 x5 k0_pay8)) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14) K := by
  simp only [cc0_ffn_bwd_act_eq_skeleton]; unfold cc0_ffn_bwd_act_skel
  simp only [k0_part2_eq_skeleton, k0_part3_eq_skeleton, k0_part4_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, ⟨%d13, %f13, -, H13⟩, ⟨%d14, %f14, -, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    repeat delta runA.sl.H12_1 runA.sl.H12_2 runA.sl.H12_3 runA.sl.H12_4 runA.sl.H13_1 runA.sl.H14_1 runA.sl.r runA.sl.r_1 runA.sl.r_2 runA.sl.r_3 runA.sl.r_4 runA.sl.r_5 runA.sl.r_6 runA.sl.v0 runA.sl.v1 runA.sl.v104 runA.sl.v34 runA.sl.v35 runA.sl.v36 runA.sl.v61 runA.sl.v67 runA.sl.v74 runA.sl.v81
    simp only [View.readCov, readAt_window, read_writes_put, View.writes_nil, Memref.IsWhole.read_unread,
      window_dy, window_w, window_a, window_r, put_w, put_a, put_r, outAp, up1, up2, dA, row0, row1, row2, rows]
  isplitl [H10]
  · iexists _; isplitr; swap; · iexact H10
    ipureintro
    repeat delta runA.sl.H12_1 runA.sl.H12_2 runA.sl.H12_3 runA.sl.H12_4 runA.sl.H13_1 runA.sl.H14_1 runA.sl.r runA.sl.r_1 runA.sl.r_2 runA.sl.r_3 runA.sl.r_4 runA.sl.r_5 runA.sl.r_6 runA.sl.v0 runA.sl.v1 runA.sl.v104 runA.sl.v34 runA.sl.v35 runA.sl.v36 runA.sl.v61 runA.sl.v67 runA.sl.v74 runA.sl.v81
    simp only [View.readCov, readAt_window, read_writes_put, View.writes_nil, Memref.IsWhole.read_unread,
      window_dy, window_w, window_a, window_r, put_w, put_a, put_r, outBl]
  isplitl [H11]
  · iexists _; isplitr; · ipureintro; exact harg11.read_unread _
    iexact H11
  isplitl [H12]
  · iexists _; isplitr; swap; · iexact H12
    ipureintro
    repeat delta runA.sl.H12_1 runA.sl.H12_2 runA.sl.H12_3 runA.sl.H12_4 runA.sl.H13_1 runA.sl.H14_1 runA.sl.r runA.sl.r_1 runA.sl.r_2 runA.sl.r_3 runA.sl.r_4 runA.sl.r_5 runA.sl.r_6 runA.sl.v0 runA.sl.v1 runA.sl.v104 runA.sl.v34 runA.sl.v35 runA.sl.v36 runA.sl.v61 runA.sl.v67 runA.sl.v74 runA.sl.v81
    simp only [View.readCov, readAt_window, read_writes_put, View.writes_nil, Memref.IsWhole.read_unread,
      window_dy, window_w, window_a, window_r, put_w, put_a, put_r,
      window_put_row 3 0 (by decide), window_put_row 3 1 (by decide), window_put_row 0 1 (by decide), window_put_row 3 2 (by decide), window_put_row 0 2 (by decide), window_put_row 1 2 (by decide), outCw, up1, dA, row0, row1, row2, row3, rows]
  isplitl [H13]
  · iexists _; isplitr; swap; · iexact H13
    ipureintro
    repeat delta runA.sl.H12_1 runA.sl.H12_2 runA.sl.H12_3 runA.sl.H12_4 runA.sl.H13_1 runA.sl.H14_1 runA.sl.r runA.sl.r_1 runA.sl.r_2 runA.sl.r_3 runA.sl.r_4 runA.sl.r_5 runA.sl.r_6 runA.sl.v0 runA.sl.v1 runA.sl.v104 runA.sl.v34 runA.sl.v35 runA.sl.v36 runA.sl.v61 runA.sl.v67 runA.sl.v74 runA.sl.v81
    simp only [View.readCov, readAt_window, read_writes_put, View.writes_nil, Memref.IsWhole.read_unread,
      window_dy, window_w, window_a, window_r, put_w, put_a, put_r, outCarry, dA]
  iexists _; isplitr; swap; · iexact H14
  ipureintro
  repeat delta runA.sl.H12_1 runA.sl.H12_2 runA.sl.H12_3 runA.sl.H12_4 runA.sl.H13_1 runA.sl.H14_1 runA.sl.r runA.sl.r_1 runA.sl.r_2 runA.sl.r_3 runA.sl.r_4 runA.sl.r_5 runA.sl.r_6 runA.sl.v0 runA.sl.v1 runA.sl.v104 runA.sl.v34 runA.sl.v35 runA.sl.v36 runA.sl.v61 runA.sl.v67 runA.sl.v74 runA.sl.v81
  simp only [View.readCov, readAt_window, read_writes_put, View.writes_nil, Memref.IsWhole.read_unread,
    window_dy, window_w, window_a, window_r, put_w, put_a, put_r, outAcc]

end Cert.Act

end
-- ==== Proof.RunB.lean ====
module

public import proofs.«01_k».proof.Proof.RunA

@[expose] public section

set_option maxRecDepth 16384

noncomputable section

namespace Cert.Act

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.VecWindow (window put)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body at a point inside a column tile. -/
theorem runB (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S512x1408 .bf16) (harg4 : arg4.IsWhole) (arg5 : Memref sig .tc .vmem S512x1408 .f32) (harg5 : arg5.IsWhole) (arg6 : Memref sig .tc .vmem S512x1408 .bf16) (harg6 : arg6.IsWhole) (arg7 : Memref sig .tc .vmem S512x1408 .bf16) (harg7 : arg7.IsWhole) (arg8 : Memref sig .tc .vmem S8x1408 .f32) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S8x352x1024 .bf16) (harg11 : arg11.IsWhole) (arg12 : Memref sig .tc .vmem S8x1408 .f32) (harg12 : arg12.IsWhole) (arg13 : Memref sig .tc .vmem S8x1408 .f32) (harg13 : arg13.IsWhole) (arg14 : Memref sig .tc .vmem S1408x1024 .f32) (harg14 : arg14.IsWhole) (hc0 : ¬starts i) (hc1 : ¬ends i)
    (x0 : Vec F S512x1024 .bf16) (x1 : Vec F S1408x1024 .bf16) (x2 : Vec F S512x1408 .bf16) (x3 : Vec F S512x1408 .f32) (x4 : Vec F S512x1408 .bf16) (x5 : Vec F S512x1408 .bf16) (x6 : Vec F S8x1408 .f32) (y9 : Vec F S8x352x1024 .bf16) (y10 : Vec F S8x1408 .f32) (s0 : Vec F S8x1408 .f32) (s1 : Vec F S1408x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare y9 ∗ owns (c : Thread nD τ) arg12 fullShare y10 ∗ owns (c : Thread nD τ) arg13 fullShare s0 ∗ owns (c : Thread nD τ) arg14 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outAp (dA x0 x1 x3 x4) s0 x6) ∗ owns (c : Thread nD τ) arg10 fullShare (outBl x0 x1 x3) ∗ owns (c : Thread nD τ) arg11 fullShare y9 ∗ owns (c : Thread nD τ) arg12 fullShare (outCw (dA x0 x1 x3 x4) x2 s0 y10) ∗ owns (c : Thread nD τ) arg13 fullShare (outCarry (dA x0 x1 x3 x4)) ∗ owns (c : Thread nD τ) arg14 fullShare (outAcc x0 x5 s1)) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14) K := by
  simp only [cc0_ffn_bwd_act_eq_skeleton]; unfold cc0_ffn_bwd_act_skel
  simp only [k0_part2_eq_skeleton, k0_part3_eq_skeleton, k0_part4_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg12.eq_unread hf12; obtain rfl := harg13.eq_unread hf13; obtain rfl := harg14.eq_unread hf14
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    repeat delta runB.sl.r runB.sl.r_1 runB.sl.r_2 runB.sl.r_3 runB.sl.r_5 runB.sl.r_6 runB.sl.r_7 runB.sl.r_8 runB.sl.v0 runB.sl.v1 runB.sl.v34 runB.sl.v67 runB.sl.v74 runB.sl.v81 runB.sl.r_4
    simp only [View.readCov, readAt_window, read_writes_put, View.writes_nil, Memref.IsWhole.read_unread,
      window_dy, window_w, window_a, window_r, put_w, put_a, put_r, outAp, up1, up2, dA, row0, row1, row2, rows]
  isplitl [H10]
  · iexists _; isplitr; swap; · iexact H10
    ipureintro
    repeat delta runB.sl.r runB.sl.r_1 runB.sl.r_2 runB.sl.r_3 runB.sl.r_5 runB.sl.r_6 runB.sl.r_7 runB.sl.r_8 runB.sl.v0 runB.sl.v1 runB.sl.v34 runB.sl.v67 runB.sl.v74 runB.sl.v81 runB.sl.r_4
    simp only [View.readCov, readAt_window, read_writes_put, View.writes_nil, Memref.IsWhole.read_unread,
      window_dy, window_w, window_a, window_r, put_w, put_a, put_r, outBl]
  isplitl [H11]
  · iexists _; isplitr; · ipureintro; exact harg11.read_unread _
    iexact H11
  isplitl [H12]
  · iexists _; isplitr; swap; · iexact H12
    ipureintro
    repeat delta runB.sl.r runB.sl.r_1 runB.sl.r_2 runB.sl.r_3 runB.sl.r_5 runB.sl.r_6 runB.sl.r_7 runB.sl.r_8 runB.sl.v0 runB.sl.v1 runB.sl.v34 runB.sl.v67 runB.sl.v74 runB.sl.v81 runB.sl.r_4
    simp only [View.readCov, readAt_window, read_writes_put, View.writes_nil, Memref.IsWhole.read_unread,
      window_dy, window_w, window_a, window_r, put_w, put_a, put_r,
      window_put_row 3 0 (by decide), window_put_row 3 1 (by decide), window_put_row 0 1 (by decide), window_put_row 3 2 (by decide), window_put_row 0 2 (by decide), window_put_row 1 2 (by decide), outCw, up1, dA, row0, row1, row2, row3, rows]
  isplitl [H13]
  · iexists _; isplitr; swap; · iexact H13
    ipureintro
    repeat delta runB.sl.r runB.sl.r_1 runB.sl.r_2 runB.sl.r_3 runB.sl.r_5 runB.sl.r_6 runB.sl.r_7 runB.sl.r_8 runB.sl.v0 runB.sl.v1 runB.sl.v34 runB.sl.v67 runB.sl.v74 runB.sl.v81 runB.sl.r_4
    simp only [View.readCov, readAt_window, read_writes_put, View.writes_nil, Memref.IsWhole.read_unread,
      window_dy, window_w, window_a, window_r, put_w, put_a, put_r, outCarry, dA]
  iexists _; isplitr; swap; · iexact H14
  ipureintro
  repeat delta runB.sl.r runB.sl.r_1 runB.sl.r_2 runB.sl.r_3 runB.sl.r_5 runB.sl.r_6 runB.sl.r_7 runB.sl.r_8 runB.sl.v0 runB.sl.v1 runB.sl.v34 runB.sl.v67 runB.sl.v74 runB.sl.v81 runB.sl.r_4
  simp only [View.readCov, readAt_window, read_writes_put, View.writes_nil, Memref.IsWhole.read_unread,
    window_dy, window_w, window_a, window_r, put_w, put_a, put_r, outAcc]

end Cert.Act

end
-- ==== Proof.RunC.lean ====
module

public import proofs.«01_k».proof.Proof.RunB

@[expose] public section

set_option maxRecDepth 16384

noncomputable section

namespace Cert.Act

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.VecWindow (window put)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body at a point that ends a column tile: the accumulator's row blocks go out. -/
theorem runC (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S512x1408 .bf16) (harg4 : arg4.IsWhole) (arg5 : Memref sig .tc .vmem S512x1408 .f32) (harg5 : arg5.IsWhole) (arg6 : Memref sig .tc .vmem S512x1408 .bf16) (harg6 : arg6.IsWhole) (arg7 : Memref sig .tc .vmem S512x1408 .bf16) (harg7 : arg7.IsWhole) (arg8 : Memref sig .tc .vmem S8x1408 .f32) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S8x352x1024 .bf16) (harg11 : arg11.IsWhole) (arg12 : Memref sig .tc .vmem S8x1408 .f32) (harg12 : arg12.IsWhole) (arg13 : Memref sig .tc .vmem S8x1408 .f32) (harg13 : arg13.IsWhole) (arg14 : Memref sig .tc .vmem S1408x1024 .f32) (harg14 : arg14.IsWhole) (hc0 : ¬starts i) (hc1 : ends i)
    (x0 : Vec F S512x1024 .bf16) (x1 : Vec F S1408x1024 .bf16) (x2 : Vec F S512x1408 .bf16) (x3 : Vec F S512x1408 .f32) (x4 : Vec F S512x1408 .bf16) (x5 : Vec F S512x1408 .bf16) (x6 : Vec F S8x1408 .f32) (y9 : Vec F S8x352x1024 .bf16) (y10 : Vec F S8x1408 .f32) (s0 : Vec F S8x1408 .f32) (s1 : Vec F S1408x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare y9 ∗ owns (c : Thread nD τ) arg12 fullShare y10 ∗ owns (c : Thread nD τ) arg13 fullShare s0 ∗ owns (c : Thread nD τ) arg14 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outAp (dA x0 x1 x3 x4) s0 x6) ∗ owns (c : Thread nD τ) arg10 fullShare (outBl x0 x1 x3) ∗ owns (c : Thread nD τ) arg11 fullShare (outGw i (outAcc x0 x5 s1) y9) ∗ owns (c : Thread nD τ) arg12 fullShare (outCw (dA x0 x1 x3 x4) x2 s0 y10) ∗ owns (c : Thread nD τ) arg13 fullShare (outCarry (dA x0 x1 x3 x4)) ∗ owns (c : Thread nD τ) arg14 fullShare (outAcc x0 x5 s1)) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14) K := by
  simp only [cc0_ffn_bwd_act_eq_skeleton]; unfold cc0_ffn_bwd_act_skel
  simp only [k0_part2_eq_skeleton, k0_part3_eq_skeleton, k0_part4_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg12.eq_unread hf12; obtain rfl := harg13.eq_unread hf13; obtain rfl := harg14.eq_unread hf14
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    repeat delta runC.sl.H14_1 runC.sl.r runC.sl.r_1 runC.sl.r_2 runC.sl.r_3 runC.sl.r_5 runC.sl.r_6 runC.sl.r_7 runC.sl.r_8 runC.sl.v1 runC.sl.v115 runC.sl.v124 runC.sl.v142 runC.sl.v144 runC.sl.v145 runC.sl.v2 runC.sl.v34 runC.sl.v74 runC.sl.v81 runC.sl.r_4 runC.sl.r_9 runC.sl.v133 runC.sl.v67
    simp only [View.readCov, readAt_window, read_writes_put, View.writes_nil, Memref.IsWhole.read_unread,
      window_dy, window_w, window_a, window_r, put_w, put_a, put_r, outAp, up1, up2, dA, row0, row1, row2, rows]
  isplitl [H10]
  · iexists _; isplitr; swap; · iexact H10
    ipureintro
    repeat delta runC.sl.H14_1 runC.sl.r runC.sl.r_1 runC.sl.r_2 runC.sl.r_3 runC.sl.r_5 runC.sl.r_6 runC.sl.r_7 runC.sl.r_8 runC.sl.v1 runC.sl.v115 runC.sl.v124 runC.sl.v142 runC.sl.v144 runC.sl.v145 runC.sl.v2 runC.sl.v34 runC.sl.v74 runC.sl.v81 runC.sl.r_4 runC.sl.r_9 runC.sl.v133 runC.sl.v67
    simp only [View.readCov, readAt_window, read_writes_put, View.writes_nil, Memref.IsWhole.read_unread,
      window_dy, window_w, window_a, window_r, put_w, put_a, put_r, outBl]
  isplitl [H11]
  · iexists _; isplitr; swap; · iexact H11
    ipureintro
    repeat delta runC.sl.H14_1 runC.sl.r runC.sl.r_1 runC.sl.r_2 runC.sl.r_3 runC.sl.r_5 runC.sl.r_6 runC.sl.r_7 runC.sl.r_8 runC.sl.v1 runC.sl.v115 runC.sl.v124 runC.sl.v142 runC.sl.v144 runC.sl.v145 runC.sl.v2 runC.sl.v34 runC.sl.v74 runC.sl.v81 runC.sl.r_4 runC.sl.r_9 runC.sl.v133 runC.sl.v67
    simp only [View.readCov, readAt_window, read_writes_put, View.writes_nil, Memref.IsWhole.read_unread,
      window_dy, window_w, window_a, window_r, put_w, put_a, put_r, outGw, outAcc]
  isplitl [H12]
  · iexists _; isplitr; swap; · iexact H12
    ipureintro
    repeat delta runC.sl.H14_1 runC.sl.r runC.sl.r_1 runC.sl.r_2 runC.sl.r_3 runC.sl.r_5 runC.sl.r_6 runC.sl.r_7 runC.sl.r_8 runC.sl.v1 runC.sl.v115 runC.sl.v124 runC.sl.v142 runC.sl.v144 runC.sl.v145 runC.sl.v2 runC.sl.v34 runC.sl.v74 runC.sl.v81 runC.sl.r_4 runC.sl.r_9 runC.sl.v133 runC.sl.v67
    simp only [View.readCov, readAt_window, read_writes_put, View.writes_nil, Memref.IsWhole.read_unread,
      window_dy, window_w, window_a, window_r, put_w, put_a, put_r,
      window_put_row 3 0 (by decide), window_put_row 3 1 (by decide), window_put_row 0 1 (by decide), window_put_row 3 2 (by decide), window_put_row 0 2 (by decide), window_put_row 1 2 (by decide), outCw, up1, dA, row0, row1, row2, row3, rows]
  isplitl [H13]
  · iexists _; isplitr; swap; · iexact H13
    ipureintro
    repeat delta runC.sl.H14_1 runC.sl.r runC.sl.r_1 runC.sl.r_2 runC.sl.r_3 runC.sl.r_5 runC.sl.r_6 runC.sl.r_7 runC.sl.r_8 runC.sl.v1 runC.sl.v115 runC.sl.v124 runC.sl.v142 runC.sl.v144 runC.sl.v145 runC.sl.v2 runC.sl.v34 runC.sl.v74 runC.sl.v81 runC.sl.r_4 runC.sl.r_9 runC.sl.v133 runC.sl.v67
    simp only [View.readCov, readAt_window, read_writes_put, View.writes_nil, Memref.IsWhole.read_unread,
      window_dy, window_w, window_a, window_r, put_w, put_a, put_r, outCarry, dA]
  iexists _; isplitr; swap; · iexact H14
  ipureintro
  repeat delta runC.sl.H14_1 runC.sl.r runC.sl.r_1 runC.sl.r_2 runC.sl.r_3 runC.sl.r_5 runC.sl.r_6 runC.sl.r_7 runC.sl.r_8 runC.sl.v1 runC.sl.v115 runC.sl.v124 runC.sl.v142 runC.sl.v144 runC.sl.v145 runC.sl.v2 runC.sl.v34 runC.sl.v74 runC.sl.v81 runC.sl.r_4 runC.sl.r_9 runC.sl.v133 runC.sl.v67
  simp only [View.readCov, readAt_window, read_writes_put, View.writes_nil, Memref.IsWhole.read_unread,
    window_dy, window_w, window_a, window_r, put_w, put_a, put_r, outAcc]

end Cert.Act

end
-- ==== Proof.Chain.lean ====
/- What the kernel's buffers hold from point to point: each input window's block at a point, the derivative block there,
   the convolution weight's gradient rows and the down weight's accumulator after each point of a column tile. -/
module

public import proofs.«01_k».proof.Proof.Step

@[expose] public section

set_option maxRecDepth 16384

noncomputable section

namespace Cert.Act

open Cert.KernelIdeal Cert.KernelIdeal.Gen
open Idealize.ShloMosaic Idealize.ShloMosaic.TcCoe

variable {F : FTy → Type} [FloatOps F] [Named F]
variable (m : (ℓ : Loc nD τ sig) → Buf (Elt F) ℓ) (c : Dev nD)

/-- The grid's point of a number. -/
def pt (n : ℕ) : Fin cfg0.N := ⟨n % 16, lt_of_lt_of_eq (Nat.mod_lt n (by decide)) N_0.symm⟩

theorem pt_val (t : Fin cfg0.N) : pt t.val = t :=
  Fin.ext (Nat.mod_eq_of_lt (lt_of_lt_of_eq t.isLt N_0))

/-- The output's gradient, its rows at a point. -/
def bDy (n : ℕ) : Vec F S512x1024 .bf16 := iblk m c 0 (pt n)
/-- The down weight's rows at a point. -/
def bW (n : ℕ) : Vec F S1408x1024 .bf16 := iblk m c 1 (pt n)
/-- The convolution's input at a point. -/
def bAp (n : ℕ) : Vec F S512x1408 .bf16 := iblk m c 2 (pt n)
/-- The convolution's output at a point. -/
def bA (n : ℕ) : Vec F S512x1408 .f32 := iblk m c 3 (pt n)
/-- The linear factor at a point. -/
def bBl (n : ℕ) : Vec F S512x1408 .bf16 := iblk m c 4 (pt n)
/-- The product of activation and linear factor at a point. -/
def bH (n : ℕ) : Vec F S512x1408 .bf16 := iblk m c 5 (pt n)
/-- The convolution weight's columns at a point. -/
def bCw (n : ℕ) : Vec F S8x1408 .f32 := iblk m c 6 (pt n)

/-- The derivative block at a point. -/
def dN (n : ℕ) : FVec F S512x1408 .f32 := dA (bDy m c n) (bW m c n) (bA m c n) (bBl m c n)

/-- The rows that a point finds carried: none at a column tile's start. -/
def carryIn (n : ℕ) : Vec F S8x1408 .f32 := if n % 8 = 0 then k0_pay7 else outCarry (dN m c (n - 1))

/-- The convolution weight's gradient rows after a point. -/
def cwN : ℕ → Vec F S8x1408 .f32
  | 0 => outCw (dN m c 0) (bAp m c 0) (carryIn m c 0) k0_pay9
  | n + 1 => outCw (dN m c (n + 1)) (bAp m c (n + 1)) (carryIn m c (n + 1)) (if (n + 1) % 8 = 0 then k0_pay9 else cwN n)

/-- The down weight's gradient accumulator after a point. -/
def accN : ℕ → Vec F S1408x1024 .f32
  | 0 => outAcc (bDy m c 0) (bH m c 0) k0_pay8
  | n + 1 => outAcc (bDy m c (n + 1)) (bH m c (n + 1)) (if (n + 1) % 8 = 0 then k0_pay8 else accN n)

theorem carryIn_start {n : ℕ} (h : n % 8 = 0) : carryIn m c n = k0_pay7 := if_pos h
theorem carryIn_next {n : ℕ} (h : ¬n % 8 = 0) : carryIn m c n = outCarry (dN m c (n - 1)) := if_neg h

theorem cwN_start {n : ℕ} (h : n % 8 = 0) : cwN m c n = outCw (dN m c n) (bAp m c n) k0_pay7 k0_pay9 := by
  rw [← carryIn_start m c h]
  cases n with
  | zero => rfl
  | succ n => rw [cwN, if_pos h]
theorem cwN_next {n : ℕ} (h : ¬n % 8 = 0) :
    cwN m c n = outCw (dN m c n) (bAp m c n) (outCarry (dN m c (n - 1))) (cwN m c (n - 1)) := by
  rw [← carryIn_next m c h]
  cases n with
  | zero => exact absurd rfl h
  | succ n => rw [cwN, if_neg h, Nat.add_sub_cancel]
theorem accN_start {n : ℕ} (h : n % 8 = 0) : accN m c n = outAcc (bDy m c n) (bH m c n) k0_pay8 := by
  cases n with
  | zero => rfl
  | succ n => rw [accN, if_pos h]
theorem accN_next {n : ℕ} (h : ¬n % 8 = 0) : accN m c n = outAcc (bDy m c n) (bH m c n) (accN m c (n - 1)) := by
  cases n with
  | zero => exact absurd rfl h
  | succ n => rw [accN, if_neg h, Nat.add_sub_cancel]

attribute [irreducible] cwN accN carryIn

/-- What the down weight's gradient buffer is known to hold after a point: nothing before a column tile has ended, then
    that tile's row blocks over something, at the end the second tile's over these. -/
def GwAt (n : ℕ) (X : Vec F S8x352x1024 .bf16) : Prop :=
  if n = 15 then ∃ Y, X = outGw (grid0.coords (pt 15)) (accN m c 15) (outGw (grid0.coords (pt 7)) (accN m c 7) Y)
  else if 7 ≤ n then ∃ Y, X = outGw (grid0.coords (pt 7)) (accN m c 7) Y else True

theorem gwAt_first {n : ℕ} (h : n < 7) (X : Vec F S8x352x1024 .bf16) : GwAt m c n X := by
  unfold GwAt; rw [if_neg (by omega), if_neg (by omega)]; trivial

/-- A point that ends no column tile keeps what the point before left. -/
theorem gwAt_keep {n : ℕ} (hn : n < 16) (h : ¬n % 8 = 7) (hz : n ≠ 0) {X : Vec F S8x352x1024 .bf16} (hX : GwAt m c (n - 1) X) : GwAt m c n X := by
  unfold GwAt at hX ⊢
  rw [if_neg (by omega)] at hX ⊢
  by_cases h7 : 7 ≤ n
  · rw [if_pos (by omega)] at hX; rw [if_pos h7]; exact hX
  · rw [if_neg h7]; trivial

/-- A point that ends a column tile puts its blocks. -/
theorem gwAt_put {n : ℕ} (hn : n < 16) (h : n % 8 = 7) {X : Vec F S8x352x1024 .bf16} (hX : GwAt m c (n - 1) X) :
    GwAt m c n (outGw (grid0.coords (pt n)) (accN m c n) X) := by
  obtain rfl | rfl : n = 7 ∨ n = 15 := by omega
  · exact ⟨X, rfl⟩
  · obtain ⟨Y, rfl⟩ := hX
    exact ⟨Y, rfl⟩

end Cert.Act

end
-- ==== Proof.Launch.lean ====
/- The run of the whole kernel: the proof data of its one region (inputs at their blocks, outputs and scratch at what the
   points leave, the down weight's gradient buffer held to what is known of it), the body's obligation at every point,
   and the launch. -/
module

public import proofs.«01_k».proof.Proof.RunC
public import proofs.«01_k».proof.Proof.Chain
public import Idealize.ShloMosaic.Lib.Pipeline.DatRel
public import Idealize.ShloMosaic.Lib.Pipeline.ArrRel

@[expose] public section

set_option maxRecDepth 16384

noncomputable section

namespace Cert.Act

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Window 0's staging buffer at a point. -/
abbrev ms0 (t : Fin cfg0.N) : Memref sig .tc .vmem S512x1024 .bf16 := win0_0.stage (cfg0.slots t 0)
/-- Window 1's staging buffer at a point. -/
abbrev ms1 (t : Fin cfg0.N) : Memref sig .tc .vmem S1408x1024 .bf16 := win0_1.stage (cfg0.slots t 1)
/-- Window 2's staging buffer at a point. -/
abbrev ms2 (t : Fin cfg0.N) : Memref sig .tc .vmem S512x1408 .bf16 := win0_2.stage (cfg0.slots t 2)
/-- Window 3's staging buffer at a point. -/
abbrev ms3 (t : Fin cfg0.N) : Memref sig .tc .vmem S512x1408 .f32 := win0_3.stage (cfg0.slots t 3)
/-- Window 4's staging buffer at a point. -/
abbrev ms4 (t : Fin cfg0.N) : Memref sig .tc .vmem S512x1408 .bf16 := win0_4.stage (cfg0.slots t 4)
/-- Window 5's staging buffer at a point. -/
abbrev ms5 (t : Fin cfg0.N) : Memref sig .tc .vmem S512x1408 .bf16 := win0_5.stage (cfg0.slots t 5)
/-- Window 6's staging buffer at a point. -/
abbrev ms6 (t : Fin cfg0.N) : Memref sig .tc .vmem S8x1408 .f32 := win0_6.stage (cfg0.slots t 6)
/-- Window 7's staging buffer at a point. -/
abbrev ms7 (t : Fin cfg0.N) : Memref sig .tc .vmem S512x1408 .bf16 := win0_7.stage (cfg0.slots t 7)
/-- Window 8's staging buffer at a point. -/
abbrev ms8 (t : Fin cfg0.N) : Memref sig .tc .vmem S512x1408 .bf16 := win0_8.stage (cfg0.slots t 8)
/-- Window 9's staging buffer at a point. -/
abbrev ms9 (t : Fin cfg0.N) : Memref sig .tc .vmem S8x352x1024 .bf16 := win0_9.stage (cfg0.slots t 9)
/-- Window 10's staging buffer at a point. -/
abbrev ms10 (t : Fin cfg0.N) : Memref sig .tc .vmem S8x1408 .f32 := win0_10.stage (cfg0.slots t 10)

/-- What holds between the points: the two scratch buffers at what the point before left, at a column tile's start at
    anything. -/
def Phi (c : Dev nD) (n : ℕ) : sProp 𝕄 :=
  if n % 8 = 0 then Pipeline.ΦA spec0 c
  else iprop(iprop(owns (c : Thread nD τ) carryM fullShare (outCarry (dN m c (n - 1)))
    ∗ owns (c : Thread nD τ) accM fullShare (accN m c (n - 1))) ∗ (∃ r, prngReg c r))

theorem Phi_start (c : Dev nD) {n : ℕ} (h : n % 8 = 0) : Phi m c n = Pipeline.ΦA spec0 c := if_pos h
theorem Phi_next (c : Dev nD) {n : ℕ} (h : ¬n % 8 = 0) :
    Phi m c n = iprop(iprop(owns (c : Thread nD τ) carryM fullShare (outCarry (dN m c (n - 1)))
      ∗ owns (c : Thread nD τ) accM fullShare (accN m c (n - 1))) ∗ (∃ r, prngReg c r)) := if_neg h

/-- The proof data of the region on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAp (dN m c t.val) (carryIn m c t.val) (bCw m c t.val)
    | ⟨8, _⟩ => outBl (bDy m c t.val) (bW m c t.val) (bA m c t.val)
    | ⟨9, h⟩ => Pipeline.Dat.unnamed (cfg := cfg0) ⟨9, h⟩ t
    | ⟨10, _⟩ => cwN m c t.val
  Φ t := Phi m c t.val
  q _ := fullShare
  owed _ := 0

/-- The window held to a predicate: the down weight's gradient. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => false

/-- The predicate. -/
def Rl (c : Dev nD) (w : Fin cfg0.W) (t : Fin cfg0.N) : ((cfg0.win w).block.Idx → Elt F (cfg0.win w).elt) → Prop :=
  match w with
  | ⟨0, _⟩ => fun X => True
  | ⟨1, _⟩ => fun X => True
  | ⟨2, _⟩ => fun X => True
  | ⟨3, _⟩ => fun X => True
  | ⟨4, _⟩ => fun X => True
  | ⟨5, _⟩ => fun X => True
  | ⟨6, _⟩ => fun X => True
  | ⟨7, _⟩ => fun X => True
  | ⟨8, _⟩ => fun X => True
  | ⟨9, _⟩ => fun X => GwAt m c t.val X
  | ⟨10, _⟩ => fun X => True

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; rfl
theorem Phi_succ (c : Dev nD) (t : Fin cfg0.N) : (dats m 0 c).Φ t.succ = Phi m c (t.val + 1) := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAp (dN m c t.val) (carryIn m c t.val) (bCw m c t.val) := by
  dsimp only [dats]
theorem after_8 (c : Dev nD) (t : Fin cfg0.N) : (dats m 0 c).after 8 t = outBl (bDy m c t.val) (bW m c t.val) (bA m c t.val) := by
  dsimp only [dats]
theorem after_10 (c : Dev nD) (t : Fin cfg0.N) : (dats m 0 c).after 10 t = cwN m c t.val := by dsimp only [dats]

theorem before_0 (c : Dev nD) (t : Fin cfg0.N) (d) : (dats m 0 c).before 0 t d = bDy m c t.val :=
  (before0_0_of m (dats m 0 c) (A_eq m c 0) (after_0 m c) t d).trans (by unfold bDy; rw [pt_val])
theorem left_0 (c : Dev nD) (t : Fin cfg0.N) : (dats m 0 c).after 0 t = bDy m c t.val :=
  (after_0 m c t).trans (by unfold bDy; rw [pt_val])
theorem before_1 (c : Dev nD) (t : Fin cfg0.N) (d) : (dats m 0 c).before 1 t d = bW m c t.val :=
  (before0_1_of m (dats m 0 c) (A_eq m c 1) (after_1 m c) t d).trans (by unfold bW; rw [pt_val])
theorem left_1 (c : Dev nD) (t : Fin cfg0.N) : (dats m 0 c).after 1 t = bW m c t.val :=
  (after_1 m c t).trans (by unfold bW; rw [pt_val])
theorem before_2 (c : Dev nD) (t : Fin cfg0.N) (d) : (dats m 0 c).before 2 t d = bAp m c t.val :=
  (before0_2_of m (dats m 0 c) (A_eq m c 2) (after_2 m c) t d).trans (by unfold bAp; rw [pt_val])
theorem left_2 (c : Dev nD) (t : Fin cfg0.N) : (dats m 0 c).after 2 t = bAp m c t.val :=
  (after_2 m c t).trans (by unfold bAp; rw [pt_val])
theorem before_3 (c : Dev nD) (t : Fin cfg0.N) (d) : (dats m 0 c).before 3 t d = bA m c t.val :=
  (before0_3_of m (dats m 0 c) (A_eq m c 3) (after_3 m c) t d).trans (by unfold bA; rw [pt_val])
theorem left_3 (c : Dev nD) (t : Fin cfg0.N) : (dats m 0 c).after 3 t = bA m c t.val :=
  (after_3 m c t).trans (by unfold bA; rw [pt_val])
theorem before_4 (c : Dev nD) (t : Fin cfg0.N) (d) : (dats m 0 c).before 4 t d = bBl m c t.val :=
  (before0_4_of m (dats m 0 c) (A_eq m c 4) (after_4 m c) t d).trans (by unfold bBl; rw [pt_val])
theorem left_4 (c : Dev nD) (t : Fin cfg0.N) : (dats m 0 c).after 4 t = bBl m c t.val :=
  (after_4 m c t).trans (by unfold bBl; rw [pt_val])
theorem before_5 (c : Dev nD) (t : Fin cfg0.N) (d) : (dats m 0 c).before 5 t d = bH m c t.val :=
  (before0_5_of m (dats m 0 c) (A_eq m c 5) (after_5 m c) t d).trans (by unfold bH; rw [pt_val])
theorem left_5 (c : Dev nD) (t : Fin cfg0.N) : (dats m 0 c).after 5 t = bH m c t.val :=
  (after_5 m c t).trans (by unfold bH; rw [pt_val])
theorem before_6 (c : Dev nD) (t : Fin cfg0.N) (d) : (dats m 0 c).before 6 t d = bCw m c t.val :=
  (before0_6_of m (dats m 0 c) (A_eq m c 6) (after_6 m c) t d).trans (by unfold bCw; rw [pt_val])
theorem left_6 (c : Dev nD) (t : Fin cfg0.N) : (dats m 0 c).after 6 t = bCw m c t.val :=
  (after_6 m c t).trans (by unfold bCw; rw [pt_val])

/-- Inside a column tile the convolution weight's gradient rows are what the point before left. -/
theorem before_10 (c : Dev nD) (t : Fin cfg0.N) (h : ¬t.val % 8 = 0) (d) : (dats m 0 c).before 10 t d = cwN m c (t.val - 1) := by
  have hz : t.val ≠ 0 := fun e => h (by rw [e])
  rw [Dat.before_out_kept (dats m 0 c) 10 rfl t hz (by
    rw [← Bool.not_eq_true, flush0_10]
    show ¬(t.val - 1) % 8 = 7
    omega) (fun _ => rfl) (fun _ _ => rfl) d, after_10]

/-- The down weight's gradient buffer is found holding what the point before left. -/
theorem finds_9 (c : Dev nD) (t : Fin cfg0.N) (hz : t.val ≠ 0) (Y : Vec F S8x352x1024 .bf16)
    (h : ((dats m 0 c).toRRel fgt (Rl m c)).Finds 9 t Y) : GwAt m c (t.val - 1) Y := by
  have hN : t.val < 16 := lt_of_lt_of_eq t.isLt N_0
  rw [RDat.finds_of_pos _ ((cfg0.win 9).fetch_out rfl t) hz] at h
  rcases h with h | h
  · rw [flush0_9] at h
    exact absurd h (by show ¬(t.val - 1) % 16 = 15; omega)
  · exact Dat.toRRel_leaves (dats m 0 c) rfl h

/-- At a column tile's start the down weight's gradient buffer is kept. -/
theorem gwA (c : Dev nD) (t : Fin cfg0.N) (h0 : t.val % 8 = 0) (Y : Vec F S8x352x1024 .bf16)
    (h : ((dats m 0 c).toRRel fgt (Rl m c)).Finds 9 t Y) : GwAt m c t.val Y := by
  have hN : t.val < 16 := lt_of_lt_of_eq t.isLt N_0
  by_cases hz : t.val = 0
  · exact gwAt_first m c (by omega) Y
  · exact gwAt_keep m c hN (by omega) hz (finds_9 m c t hz Y h)

/-- At a column tile's end its row blocks are put. -/
theorem gwC (c : Dev nD) (t : Fin cfg0.N) (h0 : ¬t.val % 8 = 0) (h1 : t.val % 8 = 7) (Y : Vec F S8x352x1024 .bf16)
    (h : ((dats m 0 c).toRRel fgt (Rl m c)).Finds 9 t Y) :
    GwAt m c t.val (outGw (grid0.coords t) (outAcc (bDy m c t.val) (bH m c t.val) (accN m c (t.val - 1))) Y) := by
  have hN : t.val < 16 := lt_of_lt_of_eq t.isLt N_0
  have := gwAt_put m c hN h1 (finds_9 m c t (by omega) Y h)
  rwa [accN_next m c h0, pt_val] at this

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ Y, ⌜((dats m 0 c).toRRel fgt (Rl m c)).Finds 9 t Y⌝ ∗ owns (c : Thread nD τ) (ms9 t) fullShare Y)
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ (∃ X, ⌜GwAt m c t.val X⌝ ∗ owns (c : Thread nD τ) (ms9 t) fullShare X)
    ∗ owns (c : Thread nD τ) (ms10 t) fullShare ((dats m 0 c).after 10 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, left_0, left_1, left_2, left_3, left_4, left_5, left_6, after_7, after_8, after_10]
  rw [show (dats m 0 c).owesAt () t.succ = (dats m 0 c).owesAt () t.castSucc from rfl, Phi_castSucc, Phi_succ]
  have hN : t.val < 16 := lt_of_lt_of_eq t.isLt N_0
  by_cases h0 : t.val % 8 = 0
  · rw [Phi_start m c h0, PhiA_eq, Phi_next m c (show ¬(t.val + 1) % 8 = 0 by omega), Nat.add_sub_cancel,
      carryIn_start m c h0, cwN_start m c h0, accN_start m c h0, dN]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, H9⟩, ⟨%d10, H10⟩⟩
    iapply (runA c (grid0.coords t) _ _ _ _ _ _ _ _ _ _ _ _ _ _ _ _ _ _ _ _ _ _ _ _ _ _ ((starts_iff t).mpr h0) (fun h => absurd ((ends_iff t).mp h) (by omega)) (bDy m c t.val) (bW m c t.val) (bAp m c t.val) (bA m c t.val) (bBl m c t.val) (bH m c t.val) (bCw m c t.val) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr
      · ipureintro; exact gwA m c t h0 Y hY
      iexact H9
    iexact H10
  have hz : t.val ≠ 0 := fun e => h0 (by rw [e])
  simp only [before_10 m c t h0]
  rw [Phi_next m c h0, carryIn_next m c h0, cwN_next m c h0]
  by_cases h1 : t.val % 8 = 7
  · rw [Phi_start m c (show (t.val + 1) % 8 = 0 by omega), PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, H9⟩, ⟨%d10, H10⟩⟩
    iapply (runC c (grid0.coords t) _ _ _ _ _ _ _ _ _ _ _ _ _ _ _ _ _ _ _ _ _ _ _ _ _ _ (fun h => h0 ((starts_iff t).mp h)) ((ends_iff t).mpr h1) (bDy m c t.val) (bW m c t.val) (bAp m c t.val) (bA m c t.val) (bBl m c t.val) (bH m c t.val) (bCw m c t.val) Y (cwN m c (t.val - 1)) (outCarry (dN m c (t.val - 1))) (accN m c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr
      · ipureintro; exact gwC m c t h0 h1 Y hY
      iexact H9
    iexact H10
  · rw [Phi_next m c (show ¬(t.val + 1) % 8 = 0 by omega), Nat.add_sub_cancel, accN_next m c h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, H9⟩, ⟨%d10, H10⟩⟩
    iapply (runB c (grid0.coords t) _ _ _ _ _ _ _ _ _ _ _ _ _ _ _ _ _ _ _ _ _ _ _ _ _ _ (fun h => h0 ((starts_iff t).mp h)) (fun h => h1 ((ends_iff t).mp h)) (bDy m c t.val) (bW m c t.val) (bAp m c t.val) (bA m c t.val) (bBl m c t.val) (bH m c t.val) (bCw m c t.val) Y (cwN m c (t.val - 1)) (outCarry (dN m c (t.val - 1))) (accN m c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr
      · ipureintro; exact gwAt_keep m c hN h1 hz (finds_9 m c t hz Y hY)
      iexact H9
    iexact H10

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- The relational proof data of the launch. -/
def rdats (c : Dev nD) : RDat τ (Elt F) Unit ℕ (UR sig nD τ) ℕ cfg0 c := (dats m 0 c).toRRel fgt (Rl m c)

set_option backward.isDefEq.respectTransparency.types false in
/-- The launch: every array at what the region leaves, every other buffer as the region found it, all counters at zero. -/
theorem run_main : θ_run defs (onTc (τ := τ) (main (F := F))) (s₀ m ρ)
    (fun r => RDat.FramePost (cfgs 0) (rdats m) (V m) r ∧ r.2.sem = fun _ => 0) :=
  RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m)
    (hin := fun c => by rw [show (rdats m c).Φ 0 = Phi m c 0 from rfl, Phi_start m c rfl])
    (hout := fun c => by rw [show (rdats m c).Φ (Fin.last cfg0.N) = Phi m c cfg0.N from rfl, Phi_start m c (by rw [show cfg0.N = 16 from N_0])])

/-- The argument arrays end as they were. -/
theorem args_of {r : PUnit × MemSt nD τ sig (Elt F)} (h : RDat.FramePost (cfgs 0) (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c)⟩

/-- The frame: every execution terminates with the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_of m h.1 c, h.2⟩) (run_main m ρ)

end Cert.Act

end
-- ==== Proof.Blocks.lean ====
/- The input windows' blocks at a point, read at an index: point `8 j + i` takes the rows of tile `7 - i` and the columns of
   tile `j`. -/
module

public import proofs.«01_k».proof.Proof.Chain
public import Idealize.ShloMosaic.Lib.Pointwise
public import Idealize.ShloMosaic.Lib.Pipeline.ValueKit

@[expose] public section

set_option maxRecDepth 16384

noncomputable section

namespace Cert.Act

open Cert.KernelIdeal Cert.KernelIdeal.Gen
open Idealize.ShloMosaic Idealize.ShloMosaic.TcCoe
open Idealize.ShloMosaic.Pointwise

variable {F : FTy → Type} [FloatOps F] [Named F]
variable (m : (ℓ : Loc nD τ sig) → Buf (Elt F) ℓ) (c : Dev nD)

/-- The first row of a row tile, the last tile first. -/
def rb (i : ℕ) : ℕ := (7 - i) * 512
/-- The first column of a column tile. -/
def cb (j : ℕ) : ℕ := j * 1408

theorem rb_lt {i : ℕ} (r : Fin 512) : rb i + r.val < 4096 := by unfold rb; omega
theorem cb_lt {j : ℕ} (hj : j < 2) (l : Fin 1408) : cb j + l.val < 2816 := by unfold cb; omega

/-- A row of a row tile. -/
abbrev rI (i : ℕ) (r : Fin 512) : Fin 4096 := ⟨rb i + r.val, rb_lt r⟩
/-- A column of a column tile. -/
abbrev cI {j : ℕ} (hj : j < 2) (l : Fin 1408) : Fin 2816 := ⟨cb j + l.val, cb_lt hj l⟩

theorem ix0 : ∀ t : Fin cfg0.N, win0_0.index t (0 : Fin 2) = 7 - t.val % 8 := by decide +kernel
theorem ix0' : ∀ t : Fin cfg0.N, win0_0.index t (1 : Fin 2) = 0 := by decide +kernel
theorem ix1 : ∀ t : Fin cfg0.N, win0_1.index t (0 : Fin 2) = t.val / 8 := by decide +kernel
theorem ix1' : ∀ t : Fin cfg0.N, win0_1.index t (1 : Fin 2) = 0 := by decide +kernel
theorem ix2_ : ∀ t : Fin cfg0.N, win0_2.index t (0 : Fin 2) = 7 - t.val % 8 := by decide +kernel
theorem ix2' : ∀ t : Fin cfg0.N, win0_2.index t (1 : Fin 2) = t.val / 8 := by decide +kernel
theorem ix3_ : ∀ t : Fin cfg0.N, win0_3.index t (0 : Fin 2) = 7 - t.val % 8 := by decide +kernel
theorem ix3' : ∀ t : Fin cfg0.N, win0_3.index t (1 : Fin 2) = t.val / 8 := by decide +kernel
theorem ix4_ : ∀ t : Fin cfg0.N, win0_4.index t (0 : Fin 2) = 7 - t.val % 8 := by decide +kernel
theorem ix4' : ∀ t : Fin cfg0.N, win0_4.index t (1 : Fin 2) = t.val / 8 := by decide +kernel
theorem ix5 : ∀ t : Fin cfg0.N, win0_5.index t (0 : Fin 2) = 7 - t.val % 8 := by decide +kernel
theorem ix5' : ∀ t : Fin cfg0.N, win0_5.index t (1 : Fin 2) = t.val / 8 := by decide +kernel
theorem ix6 : ∀ t : Fin cfg0.N, win0_6.index t (0 : Fin 2) = 0 := by decide +kernel
theorem ix6' : ∀ t : Fin cfg0.N, win0_6.index t (1 : Fin 2) = t.val / 8 := by decide +kernel

theorem pt_row {j i : ℕ} (hj : j < 2) (hi : i < 8) : (pt (8 * j + i)).val % 8 = i := by
  show (8 * j + i) % 16 % 8 = i; omega
theorem pt_col {j i : ℕ} (hj : j < 2) (hi : i < 8) : (pt (8 * j + i)).val / 8 = j := by
  show (8 * j + i) % 16 / 8 = j; omega

theorem bDy_apply {j i : ℕ} (hj : j < 2) (hi : i < 8) (r : Fin 512) (k : Fin 1024) :
    bDy m c (8 * j + i) (ix2 r k) = V m c main_v37 (ix2 (rI i r) k) := by
  show V m c main_v37 (((cfg0.win 0).blk (pt (8 * j + i))).view.emb (ix2 r k)) = _
  refine congrArg (V m c main_v37) (funext fun a => Fin.ext ?_)
  match a with
  | ⟨0, _⟩ =>
    show win0_0.index (pt (8 * j + i)) 0 * 512 + 1 * r.val = _
    rw [ix0, pt_row hj hi, Nat.one_mul]; rfl
  | ⟨1, _⟩ =>
    show win0_0.index (pt (8 * j + i)) 1 * 1024 + 1 * k.val = _
    rw [ix0', Nat.zero_mul, Nat.zero_add, Nat.one_mul]; rfl

theorem bW_apply {j i : ℕ} (hj : j < 2) (hi : i < 8) (l : Fin 1408) (k : Fin 1024) :
    bW m c (8 * j + i) (ix2 l k) = V m c main_v38 (ix2 (cI hj l) k) := by
  show V m c main_v38 (((cfg0.win 1).blk (pt (8 * j + i))).view.emb (ix2 l k)) = _
  refine congrArg (V m c main_v38) (funext fun a => Fin.ext ?_)
  match a with
  | ⟨0, _⟩ =>
    show win0_1.index (pt (8 * j + i)) 0 * 1408 + 1 * l.val = _
    rw [ix1, pt_col hj hi, Nat.one_mul]; rfl
  | ⟨1, _⟩ =>
    show win0_1.index (pt (8 * j + i)) 1 * 1024 + 1 * k.val = _
    rw [ix1', Nat.zero_mul, Nat.zero_add, Nat.one_mul]; rfl

theorem bAp_apply {j i : ℕ} (hj : j < 2) (hi : i < 8) (r : Fin 512) (l : Fin 1408) :
    bAp m c (8 * j + i) (ix2 r l) = V m c main_v39 (ix2 (rI i r) (cI hj l)) := by
  show V m c main_v39 (((cfg0.win 2).blk (pt (8 * j + i))).view.emb (ix2 r l)) = _
  refine congrArg (V m c main_v39) (funext fun a => Fin.ext ?_)
  match a with
  | ⟨0, _⟩ =>
    show win0_2.index (pt (8 * j + i)) 0 * 512 + 1 * r.val = _
    rw [ix2_, pt_row hj hi, Nat.one_mul]; rfl
  | ⟨1, _⟩ =>
    show win0_2.index (pt (8 * j + i)) 1 * 1408 + 1 * l.val = _
    rw [ix2', pt_col hj hi, Nat.one_mul]; rfl

theorem bA_apply {j i : ℕ} (hj : j < 2) (hi : i < 8) (r : Fin 512) (l : Fin 1408) :
    bA m c (8 * j + i) (ix2 r l) = V m c main_v26 (ix2 (rI i r) (cI hj l)) := by
  show V m c main_v26 (((cfg0.win 3).blk (pt (8 * j + i))).view.emb (ix2 r l)) = _
  refine congrArg (V m c main_v26) (funext fun a => Fin.ext ?_)
  match a with
  | ⟨0, _⟩ =>
    show win0_3.index (pt (8 * j + i)) 0 * 512 + 1 * r.val = _
    rw [ix3_, pt_row hj hi, Nat.one_mul]; rfl
  | ⟨1, _⟩ =>
    show win0_3.index (pt (8 * j + i)) 1 * 1408 + 1 * l.val = _
    rw [ix3', pt_col hj hi, Nat.one_mul]; rfl

theorem bBl_apply {j i : ℕ} (hj : j < 2) (hi : i < 8) (r : Fin 512) (l : Fin 1408) :
    bBl m c (8 * j + i) (ix2 r l) = V m c main_v40 (ix2 (rI i r) (cI hj l)) := by
  show V m c main_v40 (((cfg0.win 4).blk (pt (8 * j + i))).view.emb (ix2 r l)) = _
  refine congrArg (V m c main_v40) (funext fun a => Fin.ext ?_)
  match a with
  | ⟨0, _⟩ =>
    show win0_4.index (pt (8 * j + i)) 0 * 512 + 1 * r.val = _
    rw [ix4_, pt_row hj hi, Nat.one_mul]; rfl
  | ⟨1, _⟩ =>
    show win0_4.index (pt (8 * j + i)) 1 * 1408 + 1 * l.val = _
    rw [ix4', pt_col hj hi, Nat.one_mul]; rfl

theorem bH_apply {j i : ℕ} (hj : j < 2) (hi : i < 8) (r : Fin 512) (l : Fin 1408) :
    bH m c (8 * j + i) (ix2 r l) = V m c main_v41 (ix2 (rI i r) (cI hj l)) := by
  show V m c main_v41 (((cfg0.win 5).blk (pt (8 * j + i))).view.emb (ix2 r l)) = _
  refine congrArg (V m c main_v41) (funext fun a => Fin.ext ?_)
  match a with
  | ⟨0, _⟩ =>
    show win0_5.index (pt (8 * j + i)) 0 * 512 + 1 * r.val = _
    rw [ix5, pt_row hj hi, Nat.one_mul]; rfl
  | ⟨1, _⟩ =>
    show win0_5.index (pt (8 * j + i)) 1 * 1408 + 1 * l.val = _
    rw [ix5', pt_col hj hi, Nat.one_mul]; rfl

theorem bCw_apply {j i : ℕ} (hj : j < 2) (hi : i < 8) (r : Fin 8) (l : Fin 1408) :
    bCw m c (8 * j + i) (ix2 r l) = V m c main_v36 (ix2 r (cI hj l)) := by
  show V m c main_v36 (((cfg0.win 6).blk (pt (8 * j + i))).view.emb (ix2 r l)) = _
  refine congrArg (V m c main_v36) (funext fun a => Fin.ext ?_)
  match a with
  | ⟨0, _⟩ =>
    show win0_6.index (pt (8 * j + i)) 0 * 8 + 1 * r.val = _
    rw [ix6, Nat.zero_mul, Nat.zero_add, Nat.one_mul]; rfl
  | ⟨1, _⟩ =>
    show win0_6.index (pt (8 * j + i)) 1 * 1408 + 1 * l.val = _
    rw [ix6', pt_col hj hi, Nat.one_mul]; rfl

end Cert.Act

end
-- ==== Proof.ChainValue.lean ====
/- The kernel's buffers at every point, in closed form over the extended reals: the derivative block is the whole derivative
   array's rows, the carried rows are the ones after them, and the accumulated rows are sums over all rows from the
   tile's first to the array's last. -/
module

public import proofs.«01_k».proof.Proof.Blocks
public import proofs.«01_k».proof.Proof.StepValue

@[expose] public section

set_option maxRecDepth 16384

noncomputable section

namespace Cert.Act

open Cert.KernelIdeal Cert.KernelIdeal.Gen
open Idealize.ShloMosaic Idealize.ShloMosaic.TcCoe
open Idealize.ShloMosaic.Pointwise

variable (m : (ℓ : Loc nD τ sig) → Buf (Elt Ideal) ℓ) (c : Dev nD)

/-- The output's gradient, as the call finds it. -/
abbrev aDy : S4096x1024.Idx → EReal := V (F := Ideal) m c main_v37
/-- The down weight. -/
abbrev aW : S2816x1024.Idx → EReal := V (F := Ideal) m c main_v38
/-- The convolution's input. -/
abbrev aAp : S4096x2816.Idx → EReal := V (F := Ideal) m c main_v39
/-- The convolution's output. -/
abbrev aA : S4096x2816.Idx → EReal := V (F := Ideal) m c main_v26
/-- The linear factor. -/
abbrev aBl : S4096x2816.Idx → EReal := V (F := Ideal) m c main_v40
/-- The product of activation and linear factor. -/
abbrev aH : S4096x2816.Idx → EReal := V (F := Ideal) m c main_v41
/-- The convolution weight. -/
abbrev aCw : S8x2816.Idx → EReal := V (F := Ideal) m c main_v36

/-- The gradient of the product of activation and linear factor. -/
def dhK (s : Fin 4096) (f : Fin 2816) : EReal := ∑ k : Fin 1024, aDy m c (ix2 s k) * aW m c (ix2 f k)
/-- The gradient of the convolution's output. -/
def dK (s : Fin 4096) (f : Fin 2816) : EReal := dhK m c s f * aBl m c (ix2 s f) * slopeK (aA m c (ix2 s f))
/-- The same by row number, zero past the last row. -/
def dz (f : Fin 2816) (s : ℕ) : EReal := if h : s < 4096 then dK m c ⟨s, h⟩ f else 0

theorem dN_apply {j i : ℕ} (hj : j < 2) (hi : i < 8) (r : Fin 512) (l : Fin 1408) :
    dN m c (8 * j + i) (ix2 r l) = dz m c (cI hj l) (rb i + r.val) := by
  have hs : (∑ k : Fin 1024, bDy m c (8 * j + i) (ix2 r k) * bW m c (8 * j + i) (ix2 l k)) = dhK m c (rI i r) (cI hj l) := by
    unfold dhK
    refine Finset.sum_congr rfl fun k _ => ?_
    rw [bDy_apply m c hj hi, bW_apply m c hj hi]
  unfold dN
  rw [dA_apply, hs, bBl_apply m c hj hi, bA_apply m c hj hi, dz, dif_pos (rb_lt r)]
  rfl

theorem carryIn_apply {j i : ℕ} (hj : j < 2) (hi : i < 8) (q : Fin 8) (l : Fin 1408) :
    carryIn m c (8 * j + i) (ix2 q l) = dz m c (cI hj l) (rb i + 512 + q.val) := by
  cases i with
  | zero =>
    rw [carryIn_start m c (by omega), zero_r, dz, dif_neg (by unfold rb; omega)]
  | succ i =>
    rw [carryIn_next m c (by omega), show 8 * j + (i + 1) - 1 = 8 * j + i by omega, outCarry_apply, dN_apply m c hj (by omega)]
    refine congrArg (dz m c (cI hj l)) ?_
    show rb i + q.val = rb (i + 1) + 512 + q.val
    unfold rb; omega

theorem up1_chain {j i : ℕ} (hj : j < 2) (hi : i < 8) (r : Fin 512) (l : Fin 1408) :
    up1 (dN m c (8 * j + i)) (carryIn m c (8 * j + i)) (ix2 r l) = dz m c (cI hj l) (rb i + r.val + 1) := by
  rw [up1_apply]
  by_cases h : r.val + 1 < 512
  · rw [dif_pos h, dN_apply m c hj hi]; rfl
  · rw [dif_neg h, carryIn_apply m c hj hi]
    refine congrArg (dz m c (cI hj l)) ?_
    show rb i + 512 + 0 = rb i + r.val + 1; omega

theorem up2_chain {j i : ℕ} (hj : j < 2) (hi : i < 8) (r : Fin 512) (l : Fin 1408) :
    up2 (dN m c (8 * j + i)) (carryIn m c (8 * j + i)) (ix2 r l) = dz m c (cI hj l) (rb i + r.val + 2) := by
  rw [up2_apply]
  by_cases h : r.val + 2 < 512
  · rw [dif_pos h, dN_apply m c hj hi]; rfl
  · rw [dif_neg h]
    by_cases h' : r.val = 510
    · rw [if_pos h', carryIn_apply m c hj hi]
      refine congrArg (dz m c (cI hj l)) ?_
      show rb i + 512 + 0 = rb i + r.val + 2; omega
    · rw [if_neg h', carryIn_apply m c hj hi]
      refine congrArg (dz m c (cI hj l)) ?_
      show rb i + 512 + 1 = rb i + r.val + 2; omega

/-- A buffer that starts at one tile's sum and adds the tile before's at every point holds the sum over all rows so far. -/
theorem tile_sum (g a : ℕ → EReal) (h0 : a 0 = 0 + ∑ r : Fin 512, g (rb 0 + r.val))
    (h1 : ∀ i, i + 1 < 8 → a (i + 1) = a i + ∑ r : Fin 512, g (rb (i + 1) + r.val)) :
    ∀ i, i < 8 → a i = ∑ x ∈ Finset.range (512 * (i + 1)), g (rb i + x) := by
  intro i
  induction i with
  | zero => intro _; rw [h0, zero_add, Finset.sum_range (fun x => g (rb 0 + x))]
  | succ i ih =>
    intro hi
    rw [h1 i hi, ih (by omega), show 512 * (i + 1 + 1) = 512 + 512 * (i + 1) by ring, Finset.sum_range_add, add_comm,
      Finset.sum_range (fun x => g (rb (i + 1) + x))]
    refine congrArg₂ (· + ·) rfl (Finset.sum_congr rfl fun x _ => congrArg g ?_)
    unfold rb; omega

/-- At a column tile's last point that is the sum over all rows. -/
theorem tile_sum_all (g a : ℕ → EReal) (h0 : a 0 = 0 + ∑ r : Fin 512, g (rb 0 + r.val))
    (h1 : ∀ i, i + 1 < 8 → a (i + 1) = a i + ∑ r : Fin 512, g (rb (i + 1) + r.val)) :
    a 7 = ∑ s : Fin 4096, g s.val := by
  rw [tile_sum g a h0 h1 7 (by decide), ← Finset.sum_range (fun x => g x)]
  refine Finset.sum_congr rfl fun x _ => congrArg g ?_
  unfold rb; omega

/-- The convolution's input by row number. -/
def apz (f : Fin 2816) (s : ℕ) : EReal := if h : s < 4096 then aAp m c (ix2 ⟨s, h⟩ f) else 0

theorem bAp_z {j i : ℕ} (hj : j < 2) (hi : i < 8) (r : Fin 512) (l : Fin 1408) :
    bAp m c (8 * j + i) (ix2 r l) = apz m c (cI hj l) (rb i + r.val) := by
  rw [bAp_apply m c hj hi, apz, dif_pos (rb_lt r)]

section Rows

variable {j : ℕ} (hj : j < 2) (l : Fin 1408)

theorem cwN_row3 : cwN m c (8 * j + 7) (ix2 3 l) = ∑ s : Fin 4096, dz m c (cI hj l) s.val := by
  refine tile_sum_all (dz m c (cI hj l)) (fun i => cwN m c (8 * j + i) (ix2 3 l)) ?_ fun i hi => ?_
  · show cwN m c (8 * j + 0) (ix2 3 l) = _
    rw [cwN_start m c (by omega), outCw_3, zero_c]
    exact congrArg (0 + ·) (Finset.sum_congr rfl fun r _ => dN_apply m c hj (by decide) r l)
  · show cwN m c (8 * j + (i + 1)) (ix2 3 l) = _
    rw [cwN_next m c (by omega), outCw_3]
    exact congrArg₂ (· + ·) rfl (Finset.sum_congr rfl fun r _ => dN_apply m c hj hi r l)

theorem cwN_row2 : cwN m c (8 * j + 7) (ix2 2 l) = ∑ s : Fin 4096, apz m c (cI hj l) s.val * dz m c (cI hj l) s.val := by
  refine tile_sum_all (fun s => apz m c (cI hj l) s * dz m c (cI hj l) s) (fun i => cwN m c (8 * j + i) (ix2 2 l)) ?_ fun i hi => ?_
  · show cwN m c (8 * j + 0) (ix2 2 l) = _
    rw [cwN_start m c (by omega), outCw_2, zero_c]
    refine congrArg (0 + ·) (Finset.sum_congr rfl fun r _ => ?_)
    rw [bAp_z m c hj (by decide), dN_apply m c hj (by decide)]
  · show cwN m c (8 * j + (i + 1)) (ix2 2 l) = _
    rw [cwN_next m c (by omega), outCw_2]
    refine congrArg₂ (· + ·) rfl (Finset.sum_congr rfl fun r _ => ?_)
    rw [bAp_z m c hj hi, dN_apply m c hj hi]

theorem cwN_row1 : cwN m c (8 * j + 7) (ix2 1 l) = ∑ s : Fin 4096, apz m c (cI hj l) s.val * dz m c (cI hj l) (s.val + 1) := by
  refine tile_sum_all (fun s => apz m c (cI hj l) s * dz m c (cI hj l) (s + 1)) (fun i => cwN m c (8 * j + i) (ix2 1 l)) ?_ fun i hi => ?_
  · show cwN m c (8 * j + 0) (ix2 1 l) = _
    rw [cwN_start m c (by omega), outCw_1, zero_c]
    refine congrArg (0 + ·) (Finset.sum_congr rfl fun r _ => ?_)
    rw [bAp_z m c hj (by decide), ← carryIn_start m c (n := 8 * j + 0) (by omega), up1_chain m c hj (by decide)]
  · show cwN m c (8 * j + (i + 1)) (ix2 1 l) = _
    rw [cwN_next m c (by omega), outCw_1]
    refine congrArg₂ (· + ·) rfl (Finset.sum_congr rfl fun r _ => ?_)
    rw [bAp_z m c hj hi, ← carryIn_next m c (n := 8 * j + (i + 1)) (by omega), up1_chain m c hj hi]

theorem cwN_row0 : cwN m c (8 * j + 7) (ix2 0 l) = ∑ s : Fin 4096, apz m c (cI hj l) s.val * dz m c (cI hj l) (s.val + 2) := by
  refine tile_sum_all (fun s => apz m c (cI hj l) s * dz m c (cI hj l) (s + 2)) (fun i => cwN m c (8 * j + i) (ix2 0 l)) ?_ fun i hi => ?_
  · show cwN m c (8 * j + 0) (ix2 0 l) = _
    rw [cwN_start m c (by omega), outCw_0, zero_c]
    refine congrArg (0 + ·) (Finset.sum_congr rfl fun r _ => ?_)
    rw [bAp_z m c hj (by decide), ← carryIn_start m c (n := 8 * j + 0) (by omega), up2_chain m c hj (by decide)]
  · show cwN m c (8 * j + (i + 1)) (ix2 0 l) = _
    rw [cwN_next m c (by omega), outCw_0]
    refine congrArg₂ (· + ·) rfl (Finset.sum_congr rfl fun r _ => ?_)
    rw [bAp_z m c hj hi, ← carryIn_next m c (n := 8 * j + (i + 1)) (by omega), up2_chain m c hj hi]

/-- The last four rows stay zero. -/
theorem cwN_rest (p : Fin 8) (hp : 4 ≤ p.val) : ∀ i, i < 8 → cwN m c (8 * j + i) (ix2 p l) = 0 := by
  intro i
  induction i with
  | zero => intro _; rw [cwN_start m c (by omega), outCw_rest _ _ _ _ _ p hp, zero_c]
  | succ i ih =>
    intro hi
    rw [cwN_next m c (by omega), outCw_rest _ _ _ _ _ p hp]
    exact ih (by omega)

/-- The down weight's gradient, all rows summed. -/
theorem accN_all (k : Fin 1024) : accN m c (8 * j + 7) (ix2 l k)
    = ∑ s : Fin 4096, aH m c (ix2 s (cI hj l)) * aDy m c (ix2 s k) := by
  have h := tile_sum_all (fun s => if h : s < 4096 then aH m c (ix2 ⟨s, h⟩ (cI hj l)) * aDy m c (ix2 ⟨s, h⟩ k) else 0)
    (fun i => accN m c (8 * j + i) (ix2 l k)) ?_ fun i hi => ?_
  · refine h.trans (Finset.sum_congr rfl fun s _ => ?_)
    rw [dif_pos s.isLt]
  · show accN m c (8 * j + 0) (ix2 l k) = _
    rw [accN_start m c (by omega), outAcc_apply, zero_w]
    refine congrArg (0 + ·) (Finset.sum_congr rfl fun r _ => ?_)
    rw [bH_apply m c hj (by decide), bDy_apply m c hj (by decide), dif_pos (rb_lt r)]
  · show accN m c (8 * j + (i + 1)) (ix2 l k) = _
    rw [accN_next m c (by omega), outAcc_apply]
    refine congrArg₂ (· + ·) rfl (Finset.sum_congr rfl fun r _ => ?_)
    rw [bH_apply m c hj hi, bDy_apply m c hj hi, dif_pos (rb_lt r)]

end Rows

/-- The gradient of the convolution's input, at a point's block. -/
theorem outAp_chain {j i : ℕ} (hj : j < 2) (hi : i < 8) (r : Fin 512) (l : Fin 1408) :
    outAp (dN m c (8 * j + i)) (carryIn m c (8 * j + i)) (bCw m c (8 * j + i)) (ix2 r l)
      = aCw m c (ix2 2 (cI hj l)) * dz m c (cI hj l) (rb i + r.val) + aCw m c (ix2 1 (cI hj l)) * dz m c (cI hj l) (rb i + r.val + 1)
        + aCw m c (ix2 0 (cI hj l)) * dz m c (cI hj l) (rb i + r.val + 2) := by
  rw [outAp_apply, dN_apply m c hj hi, up1_chain m c hj hi, up2_chain m c hj hi, bCw_apply m c hj hi, bCw_apply m c hj hi, bCw_apply m c hj hi]

/-- The gradient of the linear factor, at a point's block. -/
theorem outBl_chain {j i : ℕ} (hj : j < 2) (hi : i < 8) (r : Fin 512) (l : Fin 1408) :
    outBl (bDy m c (8 * j + i)) (bW m c (8 * j + i)) (bA m c (8 * j + i)) (ix2 r l)
      = dhK m c (rI i r) (cI hj l) * (aA m c (ix2 (rI i r) (cI hj l)) * cdfK (aA m c (ix2 (rI i r) (cI hj l)))) := by
  rw [outBl_apply, bA_apply m c hj hi, dhK]
  refine congrArg (· * _) (Finset.sum_congr rfl fun k _ => ?_)
  rw [bDy_apply m c hj hi, bW_apply m c hj hi]

end Cert.Act

end
-- ==== Proof.GwValue.lean ====
/- The down weight's gradient buffer at an index: each column tile's last point puts four slabs, and after the second
   tile's every slab is one of the eight put. -/
module

public import proofs.«01_k».proof.Proof.ChainValue

@[expose] public section

set_option maxRecDepth 16384

noncomputable section

namespace Cert.Act

open Cert.KernelIdeal Cert.KernelIdeal.Gen
open Idealize.ShloMosaic Idealize.ShloMosaic.TcCoe
open Idealize.ShloMosaic.Pointwise
open Idealize.ShloMosaic.VecWindow

/-- A put of one slab, read at that slab. -/
theorem put_slab_same (x : S8x352x1024.Idx → EReal) (q : ℕ) (w : S1x352x1024.Idx → EReal) (b : Fin 8) (hb : b.val = q)
    (r : Fin 352) (k : Fin 1024) : put x ![q, 0, 0] S1x352x1024.size w (ix3 b r k) = w (ix3 0 r k) := by
  subst hb
  have hm : ∀ a : Fin 3, (![b.val, 0, 0] : Fin 3 → ℕ) a ≤ ((ix3 b r k : S8x352x1024.Idx) a).val
      ∧ ((ix3 b r k : S8x352x1024.Idx) a).val < (![b.val, 0, 0] : Fin 3 → ℕ) a + S1x352x1024.size a := fun a =>
    match a with
    | ⟨0, _⟩ => ⟨le_refl b.val, Nat.lt_succ_self b.val⟩
    | ⟨1, _⟩ => ⟨Nat.zero_le _, (by show r.val < 0 + 352; omega)⟩
    | ⟨2, _⟩ => ⟨Nat.zero_le _, (by show k.val < 0 + 1024; omega)⟩
  refine (dif_pos hm).trans (congrArg w (funext fun a => Fin.ext ?_))
  match a with
  | ⟨0, _⟩ => show b.val - b.val = 0; omega
  | ⟨1, _⟩ => show r.val - 0 = r.val; omega
  | ⟨2, _⟩ => show k.val - 0 = k.val; omega

/-- A put of one slab, read at another. -/
theorem put_slab_other (x : S8x352x1024.Idx → EReal) (q : ℕ) (w : S1x352x1024.Idx → EReal) (b : Fin 8) (hb : b.val ≠ q)
    (r : Fin 352) (k : Fin 1024) : put x ![q, 0, 0] S1x352x1024.size w (ix3 b r k) = x (ix3 b r k) :=
  dif_neg fun hm => hb (by
    have h0 := hm 0
    have h1 : q ≤ b.val := h0.1
    have h2 : b.val < q + 1 := h0.2
    omega)

/-- A row block of the accumulator at an index. -/
theorem window_acc (x : S1408x1024.Idx → EReal) (q : ℕ) (hq : q + 352 ≤ 1408) (inb) (r : Fin 352) (k : Fin 1024) :
    window x ![q, 0] S352x1024.size inb (ix2 r k) = x (ix2 ⟨q + r.val, by omega⟩ k) := by
  refine congrArg x (funext fun a => Fin.ext ?_)
  match a with
  | ⟨0, _⟩ => show q + 1 * r.val = q + r.val; omega
  | ⟨1, _⟩ => show 0 + 1 * k.val = k.val; omega

variable (x : Vec Ideal S352x1024 .f32) (r : Fin 352) (k : Fin 1024)

theorem pay3_apply : k0_pay3 x (ix3 0 r k) = x (ix2 r k) := by pointwise [k0_pay3]
theorem pay4_apply : k0_pay4 x (ix3 0 r k) = x (ix2 r k) := by pointwise [k0_pay4]
theorem pay5_apply : k0_pay5 x (ix3 0 r k) = x (ix2 r k) := by pointwise [k0_pay5]
theorem pay6_apply : k0_pay2 (k0_pay6 x) (ix3 0 r k) = x (ix2 r k) := by pointwise [k0_pay2, k0_pay6]

theorem off_7 : k0_off1 (grid0.coords (pt 7)) 0#32 0#32 = ![0, 0, 0] ∧ k0_off1 (grid0.coords (pt 7)) 4#32 0#32 = ![4, 0, 0]
    ∧ k0_off1 (grid0.coords (pt 7)) 0#32 1#32 = ![1, 0, 0] ∧ k0_off1 (grid0.coords (pt 7)) 4#32 1#32 = ![5, 0, 0] := by
  decide +kernel
theorem off_15 : k0_off1 (grid0.coords (pt 15)) 0#32 0#32 = ![2, 0, 0] ∧ k0_off1 (grid0.coords (pt 15)) 4#32 0#32 = ![6, 0, 0]
    ∧ k0_off1 (grid0.coords (pt 15)) 0#32 1#32 = ![3, 0, 0] ∧ k0_off1 (grid0.coords (pt 15)) 4#32 1#32 = ![7, 0, 0] := by
  decide +kernel

variable (acc : Vec Ideal S1408x1024 .f32) (old : Vec Ideal S8x352x1024 .bf16)

/-- Four slabs put at given places, read at an index. -/
theorem slabs (i : grid0.Coords) (q0 q1 q2 q3 : ℕ) (h : k0_off1 i 0#32 0#32 = ![q0, 0, 0] ∧ k0_off1 i 4#32 0#32 = ![q1, 0, 0]
    ∧ k0_off1 i 0#32 1#32 = ![q2, 0, 0] ∧ k0_off1 i 4#32 1#32 = ![q3, 0, 0]) (b : Fin 8) :
    outGw i acc old (ix3 b r k) =
      if b.val = q3 then acc (ix2 ⟨1056 + r.val, by omega⟩ k) else if b.val = q2 then acc (ix2 ⟨704 + r.val, by omega⟩ k)
      else if b.val = q1 then acc (ix2 ⟨352 + r.val, by omega⟩ k) else if b.val = q0 then acc (ix2 ⟨0 + r.val, by omega⟩ k)
      else old (ix3 b r k) := by
  unfold outGw
  rw [h.1, h.2.1, h.2.2.1, h.2.2.2]
  by_cases h3 : b.val = q3
  · rw [if_pos h3, put_slab_same _ _ _ _ h3, pay6_apply, window_acc _ 1056 (by decide)]
  rw [if_neg h3, put_slab_other _ _ _ _ h3]
  by_cases h2 : b.val = q2
  · rw [if_pos h2, put_slab_same _ _ _ _ h2, pay5_apply, window_acc _ 704 (by decide)]
  rw [if_neg h2, put_slab_other _ _ _ _ h2]
  by_cases h1 : b.val = q1
  · rw [if_pos h1, put_slab_same _ _ _ _ h1, pay4_apply, window_acc _ 352 (by decide)]
  rw [if_neg h1, put_slab_other _ _ _ _ h1]
  by_cases h0 : b.val = q0
  · rw [if_pos h0, put_slab_same _ _ _ _ h0, pay3_apply, window_acc _ 0 (by decide)]
  rw [if_neg h0, put_slab_other _ _ _ _ h0]

/-- The column of slab `b`, row `r`. -/
def gcol (b : Fin 8) (r : Fin 352) : Fin 2816 := ⟨((b.val % 4) * 2 + b.val / 4) * 352 + r.val, by omega⟩

variable (m : (ℓ : Loc nD τ sig) → Buf (Elt Ideal) ℓ) (c : Dev nD)

/-- The two tiles' slabs hold the whole gradient. -/
theorem gw_value (Y : Vec Ideal S8x352x1024 .bf16) (b : Fin 8) :
    outGw (grid0.coords (pt 15)) (accN m c 15) (outGw (grid0.coords (pt 7)) (accN m c 7) Y) (ix3 b r k)
      = ∑ s : Fin 4096, aH m c (ix2 s (gcol b r)) * aDy m c (ix2 s k) := by
  have e1 : ∀ l : Fin 1408, accN m c 15 (ix2 l k) = ∑ s : Fin 4096, aH m c (ix2 s (cI (j := 1) (by decide) l)) * aDy m c (ix2 s k) :=
    fun l => accN_all m c (j := 1) (by decide) l k
  have e0 : ∀ l : Fin 1408, accN m c 7 (ix2 l k) = ∑ s : Fin 4096, aH m c (ix2 s (cI (j := 0) (by decide) l)) * aDy m c (ix2 s k) :=
    fun l => accN_all m c (j := 0) (by decide) l k
  have hc : ∀ f g : Fin 2816, f.val = g.val → (∑ s : Fin 4096, aH m c (ix2 s f) * aDy m c (ix2 s k))
      = ∑ s : Fin 4096, aH m c (ix2 s g) * aDy m c (ix2 s k) := fun f g h => by rw [Fin.ext h]
  rw [slabs r k _ _ _ _ _ _ _ off_15, slabs r k _ _ _ _ _ _ _ off_7, e1, e1, e1, e1, e0, e0, e0, e0]
  obtain ⟨b, hb⟩ := b
  interval_cases b
  all_goals first | rw [if_pos rfl] | (repeat' first | rw [if_pos rfl] | rw [if_neg (by decide)])
  all_goals exact hc _ _ (by dsimp only [gcol, cI, cb]; omega)

end Cert.Act

end
-- ==== Proof.Results.lean ====
/- The four result arrays after the run, element by element. -/
module

public import proofs.«01_k».proof.Proof.Launch
public import proofs.«01_k».proof.Proof.GwValue

@[expose] public section

set_option maxRecDepth 16384

noncomputable section

namespace Cert.Act

open Cert.KernelIdeal Cert.KernelIdeal.Gen
open Idealize.ShloMosaic Idealize.ShloMosaic.TcCoe
open Idealize.ShloMosaic.Pointwise
open Idealize.ShloMosaic.Pipeline (Dat RDat Cfg Window)

variable (m : (ℓ : Loc nD τ sig) → Buf (Elt Ideal) ℓ) (c : Dev nD)

/-- The gradient of the convolution's input. -/
def resAp : S4096x2816.Idx → EReal := fun i =>
  aCw m c (ix2 2 (i 1)) * dz m c (i 1) (i 0).val + aCw m c (ix2 1 (i 1)) * dz m c (i 1) ((i 0).val + 1)
    + aCw m c (ix2 0 (i 1)) * dz m c (i 1) ((i 0).val + 2)
/-- The gradient of the linear factor. -/
def resBl : S4096x2816.Idx → EReal := fun i =>
  dhK m c (i 0) (i 1) * (aA m c (ix2 (i 0) (i 1)) * cdfK (aA m c (ix2 (i 0) (i 1))))
/-- The gradient of the down weight. -/
def resGw : S8x352x1024.Idx → EReal := fun i =>
  ∑ s : Fin 4096, aH m c (ix2 s (gcol (i 0) (i 1))) * aDy m c (ix2 s (i 2))
/-- The gradient of the convolution's weight rows and of its bias, and rows of zeros. -/
def resCw : S8x2816.Idx → EReal := fun i =>
  if (i 0).val = 0 then ∑ s : Fin 4096, apz m c (i 1) s.val * dz m c (i 1) (s.val + 2)
  else if (i 0).val = 1 then ∑ s : Fin 4096, apz m c (i 1) s.val * dz m c (i 1) (s.val + 1)
  else if (i 0).val = 2 then ∑ s : Fin 4096, apz m c (i 1) s.val * dz m c (i 1) s.val
  else if (i 0).val = 3 then ∑ s : Fin 4096, dz m c (i 1) s.val
  else 0

theorem ix7 : ∀ t : Fin cfg0.N, win0_7.index t (0 : Fin 2) = 7 - t.val % 8 := by decide +kernel
theorem ix7' : ∀ t : Fin cfg0.N, win0_7.index t (1 : Fin 2) = t.val / 8 := by decide +kernel
theorem ix8 : ∀ t : Fin cfg0.N, win0_8.index t (0 : Fin 2) = 7 - t.val % 8 := by decide +kernel
theorem ix8' : ∀ t : Fin cfg0.N, win0_8.index t (1 : Fin 2) = t.val / 8 := by decide +kernel
theorem ix10 : ∀ t : Fin cfg0.N, win0_10.index t (0 : Fin 2) = 0 := by decide +kernel
theorem ix10' : ∀ t : Fin cfg0.N, win0_10.index t (1 : Fin 2) = t.val / 8 := by decide +kernel
theorem flush10 : ∀ t : Fin cfg0.N, (cfg0.win 10).flush t = true → t.val % 8 = 7 := by decide +kernel

/-- A point is a column tile's point. -/
theorem pt_split (t : Fin cfg0.N) : ∃ j i : ℕ, j < 2 ∧ i < 8 ∧ t = pt (8 * j + i) ∧ t.val = 8 * j + i := by
  have h : t.val < 16 := t.isLt
  refine ⟨t.val / 8, t.val % 8, by omega, by omega, Fin.ext ?_, by omega⟩
  show t.val = (8 * (t.val / 8) + t.val % 8) % 16
  omega

/-- Where the gradient blocks lie in their arrays. -/
theorem emb_7 {j i : ℕ} (hj : j < 2) (hi : i < 8) (r : Fin 512) (l : Fin 1408) :
    ((win0_7.blk (pt (8 * j + i))).view.emb (ix2 r l) : S4096x2816.Idx) = ix2 (rI i r) (cI hj l) := by
  refine funext fun a => Fin.ext ?_
  match a with
  | ⟨0, _⟩ =>
    show win0_7.index (pt (8 * j + i)) 0 * 512 + 1 * r.val = _
    rw [ix7, pt_row hj hi, Nat.one_mul]; rfl
  | ⟨1, _⟩ =>
    show win0_7.index (pt (8 * j + i)) 1 * 1408 + 1 * l.val = _
    rw [ix7', pt_col hj hi, Nat.one_mul]; rfl
theorem emb_8 {j i : ℕ} (hj : j < 2) (hi : i < 8) (r : Fin 512) (l : Fin 1408) :
    ((win0_8.blk (pt (8 * j + i))).view.emb (ix2 r l) : S4096x2816.Idx) = ix2 (rI i r) (cI hj l) := by
  refine funext fun a => Fin.ext ?_
  match a with
  | ⟨0, _⟩ =>
    show win0_8.index (pt (8 * j + i)) 0 * 512 + 1 * r.val = _
    rw [ix8, pt_row hj hi, Nat.one_mul]; rfl
  | ⟨1, _⟩ =>
    show win0_8.index (pt (8 * j + i)) 1 * 1408 + 1 * l.val = _
    rw [ix8', pt_col hj hi, Nat.one_mul]; rfl
theorem emb_10 {j i : ℕ} (hj : j < 2) (hi : i < 8) (q : Fin 8) (l : Fin 1408) :
    ((win0_10.blk (pt (8 * j + i))).view.emb (ix2 q l) : S8x2816.Idx) = ix2 q (cI hj l) := by
  refine funext fun a => Fin.ext ?_
  match a with
  | ⟨0, _⟩ =>
    show win0_10.index (pt (8 * j + i)) 0 * 8 + 1 * q.val = _
    rw [ix10, Nat.one_mul, Nat.zero_mul, Nat.zero_add]; rfl
  | ⟨1, _⟩ =>
    show win0_10.index (pt (8 * j + i)) 1 * 1408 + 1 * l.val = _
    rw [ix10', pt_col hj hi, Nat.one_mul]; rfl

/-- A column tile's last point leaves the weight gradient's columns. -/
theorem cw_block {j : ℕ} (hj : j < 2) (q : Fin 8) (l : Fin 1408) : cwN m c (8 * j + 7) (ix2 q l) = resCw m c (ix2 q (cI hj l)) := by
  show _ = if q.val = 0 then _ else if q.val = 1 then _ else if q.val = 2 then _ else if q.val = 3 then _ else _
  by_cases h0 : q.val = 0
  · rw [if_pos h0, show q = 0 from Fin.ext h0]; exact cwN_row0 m c hj l
  rw [if_neg h0]
  by_cases h1 : q.val = 1
  · rw [if_pos h1, show q = 1 from Fin.ext h1]; exact cwN_row1 m c hj l
  rw [if_neg h1]
  by_cases h2 : q.val = 2
  · rw [if_pos h2, show q = 2 from Fin.ext h2]; exact cwN_row2 m c hj l
  rw [if_neg h2]
  by_cases h3 : q.val = 3
  · rw [if_pos h3, show q = 3 from Fin.ext h3]; exact cwN_row3 m c hj l
  rw [if_neg h3]
  exact cwN_rest (j := j) m c l q (by omega) 7 (by decide)

variable {r : PUnit × MemSt nD τ sig (Elt Ideal)} (h : RDat.FramePost (cfgs 0) (rdats m) (V m) r)

include h

theorem arr_7 : r.2.mem ((c.tc : Thread nD τ).loc main_v42_0) = resAp m c := by
  obtain ⟨after, hL, hA⟩ := h.exists_exact c
  refine (hA 7).trans (((rdats m c).withAfter after).arrAt_eq_of_covers 7 (resAp m c) (by decide +kernel) fun t hf y => ?_)
  obtain ⟨Y, _, hX⟩ := hL 7 t hf
  rw [show (rdats m c).after 7 = (dats m 0 c).toR.after 7 from Dat.toRRel_after_of_eq_false _ rfl] at hX
  have e : after 7 t = outAp (dN m c t.val) (carryIn m c t.val) (bCw m c t.val) := by
    rw [← after_7]; exact hX
  blk_simp
  show after 7 t y = _
  rw [e]
  obtain ⟨j, i, hj, hi, rfl, ht⟩ := pt_split t
  rw [ht]
  obtain ⟨q, l, rfl⟩ : ∃ (q : Fin 512) (l : Fin 1408), y = ix2 q l := ⟨y 0, y 1, eq_ix2 y⟩
  exact (outAp_chain m c hj hi q l).trans (congrArg (resAp m c) (emb_7 hj hi q l)).symm

theorem arr_8 : r.2.mem ((c.tc : Thread nD τ).loc main_v42_1) = resBl m c := by
  obtain ⟨after, hL, hA⟩ := h.exists_exact c
  refine (hA 8).trans (((rdats m c).withAfter after).arrAt_eq_of_covers 8 (resBl m c) (by decide +kernel) fun t hf y => ?_)
  obtain ⟨Y, _, hX⟩ := hL 8 t hf
  rw [show (rdats m c).after 8 = (dats m 0 c).toR.after 8 from Dat.toRRel_after_of_eq_false _ rfl] at hX
  have e : after 8 t = outBl (bDy m c t.val) (bW m c t.val) (bA m c t.val) := by
    rw [← after_8]; exact hX
  blk_simp
  show after 8 t y = _
  rw [e]
  obtain ⟨j, i, hj, hi, rfl, ht⟩ := pt_split t
  rw [ht]
  obtain ⟨q, l, rfl⟩ : ∃ (q : Fin 512) (l : Fin 1408), y = ix2 q l := ⟨y 0, y 1, eq_ix2 y⟩
  exact (outBl_chain m c hj hi q l).trans (congrArg (resBl m c) (emb_8 hj hi q l)).symm

theorem arr_10 : r.2.mem ((c.tc : Thread nD τ).loc main_v42_3) = resCw m c := by
  obtain ⟨after, hL, hA⟩ := h.exists_exact c
  refine (hA 10).trans (((rdats m c).withAfter after).arrAt_eq_of_covers 10 (resCw m c) (by decide +kernel) fun t hf y => ?_)
  obtain ⟨Y, _, hX⟩ := hL 10 t hf
  rw [show (rdats m c).after 10 = (dats m 0 c).toR.after 10 from Dat.toRRel_after_of_eq_false _ rfl] at hX
  have e : after 10 t = cwN m c t.val := by
    rw [← after_10]; exact hX
  blk_simp
  show after 10 t y = _
  rw [e]
  have h7 := flush10 t hf
  obtain ⟨j, i, hj, hi, rfl, ht⟩ := pt_split t
  obtain rfl : i = 7 := by omega
  rw [ht]
  obtain ⟨q, l, rfl⟩ : ∃ (q : Fin 8) (l : Fin 1408), y = ix2 q l := ⟨y 0, y 1, eq_ix2 y⟩
  exact (cw_block m c hj q l).trans (congrArg (resCw m c) (emb_10 hj hi q l)).symm

theorem arr_9 : r.2.mem ((c.tc : Thread nD τ).loc main_v42_2) = resGw m c := by
  obtain ⟨after, hL, hA⟩ := h.exists_exact c
  obtain ⟨Y, _, hX⟩ := hL 9 (pt 15) (by decide +kernel)
  rw [show (rdats m c).after 9 = fun t _ X => GwAt m c t.val X from Dat.toRRel_after_of_eq_true _ rfl] at hX
  obtain ⟨Z, e⟩ : ∃ Z, after 9 (pt 15) = outGw (grid0.coords (pt 15)) (accN m c 15) (outGw (grid0.coords (pt 7)) (accN m c 7) Z) := hX
  refine (hA 9).trans (funext fun y => ?_)
  refine (((rdats m c).withAfter after).arrAt_emb_eq_after_last 9 (pt 15) (by decide +kernel) y).trans ?_
  blk_simp
  show after 9 (pt 15) y = _
  rw [e]
  obtain ⟨b, q, k, rfl⟩ : ∃ (b : Fin 8) (q : Fin 352) (k : Fin 1024), y = ix3 b q k := ⟨y 0, y 1, y 2, eq_ix3 y⟩
  exact gw_value q k m c Z b

end Cert.Act

end
-- ==== Proof.Entry.lean ====
/- What the call's argument arrays hold when it starts, as the reference's own terms: the prefix of host operations is the
   reference's forward lines. -/
module

public import proofs.«01_k».proof.Proof.Chain
public import proofs.«01_k».proof.Proof.Gen.ReferenceIdeal.Read
public import Idealize.ShloMosaic.Lib.Claim
public import Idealize.ShloMosaic.Lib.StableHlo.RunRead

@[expose] public section

set_option maxRecDepth 16384

noncomputable section

namespace Cert.Act

open Cert.KernelIdeal Cert.KernelIdeal.Gen
open Idealize.ShloMosaic Idealize.ShloMosaic.TcCoe
open Cert.ReferenceIdeal.Read

variable {F : FTy → Type} [FloatOps F] [Named F]
variable (m : (ℓ : Loc nD τ sig) → Buf (Elt F) ℓ) (c : Dev nD)

/-- An argument array, as launched. -/
abbrev a0 : Vec F S4096x1024 .f32 := m ((c : Thread nD τ).loc main_arg0)
abbrev a1 : Vec F S1024x2816 .f32 := m ((c : Thread nD τ).loc main_arg1)
abbrev a2 : Vec F S1024x2816 .f32 := m ((c : Thread nD τ).loc main_arg2)
abbrev a3 : Vec F S3x2816 .f32 := m ((c : Thread nD τ).loc main_arg3)
abbrev a4 : Vec F S2816 .f32 := m ((c : Thread nD τ).loc main_arg4)
abbrev a5 : Vec F S2816x1024 .f32 := m ((c : Thread nD τ).loc main_arg5)
abbrev a6 : Vec F S4096x1024 .f32 := m ((c : Thread nD τ).loc main_arg6)

set_option maxHeartbeats 4000000 in
theorem V_v37 : V m c main_v37 = truncf .bf16 (a6 m c) bitsLt_bf16_f32 := by
  unfold V; after_reads_simp
set_option maxHeartbeats 4000000 in
theorem V_v38 : V m c main_v38 = truncf .bf16 (a5 m c) bitsLt_bf16_f32 := by
  unfold V; after_reads_simp
set_option maxHeartbeats 4000000 in
theorem V_v39 : V m c main_v39 = truncf .bf16 (val_main_v0 (a0 m c) (a1 m c)) bitsLt_bf16_f32 := by
  unfold V; after_reads_simp; rfl
set_option maxHeartbeats 4000000 in
theorem V_v40 : V m c main_v40 = truncf .bf16 (val_main_v1 (a0 m c) (a2 m c)) bitsLt_bf16_f32 := by
  unfold V; after_reads_simp; rfl
set_option maxHeartbeats 4000000 in
theorem V_v26 : V m c main_v26 = val_main_v27 (a0 m c) (a1 m c) (a3 m c) (a4 m c) := by
  unfold V; after_reads_simp; rfl
set_option maxHeartbeats 4000000 in
theorem V_v41 : V m c main_v41 = truncf .bf16 (val_main_v45 (a0 m c) (a1 m c) (a2 m c) (a3 m c) (a4 m c)) bitsLt_bf16_f32 := by
  unfold V; after_reads_simp; rfl
set_option maxHeartbeats 4000000 in
theorem V_v36 : V m c main_v36 = pad S8x2816 ![0, 0] ![5, 0] ![0, 0] (a3 m c) (sitofp .f32 (constantI S_ 32 0#32)) pads_S3x2816_S8x2816_050_000 h_S_ := by
  unfold V; after_reads_simp; rfl

end Cert.Act

end
-- ==== Proof.Equation.lean ====
/- The kernel's four result arrays are the reference's. -/
module

public import proofs.«01_k».proof.Proof.Entry
public import proofs.«01_k».proof.Proof.Results
public import proofs.«01_k».proof.Proof.Finite

@[expose] public section

set_option maxRecDepth 16384

noncomputable section

namespace Cert.Act

open Cert.KernelIdeal Cert.KernelIdeal.Gen
open Idealize.ShloMosaic Idealize.ShloMosaic.TcCoe
open Idealize.ShloMosaic.Pointwise
open Cert.ReferenceIdeal.Read

/-- Products of a sequence with a later part of another that ends, summed, are the products with the earlier part of the
    first. -/
theorem sum_shift (d : ℕ) (hd : d ≤ 4096) (u v : ℕ → EReal) (hv : ∀ s, 4096 ≤ s → v s = 0) :
    (∑ s : Fin 4096, u s.val * v (s.val + d)) = ∑ s : Fin 4096, v s.val * (if s.val < d then 0 else u (s.val - d)) := by
  rw [← Finset.sum_range (fun x => u x * v (x + d)), ← Finset.sum_range (fun x => v x * (if x < d then 0 else u (x - d)))]
  obtain ⟨n, hn⟩ := Nat.exists_eq_add_of_le hd
  have e1 : ∑ x ∈ Finset.range 4096, u x * v (x + d) = ∑ x ∈ Finset.range n, u x * v (x + d) := by
    rw [show 4096 = n + d by omega, Finset.sum_range_add]
    rw [Finset.sum_eq_zero (s := Finset.range d) fun x _ => by rw [hv _ (by omega), mul_zero], add_zero]
  have e2 : ∑ x ∈ Finset.range 4096, v x * (if x < d then 0 else u (x - d)) = ∑ x ∈ Finset.range n, v (d + x) * u x := by
    rw [hn, Finset.sum_range_add]
    rw [Finset.sum_eq_zero (s := Finset.range d) fun x hx => by rw [if_pos (Finset.mem_range.mp hx), mul_zero], zero_add]
    refine Finset.sum_congr rfl fun x _ => ?_
    rw [if_neg (by omega), Nat.add_sub_cancel_left]
  rw [e1, e2]
  exact Finset.sum_congr rfl fun x _ => by rw [mul_comm, Nat.add_comm]

variable (m : (ℓ : Loc nD τ sig) → Buf (Elt Ideal) ℓ) (c : Dev nD)

theorem aDy_eq : aDy m c = a6 m c := V_v37 m c
theorem aW_eq : aW m c = a5 m c := V_v38 m c
theorem aAp_eq : aAp m c = val_main_v0 (F := Ideal) (a0 m c) (a1 m c) := V_v39 m c
theorem aBl_eq : aBl m c = val_main_v1 (F := Ideal) (a0 m c) (a2 m c) := V_v40 m c
theorem aA_eq : aA m c = val_main_v27 (F := Ideal) (a0 m c) (a1 m c) (a3 m c) (a4 m c) := V_v26 m c
theorem aH_eq : aH m c = val_main_v45 (F := Ideal) (a0 m c) (a1 m c) (a2 m c) (a3 m c) (a4 m c) := V_v41 m c
theorem aCw_eq (q : Fin 8) (q' : Fin 3) (h : q.val = q'.val) (f : Fin 2816) : aCw m c (ix2 q f) = a3 m c (ix2 q' f) := by
  rw [show aCw m c = _ from V_v36 m c]
  obtain ⟨q, hq⟩ := q
  obtain ⟨q', hq'⟩ := q'
  obtain rfl : q = q' := h
  pointwise []
  rw [dif_pos hq']

/-- The down product's transpose. -/
theorem dhK_eq (s : Fin 4096) (f : Fin 2816) : dhK m c s f = ∑ k : Fin 1024, a6 m c (ix2 s k) * a5 m c (ix2 f k) := by
  unfold dhK; rw [aDy_eq, aW_eq]

/-- The gradient of the linear factor. -/
theorem resBl_eq : resBl m c = val_main_v104 (F := Ideal) (a0 m c) (a1 m c) (a3 m c) (a4 m c) (a5 m c) (a6 m c) := by
  funext i
  obtain ⟨s, f, rfl⟩ : ∃ (s : Fin 4096) (f : Fin 2816), i = ix2 s f := ⟨i 0, i 1, eq_ix2 i⟩
  refine Eq.trans ?_ (bl_read _ _ _ _ _ _ s f).symm
  rw [act_at, ← dhK_eq, ← aA_eq, mul_comm]
  rfl

/-- The gradient of the down weight. -/
theorem resGw_eq : resGw m c = val_main_v105 (F := Ideal) (a0 m c) (a1 m c) (a2 m c) (a3 m c) (a4 m c) (a6 m c) := by
  funext i
  obtain ⟨b, r, k, rfl⟩ : ∃ (b : Fin 8) (r : Fin 352) (k : Fin 1024), i = ix3 b r k := ⟨i 0, i 1, i 2, eq_ix3 i⟩
  refine Eq.trans ?_ (gw_read _ _ _ _ _ _ b r k).symm
  rw [← aH_eq, ← aDy_eq]
  show (∑ s : Fin 4096, aH m c (ix2 s (gcol b r)) * aDy m c (ix2 s k)) = _
  rw [show gcol b r = ⟨b.val % 4 * 704 + b.val / 4 * 352 + r.val, by omega⟩ from Fin.ext (by dsimp only [gcol]; omega)]
  exact Finset.sum_congr rfl fun s _ => mul_comm _ _

variable (h0 : ∀ i, IsReal (a0 m c i)) (h1 : ∀ i, IsReal (a1 m c i)) (h2 : ∀ i, IsReal (a2 m c i)) (h3 : ∀ i, IsReal (a3 m c i))
  (h4 : ∀ i, IsReal (a4 m c i)) (h5 : ∀ i, IsReal (a5 m c i)) (h6 : ∀ i, IsReal (a6 m c i))

include h0 h1 h2 h3 h4 h5 h6

/-- The gradient of the convolution's output. -/
theorem dK_eq (s : Fin 4096) (f : Fin 2816) :
    dK m c s f = val_main_v60 (F := Ideal) (a0 m c) (a1 m c) (a2 m c) (a3 m c) (a4 m c) (a5 m c) (a6 m c) (ix2 s f) := by
  obtain ⟨a, ha⟩ := a_real h0 h1 h3 h4 s f
  obtain ⟨ct, hct⟩ := ct_real h0 h2 h5 h6 s f
  rw [da_at _ _ _ _ _ _ _ s f a ct ha hct, ← ha, ← hct, ct_at, ← dhK_eq, ← aA_eq, ← aBl_eq]
  rfl

theorem dz_eq (f : Fin 2816) (s : ℕ) :
    dz m c f s = rz (a0 m c) (a1 m c) (a2 m c) (a3 m c) (a4 m c) (a5 m c) (a6 m c) f s := by
  unfold dz rz
  by_cases h : s < 4096
  · rw [dif_pos h, dif_pos h]; exact dK_eq m c h0 h1 h2 h3 h4 h5 h6 ⟨s, h⟩ f
  · rw [dif_neg h, dif_neg h]

/-- The gradient of the convolution's input. -/
theorem resAp_eq :
    resAp m c = val_main_v103 (F := Ideal) (a0 m c) (a1 m c) (a2 m c) (a3 m c) (a4 m c) (a5 m c) (a6 m c) := by
  funext i
  obtain ⟨s, f, rfl⟩ : ∃ (s : Fin 4096) (f : Fin 2816), i = ix2 s f := ⟨i 0, i 1, eq_ix2 i⟩
  refine Eq.trans ?_ (ap_read _ _ _ _ _ _ _ s f).symm
  rw [← dz_eq m c h0 h1 h2 h3 h4 h5 h6, ← dz_eq m c h0 h1 h2 h3 h4 h5 h6, ← dz_eq m c h0 h1 h2 h3 h4 h5 h6,
    ← aCw_eq m c 2 2 rfl, ← aCw_eq m c 1 1 rfl, ← aCw_eq m c 0 0 rfl]
  rfl

/-- The gradient of the weight rows and of the bias. -/
theorem resCw_eq :
    resCw m c = val_main_v102 (F := Ideal) (a0 m c) (a1 m c) (a2 m c) (a3 m c) (a4 m c) (a5 m c) (a6 m c) := by
  funext i
  obtain ⟨q, f, rfl⟩ : ∃ (q : Fin 8) (f : Fin 2816), i = ix2 q f := ⟨i 0, i 1, eq_ix2 i⟩
  refine Eq.trans ?_ (cw_read _ _ _ _ _ _ _ q f).symm
  have hz : ∀ s : Fin 4096, val_main_v60 (F := Ideal) (a0 m c) (a1 m c) (a2 m c) (a3 m c) (a4 m c) (a5 m c) (a6 m c) (ix2 s f) = dz m c f s.val := by
    intro s
    rw [dz, dif_pos s.isLt]; exact (dK_eq m c h0 h1 h2 h3 h4 h5 h6 s f).symm
  have hv : ∀ s, 4096 ≤ s → dz m c f s = 0 := fun s h => dif_neg (not_lt.mpr h)
  rw [sum0, sum1, sum2, sumB]
  simp only [hz, shift0, shift1, shift2, ← aAp_eq]
  have e : ∀ d (s : Fin 4096) (hs : s.val - d < 4096), aAp m c (ix2 ⟨s.val - d, hs⟩ f) = apz m c f (s.val - d) :=
    fun d s hs => by rw [apz, dif_pos hs]
  have e' : ∀ s : Fin 4096, aAp m c (ix2 s f) = apz m c f s.val := fun s => by rw [apz, dif_pos s.isLt]
  simp only [e, e']
  show (if q.val = 0 then ∑ s : Fin 4096, apz m c f s.val * dz m c f (s.val + 2)
    else if q.val = 1 then ∑ s : Fin 4096, apz m c f s.val * dz m c f (s.val + 1)
    else if q.val = 2 then ∑ s : Fin 4096, apz m c f s.val * dz m c f s.val
    else if q.val = 3 then ∑ s : Fin 4096, dz m c f s.val else 0) = _
  rw [sum_shift 2 (by decide) _ _ hv, sum_shift 1 (by decide) _ _ hv]
  simp only [mul_comm (apz m c f _)]
  rfl

end Cert.Act

end
-- ==== Proof.Precond.lean ====
/- The precondition, read: every element of every argument array is a real. -/
module

public import proofs.«01_k».proof.Defs
public import proofs.«01_k».proof.Proof.Entry
public import proofs.«01_k».proof.Proof.Finite

@[expose] public section

set_option maxRecDepth 16384

noncomputable section

namespace Cert.Act

open Cert.KernelIdeal
open Idealize.ShloMosaic Idealize.ShloMosaic.TcCoe

theorem args_real [Cert.Pre_finite.Facts] (m : (ℓ : Loc nD τ sig) → Buf (Elt Ideal) ℓ) (h : Cert.Pre_KernelIdeal_finite m) (c : Dev nD) :
    (∀ i, IsReal (a0 m c i)) ∧ (∀ i, IsReal (a1 m c i)) ∧ (∀ i, IsReal (a2 m c i)) ∧ (∀ i, IsReal (a3 m c i)) ∧ (∀ i, IsReal (a4 m c i))
      ∧ (∀ i, IsReal (a5 m c i)) ∧ (∀ i, IsReal (a6 m c i)) := by
  have hc := h c
  unfold Cert.Pre_finite.fn Cert.Pre_finite.fn_part1 at hc
  dsimp only at hc
  obtain ⟨h0, h1, h2, h3, h4, h5, h6⟩ := hc
  exact ⟨all_real (a0 m c) _ _ _ h0, all_real (a1 m c) _ _ _ h1, all_real (a2 m c) _ _ _ h2, all_real (a3 m c) _ _ _ h3,
    all_real (a4 m c) _ _ _ h4, all_real (a5 m c) _ _ _ h5, all_real (a6 m c) _ _ _ h6⟩

end Cert.Act

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Wgt.Same
public import proofs.«01_k».proof.Proof.Wgt.Results
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Mix.Same
public import proofs.«01_k».proof.Proof.Mix.Results
public import proofs.«01_k».proof.Proof.Mix.Precond
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Inp.Same
public import proofs.«01_k».proof.Proof.Inp.Results
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Dwn.Same
public import proofs.«01_k».proof.Proof.Dwn.Results
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Tail.Same
public import proofs.«01_k».proof.Proof.Tail.Results
public import proofs.«01_k».proof.Proof.Tail.Precond
public import proofs.«01_k».proof.Proof.Launch
public import proofs.«01_k».proof.Proof.Bits.Launch
public import proofs.«01_k».proof.Proof.Results
public import proofs.«01_k».proof.Proof.Equation
public import proofs.«01_k».proof.Proof.Precond
public import Idealize.ShloMosaic.Lib.Claim

@[expose] public section

set_option maxRecDepth 16384

noncomputable section

namespace Cert.Proof

open Idealize.ShloMosaic Idealize.ShloMosaic.TcCoe Idealize.SL.Sem

/-- The kernel's frame: the same run over the constants as printed (Proof/Bits/). -/
theorem frame_kernel : Cert.quiescent_Kernel (hKernel := Cert.Kernel.Gen.facts) := fun m ρ _ => Cert.ActBits.frame m ρ

/-- The reference declares no semaphore, so its counters end at zero. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2.2, sem_eq_zero_of_no_sems (by decide) r.2⟩)
    (Cert.ReferenceIdeal.Value.run (F := Ideal) m ρ)

/-- The two rounded constants, named. -/
theorem preserves : Cert.preserves_Kernel_KernelIdeal :=
  ⟨IdealRules.named_const.statement Cert.KernelIdeal.κ "inv_sqrt2" .f32 0x3F3504F3#32 (((Real.sqrt 2)⁻¹ : ℝ) : EReal) rfl,
   IdealRules.named_const.statement Cert.KernelIdeal.κ "inv_sqrt_2pi" .f32 0x3ECC422A#32 (((Real.sqrt (2 * Real.pi))⁻¹ : ℝ) : EReal) rfl⟩

/-- The kernel's four results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨Cert.Act.resAp m, Cert.Act.resBl m, Cert.Act.resGw m, Cert.Act.resCw m, ?_, ?_⟩
  · exact (θ_run (Cert.KernelIdeal.defs (F := Ideal)) _ _).mono
      (fun r h c => ⟨Cert.Act.arr_7 m c h.1, Cert.Act.arr_8 m c h.1, Cert.Act.arr_9 m c h.1, Cert.Act.arr_10 m c h.1, Cert.Act.args_of m h.1 c⟩)
      (Cert.Act.run_main (F := Ideal) m g)
  · refine (θ_run (Cert.ReferenceIdeal.defs (F := Ideal)) _ _).mono (fun r h c => ?_) (Cert.ReferenceIdeal.Value.run (F := Ideal) m' g')
    obtain ⟨r0, r1, r2, r3, hargs⟩ := h c
    obtain ⟨e0, e1, e2, e3, e4, e5, e6⟩ := hagree c
    letI := Cert.Pre_finite.Gen.facts
    obtain ⟨h0, h1, h2, h3, h4, h5, h6⟩ := Cert.Act.args_real m hpre c
    refine ⟨?_, ?_, ?_, ?_, hargs⟩
    · rw [r0, Cert.ReferenceIdeal.Read.val_main_v103_eq, e0, e1, e2, e3, e4, e5, e6]
      exact (Cert.Act.resAp_eq m c h0 h1 h2 h3 h4 h5 h6).symm
    · rw [r1, Cert.ReferenceIdeal.Read.val_main_v104_eq, e0, e1, e3, e4, e5, e6]
      exact (Cert.Act.resBl_eq m c).symm
    · rw [r2, Cert.ReferenceIdeal.Read.val_main_v105_eq, e0, e1, e2, e3, e4, e6]
      exact (Cert.Act.resGw_eq m c).symm
    · rw [r3, Cert.ReferenceIdeal.Read.val_main_v102_eq, e0, e1, e2, e3, e4, e5, e6]
      exact (Cert.Act.resCw_eq m c h0 h1 h2 h3 h4 h5 h6).symm

theorem frame_reference2 : Cert.quiescent_Reference2Ideal (hReference2Ideal := Cert.Reference2Ideal.Gen.facts) := fun m ρ _ =>
  (θ_run (Cert.Reference2Ideal.defs (F := Ideal)) _ _).mono
    (fun r h => ⟨fun c => (h c).2.2, sem_eq_zero_of_no_sems (by decide) r.2⟩)
    (Cert.Reference2Ideal.Value.run (F := Ideal) m ρ)

/-- The second call's two results are the reference's. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Wgt.res (Cert.Wgt.a0 m c) (Cert.Wgt.a1 m c), fun c => Cert.Wgt.res (Cert.Wgt.a0 m c) (Cert.Wgt.a2 m c), ?_, ?_⟩
  · exact (θ_run (Cert.Kernel2Ideal.defs (F := Ideal)) _ _).mono
      (fun r h c => ⟨Cert.Wgt.arr_3 m c h.1, Cert.Wgt.arr_4 m c h.1, Cert.Wgt.args_of m h.1 c⟩)
      (Cert.Wgt.run_main (F := Ideal) m g)
  · refine (θ_run (Cert.Reference2Ideal.defs (F := Ideal)) _ _).mono (fun r h c => ?_) (Cert.Reference2Ideal.Value.run (F := Ideal) m' g')
    obtain ⟨r0, r1, hargs⟩ := h c
    obtain ⟨e0, e1, e2⟩ := hagree c
    refine ⟨?_, ?_, hargs⟩
    · rw [r0, Cert.Reference2Ideal.Read.val_main_v11_eq, e0, e1]
      exact (Cert.Wgt.ref_b _ _).symm
    · rw [r1, Cert.Reference2Ideal.Read.val_main_v16_eq, e0, e2]
      exact (Cert.Wgt.ref_a _ _).symm

theorem frame_reference3 : Cert.quiescent_Reference3Ideal (hReference3Ideal := Cert.Reference3Ideal.Gen.facts) := fun m ρ _ =>
  (θ_run (Cert.Reference3Ideal.defs (F := Ideal)) _ _).mono
    (fun r h => ⟨fun c => (h c).2.2.2.2.2.2, sem_eq_zero_of_no_sems (by decide) r.2⟩)
    (Cert.Reference3Ideal.Value.run (F := Ideal) m ρ)

/-- The third call's six results are the reference's. -/
theorem algebraic3 : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hagree
  letI := Cert.Pre_finite3.Gen.facts
  have hr := fun c => Cert.Mix.args_real m c hpre
  refine ⟨fun c => Cert.Reference3Ideal.Read.val_main_v77 (F := Ideal) (Cert.Mix.a0 m c) (Cert.Mix.a1 m c) (Cert.Mix.a2 m c) (Cert.Mix.a3 m c) (Cert.Mix.a4 m c) (Cert.Mix.a5 m c) (Cert.Mix.a6 m c) (Cert.Mix.a7 m c) (Cert.Mix.a8 m c) (Cert.Mix.a9 m c),
    fun c => Cert.Reference3Ideal.Read.val_main_v81 (F := Ideal) (Cert.Mix.a0 m c) (Cert.Mix.a1 m c) (Cert.Mix.a2 m c) (Cert.Mix.a3 m c) (Cert.Mix.a4 m c) (Cert.Mix.a5 m c) (Cert.Mix.a6 m c) (Cert.Mix.a7 m c) (Cert.Mix.a8 m c) (Cert.Mix.a9 m c),
    fun c => Cert.Reference3Ideal.Read.val_main_v87 (F := Ideal) (Cert.Mix.a0 m c) (Cert.Mix.a1 m c) (Cert.Mix.a2 m c) (Cert.Mix.a3 m c) (Cert.Mix.a4 m c) (Cert.Mix.a5 m c) (Cert.Mix.a6 m c) (Cert.Mix.a7 m c) (Cert.Mix.a8 m c) (Cert.Mix.a9 m c),
    fun c => Cert.Reference3Ideal.Read.val_main_v82 (F := Ideal) (Cert.Mix.a0 m c) (Cert.Mix.a1 m c) (Cert.Mix.a2 m c) (Cert.Mix.a3 m c) (Cert.Mix.a4 m c) (Cert.Mix.a5 m c) (Cert.Mix.a6 m c) (Cert.Mix.a7 m c) (Cert.Mix.a8 m c) (Cert.Mix.a9 m c),
    fun c => Cert.Reference3Ideal.Read.val_main_v95 (F := Ideal) (Cert.Mix.a0 m c) (Cert.Mix.a1 m c) (Cert.Mix.a2 m c) (Cert.Mix.a3 m c) (Cert.Mix.a4 m c) (Cert.Mix.a5 m c) (Cert.Mix.a6 m c) (Cert.Mix.a7 m c) (Cert.Mix.a8 m c) (Cert.Mix.a9 m c),
    fun c => Cert.Reference3Ideal.Read.val_main_v94 (F := Ideal) (Cert.Mix.a0 m c) (Cert.Mix.a1 m c) (Cert.Mix.a2 m c) (Cert.Mix.a3 m c) (Cert.Mix.a5 m c) (Cert.Mix.a6 m c) (Cert.Mix.a7 m c) (Cert.Mix.a8 m c) (Cert.Mix.a9 m c), ?_, ?_⟩
  · exact (θ_run (Cert.Kernel3Ideal.defs (F := Ideal)) _ _).mono
      (fun r h c => ⟨Cert.Mix.arr_11 m c h.1 (hr c), Cert.Mix.arr_12 m c h.1 (hr c), Cert.Mix.arr_13 m c h.1 (hr c),
        Cert.Mix.arr_14 m c h.1 (hr c), Cert.Mix.arr_15 m c h.1 (hr c), Cert.Mix.arr_16 m c h.1, h.2 c⟩)
      (θ_run_and (Cert.Kernel3Ideal.Gen.run_main (F := Ideal) m g) (Cert.Kernel3Ideal.Gen.unchanged (F := Ideal) m g))
  · refine (θ_run (Cert.Reference3Ideal.defs (F := Ideal)) _ _).mono (fun r h c => ?_) (Cert.Reference3Ideal.Value.run (F := Ideal) m' g')
    obtain ⟨r0, r1, r2, r3, r4, r5, hargs⟩ := h c
    obtain ⟨e0, e1, e2, e3, e4, e5, e6, e7, e8, e9⟩ := hagree c
    refine ⟨?_, ?_, ?_, ?_, ?_, ?_, hargs⟩
    · rw [r0, Cert.Reference3Ideal.Read.val_main_v77_eq, e0, e1, e2, e3, e4, e5, e6, e7, e8, e9]
    · rw [r1, Cert.Reference3Ideal.Read.val_main_v81_eq, e0, e1, e2, e3, e4, e5, e6, e7, e8, e9]
    · rw [r2, Cert.Reference3Ideal.Read.val_main_v87_eq, e0, e1, e2, e3, e4, e5, e6, e7, e8, e9]
    · rw [r3, Cert.Reference3Ideal.Read.val_main_v82_eq, e0, e1, e2, e3, e4, e5, e6, e7, e8, e9]
    · rw [r4, Cert.Reference3Ideal.Read.val_main_v95_eq, e0, e1, e2, e3, e4, e5, e6, e7, e8, e9]
    · rw [r5, Cert.Reference3Ideal.Read.val_main_v94_eq, e0, e1, e2, e3, e5, e6, e7, e8, e9]

theorem frame_reference4 : Cert.quiescent_Reference4Ideal (hReference4Ideal := Cert.Reference4Ideal.Gen.facts) := fun m ρ _ =>
  (θ_run (Cert.Reference4Ideal.defs (F := Ideal)) _ _).mono
    (fun r h => ⟨fun c => (h c).2, sem_eq_zero_of_no_sems (by decide) r.2⟩)
    (Cert.Reference4Ideal.Value.run (F := Ideal) m ρ)

/-- The fourth call's result is the reference's. -/
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Reference4Ideal.Read.val_main_v22 (F := Ideal) (Cert.Inp.a0 m c) (Cert.Inp.a1 m c) (Cert.Inp.a2 m c) (Cert.Inp.a3 m c) (Cert.Inp.a4 m c) (Cert.Inp.a5 m c), ?_, ?_⟩
  · exact (θ_run (Cert.Kernel4Ideal.defs (F := Ideal)) _ _).mono
      (fun r h c => ⟨Cert.Inp.arr_6 m c h.1, h.2 c⟩)
      (θ_run_and (Cert.Kernel4Ideal.Gen.run_main (F := Ideal) m g) (Cert.Kernel4Ideal.Gen.unchanged (F := Ideal) m g))
  · refine (θ_run (Cert.Reference4Ideal.defs (F := Ideal)) _ _).mono (fun r h c => ?_) (Cert.Reference4Ideal.Value.run (F := Ideal) m' g')
    obtain ⟨r0, hargs⟩ := h c
    obtain ⟨e0, e1, e2, e3, e4, e5⟩ := hagree c
    refine ⟨?_, hargs⟩
    rw [r0, Cert.Reference4Ideal.Read.val_main_v22_eq, e0, e1, e2, e3, e4, e5]

theorem frame_reference5 : Cert.quiescent_Reference5Ideal (hReference5Ideal := Cert.Reference5Ideal.Gen.facts) := fun m ρ _ =>
  (θ_run (Cert.Reference5Ideal.defs (F := Ideal)) _ _).mono
    (fun r h => ⟨fun c => (h c).2.2, sem_eq_zero_of_no_sems (by decide) r.2⟩)
    (Cert.Reference5Ideal.Value.run (F := Ideal) m ρ)

/-- The fifth call's two results are the reference's. -/
theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Reference5Ideal.Read.val_main_v27 (F := Ideal) (Cert.Dwn.a0 m c) (Cert.Dwn.a1 m c) (Cert.Dwn.a2 m c) (Cert.Dwn.a3 m c) (Cert.Dwn.a4 m c),
    fun c => Cert.Reference5Ideal.Read.val_main_v23 (F := Ideal) (Cert.Dwn.a0 m c) (Cert.Dwn.a1 m c) (Cert.Dwn.a2 m c) (Cert.Dwn.a3 m c) (Cert.Dwn.a4 m c), ?_, ?_⟩
  · exact (θ_run (Cert.Kernel5Ideal.defs (F := Ideal)) _ _).mono
      (fun r h c => ⟨Cert.Dwn.arr_5 m c h.1, Cert.Dwn.arr_6 m c h.1, h.2 c⟩)
      (θ_run_and (Cert.Kernel5Ideal.Gen.run_main (F := Ideal) m g) (Cert.Kernel5Ideal.Gen.unchanged (F := Ideal) m g))
  · refine (θ_run (Cert.Reference5Ideal.defs (F := Ideal)) _ _).mono (fun r h c => ?_) (Cert.Reference5Ideal.Value.run (F := Ideal) m' g')
    obtain ⟨r0, r1, hargs⟩ := h c
    obtain ⟨e0, e1, e2, e3, e4⟩ := hagree c
    refine ⟨?_, ?_, hargs⟩
    · rw [r0, Cert.Reference5Ideal.Read.val_main_v27_eq, e0, e1, e2, e3, e4]
    · rw [r1, Cert.Reference5Ideal.Read.val_main_v23_eq, e0, e1, e2, e3, e4]

theorem frame_reference6 : Cert.quiescent_Reference6Ideal (hReference6Ideal := Cert.Reference6Ideal.Gen.facts) := fun m ρ _ =>
  (θ_run (Cert.Reference6Ideal.defs (F := Ideal)) _ _).mono
    (fun r h => ⟨fun c => (h c).2.2.2.2.2.2, sem_eq_zero_of_no_sems (by decide) r.2⟩)
    (Cert.Reference6Ideal.Value.run (F := Ideal) m ρ)

/-- The sixth call's six results are the reference's. -/
theorem algebraic6 : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m g m' g' hpre hagree
  letI := Cert.Pre_finite6.Gen.facts
  have hr := fun c => Cert.Tail.args_real m c hpre
  refine ⟨fun c => Cert.Reference6Ideal.Read.val_main_v184 (F := Ideal) (Cert.Tail.a0 m c) (Cert.Tail.a1 m c) (Cert.Tail.a2 m c) (Cert.Tail.a3 m c) (Cert.Tail.a4 m c) (Cert.Tail.a5 m c) (Cert.Tail.a6 m c) (Cert.Tail.a7 m c) (Cert.Tail.a8 m c) (Cert.Tail.a9 m c),
    fun c => Cert.Reference6Ideal.Read.val_main_v170 (F := Ideal) (Cert.Tail.a0 m c) (Cert.Tail.a1 m c) (Cert.Tail.a2 m c) (Cert.Tail.a3 m c) (Cert.Tail.a4 m c) (Cert.Tail.a5 m c) (Cert.Tail.a6 m c) (Cert.Tail.a7 m c) (Cert.Tail.a8 m c) (Cert.Tail.a9 m c),
    fun c => Cert.Reference6Ideal.Read.val_main_v185 (F := Ideal) (Cert.Tail.a0 m c) (Cert.Tail.a1 m c) (Cert.Tail.a2 m c) (Cert.Tail.a3 m c) (Cert.Tail.a4 m c) (Cert.Tail.a5 m c) (Cert.Tail.a6 m c) (Cert.Tail.a7 m c) (Cert.Tail.a8 m c) (Cert.Tail.a9 m c),
    fun c => Cert.Reference6Ideal.Read.val_main_v186 (F := Ideal) (Cert.Tail.a0 m c) (Cert.Tail.a1 m c) (Cert.Tail.a2 m c) (Cert.Tail.a3 m c) (Cert.Tail.a4 m c) (Cert.Tail.a5 m c) (Cert.Tail.a6 m c) (Cert.Tail.a7 m c) (Cert.Tail.a8 m c) (Cert.Tail.a9 m c),
    fun c => Cert.Reference6Ideal.Read.val_main_v187 (F := Ideal) (Cert.Tail.a0 m c) (Cert.Tail.a1 m c) (Cert.Tail.a2 m c) (Cert.Tail.a3 m c) (Cert.Tail.a4 m c) (Cert.Tail.a5 m c) (Cert.Tail.a6 m c) (Cert.Tail.a7 m c) (Cert.Tail.a8 m c) (Cert.Tail.a9 m c),
    fun c => Cert.Reference6Ideal.Read.val_main_v183 (F := Ideal) (Cert.Tail.a0 m c) (Cert.Tail.a1 m c) (Cert.Tail.a2 m c) (Cert.Tail.a3 m c) (Cert.Tail.a4 m c) (Cert.Tail.a5 m c) (Cert.Tail.a6 m c) (Cert.Tail.a7 m c) (Cert.Tail.a8 m c) (Cert.Tail.a9 m c), ?_, ?_⟩
  · exact (θ_run (Cert.Kernel6Ideal.defs (F := Ideal)) _ _).mono
      (fun r h c => ⟨Cert.Tail.arr_11 m c h.1 (hr c), Cert.Tail.arr_12 m c h.1 (hr c), Cert.Tail.arr_13 m c h.1 (hr c),
        Cert.Tail.arr_14 m c h.1 (hr c), Cert.Tail.arr_15 m c h.1 (hr c), Cert.Tail.arr_16 m c h.1 (hr c), h.2 c⟩)
      (θ_run_and (Cert.Kernel6Ideal.Gen.run_main (F := Ideal) m g) (Cert.Kernel6Ideal.Gen.unchanged (F := Ideal) m g))
  · refine (θ_run (Cert.Reference6Ideal.defs (F := Ideal)) _ _).mono (fun r h c => ?_) (Cert.Reference6Ideal.Value.run (F := Ideal) m' g')
    obtain ⟨r0, r1, r2, r3, r4, r5, hargs⟩ := h c
    obtain ⟨e0, e1, e2, e3, e4, e5, e6, e7, e8, e9⟩ := hagree c
    refine ⟨?_, ?_, ?_, ?_, ?_, ?_, hargs⟩
    · rw [r0, Cert.Reference6Ideal.Read.val_main_v184_eq, StableHlo.launchContents_devRef, StableHlo.launchContents_devRef, StableHlo.launchContents_devRef,
        StableHlo.launchContents_devRef, StableHlo.launchContents_devRef, StableHlo.launchContents_devRef, StableHlo.launchContents_devRef, StableHlo.launchContents_devRef,
        StableHlo.launchContents_devRef, StableHlo.launchContents_devRef, e0, e1, e2, e3, e4, e5, e6, e7, e8, e9]
    · rw [r1, Cert.Reference6Ideal.Read.val_main_v170_eq, StableHlo.launchContents_devRef, StableHlo.launchContents_devRef, StableHlo.launchContents_devRef,
        StableHlo.launchContents_devRef, StableHlo.launchContents_devRef, StableHlo.launchContents_devRef, StableHlo.launchContents_devRef, StableHlo.launchContents_devRef,
        StableHlo.launchContents_devRef, StableHlo.launchContents_devRef, e0, e1, e2, e3, e4, e5, e6, e7, e8, e9]
    · rw [r2, Cert.Reference6Ideal.Read.val_main_v185_eq, StableHlo.launchContents_devRef, StableHlo.launchContents_devRef, StableHlo.launchContents_devRef,
        StableHlo.launchContents_devRef, StableHlo.launchContents_devRef, StableHlo.launchContents_devRef, StableHlo.launchContents_devRef, StableHlo.launchContents_devRef,
        StableHlo.launchContents_devRef, StableHlo.launchContents_devRef, e0, e1, e2, e3, e4, e5, e6, e7, e8, e9]
    · rw [r3, Cert.Reference6Ideal.Read.val_main_v186_eq, StableHlo.launchContents_devRef, StableHlo.launchContents_devRef, StableHlo.launchContents_devRef,
        StableHlo.launchContents_devRef, StableHlo.launchContents_devRef, StableHlo.launchContents_devRef, StableHlo.launchContents_devRef, StableHlo.launchContents_devRef,
        StableHlo.launchContents_devRef, StableHlo.launchContents_devRef, e0, e1, e2, e3, e4, e5, e6, e7, e8, e9]
    · rw [r4, Cert.Reference6Ideal.Read.val_main_v187_eq, StableHlo.launchContents_devRef, StableHlo.launchContents_devRef, StableHlo.launchContents_devRef,
        StableHlo.launchContents_devRef, StableHlo.launchContents_devRef, StableHlo.launchContents_devRef, StableHlo.launchContents_devRef, StableHlo.launchContents_devRef,
        StableHlo.launchContents_devRef, StableHlo.launchContents_devRef, e0, e1, e2, e3, e4, e5, e6, e7, e8, e9]
    · rw [r5, Cert.Reference6Ideal.Read.val_main_v183_eq, StableHlo.launchContents_devRef, StableHlo.launchContents_devRef, StableHlo.launchContents_devRef,
        StableHlo.launchContents_devRef, StableHlo.launchContents_devRef, StableHlo.launchContents_devRef, StableHlo.launchContents_devRef, StableHlo.launchContents_devRef,
        StableHlo.launchContents_devRef, StableHlo.launchContents_devRef, e0, e1, e2, e3, e4, e5, e6, e7, e8, e9]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, Cert.Pre_finite3.Gen.facts,
  Cert.Pre_finite6.Gen.facts,
  frame_kernel, fun m ρ _ => Cert.Act.frame m ρ, fun m ρ _ => Cert.Act.frame m ρ, frame_reference, fun m ρ _ => frame_reference m ρ trivial,
  Cert.Wgt.frame_printed, fun m ρ _ => Cert.Wgt.frame m ρ, frame_reference2,
  Cert.Mix.frame_printed, fun m ρ _ => Cert.Kernel3Ideal.Gen.frame m ρ, fun m ρ _ => Cert.Kernel3Ideal.Gen.frame m ρ,
  frame_reference3, fun m ρ _ => frame_reference3 m ρ trivial,
  Cert.Inp.frame_printed, fun m ρ _ => Cert.Kernel4Ideal.Gen.frame m ρ, frame_reference4,
  Cert.Dwn.frame_printed, fun m ρ _ => Cert.Kernel5Ideal.Gen.frame m ρ, frame_reference5,
  Cert.Tail.frame_printed, fun m ρ _ => Cert.Kernel6Ideal.Gen.frame m ρ, fun m ρ _ => Cert.Kernel6Ideal.Gen.frame m ρ,
  frame_reference6, fun m ρ _ => frame_reference6 m ρ trivial,
  preserves, algebraic, trivial, algebraic2, trivial, algebraic3, trivial, algebraic4, trivial, algebraic5,
  trivial, algebraic6⟩

end Cert.Proof

end
